-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_SsdSample (m : (ℓ : Loc Cert.SsdSample.nD Cert.SsdSample.τ Cert.SsdSample.sig) → Buf (Elt Bits) ℓ) : Prop :=
  True

def Pre_SsdSampleIdeal (m : (ℓ : Loc Cert.SsdSampleIdeal.nD Cert.SsdSampleIdeal.τ Cert.SsdSampleIdeal.sig) → Buf (Elt Ideal) ℓ) : Prop :=
  True

def Pre_SsdSampleRefIdeal (m : (ℓ : Loc Cert.SsdSampleRefIdeal.nD Cert.SsdSampleRefIdeal.τ Cert.SsdSampleRefIdeal.sig) → Buf (Elt Ideal) ℓ) : Prop :=
  True

def Pre_SegA (m : (ℓ : Loc Cert.SegA.nD Cert.SegA.τ Cert.SegA.sig) → Buf (Elt Bits) ℓ) : Prop :=
  True

def Pre_SegAIdeal (m : (ℓ : Loc Cert.SegAIdeal.nD Cert.SegAIdeal.τ Cert.SegAIdeal.sig) → Buf (Elt Ideal) ℓ) : Prop :=
  True

def Pre_SegARefIdeal (m : (ℓ : Loc Cert.SegARefIdeal.nD Cert.SegARefIdeal.τ Cert.SegARefIdeal.sig) → Buf (Elt Ideal) ℓ) : Prop :=
  True

def Pre_SegB (m : (ℓ : Loc Cert.SegB.nD Cert.SegB.τ Cert.SegB.sig) → Buf (Elt Bits) ℓ) : Prop :=
  True

def Pre_SegBIdeal (m : (ℓ : Loc Cert.SegBIdeal.nD Cert.SegBIdeal.τ Cert.SegBIdeal.sig) → Buf (Elt Ideal) ℓ) : Prop :=
  True

def Pre_SegBRefIdeal (m : (ℓ : Loc Cert.SegBRefIdeal.nD Cert.SegBRefIdeal.τ Cert.SegBRefIdeal.sig) → Buf (Elt Ideal) ℓ) : Prop :=
  True

def Pre_SegC (m : (ℓ : Loc Cert.SegC.nD Cert.SegC.τ Cert.SegC.sig) → Buf (Elt Bits) ℓ) : Prop :=
  True

def Pre_SegCIdeal (m : (ℓ : Loc Cert.SegCIdeal.nD Cert.SegCIdeal.τ Cert.SegCIdeal.sig) → Buf (Elt Ideal) ℓ) : Prop :=
  True

def Pre_SegCRefIdeal (m : (ℓ : Loc Cert.SegCRefIdeal.nD Cert.SegCRefIdeal.τ Cert.SegCRefIdeal.sig) → Buf (Elt Ideal) ℓ) : Prop :=
  True

def Pre_SegD (m : (ℓ : Loc Cert.SegD.nD Cert.SegD.τ Cert.SegD.sig) → Buf (Elt Bits) ℓ) : Prop :=
  True

def Pre_SegDIdeal (m : (ℓ : Loc Cert.SegDIdeal.nD Cert.SegDIdeal.τ Cert.SegDIdeal.sig) → Buf (Elt Ideal) ℓ) : Prop :=
  True

def Pre_SegDRefIdeal (m : (ℓ : Loc Cert.SegDRefIdeal.nD Cert.SegDRefIdeal.τ Cert.SegDRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutRefIdeal (m : (ℓ : Loc Cert.CrossOutRefIdeal.nD Cert.CrossOutRefIdeal.τ Cert.CrossOutRefIdeal.sig) → Buf (Elt Ideal) ℓ) : Prop :=
  True

def Pre_CrossQuery (m : (ℓ : Loc Cert.CrossQuery.nD Cert.CrossQuery.τ Cert.CrossQuery.sig) → Buf (Elt Bits) ℓ) : Prop :=
  True

def Pre_CrossQueryIdeal (m : (ℓ : Loc Cert.CrossQueryIdeal.nD Cert.CrossQueryIdeal.τ Cert.CrossQueryIdeal.sig) → Buf (Elt Ideal) ℓ) : Prop :=
  True

def Pre_CrossQueryRefIdeal (m : (ℓ : Loc Cert.CrossQueryRefIdeal.nD Cert.CrossQueryRefIdeal.τ Cert.CrossQueryRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_MemoryKeys (m : (ℓ : Loc Cert.MemoryKeys.nD Cert.MemoryKeys.τ Cert.MemoryKeys.sig) → Buf (Elt Bits) ℓ) : Prop :=
  True

def Pre_MemoryKeysIdeal (m : (ℓ : Loc Cert.MemoryKeysIdeal.nD Cert.MemoryKeysIdeal.τ Cert.MemoryKeysIdeal.sig) → Buf (Elt Ideal) ℓ) : Prop :=
  True

def Pre_MemoryKeysRefIdeal (m : (ℓ : Loc Cert.MemoryKeysRefIdeal.nD Cert.MemoryKeysRefIdeal.τ Cert.MemoryKeysRefIdeal.sig) → Buf (Elt Ideal) ℓ) : Prop :=
  True

def Pre_MemoryValues (m : (ℓ : Loc Cert.MemoryValues.nD Cert.MemoryValues.τ Cert.MemoryValues.sig) → Buf (Elt Bits) ℓ) : Prop :=
  True

def Pre_MemoryValuesIdeal (m : (ℓ : Loc Cert.MemoryValuesIdeal.nD Cert.MemoryValuesIdeal.τ Cert.MemoryValuesIdeal.sig) → Buf (Elt Ideal) ℓ) : Prop :=
  True

def Pre_MemoryValuesRefIdeal (m : (ℓ : Loc Cert.MemoryValuesRefIdeal.nD Cert.MemoryValuesRefIdeal.τ Cert.MemoryValuesRefIdeal.sig) → Buf (Elt Ideal) ℓ) : Prop :=
  True

def Pre_InputNorm (m : (ℓ : Loc Cert.InputNorm.nD Cert.InputNorm.τ Cert.InputNorm.sig) → Buf (Elt Bits) ℓ) : Prop :=
  True

def Pre_InputNormIdeal (m : (ℓ : Loc Cert.InputNormIdeal.nD Cert.InputNormIdeal.τ Cert.InputNormIdeal.sig) → Buf (Elt Ideal) ℓ) : Prop :=
  True

def Pre_InputNormRefIdeal (m : (ℓ : Loc Cert.InputNormRefIdeal.nD Cert.InputNormRefIdeal.τ Cert.InputNormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_DnConvState (m : (ℓ : Loc Cert.DnConvState.nD Cert.DnConvState.τ Cert.DnConvState.sig) → Buf (Elt Bits) ℓ) : Prop :=
  True

def Pre_DnConvStateIdeal (m : (ℓ : Loc Cert.DnConvStateIdeal.nD Cert.DnConvStateIdeal.τ Cert.DnConvStateIdeal.sig) → Buf (Elt Ideal) ℓ) : Prop :=
  True

def Pre_DnConvStateRefIdeal (m : (ℓ : Loc Cert.DnConvStateRefIdeal.nD Cert.DnConvStateRefIdeal.τ Cert.DnConvStateRefIdeal.sig) → Buf (Elt Ideal) ℓ) : Prop :=
  True

def Pre_SsmConvState (m : (ℓ : Loc Cert.SsmConvState.nD Cert.SsmConvState.τ Cert.SsmConvState.sig) → Buf (Elt Bits) ℓ) : Prop :=
  True

def Pre_SsmConvStateIdeal (m : (ℓ : Loc Cert.SsmConvStateIdeal.nD Cert.SsmConvStateIdeal.τ Cert.SsmConvStateIdeal.sig) → Buf (Elt Ideal) ℓ) : Prop :=
  True

def Pre_SsmConvStateRefIdeal (m : (ℓ : Loc Cert.SsmConvStateRefIdeal.nD Cert.SsmConvStateRefIdeal.τ Cert.SsmConvStateRefIdeal.sig) → Buf (Elt Ideal) ℓ) : Prop :=
  True

def Pre_SsmConv (m : (ℓ : Loc Cert.SsmConv.nD Cert.SsmConv.τ Cert.SsmConv.sig) → Buf (Elt Bits) ℓ) : Prop :=
  True

def Pre_SsmConvIdeal (m : (ℓ : Loc Cert.SsmConvIdeal.nD Cert.SsmConvIdeal.τ Cert.SsmConvIdeal.sig) → Buf (Elt Ideal) ℓ) : Prop :=
  True

def Pre_SsmConvRefIdeal (m : (ℓ : Loc Cert.SsmConvRefIdeal.nD Cert.SsmConvRefIdeal.τ Cert.SsmConvRefIdeal.sig) → Buf (Elt Ideal) ℓ) : Prop :=
  True

def Pre_CrossAttention (m : (ℓ : Loc Cert.CrossAttention.nD Cert.CrossAttention.τ Cert.CrossAttention.sig) → Buf (Elt Bits) ℓ) : Prop :=
  True

def Pre_CrossAttentionIdeal (m : (ℓ : Loc Cert.CrossAttentionIdeal.nD Cert.CrossAttentionIdeal.τ Cert.CrossAttentionIdeal.sig) → Buf (Elt Ideal) ℓ) : Prop :=
  True

def Pre_CrossAttentionRefIdeal (m : (ℓ : Loc Cert.CrossAttentionRefIdeal.nD Cert.CrossAttentionRefIdeal.τ Cert.CrossAttentionRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdSample [hSsdSample : Cert.SsdSample.Facts] : Prop :=
  ∀ (m : (ℓ : Loc Cert.SsdSample.nD Cert.SsdSample.τ Cert.SsdSample.sig) → Buf (Elt Bits) ℓ) (g : Dev Cert.SsdSample.nD → PrngReg), Pre_SsdSample m →
    θ_run (Cert.SsdSample.defs (F := Bits)) (onTc (τ := Cert.SsdSample.τ) (Cert.SsdSample.main (F := Bits))) ⟨m, fun _ => 0, g⟩ (fun r => (∀ c : Dev Cert.SsdSample.nD,
      r.2.mem ((c.tc : Thread Cert.SsdSample.nD Cert.SsdSample.τ).loc Cert.SsdSample.main_arg0) = m ((c.tc : Thread Cert.SsdSample.nD Cert.SsdSample.τ).loc Cert.SsdSample.main_arg0)
      ∧ r.2.mem ((c.tc : Thread Cert.SsdSample.nD Cert.SsdSample.τ).loc Cert.SsdSample.main_arg1) = m ((c.tc : Thread Cert.SsdSample.nD Cert.SsdSample.τ).loc Cert.SsdSample.main_arg1)
      ∧ r.2.mem ((c.tc : Thread Cert.SsdSample.nD Cert.SsdSample.τ).loc Cert.SsdSample.main_arg2) = m ((c.tc : Thread Cert.SsdSample.nD Cert.SsdSample.τ).loc Cert.SsdSample.main_arg2)
      ∧ r.2.mem ((c.tc : Thread Cert.SsdSample.nD Cert.SsdSample.τ).loc Cert.SsdSample.main_arg3) = m ((c.tc : Thread Cert.SsdSample.nD Cert.SsdSample.τ).loc Cert.SsdSample.main_arg3)
      ∧ r.2.mem ((c.tc : Thread Cert.SsdSample.nD Cert.SsdSample.τ).loc Cert.SsdSample.main_arg4) = m ((c.tc : Thread Cert.SsdSample.nD Cert.SsdSample.τ).loc Cert.SsdSample.main_arg4)
      ∧ r.2.mem ((c.tc : Thread Cert.SsdSample.nD Cert.SsdSample.τ).loc Cert.SsdSample.main_arg5) = m ((c.tc : Thread Cert.SsdSample.nD Cert.SsdSample.τ).loc Cert.SsdSample.main_arg5)
      ∧ r.2.mem ((c.tc : Thread Cert.SsdSample.nD Cert.SsdSample.τ).loc Cert.SsdSample.main_arg6) = m ((c.tc : Thread Cert.SsdSample.nD Cert.SsdSample.τ).loc Cert.SsdSample.main_arg6)
      ∧ r.2.mem ((c.tc : Thread Cert.SsdSample.nD Cert.SsdSample.τ).loc Cert.SsdSample.main_arg7) = m ((c.tc : Thread Cert.SsdSample.nD Cert.SsdSample.τ).loc Cert.SsdSample.main_arg7))
      ∧ r.2.sem = fun _ => 0)

def quiescent_SsdSampleIdeal [hSsdSampleIdeal : Cert.SsdSampleIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg), Pre_SsdSampleIdeal m →
    θ_run (Cert.SsdSampleIdeal.defs (F := Ideal)) (onTc (τ := Cert.SsdSampleIdeal.τ) (Cert.SsdSampleIdeal.main (F := Ideal))) ⟨m, fun _ => 0, g⟩ (fun r => (∀ c : Dev Cert.SsdSampleIdeal.nD,
      r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
      ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
      ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
      ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3)
      ∧ r.2.mem ((c.tc : Thread Cert.SsdSampleIdeal.nD Cert.SsdSampleIdeal.τ).loc Cert.SsdSampleIdeal.main_arg4) = m ((c.tc : Thread Cert.SsdSampleIdeal.nD Cert.SsdSampleIdeal.τ).loc Cert.SsdSampleIdeal.main_arg4)
      ∧ r.2.mem ((c.tc : Thread Cert.SsdSampleIdeal.nD Cert.SsdSampleIdeal.τ).loc Cert.SsdSampleIdeal.main_arg5) = m ((c.tc : Thread Cert.SsdSampleIdeal.nD Cert.SsdSampleIdeal.τ).loc Cert.SsdSampleIdeal.main_arg5)
      ∧ r.2.mem ((c.tc : Thread Cert.SsdSampleIdeal.nD Cert.SsdSampleIdeal.τ).loc Cert.SsdSampleIdeal.main_arg6) = m ((c.tc : Thread Cert.SsdSampleIdeal.nD Cert.SsdSampleIdeal.τ).loc Cert.SsdSampleIdeal.main_arg6)
      ∧ r.2.mem ((c.tc : Thread Cert.SsdSampleIdeal.nD Cert.SsdSampleIdeal.τ).loc Cert.SsdSampleIdeal.main_arg7) = m ((c.tc : Thread Cert.SsdSampleIdeal.nD Cert.SsdSampleIdeal.τ).loc Cert.SsdSampleIdeal.main_arg7))
      ∧ r.2.sem = fun _ => 0)

def quiescent_SsdSampleRefIdeal [hSsdSampleRefIdeal : Cert.SsdSampleRefIdeal.Facts] : Prop :=
  ∀ (m : (ℓ : Loc Cert.SsdSampleRefIdeal.nD Cert.SsdSampleRefIdeal.τ Cert.SsdSampleRefIdeal.sig) → Buf (Elt Ideal) ℓ) (g : Dev Cert.SsdSampleRefIdeal.nD → PrngReg), Pre_SsdSampleRefIdeal m →
    θ_run (Cert.SsdSampleRefIdeal.defs (F := Ideal)) (onTc (τ := Cert.SsdSampleRefIdeal.τ) (Cert.SsdSampleRefIdeal.main (F := Ideal))) ⟨m, fun _ => 0, g⟩ (fun r => (∀ c : Dev Cert.SsdSampleRefIdeal.nD,
      r.2.mem ((c.tc : Thread Cert.SsdSampleRefIdeal.nD Cert.SsdSampleRefIdeal.τ).loc Cert.SsdSampleRefIdeal.main_arg0) = m ((c.tc : Thread Cert.SsdSampleRefIdeal.nD Cert.SsdSampleRefIdeal.τ).loc Cert.SsdSampleRefIdeal.main_arg0)
      ∧ r.2.mem ((c.tc : Thread Cert.SsdSampleRefIdeal.nD Cert.SsdSampleRefIdeal.τ).loc Cert.SsdSampleRefIdeal.main_arg1) = m ((c.tc : Thread Cert.SsdSampleRefIdeal.nD Cert.SsdSampleRefIdeal.τ).loc Cert.SsdSampleRefIdeal.main_arg1)
      ∧ r.2.mem ((c.tc : Thread Cert.SsdSampleRefIdeal.nD Cert.SsdSampleRefIdeal.τ).loc Cert.SsdSampleRefIdeal.main_arg2) = m ((c.tc : Thread Cert.SsdSampleRefIdeal.nD Cert.SsdSampleRefIdeal.τ).loc Cert.SsdSampleRefIdeal.main_arg2)
      ∧ r.2.mem ((c.tc : Thread Cert.SsdSampleRefIdeal.nD Cert.SsdSampleRefIdeal.τ).loc Cert.SsdSampleRefIdeal.main_arg3) = m ((c.tc : Thread Cert.SsdSampleRefIdeal.nD Cert.SsdSampleRefIdeal.τ).loc Cert.SsdSampleRefIdeal.main_arg3)
      ∧ r.2.mem ((c.tc : Thread Cert.SsdSampleRefIdeal.nD Cert.SsdSampleRefIdeal.τ).loc Cert.SsdSampleRefIdeal.main_arg4) = m ((c.tc : Thread Cert.SsdSampleRefIdeal.nD Cert.SsdSampleRefIdeal.τ).loc Cert.SsdSampleRefIdeal.main_arg4)
      ∧ r.2.mem ((c.tc : Thread Cert.SsdSampleRefIdeal.nD Cert.SsdSampleRefIdeal.τ).loc Cert.SsdSampleRefIdeal.main_arg5) = m ((c.tc : Thread Cert.SsdSampleRefIdeal.nD Cert.SsdSampleRefIdeal.τ).loc Cert.SsdSampleRefIdeal.main_arg5)
      ∧ r.2.mem ((c.tc : Thread Cert.SsdSampleRefIdeal.nD Cert.SsdSampleRefIdeal.τ).loc Cert.SsdSampleRefIdeal.main_arg6) = m ((c.tc : Thread Cert.SsdSampleRefIdeal.nD Cert.SsdSampleRefIdeal.τ).loc Cert.SsdSampleRefIdeal.main_arg6)
      ∧ r.2.mem ((c.tc : Thread Cert.SsdSampleRefIdeal.nD Cert.SsdSampleRefIdeal.τ).loc Cert.SsdSampleRefIdeal.main_arg7) = m ((c.tc : Thread Cert.SsdSampleRefIdeal.nD Cert.SsdSampleRefIdeal.τ).loc Cert.SsdSampleRefIdeal.main_arg7))
      ∧ r.2.sem = fun _ => 0)

def quiescent_SegA [hSegA : Cert.SegA.Facts] : Prop :=
  ∀ (m : (ℓ : Loc Cert.SegA.nD Cert.SegA.τ Cert.SegA.sig) → Buf (Elt Bits) ℓ) (g : Dev Cert.SegA.nD → PrngReg), Pre_SegA m →
    θ_run (Cert.SegA.defs (F := Bits)) (onTc (τ := Cert.SegA.τ) (Cert.SegA.main (F := Bits))) ⟨m, fun _ => 0, g⟩ (fun r => (∀ c : Dev Cert.SegA.nD,
      r.2.mem ((c.tc : Thread Cert.SegA.nD Cert.SegA.τ).loc Cert.SegA.main_arg0) = m ((c.tc : Thread Cert.SegA.nD Cert.SegA.τ).loc Cert.SegA.main_arg0)
      ∧ r.2.mem ((c.tc : Thread Cert.SegA.nD Cert.SegA.τ).loc Cert.SegA.main_arg1) = m ((c.tc : Thread Cert.SegA.nD Cert.SegA.τ).loc Cert.SegA.main_arg1))
      ∧ r.2.sem = fun _ => 0)

def quiescent_SegAIdeal [hSegAIdeal : Cert.SegAIdeal.Facts] : Prop :=
  ∀ (m : (ℓ : Loc Cert.SegAIdeal.nD Cert.SegAIdeal.τ Cert.SegAIdeal.sig) → Buf (Elt Ideal) ℓ) (g : Dev Cert.SegAIdeal.nD → PrngReg), Pre_SegAIdeal m →
    θ_run (Cert.SegAIdeal.defs (F := Ideal)) (onTc (τ := Cert.SegAIdeal.τ) (Cert.SegAIdeal.main (F := Ideal))) ⟨m, fun _ => 0, g⟩ (fun r => (∀ c : Dev Cert.SegAIdeal.nD,
      r.2.mem ((c.tc : Thread Cert.SegAIdeal.nD Cert.SegAIdeal.τ).loc Cert.SegAIdeal.main_arg0) = m ((c.tc : Thread Cert.SegAIdeal.nD Cert.SegAIdeal.τ).loc Cert.SegAIdeal.main_arg0)
      ∧ r.2.mem ((c.tc : Thread Cert.SegAIdeal.nD Cert.SegAIdeal.τ).loc Cert.SegAIdeal.main_arg1) = m ((c.tc : Thread Cert.SegAIdeal.nD Cert.SegAIdeal.τ).loc Cert.SegAIdeal.main_arg1))
      ∧ r.2.sem = fun _ => 0)

def quiescent_SegARefIdeal [hSegARefIdeal : Cert.SegARefIdeal.Facts] : Prop :=
  ∀ (m : (ℓ : Loc Cert.SegARefIdeal.nD Cert.SegARefIdeal.τ Cert.SegARefIdeal.sig) → Buf (Elt Ideal) ℓ) (g : Dev Cert.SegARefIdeal.nD → PrngReg), Pre_SegARefIdeal m →
    θ_run (Cert.SegARefIdeal.defs (F := Ideal)) (onTc (τ := Cert.SegARefIdeal.τ) (Cert.SegARefIdeal.main (F := Ideal))) ⟨m, fun _ => 0, g⟩ (fun r => (∀ c : Dev Cert.SegARefIdeal.nD,
      r.2.mem ((c.tc : Thread Cert.SegARefIdeal.nD Cert.SegARefIdeal.τ).loc Cert.SegARefIdeal.main_arg0) = m ((c.tc : Thread Cert.SegARefIdeal.nD Cert.SegARefIdeal.τ).loc Cert.SegARefIdeal.main_arg0)
      ∧ r.2.mem ((c.tc : Thread Cert.SegARefIdeal.nD Cert.SegARefIdeal.τ).loc Cert.SegARefIdeal.main_arg1) = m ((c.tc : Thread Cert.SegARefIdeal.nD Cert.SegARefIdeal.τ).loc Cert.SegARefIdeal.main_arg1))
      ∧ r.2.sem = fun _ => 0)

def quiescent_SegB [hSegB : Cert.SegB.Facts] : Prop :=
  ∀ (m : (ℓ : Loc Cert.SegB.nD Cert.SegB.τ Cert.SegB.sig) → Buf (Elt Bits) ℓ) (g : Dev Cert.SegB.nD → PrngReg), Pre_SegB m →
    θ_run (Cert.SegB.defs (F := Bits)) (onTc (τ := Cert.SegB.τ) (Cert.SegB.main (F := Bits))) ⟨m, fun _ => 0, g⟩ (fun r => (∀ c : Dev Cert.SegB.nD,
      r.2.mem ((c.tc : Thread Cert.SegB.nD Cert.SegB.τ).loc Cert.SegB.main_arg0) = m ((c.tc : Thread Cert.SegB.nD Cert.SegB.τ).loc Cert.SegB.main_arg0)
      ∧ r.2.mem ((c.tc : Thread Cert.SegB.nD Cert.SegB.τ).loc Cert.SegB.main_arg1) = m ((c.tc : Thread Cert.SegB.nD Cert.SegB.τ).loc Cert.SegB.main_arg1))
      ∧ r.2.sem = fun _ => 0)

def quiescent_SegBIdeal [hSegBIdeal : Cert.SegBIdeal.Facts] : Prop :=
  ∀ (m : (ℓ : Loc Cert.SegBIdeal.nD Cert.SegBIdeal.τ Cert.SegBIdeal.sig) → Buf (Elt Ideal) ℓ) (g : Dev Cert.SegBIdeal.nD → PrngReg), Pre_SegBIdeal m →
    θ_run (Cert.SegBIdeal.defs (F := Ideal)) (onTc (τ := Cert.SegBIdeal.τ) (Cert.SegBIdeal.main (F := Ideal))) ⟨m, fun _ => 0, g⟩ (fun r => (∀ c : Dev Cert.SegBIdeal.nD,
      r.2.mem ((c.tc : Thread Cert.SegBIdeal.nD Cert.SegBIdeal.τ).loc Cert.SegBIdeal.main_arg0) = m ((c.tc : Thread Cert.SegBIdeal.nD Cert.SegBIdeal.τ).loc Cert.SegBIdeal.main_arg0)
      ∧ r.2.mem ((c.tc : Thread Cert.SegBIdeal.nD Cert.SegBIdeal.τ).loc Cert.SegBIdeal.main_arg1) = m ((c.tc : Thread Cert.SegBIdeal.nD Cert.SegBIdeal.τ).loc Cert.SegBIdeal.main_arg1))
      ∧ r.2.sem = fun _ => 0)

def quiescent_SegBRefIdeal [hSegBRefIdeal : Cert.SegBRefIdeal.Facts] : Prop :=
  ∀ (m : (ℓ : Loc Cert.SegBRefIdeal.nD Cert.SegBRefIdeal.τ Cert.SegBRefIdeal.sig) → Buf (Elt Ideal) ℓ) (g : Dev Cert.SegBRefIdeal.nD → PrngReg), Pre_SegBRefIdeal m →
    θ_run (Cert.SegBRefIdeal.defs (F := Ideal)) (onTc (τ := Cert.SegBRefIdeal.τ) (Cert.SegBRefIdeal.main (F := Ideal))) ⟨m, fun _ => 0, g⟩ (fun r => (∀ c : Dev Cert.SegBRefIdeal.nD,
      r.2.mem ((c.tc : Thread Cert.SegBRefIdeal.nD Cert.SegBRefIdeal.τ).loc Cert.SegBRefIdeal.main_arg0) = m ((c.tc : Thread Cert.SegBRefIdeal.nD Cert.SegBRefIdeal.τ).loc Cert.SegBRefIdeal.main_arg0)
      ∧ r.2.mem ((c.tc : Thread Cert.SegBRefIdeal.nD Cert.SegBRefIdeal.τ).loc Cert.SegBRefIdeal.main_arg1) = m ((c.tc : Thread Cert.SegBRefIdeal.nD Cert.SegBRefIdeal.τ).loc Cert.SegBRefIdeal.main_arg1))
      ∧ r.2.sem = fun _ => 0)

def quiescent_SegC [hSegC : Cert.SegC.Facts] : Prop :=
  ∀ (m : (ℓ : Loc Cert.SegC.nD Cert.SegC.τ Cert.SegC.sig) → Buf (Elt Bits) ℓ) (g : Dev Cert.SegC.nD → PrngReg), Pre_SegC m →
    θ_run (Cert.SegC.defs (F := Bits)) (onTc (τ := Cert.SegC.τ) (Cert.SegC.main (F := Bits))) ⟨m, fun _ => 0, g⟩ (fun r => (∀ c : Dev Cert.SegC.nD,
      r.2.mem ((c.tc : Thread Cert.SegC.nD Cert.SegC.τ).loc Cert.SegC.main_arg0) = m ((c.tc : Thread Cert.SegC.nD Cert.SegC.τ).loc Cert.SegC.main_arg0)
      ∧ r.2.mem ((c.tc : Thread Cert.SegC.nD Cert.SegC.τ).loc Cert.SegC.main_arg1) = m ((c.tc : Thread Cert.SegC.nD Cert.SegC.τ).loc Cert.SegC.main_arg1))
      ∧ r.2.sem = fun _ => 0)

def quiescent_SegCIdeal [hSegCIdeal : Cert.SegCIdeal.Facts] : Prop :=
  ∀ (m : (ℓ : Loc Cert.SegCIdeal.nD Cert.SegCIdeal.τ Cert.SegCIdeal.sig) → Buf (Elt Ideal) ℓ) (g : Dev Cert.SegCIdeal.nD → PrngReg), Pre_SegCIdeal m →
    θ_run (Cert.SegCIdeal.defs (F := Ideal)) (onTc (τ := Cert.SegCIdeal.τ) (Cert.SegCIdeal.main (F := Ideal))) ⟨m, fun _ => 0, g⟩ (fun r => (∀ c : Dev Cert.SegCIdeal.nD,
      r.2.mem ((c.tc : Thread Cert.SegCIdeal.nD Cert.SegCIdeal.τ).loc Cert.SegCIdeal.main_arg0) = m ((c.tc : Thread Cert.SegCIdeal.nD Cert.SegCIdeal.τ).loc Cert.SegCIdeal.main_arg0)
      ∧ r.2.mem ((c.tc : Thread Cert.SegCIdeal.nD Cert.SegCIdeal.τ).loc Cert.SegCIdeal.main_arg1) = m ((c.tc : Thread Cert.SegCIdeal.nD Cert.SegCIdeal.τ).loc Cert.SegCIdeal.main_arg1))
      ∧ r.2.sem = fun _ => 0)

def quiescent_SegCRefIdeal [hSegCRefIdeal : Cert.SegCRefIdeal.Facts] : Prop :=
  ∀ (m : (ℓ : Loc Cert.SegCRefIdeal.nD Cert.SegCRefIdeal.τ Cert.SegCRefIdeal.sig) → Buf (Elt Ideal) ℓ) (g : Dev Cert.SegCRefIdeal.nD → PrngReg), Pre_SegCRefIdeal m →
    θ_run (Cert.SegCRefIdeal.defs (F := Ideal)) (onTc (τ := Cert.SegCRefIdeal.τ) (Cert.SegCRefIdeal.main (F := Ideal))) ⟨m, fun _ => 0, g⟩ (fun r => (∀ c : Dev Cert.SegCRefIdeal.nD,
      r.2.mem ((c.tc : Thread Cert.SegCRefIdeal.nD Cert.SegCRefIdeal.τ).loc Cert.SegCRefIdeal.main_arg0) = m ((c.tc : Thread Cert.SegCRefIdeal.nD Cert.SegCRefIdeal.τ).loc Cert.SegCRefIdeal.main_arg0)
      ∧ r.2.mem ((c.tc : Thread Cert.SegCRefIdeal.nD Cert.SegCRefIdeal.τ).loc Cert.SegCRefIdeal.main_arg1) = m ((c.tc : Thread Cert.SegCRefIdeal.nD Cert.SegCRefIdeal.τ).loc Cert.SegCRefIdeal.main_arg1))
      ∧ r.2.sem = fun _ => 0)

def quiescent_SegD [hSegD : Cert.SegD.Facts] : Prop :=
  ∀ (m : (ℓ : Loc Cert.SegD.nD Cert.SegD.τ Cert.SegD.sig) → Buf (Elt Bits) ℓ) (g : Dev Cert.SegD.nD → PrngReg), Pre_SegD m →
    θ_run (Cert.SegD.defs (F := Bits)) (onTc (τ := Cert.SegD.τ) (Cert.SegD.main (F := Bits))) ⟨m, fun _ => 0, g⟩ (fun r => (∀ c : Dev Cert.SegD.nD,
      r.2.mem ((c.tc : Thread Cert.SegD.nD Cert.SegD.τ).loc Cert.SegD.main_arg0) = m ((c.tc : Thread Cert.SegD.nD Cert.SegD.τ).loc Cert.SegD.main_arg0)
      ∧ r.2.mem ((c.tc : Thread Cert.SegD.nD Cert.SegD.τ).loc Cert.SegD.main_arg1) = m ((c.tc : Thread Cert.SegD.nD Cert.SegD.τ).loc Cert.SegD.main_arg1))
      ∧ r.2.sem = fun _ => 0)

def quiescent_SegDIdeal [hSegDIdeal : Cert.SegDIdeal.Facts] : Prop :=
  ∀ (m : (ℓ : Loc Cert.SegDIdeal.nD Cert.SegDIdeal.τ Cert.SegDIdeal.sig) → Buf (Elt Ideal) ℓ) (g : Dev Cert.SegDIdeal.nD → PrngReg), Pre_SegDIdeal m →
    θ_run (Cert.SegDIdeal.defs (F := Ideal)) (onTc (τ := Cert.SegDIdeal.τ) (Cert.SegDIdeal.main (F := Ideal))) ⟨m, fun _ => 0, g⟩ (fun r => (∀ c : Dev Cert.SegDIdeal.nD,
      r.2.mem ((c.tc : Thread Cert.SegDIdeal.nD Cert.SegDIdeal.τ).loc Cert.SegDIdeal.main_arg0) = m ((c.tc : Thread Cert.SegDIdeal.nD Cert.SegDIdeal.τ).loc Cert.SegDIdeal.main_arg0)
      ∧ r.2.mem ((c.tc : Thread Cert.SegDIdeal.nD Cert.SegDIdeal.τ).loc Cert.SegDIdeal.main_arg1) = m ((c.tc : Thread Cert.SegDIdeal.nD Cert.SegDIdeal.τ).loc Cert.SegDIdeal.main_arg1))
      ∧ r.2.sem = fun _ => 0)

def quiescent_SegDRefIdeal [hSegDRefIdeal : Cert.SegDRefIdeal.Facts] : Prop :=
  ∀ (m : (ℓ : Loc Cert.SegDRefIdeal.nD Cert.SegDRefIdeal.τ Cert.SegDRefIdeal.sig) → Buf (Elt Ideal) ℓ) (g : Dev Cert.SegDRefIdeal.nD → PrngReg), Pre_SegDRefIdeal m →
    θ_run (Cert.SegDRefIdeal.defs (F := Ideal)) (onTc (τ := Cert.SegDRefIdeal.τ) (Cert.SegDRefIdeal.main (F := Ideal))) ⟨m, fun _ => 0, g⟩ (fun r => (∀ c : Dev Cert.SegDRefIdeal.nD,
      r.2.mem ((c.tc : Thread Cert.SegDRefIdeal.nD Cert.SegDRefIdeal.τ).loc Cert.SegDRefIdeal.main_arg0) = m ((c.tc : Thread Cert.SegDRefIdeal.nD Cert.SegDRefIdeal.τ).loc Cert.SegDRefIdeal.main_arg0)
      ∧ r.2.mem ((c.tc : Thread Cert.SegDRefIdeal.nD Cert.SegDRefIdeal.τ).loc Cert.SegDRefIdeal.main_arg1) = m ((c.tc : Thread Cert.SegDRefIdeal.nD Cert.SegDRefIdeal.τ).loc Cert.SegDRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ r.2.sem = fun _ => 0)

def quiescent_CrossOutRefIdeal [hCrossOutRefIdeal : Cert.CrossOutRefIdeal.Facts] : Prop :=
  ∀ (m : (ℓ : Loc Cert.CrossOutRefIdeal.nD Cert.CrossOutRefIdeal.τ Cert.CrossOutRefIdeal.sig) → Buf (Elt Ideal) ℓ) (g : Dev Cert.CrossOutRefIdeal.nD → PrngReg), Pre_CrossOutRefIdeal m →
    θ_run (Cert.CrossOutRefIdeal.defs (F := Ideal)) (onTc (τ := Cert.CrossOutRefIdeal.τ) (Cert.CrossOutRefIdeal.main (F := Ideal))) ⟨m, fun _ => 0, g⟩ (fun r => (∀ c : Dev Cert.CrossOutRefIdeal.nD,
      r.2.mem ((c.tc : Thread Cert.CrossOutRefIdeal.nD Cert.CrossOutRefIdeal.τ).loc Cert.CrossOutRefIdeal.main_arg0) = m ((c.tc : Thread Cert.CrossOutRefIdeal.nD Cert.CrossOutRefIdeal.τ).loc Cert.CrossOutRefIdeal.main_arg0)
      ∧ r.2.mem ((c.tc : Thread Cert.CrossOutRefIdeal.nD Cert.CrossOutRefIdeal.τ).loc Cert.CrossOutRefIdeal.main_arg1) = m ((c.tc : Thread Cert.CrossOutRefIdeal.nD Cert.CrossOutRefIdeal.τ).loc Cert.CrossOutRefIdeal.main_arg1)
      ∧ r.2.mem ((c.tc : Thread Cert.CrossOutRefIdeal.nD Cert.CrossOutRefIdeal.τ).loc Cert.CrossOutRefIdeal.main_arg2) = m ((c.tc : Thread Cert.CrossOutRefIdeal.nD Cert.CrossOutRefIdeal.τ).loc Cert.CrossOutRefIdeal.main_arg2))
      ∧ r.2.sem = fun _ => 0)

def quiescent_CrossQuery [hCrossQuery : Cert.CrossQuery.Facts] : Prop :=
  ∀ (m : (ℓ : Loc Cert.CrossQuery.nD Cert.CrossQuery.τ Cert.CrossQuery.sig) → Buf (Elt Bits) ℓ) (g : Dev Cert.CrossQuery.nD → PrngReg), Pre_CrossQuery m →
    θ_run (Cert.CrossQuery.defs (F := Bits)) (onTc (τ := Cert.CrossQuery.τ) (Cert.CrossQuery.main (F := Bits))) ⟨m, fun _ => 0, g⟩ (fun r => (∀ c : Dev Cert.CrossQuery.nD,
      r.2.mem ((c.tc : Thread Cert.CrossQuery.nD Cert.CrossQuery.τ).loc Cert.CrossQuery.main_arg0) = m ((c.tc : Thread Cert.CrossQuery.nD Cert.CrossQuery.τ).loc Cert.CrossQuery.main_arg0)
      ∧ r.2.mem ((c.tc : Thread Cert.CrossQuery.nD Cert.CrossQuery.τ).loc Cert.CrossQuery.main_arg1) = m ((c.tc : Thread Cert.CrossQuery.nD Cert.CrossQuery.τ).loc Cert.CrossQuery.main_arg1))
      ∧ r.2.sem = fun _ => 0)

def quiescent_CrossQueryIdeal [hCrossQueryIdeal : Cert.CrossQueryIdeal.Facts] : Prop :=
  ∀ (m : (ℓ : Loc Cert.CrossQueryIdeal.nD Cert.CrossQueryIdeal.τ Cert.CrossQueryIdeal.sig) → Buf (Elt Ideal) ℓ) (g : Dev Cert.CrossQueryIdeal.nD → PrngReg), Pre_CrossQueryIdeal m →
    θ_run (Cert.CrossQueryIdeal.defs (F := Ideal)) (onTc (τ := Cert.CrossQueryIdeal.τ) (Cert.CrossQueryIdeal.main (F := Ideal))) ⟨m, fun _ => 0, g⟩ (fun r => (∀ c : Dev Cert.CrossQueryIdeal.nD,
      r.2.mem ((c.tc : Thread Cert.CrossQueryIdeal.nD Cert.CrossQueryIdeal.τ).loc Cert.CrossQueryIdeal.main_arg0) = m ((c.tc : Thread Cert.CrossQueryIdeal.nD Cert.CrossQueryIdeal.τ).loc Cert.CrossQueryIdeal.main_arg0)
      ∧ r.2.mem ((c.tc : Thread Cert.CrossQueryIdeal.nD Cert.CrossQueryIdeal.τ).loc Cert.CrossQueryIdeal.main_arg1) = m ((c.tc : Thread Cert.CrossQueryIdeal.nD Cert.CrossQueryIdeal.τ).loc Cert.CrossQueryIdeal.main_arg1))
      ∧ r.2.sem = fun _ => 0)

def quiescent_CrossQueryRefIdeal [hCrossQueryRefIdeal : Cert.CrossQueryRefIdeal.Facts] : Prop :=
  ∀ (m : (ℓ : Loc Cert.CrossQueryRefIdeal.nD Cert.CrossQueryRefIdeal.τ Cert.CrossQueryRefIdeal.sig) → Buf (Elt Ideal) ℓ) (g : Dev Cert.CrossQueryRefIdeal.nD → PrngReg), Pre_CrossQueryRefIdeal m →
    θ_run (Cert.CrossQueryRefIdeal.defs (F := Ideal)) (onTc (τ := Cert.CrossQueryRefIdeal.τ) (Cert.CrossQueryRefIdeal.main (F := Ideal))) ⟨m, fun _ => 0, g⟩ (fun r => (∀ c : Dev Cert.CrossQueryRefIdeal.nD,
      r.2.mem ((c.tc : Thread Cert.CrossQueryRefIdeal.nD Cert.CrossQueryRefIdeal.τ).loc Cert.CrossQueryRefIdeal.main_arg0) = m ((c.tc : Thread Cert.CrossQueryRefIdeal.nD Cert.CrossQueryRefIdeal.τ).loc Cert.CrossQueryRefIdeal.main_arg0)
      ∧ r.2.mem ((c.tc : Thread Cert.CrossQueryRefIdeal.nD Cert.CrossQueryRefIdeal.τ).loc Cert.CrossQueryRefIdeal.main_arg1) = m ((c.tc : Thread Cert.CrossQueryRefIdeal.nD Cert.CrossQueryRefIdeal.τ).loc Cert.CrossQueryRefIdeal.main_arg1))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1))
      ∧ r.2.sem = fun _ => 0)

def quiescent_MemoryKeys [hMemoryKeys : Cert.MemoryKeys.Facts] : Prop :=
  ∀ (m : (ℓ : Loc Cert.MemoryKeys.nD Cert.MemoryKeys.τ Cert.MemoryKeys.sig) → Buf (Elt Bits) ℓ) (g : Dev Cert.MemoryKeys.nD → PrngReg), Pre_MemoryKeys m →
    θ_run (Cert.MemoryKeys.defs (F := Bits)) (onTc (τ := Cert.MemoryKeys.τ) (Cert.MemoryKeys.main (F := Bits))) ⟨m, fun _ => 0, g⟩ (fun r => (∀ c : Dev Cert.MemoryKeys.nD,
      r.2.mem ((c.tc : Thread Cert.MemoryKeys.nD Cert.MemoryKeys.τ).loc Cert.MemoryKeys.main_arg0) = m ((c.tc : Thread Cert.MemoryKeys.nD Cert.MemoryKeys.τ).loc Cert.MemoryKeys.main_arg0)
      ∧ r.2.mem ((c.tc : Thread Cert.MemoryKeys.nD Cert.MemoryKeys.τ).loc Cert.MemoryKeys.main_arg1) = m ((c.tc : Thread Cert.MemoryKeys.nD Cert.MemoryKeys.τ).loc Cert.MemoryKeys.main_arg1))
      ∧ r.2.sem = fun _ => 0)

def quiescent_MemoryKeysIdeal [hMemoryKeysIdeal : Cert.MemoryKeysIdeal.Facts] : Prop :=
  ∀ (m : (ℓ : Loc Cert.MemoryKeysIdeal.nD Cert.MemoryKeysIdeal.τ Cert.MemoryKeysIdeal.sig) → Buf (Elt Ideal) ℓ) (g : Dev Cert.MemoryKeysIdeal.nD → PrngReg), Pre_MemoryKeysIdeal m →
    θ_run (Cert.MemoryKeysIdeal.defs (F := Ideal)) (onTc (τ := Cert.MemoryKeysIdeal.τ) (Cert.MemoryKeysIdeal.main (F := Ideal))) ⟨m, fun _ => 0, g⟩ (fun r => (∀ c : Dev Cert.MemoryKeysIdeal.nD,
      r.2.mem ((c.tc : Thread Cert.MemoryKeysIdeal.nD Cert.MemoryKeysIdeal.τ).loc Cert.MemoryKeysIdeal.main_arg0) = m ((c.tc : Thread Cert.MemoryKeysIdeal.nD Cert.MemoryKeysIdeal.τ).loc Cert.MemoryKeysIdeal.main_arg0)
      ∧ r.2.mem ((c.tc : Thread Cert.MemoryKeysIdeal.nD Cert.MemoryKeysIdeal.τ).loc Cert.MemoryKeysIdeal.main_arg1) = m ((c.tc : Thread Cert.MemoryKeysIdeal.nD Cert.MemoryKeysIdeal.τ).loc Cert.MemoryKeysIdeal.main_arg1))
      ∧ r.2.sem = fun _ => 0)

def quiescent_MemoryKeysRefIdeal [hMemoryKeysRefIdeal : Cert.MemoryKeysRefIdeal.Facts] : Prop :=
  ∀ (m : (ℓ : Loc Cert.MemoryKeysRefIdeal.nD Cert.MemoryKeysRefIdeal.τ Cert.MemoryKeysRefIdeal.sig) → Buf (Elt Ideal) ℓ) (g : Dev Cert.MemoryKeysRefIdeal.nD → PrngReg), Pre_MemoryKeysRefIdeal m →
    θ_run (Cert.MemoryKeysRefIdeal.defs (F := Ideal)) (onTc (τ := Cert.MemoryKeysRefIdeal.τ) (Cert.MemoryKeysRefIdeal.main (F := Ideal))) ⟨m, fun _ => 0, g⟩ (fun r => (∀ c : Dev Cert.MemoryKeysRefIdeal.nD,
      r.2.mem ((c.tc : Thread Cert.MemoryKeysRefIdeal.nD Cert.MemoryKeysRefIdeal.τ).loc Cert.MemoryKeysRefIdeal.main_arg0) = m ((c.tc : Thread Cert.MemoryKeysRefIdeal.nD Cert.MemoryKeysRefIdeal.τ).loc Cert.MemoryKeysRefIdeal.main_arg0)
      ∧ r.2.mem ((c.tc : Thread Cert.MemoryKeysRefIdeal.nD Cert.MemoryKeysRefIdeal.τ).loc Cert.MemoryKeysRefIdeal.main_arg1) = m ((c.tc : Thread Cert.MemoryKeysRefIdeal.nD Cert.MemoryKeysRefIdeal.τ).loc Cert.MemoryKeysRefIdeal.main_arg1))
      ∧ r.2.sem = fun _ => 0)

def quiescent_MemoryValues [hMemoryValues : Cert.MemoryValues.Facts] : Prop :=
  ∀ (m : (ℓ : Loc Cert.MemoryValues.nD Cert.MemoryValues.τ Cert.MemoryValues.sig) → Buf (Elt Bits) ℓ) (g : Dev Cert.MemoryValues.nD → PrngReg), Pre_MemoryValues m →
    θ_run (Cert.MemoryValues.defs (F := Bits)) (onTc (τ := Cert.MemoryValues.τ) (Cert.MemoryValues.main (F := Bits))) ⟨m, fun _ => 0, g⟩ (fun r => (∀ c : Dev Cert.MemoryValues.nD,
      r.2.mem ((c.tc : Thread Cert.MemoryValues.nD Cert.MemoryValues.τ).loc Cert.MemoryValues.main_arg0) = m ((c.tc : Thread Cert.MemoryValues.nD Cert.MemoryValues.τ).loc Cert.MemoryValues.main_arg0)
      ∧ r.2.mem ((c.tc : Thread Cert.MemoryValues.nD Cert.MemoryValues.τ).loc Cert.MemoryValues.main_arg1) = m ((c.tc : Thread Cert.MemoryValues.nD Cert.MemoryValues.τ).loc Cert.MemoryValues.main_arg1))
      ∧ r.2.sem = fun _ => 0)

def quiescent_MemoryValuesIdeal [hMemoryValuesIdeal : Cert.MemoryValuesIdeal.Facts] : Prop :=
  ∀ (m : (ℓ : Loc Cert.MemoryValuesIdeal.nD Cert.MemoryValuesIdeal.τ Cert.MemoryValuesIdeal.sig) → Buf (Elt Ideal) ℓ) (g : Dev Cert.MemoryValuesIdeal.nD → PrngReg), Pre_MemoryValuesIdeal m →
    θ_run (Cert.MemoryValuesIdeal.defs (F := Ideal)) (onTc (τ := Cert.MemoryValuesIdeal.τ) (Cert.MemoryValuesIdeal.main (F := Ideal))) ⟨m, fun _ => 0, g⟩ (fun r => (∀ c : Dev Cert.MemoryValuesIdeal.nD,
      r.2.mem ((c.tc : Thread Cert.MemoryValuesIdeal.nD Cert.MemoryValuesIdeal.τ).loc Cert.MemoryValuesIdeal.main_arg0) = m ((c.tc : Thread Cert.MemoryValuesIdeal.nD Cert.MemoryValuesIdeal.τ).loc Cert.MemoryValuesIdeal.main_arg0)
      ∧ r.2.mem ((c.tc : Thread Cert.MemoryValuesIdeal.nD Cert.MemoryValuesIdeal.τ).loc Cert.MemoryValuesIdeal.main_arg1) = m ((c.tc : Thread Cert.MemoryValuesIdeal.nD Cert.MemoryValuesIdeal.τ).loc Cert.MemoryValuesIdeal.main_arg1))
      ∧ r.2.sem = fun _ => 0)

def quiescent_MemoryValuesRefIdeal [hMemoryValuesRefIdeal : Cert.MemoryValuesRefIdeal.Facts] : Prop :=
  ∀ (m : (ℓ : Loc Cert.MemoryValuesRefIdeal.nD Cert.MemoryValuesRefIdeal.τ Cert.MemoryValuesRefIdeal.sig) → Buf (Elt Ideal) ℓ) (g : Dev Cert.MemoryValuesRefIdeal.nD → PrngReg), Pre_MemoryValuesRefIdeal m →
    θ_run (Cert.MemoryValuesRefIdeal.defs (F := Ideal)) (onTc (τ := Cert.MemoryValuesRefIdeal.τ) (Cert.MemoryValuesRefIdeal.main (F := Ideal))) ⟨m, fun _ => 0, g⟩ (fun r => (∀ c : Dev Cert.MemoryValuesRefIdeal.nD,
      r.2.mem ((c.tc : Thread Cert.MemoryValuesRefIdeal.nD Cert.MemoryValuesRefIdeal.τ).loc Cert.MemoryValuesRefIdeal.main_arg0) = m ((c.tc : Thread Cert.MemoryValuesRefIdeal.nD Cert.MemoryValuesRefIdeal.τ).loc Cert.MemoryValuesRefIdeal.main_arg0)
      ∧ r.2.mem ((c.tc : Thread Cert.MemoryValuesRefIdeal.nD Cert.MemoryValuesRefIdeal.τ).loc Cert.MemoryValuesRefIdeal.main_arg1) = m ((c.tc : Thread Cert.MemoryValuesRefIdeal.nD Cert.MemoryValuesRefIdeal.τ).loc Cert.MemoryValuesRefIdeal.main_arg1))
      ∧ r.2.sem = fun _ => 0)

def quiescent_InputNorm [hInputNorm : Cert.InputNorm.Facts] : Prop :=
  ∀ (m : (ℓ : Loc Cert.InputNorm.nD Cert.InputNorm.τ Cert.InputNorm.sig) → Buf (Elt Bits) ℓ) (g : Dev Cert.InputNorm.nD → PrngReg), Pre_InputNorm m →
    θ_run (Cert.InputNorm.defs (F := Bits)) (onTc (τ := Cert.InputNorm.τ) (Cert.InputNorm.main (F := Bits))) ⟨m, fun _ => 0, g⟩ (fun r => (∀ c : Dev Cert.InputNorm.nD,
      r.2.mem ((c.tc : Thread Cert.InputNorm.nD Cert.InputNorm.τ).loc Cert.InputNorm.main_arg0) = m ((c.tc : Thread Cert.InputNorm.nD Cert.InputNorm.τ).loc Cert.InputNorm.main_arg0)
      ∧ r.2.mem ((c.tc : Thread Cert.InputNorm.nD Cert.InputNorm.τ).loc Cert.InputNorm.main_arg1) = m ((c.tc : Thread Cert.InputNorm.nD Cert.InputNorm.τ).loc Cert.InputNorm.main_arg1)
      ∧ r.2.mem ((c.tc : Thread Cert.InputNorm.nD Cert.InputNorm.τ).loc Cert.InputNorm.main_arg2) = m ((c.tc : Thread Cert.InputNorm.nD Cert.InputNorm.τ).loc Cert.InputNorm.main_arg2))
      ∧ r.2.sem = fun _ => 0)

def quiescent_InputNormIdeal [hInputNormIdeal : Cert.InputNormIdeal.Facts] : Prop :=
  ∀ (m : (ℓ : Loc Cert.InputNormIdeal.nD Cert.InputNormIdeal.τ Cert.InputNormIdeal.sig) → Buf (Elt Ideal) ℓ) (g : Dev Cert.InputNormIdeal.nD → PrngReg), Pre_InputNormIdeal m →
    θ_run (Cert.InputNormIdeal.defs (F := Ideal)) (onTc (τ := Cert.InputNormIdeal.τ) (Cert.InputNormIdeal.main (F := Ideal))) ⟨m, fun _ => 0, g⟩ (fun r => (∀ c : Dev Cert.InputNormIdeal.nD,
      r.2.mem ((c.tc : Thread Cert.InputNormIdeal.nD Cert.InputNormIdeal.τ).loc Cert.InputNormIdeal.main_arg0) = m ((c.tc : Thread Cert.InputNormIdeal.nD Cert.InputNormIdeal.τ).loc Cert.InputNormIdeal.main_arg0)
      ∧ r.2.mem ((c.tc : Thread Cert.InputNormIdeal.nD Cert.InputNormIdeal.τ).loc Cert.InputNormIdeal.main_arg1) = m ((c.tc : Thread Cert.InputNormIdeal.nD Cert.InputNormIdeal.τ).loc Cert.InputNormIdeal.main_arg1)
      ∧ r.2.mem ((c.tc : Thread Cert.InputNormIdeal.nD Cert.InputNormIdeal.τ).loc Cert.InputNormIdeal.main_arg2) = m ((c.tc : Thread Cert.InputNormIdeal.nD Cert.InputNormIdeal.τ).loc Cert.InputNormIdeal.main_arg2))
      ∧ r.2.sem = fun _ => 0)

def quiescent_InputNormRefIdeal [hInputNormRefIdeal : Cert.InputNormRefIdeal.Facts] : Prop :=
  ∀ (m : (ℓ : Loc Cert.InputNormRefIdeal.nD Cert.InputNormRefIdeal.τ Cert.InputNormRefIdeal.sig) → Buf (Elt Ideal) ℓ) (g : Dev Cert.InputNormRefIdeal.nD → PrngReg), Pre_InputNormRefIdeal m →
    θ_run (Cert.InputNormRefIdeal.defs (F := Ideal)) (onTc (τ := Cert.InputNormRefIdeal.τ) (Cert.InputNormRefIdeal.main (F := Ideal))) ⟨m, fun _ => 0, g⟩ (fun r => (∀ c : Dev Cert.InputNormRefIdeal.nD,
      r.2.mem ((c.tc : Thread Cert.InputNormRefIdeal.nD Cert.InputNormRefIdeal.τ).loc Cert.InputNormRefIdeal.main_arg0) = m ((c.tc : Thread Cert.InputNormRefIdeal.nD Cert.InputNormRefIdeal.τ).loc Cert.InputNormRefIdeal.main_arg0)
      ∧ r.2.mem ((c.tc : Thread Cert.InputNormRefIdeal.nD Cert.InputNormRefIdeal.τ).loc Cert.InputNormRefIdeal.main_arg1) = m ((c.tc : Thread Cert.InputNormRefIdeal.nD Cert.InputNormRefIdeal.τ).loc Cert.InputNormRefIdeal.main_arg1)
      ∧ r.2.mem ((c.tc : Thread Cert.InputNormRefIdeal.nD Cert.InputNormRefIdeal.τ).loc Cert.InputNormRefIdeal.main_arg2) = m ((c.tc : Thread Cert.InputNormRefIdeal.nD Cert.InputNormRefIdeal.τ).loc Cert.InputNormRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1)
      ∧ r.2.mem ((c.tc : Thread Cert.FinalNormRefIdeal.nD Cert.FinalNormRefIdeal.τ).loc Cert.FinalNormRefIdeal.main_arg2) = m ((c.tc : Thread Cert.FinalNormRefIdeal.nD Cert.FinalNormRefIdeal.τ).loc Cert.FinalNormRefIdeal.main_arg2))
      ∧ r.2.sem = fun _ => 0)

def quiescent_DnConvState [hDnConvState : Cert.DnConvState.Facts] : Prop :=
  ∀ (m : (ℓ : Loc Cert.DnConvState.nD Cert.DnConvState.τ Cert.DnConvState.sig) → Buf (Elt Bits) ℓ) (g : Dev Cert.DnConvState.nD → PrngReg), Pre_DnConvState m →
    θ_run (Cert.DnConvState.defs (F := Bits)) (onTc (τ := Cert.DnConvState.τ) (Cert.DnConvState.main (F := Bits))) ⟨m, fun _ => 0, g⟩ (fun r => (∀ c : Dev Cert.DnConvState.nD,
      r.2.mem ((c.tc : Thread Cert.DnConvState.nD Cert.DnConvState.τ).loc Cert.DnConvState.main_arg0) = m ((c.tc : Thread Cert.DnConvState.nD Cert.DnConvState.τ).loc Cert.DnConvState.main_arg0)
      ∧ r.2.mem ((c.tc : Thread Cert.DnConvState.nD Cert.DnConvState.τ).loc Cert.DnConvState.main_arg1) = m ((c.tc : Thread Cert.DnConvState.nD Cert.DnConvState.τ).loc Cert.DnConvState.main_arg1)
      ∧ r.2.mem ((c.tc : Thread Cert.DnConvState.nD Cert.DnConvState.τ).loc Cert.DnConvState.main_arg2) = m ((c.tc : Thread Cert.DnConvState.nD Cert.DnConvState.τ).loc Cert.DnConvState.main_arg2))
      ∧ r.2.sem = fun _ => 0)

def quiescent_DnConvStateIdeal [hDnConvStateIdeal : Cert.DnConvStateIdeal.Facts] : Prop :=
  ∀ (m : (ℓ : Loc Cert.DnConvStateIdeal.nD Cert.DnConvStateIdeal.τ Cert.DnConvStateIdeal.sig) → Buf (Elt Ideal) ℓ) (g : Dev Cert.DnConvStateIdeal.nD → PrngReg), Pre_DnConvStateIdeal m →
    θ_run (Cert.DnConvStateIdeal.defs (F := Ideal)) (onTc (τ := Cert.DnConvStateIdeal.τ) (Cert.DnConvStateIdeal.main (F := Ideal))) ⟨m, fun _ => 0, g⟩ (fun r => (∀ c : Dev Cert.DnConvStateIdeal.nD,
      r.2.mem ((c.tc : Thread Cert.DnConvStateIdeal.nD Cert.DnConvStateIdeal.τ).loc Cert.DnConvStateIdeal.main_arg0) = m ((c.tc : Thread Cert.DnConvStateIdeal.nD Cert.DnConvStateIdeal.τ).loc Cert.DnConvStateIdeal.main_arg0)
      ∧ r.2.mem ((c.tc : Thread Cert.DnConvStateIdeal.nD Cert.DnConvStateIdeal.τ).loc Cert.DnConvStateIdeal.main_arg1) = m ((c.tc : Thread Cert.DnConvStateIdeal.nD Cert.DnConvStateIdeal.τ).loc Cert.DnConvStateIdeal.main_arg1)
      ∧ r.2.mem ((c.tc : Thread Cert.DnConvStateIdeal.nD Cert.DnConvStateIdeal.τ).loc Cert.DnConvStateIdeal.main_arg2) = m ((c.tc : Thread Cert.DnConvStateIdeal.nD Cert.DnConvStateIdeal.τ).loc Cert.DnConvStateIdeal.main_arg2))
      ∧ r.2.sem = fun _ => 0)

def quiescent_DnConvStateRefIdeal [hDnConvStateRefIdeal : Cert.DnConvStateRefIdeal.Facts] : Prop :=
  ∀ (m : (ℓ : Loc Cert.DnConvStateRefIdeal.nD Cert.DnConvStateRefIdeal.τ Cert.DnConvStateRefIdeal.sig) → Buf (Elt Ideal) ℓ) (g : Dev Cert.DnConvStateRefIdeal.nD → PrngReg), Pre_DnConvStateRefIdeal m →
    θ_run (Cert.DnConvStateRefIdeal.defs (F := Ideal)) (onTc (τ := Cert.DnConvStateRefIdeal.τ) (Cert.DnConvStateRefIdeal.main (F := Ideal))) ⟨m, fun _ => 0, g⟩ (fun r => (∀ c : Dev Cert.DnConvStateRefIdeal.nD,
      r.2.mem ((c.tc : Thread Cert.DnConvStateRefIdeal.nD Cert.DnConvStateRefIdeal.τ).loc Cert.DnConvStateRefIdeal.main_arg0) = m ((c.tc : Thread Cert.DnConvStateRefIdeal.nD Cert.DnConvStateRefIdeal.τ).loc Cert.DnConvStateRefIdeal.main_arg0)
      ∧ r.2.mem ((c.tc : Thread Cert.DnConvStateRefIdeal.nD Cert.DnConvStateRefIdeal.τ).loc Cert.DnConvStateRefIdeal.main_arg1) = m ((c.tc : Thread Cert.DnConvStateRefIdeal.nD Cert.DnConvStateRefIdeal.τ).loc Cert.DnConvStateRefIdeal.main_arg1)
      ∧ r.2.mem ((c.tc : Thread Cert.DnConvStateRefIdeal.nD Cert.DnConvStateRefIdeal.τ).loc Cert.DnConvStateRefIdeal.main_arg2) = m ((c.tc : Thread Cert.DnConvStateRefIdeal.nD Cert.DnConvStateRefIdeal.τ).loc Cert.DnConvStateRefIdeal.main_arg2))
      ∧ r.2.sem = fun _ => 0)

def quiescent_SsmConvState [hSsmConvState : Cert.SsmConvState.Facts] : Prop :=
  ∀ (m : (ℓ : Loc Cert.SsmConvState.nD Cert.SsmConvState.τ Cert.SsmConvState.sig) → Buf (Elt Bits) ℓ) (g : Dev Cert.SsmConvState.nD → PrngReg), Pre_SsmConvState m →
    θ_run (Cert.SsmConvState.defs (F := Bits)) (onTc (τ := Cert.SsmConvState.τ) (Cert.SsmConvState.main (F := Bits))) ⟨m, fun _ => 0, g⟩ (fun r => (∀ c : Dev Cert.SsmConvState.nD,
      r.2.mem ((c.tc : Thread Cert.SsmConvState.nD Cert.SsmConvState.τ).loc Cert.SsmConvState.main_arg0) = m ((c.tc : Thread Cert.SsmConvState.nD Cert.SsmConvState.τ).loc Cert.SsmConvState.main_arg0)
      ∧ r.2.mem ((c.tc : Thread Cert.SsmConvState.nD Cert.SsmConvState.τ).loc Cert.SsmConvState.main_arg1) = m ((c.tc : Thread Cert.SsmConvState.nD Cert.SsmConvState.τ).loc Cert.SsmConvState.main_arg1)
      ∧ r.2.mem ((c.tc : Thread Cert.SsmConvState.nD Cert.SsmConvState.τ).loc Cert.SsmConvState.main_arg2) = m ((c.tc : Thread Cert.SsmConvState.nD Cert.SsmConvState.τ).loc Cert.SsmConvState.main_arg2))
      ∧ r.2.sem = fun _ => 0)

def quiescent_SsmConvStateIdeal [hSsmConvStateIdeal : Cert.SsmConvStateIdeal.Facts] : Prop :=
  ∀ (m : (ℓ : Loc Cert.SsmConvStateIdeal.nD Cert.SsmConvStateIdeal.τ Cert.SsmConvStateIdeal.sig) → Buf (Elt Ideal) ℓ) (g : Dev Cert.SsmConvStateIdeal.nD → PrngReg), Pre_SsmConvStateIdeal m →
    θ_run (Cert.SsmConvStateIdeal.defs (F := Ideal)) (onTc (τ := Cert.SsmConvStateIdeal.τ) (Cert.SsmConvStateIdeal.main (F := Ideal))) ⟨m, fun _ => 0, g⟩ (fun r => (∀ c : Dev Cert.SsmConvStateIdeal.nD,
      r.2.mem ((c.tc : Thread Cert.SsmConvStateIdeal.nD Cert.SsmConvStateIdeal.τ).loc Cert.SsmConvStateIdeal.main_arg0) = m ((c.tc : Thread Cert.SsmConvStateIdeal.nD Cert.SsmConvStateIdeal.τ).loc Cert.SsmConvStateIdeal.main_arg0)
      ∧ r.2.mem ((c.tc : Thread Cert.SsmConvStateIdeal.nD Cert.SsmConvStateIdeal.τ).loc Cert.SsmConvStateIdeal.main_arg1) = m ((c.tc : Thread Cert.SsmConvStateIdeal.nD Cert.SsmConvStateIdeal.τ).loc Cert.SsmConvStateIdeal.main_arg1)
      ∧ r.2.mem ((c.tc : Thread Cert.SsmConvStateIdeal.nD Cert.SsmConvStateIdeal.τ).loc Cert.SsmConvStateIdeal.main_arg2) = m ((c.tc : Thread Cert.SsmConvStateIdeal.nD Cert.SsmConvStateIdeal.τ).loc Cert.SsmConvStateIdeal.main_arg2))
      ∧ r.2.sem = fun _ => 0)

def quiescent_SsmConvStateRefIdeal [hSsmConvStateRefIdeal : Cert.SsmConvStateRefIdeal.Facts] : Prop :=
  ∀ (m : (ℓ : Loc Cert.SsmConvStateRefIdeal.nD Cert.SsmConvStateRefIdeal.τ Cert.SsmConvStateRefIdeal.sig) → Buf (Elt Ideal) ℓ) (g : Dev Cert.SsmConvStateRefIdeal.nD → PrngReg), Pre_SsmConvStateRefIdeal m →
    θ_run (Cert.SsmConvStateRefIdeal.defs (F := Ideal)) (onTc (τ := Cert.SsmConvStateRefIdeal.τ) (Cert.SsmConvStateRefIdeal.main (F := Ideal))) ⟨m, fun _ => 0, g⟩ (fun r => (∀ c : Dev Cert.SsmConvStateRefIdeal.nD,
      r.2.mem ((c.tc : Thread Cert.SsmConvStateRefIdeal.nD Cert.SsmConvStateRefIdeal.τ).loc Cert.SsmConvStateRefIdeal.main_arg0) = m ((c.tc : Thread Cert.SsmConvStateRefIdeal.nD Cert.SsmConvStateRefIdeal.τ).loc Cert.SsmConvStateRefIdeal.main_arg0)
      ∧ r.2.mem ((c.tc : Thread Cert.SsmConvStateRefIdeal.nD Cert.SsmConvStateRefIdeal.τ).loc Cert.SsmConvStateRefIdeal.main_arg1) = m ((c.tc : Thread Cert.SsmConvStateRefIdeal.nD Cert.SsmConvStateRefIdeal.τ).loc Cert.SsmConvStateRefIdeal.main_arg1)
      ∧ r.2.mem ((c.tc : Thread Cert.SsmConvStateRefIdeal.nD Cert.SsmConvStateRefIdeal.τ).loc Cert.SsmConvStateRefIdeal.main_arg2) = m ((c.tc : Thread Cert.SsmConvStateRefIdeal.nD Cert.SsmConvStateRefIdeal.τ).loc Cert.SsmConvStateRefIdeal.main_arg2))
      ∧ r.2.sem = fun _ => 0)

def quiescent_SsmConv [hSsmConv : Cert.SsmConv.Facts] : Prop :=
  ∀ (m : (ℓ : Loc Cert.SsmConv.nD Cert.SsmConv.τ Cert.SsmConv.sig) → Buf (Elt Bits) ℓ) (g : Dev Cert.SsmConv.nD → PrngReg), Pre_SsmConv m →
    θ_run (Cert.SsmConv.defs (F := Bits)) (onTc (τ := Cert.SsmConv.τ) (Cert.SsmConv.main (F := Bits))) ⟨m, fun _ => 0, g⟩ (fun r => (∀ c : Dev Cert.SsmConv.nD,
      r.2.mem ((c.tc : Thread Cert.SsmConv.nD Cert.SsmConv.τ).loc Cert.SsmConv.main_arg0) = m ((c.tc : Thread Cert.SsmConv.nD Cert.SsmConv.τ).loc Cert.SsmConv.main_arg0)
      ∧ r.2.mem ((c.tc : Thread Cert.SsmConv.nD Cert.SsmConv.τ).loc Cert.SsmConv.main_arg1) = m ((c.tc : Thread Cert.SsmConv.nD Cert.SsmConv.τ).loc Cert.SsmConv.main_arg1)
      ∧ r.2.mem ((c.tc : Thread Cert.SsmConv.nD Cert.SsmConv.τ).loc Cert.SsmConv.main_arg2) = m ((c.tc : Thread Cert.SsmConv.nD Cert.SsmConv.τ).loc Cert.SsmConv.main_arg2))
      ∧ r.2.sem = fun _ => 0)

def quiescent_SsmConvIdeal [hSsmConvIdeal : Cert.SsmConvIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg), Pre_SsmConvIdeal m →
    θ_run (Cert.SsmConvIdeal.defs (F := Ideal)) (onTc (τ := Cert.SsmConvIdeal.τ) (Cert.SsmConvIdeal.main (F := Ideal))) ⟨m, fun _ => 0, g⟩ (fun r => (∀ c : Dev Cert.SsmConvIdeal.nD,
      r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
      ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
      ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ r.2.sem = fun _ => 0)

def quiescent_SsmConvRefIdeal [hSsmConvRefIdeal : Cert.SsmConvRefIdeal.Facts] : Prop :=
  ∀ (m : (ℓ : Loc Cert.SsmConvRefIdeal.nD Cert.SsmConvRefIdeal.τ Cert.SsmConvRefIdeal.sig) → Buf (Elt Ideal) ℓ) (g : Dev Cert.SsmConvRefIdeal.nD → PrngReg), Pre_SsmConvRefIdeal m →
    θ_run (Cert.SsmConvRefIdeal.defs (F := Ideal)) (onTc (τ := Cert.SsmConvRefIdeal.τ) (Cert.SsmConvRefIdeal.main (F := Ideal))) ⟨m, fun _ => 0, g⟩ (fun r => (∀ c : Dev Cert.SsmConvRefIdeal.nD,
      r.2.mem ((c.tc : Thread Cert.SsmConvRefIdeal.nD Cert.SsmConvRefIdeal.τ).loc Cert.SsmConvRefIdeal.main_arg0) = m ((c.tc : Thread Cert.SsmConvRefIdeal.nD Cert.SsmConvRefIdeal.τ).loc Cert.SsmConvRefIdeal.main_arg0)
      ∧ r.2.mem ((c.tc : Thread Cert.SsmConvRefIdeal.nD Cert.SsmConvRefIdeal.τ).loc Cert.SsmConvRefIdeal.main_arg1) = m ((c.tc : Thread Cert.SsmConvRefIdeal.nD Cert.SsmConvRefIdeal.τ).loc Cert.SsmConvRefIdeal.main_arg1)
      ∧ r.2.mem ((c.tc : Thread Cert.SsmConvRefIdeal.nD Cert.SsmConvRefIdeal.τ).loc Cert.SsmConvRefIdeal.main_arg2) = m ((c.tc : Thread Cert.SsmConvRefIdeal.nD Cert.SsmConvRefIdeal.τ).loc Cert.SsmConvRefIdeal.main_arg2))
      ∧ r.2.sem = fun _ => 0)

def quiescent_CrossAttention [hCrossAttention : Cert.CrossAttention.Facts] : Prop :=
  ∀ (m : (ℓ : Loc Cert.CrossAttention.nD Cert.CrossAttention.τ Cert.CrossAttention.sig) → Buf (Elt Bits) ℓ) (g : Dev Cert.CrossAttention.nD → PrngReg), Pre_CrossAttention m →
    θ_run (Cert.CrossAttention.defs (F := Bits)) (onTc (τ := Cert.CrossAttention.τ) (Cert.CrossAttention.main (F := Bits))) ⟨m, fun _ => 0, g⟩ (fun r => (∀ c : Dev Cert.CrossAttention.nD,
      r.2.mem ((c.tc : Thread Cert.CrossAttention.nD Cert.CrossAttention.τ).loc Cert.CrossAttention.main_arg0) = m ((c.tc : Thread Cert.CrossAttention.nD Cert.CrossAttention.τ).loc Cert.CrossAttention.main_arg0)
      ∧ r.2.mem ((c.tc : Thread Cert.CrossAttention.nD Cert.CrossAttention.τ).loc Cert.CrossAttention.main_arg1) = m ((c.tc : Thread Cert.CrossAttention.nD Cert.CrossAttention.τ).loc Cert.CrossAttention.main_arg1)
      ∧ r.2.mem ((c.tc : Thread Cert.CrossAttention.nD Cert.CrossAttention.τ).loc Cert.CrossAttention.main_arg2) = m ((c.tc : Thread Cert.CrossAttention.nD Cert.CrossAttention.τ).loc Cert.CrossAttention.main_arg2))
      ∧ r.2.sem = fun _ => 0)

def quiescent_CrossAttentionIdeal [hCrossAttentionIdeal : Cert.CrossAttentionIdeal.Facts] : Prop :=
  ∀ (m : (ℓ : Loc Cert.CrossAttentionIdeal.nD Cert.CrossAttentionIdeal.τ Cert.CrossAttentionIdeal.sig) → Buf (Elt Ideal) ℓ) (g : Dev Cert.CrossAttentionIdeal.nD → PrngReg), Pre_CrossAttentionIdeal m →
    θ_run (Cert.CrossAttentionIdeal.defs (F := Ideal)) (onTc (τ := Cert.CrossAttentionIdeal.τ) (Cert.CrossAttentionIdeal.main (F := Ideal))) ⟨m, fun _ => 0, g⟩ (fun r => (∀ c : Dev Cert.CrossAttentionIdeal.nD,
      r.2.mem ((c.tc : Thread Cert.CrossAttentionIdeal.nD Cert.CrossAttentionIdeal.τ).loc Cert.CrossAttentionIdeal.main_arg0) = m ((c.tc : Thread Cert.CrossAttentionIdeal.nD Cert.CrossAttentionIdeal.τ).loc Cert.CrossAttentionIdeal.main_arg0)
      ∧ r.2.mem ((c.tc : Thread Cert.CrossAttentionIdeal.nD Cert.CrossAttentionIdeal.τ).loc Cert.CrossAttentionIdeal.main_arg1) = m ((c.tc : Thread Cert.CrossAttentionIdeal.nD Cert.CrossAttentionIdeal.τ).loc Cert.CrossAttentionIdeal.main_arg1)
      ∧ r.2.mem ((c.tc : Thread Cert.CrossAttentionIdeal.nD Cert.CrossAttentionIdeal.τ).loc Cert.CrossAttentionIdeal.main_arg2) = m ((c.tc : Thread Cert.CrossAttentionIdeal.nD Cert.CrossAttentionIdeal.τ).loc Cert.CrossAttentionIdeal.main_arg2))
      ∧ r.2.sem = fun _ => 0)

def quiescent_CrossAttentionRefIdeal [hCrossAttentionRefIdeal : Cert.CrossAttentionRefIdeal.Facts] : Prop :=
  ∀ (m : (ℓ : Loc Cert.CrossAttentionRefIdeal.nD Cert.CrossAttentionRefIdeal.τ Cert.CrossAttentionRefIdeal.sig) → Buf (Elt Ideal) ℓ) (g : Dev Cert.CrossAttentionRefIdeal.nD → PrngReg), Pre_CrossAttentionRefIdeal m →
    θ_run (Cert.CrossAttentionRefIdeal.defs (F := Ideal)) (onTc (τ := Cert.CrossAttentionRefIdeal.τ) (Cert.CrossAttentionRefIdeal.main (F := Ideal))) ⟨m, fun _ => 0, g⟩ (fun r => (∀ c : Dev Cert.CrossAttentionRefIdeal.nD,
      r.2.mem ((c.tc : Thread Cert.CrossAttentionRefIdeal.nD Cert.CrossAttentionRefIdeal.τ).loc Cert.CrossAttentionRefIdeal.main_arg0) = m ((c.tc : Thread Cert.CrossAttentionRefIdeal.nD Cert.CrossAttentionRefIdeal.τ).loc Cert.CrossAttentionRefIdeal.main_arg0)
      ∧ r.2.mem ((c.tc : Thread Cert.CrossAttentionRefIdeal.nD Cert.CrossAttentionRefIdeal.τ).loc Cert.CrossAttentionRefIdeal.main_arg1) = m ((c.tc : Thread Cert.CrossAttentionRefIdeal.nD Cert.CrossAttentionRefIdeal.τ).loc Cert.CrossAttentionRefIdeal.main_arg1)
      ∧ r.2.mem ((c.tc : Thread Cert.CrossAttentionRefIdeal.nD Cert.CrossAttentionRefIdeal.τ).loc Cert.CrossAttentionRefIdeal.main_arg2) = m ((c.tc : Thread Cert.CrossAttentionRefIdeal.nD Cert.CrossAttentionRefIdeal.τ).loc Cert.CrossAttentionRefIdeal.main_arg2))
      ∧ r.2.sem = fun _ => 0)

def preserves_Ssd_SsdIdeal : Prop :=
  IdealRules.named_const.Statement Cert.SsdIdeal.κ "mask" .f32 0xF149F2CA#32 ⊥

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v19_0)) (v1 : (c : Dev Cert.SsdIdeal.nD) → Buf (Elt Ideal) ((c.tc : Thread Cert.SsdIdeal.nD Cert.SsdIdeal.τ).loc Cert.SsdIdeal.main_v19_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v19_0) = v0 c
          ∧ r.2.mem ((c.tc : Thread Cert.SsdIdeal.nD Cert.SsdIdeal.τ).loc Cert.SsdIdeal.main_v19_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v72) = v0 c
          ∧ r.2.mem ((c.tc : Thread Cert.SsdRefIdeal.nD Cert.SsdRefIdeal.τ).loc Cert.SsdRefIdeal.main_v73) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_SsdSample_SsdSampleIdeal : Prop :=
  IdealRules.named_const.Statement Cert.SsdSampleIdeal.κ "mask" .f32 0xF149F2CA#32 ⊥

def algebraic_SsdSampleIdeal_SsdSampleRefIdeal [hSsdSampleIdeal : Cert.SsdSampleIdeal.Facts] [hSsdSampleRefIdeal : Cert.SsdSampleRefIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg)
    (m' : (ℓ : Loc Cert.SsdSampleRefIdeal.nD Cert.SsdSampleRefIdeal.τ Cert.SsdSampleRefIdeal.sig) → Buf (Elt Ideal) ℓ) (g' : Dev Cert.SsdSampleRefIdeal.nD → PrngReg), Pre_SsdSampleIdeal m →
    (∀ c : Dev Cert.SsdSampleIdeal.nD,
      m' ((c.tc : Thread Cert.SsdSampleRefIdeal.nD Cert.SsdSampleRefIdeal.τ).loc Cert.SsdSampleRefIdeal.main_arg0) = m ((c.tc : Thread Cert.SsdSampleIdeal.nD Cert.SsdSampleIdeal.τ).loc Cert.SsdSampleIdeal.main_arg0)
      ∧ m' ((c.tc : Thread Cert.SsdSampleRefIdeal.nD Cert.SsdSampleRefIdeal.τ).loc Cert.SsdSampleRefIdeal.main_arg1) = m ((c.tc : Thread Cert.SsdSampleIdeal.nD Cert.SsdSampleIdeal.τ).loc Cert.SsdSampleIdeal.main_arg1)
      ∧ m' ((c.tc : Thread Cert.SsdSampleRefIdeal.nD Cert.SsdSampleRefIdeal.τ).loc Cert.SsdSampleRefIdeal.main_arg2) = m ((c.tc : Thread Cert.SsdSampleIdeal.nD Cert.SsdSampleIdeal.τ).loc Cert.SsdSampleIdeal.main_arg2)
      ∧ m' ((c.tc : Thread Cert.SsdSampleRefIdeal.nD Cert.SsdSampleRefIdeal.τ).loc Cert.SsdSampleRefIdeal.main_arg3) = m ((c.tc : Thread Cert.SsdSampleIdeal.nD Cert.SsdSampleIdeal.τ).loc Cert.SsdSampleIdeal.main_arg3)
      ∧ m' ((c.tc : Thread Cert.SsdSampleRefIdeal.nD Cert.SsdSampleRefIdeal.τ).loc Cert.SsdSampleRefIdeal.main_arg4) = m ((c.tc : Thread Cert.SsdSampleIdeal.nD Cert.SsdSampleIdeal.τ).loc Cert.SsdSampleIdeal.main_arg4)
      ∧ m' ((c.tc : Thread Cert.SsdSampleRefIdeal.nD Cert.SsdSampleRefIdeal.τ).loc Cert.SsdSampleRefIdeal.main_arg5) = m ((c.tc : Thread Cert.SsdSampleIdeal.nD Cert.SsdSampleIdeal.τ).loc Cert.SsdSampleIdeal.main_arg5)
      ∧ m' ((c.tc : Thread Cert.SsdSampleRefIdeal.nD Cert.SsdSampleRefIdeal.τ).loc Cert.SsdSampleRefIdeal.main_arg6) = m ((c.tc : Thread Cert.SsdSampleIdeal.nD Cert.SsdSampleIdeal.τ).loc Cert.SsdSampleIdeal.main_arg6)
      ∧ m' ((c.tc : Thread Cert.SsdSampleRefIdeal.nD Cert.SsdSampleRefIdeal.τ).loc Cert.SsdSampleRefIdeal.main_arg7) = m ((c.tc : Thread Cert.SsdSampleIdeal.nD Cert.SsdSampleIdeal.τ).loc Cert.SsdSampleIdeal.main_arg7)) →
    ∃ (v0 : (c : Dev Cert.SsdSampleIdeal.nD) → Buf (Elt Ideal) ((c.tc : Thread Cert.SsdSampleIdeal.nD Cert.SsdSampleIdeal.τ).loc Cert.SsdSampleIdeal.main_v22)) (v1 : (c : Dev Cert.SsdSampleIdeal.nD) → Buf (Elt Ideal) ((c.tc : Thread Cert.SsdSampleIdeal.nD Cert.SsdSampleIdeal.τ).loc Cert.SsdSampleIdeal.main_v20_1)),
      θ_run (Cert.SsdSampleIdeal.defs (F := Ideal)) (onTc (τ := Cert.SsdSampleIdeal.τ) (Cert.SsdSampleIdeal.main (F := Ideal))) ⟨m, fun _ => 0, g⟩ (fun r => ∀ c : Dev Cert.SsdSampleIdeal.nD,
          r.2.mem ((c.tc : Thread Cert.SsdSampleIdeal.nD Cert.SsdSampleIdeal.τ).loc Cert.SsdSampleIdeal.main_v22) = v0 c
          ∧ r.2.mem ((c.tc : Thread Cert.SsdSampleIdeal.nD Cert.SsdSampleIdeal.τ).loc Cert.SsdSampleIdeal.main_v20_1) = v1 c
          ∧ r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
          ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
          ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
          ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3)
          ∧ r.2.mem ((c.tc : Thread Cert.SsdSampleIdeal.nD Cert.SsdSampleIdeal.τ).loc Cert.SsdSampleIdeal.main_arg4) = m ((c.tc : Thread Cert.SsdSampleIdeal.nD Cert.SsdSampleIdeal.τ).loc Cert.SsdSampleIdeal.main_arg4)
          ∧ r.2.mem ((c.tc : Thread Cert.SsdSampleIdeal.nD Cert.SsdSampleIdeal.τ).loc Cert.SsdSampleIdeal.main_arg5) = m ((c.tc : Thread Cert.SsdSampleIdeal.nD Cert.SsdSampleIdeal.τ).loc Cert.SsdSampleIdeal.main_arg5)
          ∧ r.2.mem ((c.tc : Thread Cert.SsdSampleIdeal.nD Cert.SsdSampleIdeal.τ).loc Cert.SsdSampleIdeal.main_arg6) = m ((c.tc : Thread Cert.SsdSampleIdeal.nD Cert.SsdSampleIdeal.τ).loc Cert.SsdSampleIdeal.main_arg6)
          ∧ r.2.mem ((c.tc : Thread Cert.SsdSampleIdeal.nD Cert.SsdSampleIdeal.τ).loc Cert.SsdSampleIdeal.main_arg7) = m ((c.tc : Thread Cert.SsdSampleIdeal.nD Cert.SsdSampleIdeal.τ).loc Cert.SsdSampleIdeal.main_arg7))
      ∧ θ_run (Cert.SsdSampleRefIdeal.defs (F := Ideal)) (onTc (τ := Cert.SsdSampleRefIdeal.τ) (Cert.SsdSampleRefIdeal.main (F := Ideal))) ⟨m', fun _ => 0, g'⟩ (fun r => ∀ c : Dev Cert.SsdSampleRefIdeal.nD,
          r.2.mem ((c.tc : Thread Cert.SsdSampleRefIdeal.nD Cert.SsdSampleRefIdeal.τ).loc Cert.SsdSampleRefIdeal.main_v99) = v0 c
          ∧ r.2.mem ((c.tc : Thread Cert.SsdSampleRefIdeal.nD Cert.SsdSampleRefIdeal.τ).loc Cert.SsdSampleRefIdeal.main_v100) = v1 c
          ∧ r.2.mem ((c.tc : Thread Cert.SsdSampleRefIdeal.nD Cert.SsdSampleRefIdeal.τ).loc Cert.SsdSampleRefIdeal.main_arg0) = m' ((c.tc : Thread Cert.SsdSampleRefIdeal.nD Cert.SsdSampleRefIdeal.τ).loc Cert.SsdSampleRefIdeal.main_arg0)
          ∧ r.2.mem ((c.tc : Thread Cert.SsdSampleRefIdeal.nD Cert.SsdSampleRefIdeal.τ).loc Cert.SsdSampleRefIdeal.main_arg1) = m' ((c.tc : Thread Cert.SsdSampleRefIdeal.nD Cert.SsdSampleRefIdeal.τ).loc Cert.SsdSampleRefIdeal.main_arg1)
          ∧ r.2.mem ((c.tc : Thread Cert.SsdSampleRefIdeal.nD Cert.SsdSampleRefIdeal.τ).loc Cert.SsdSampleRefIdeal.main_arg2) = m' ((c.tc : Thread Cert.SsdSampleRefIdeal.nD Cert.SsdSampleRefIdeal.τ).loc Cert.SsdSampleRefIdeal.main_arg2)
          ∧ r.2.mem ((c.tc : Thread Cert.SsdSampleRefIdeal.nD Cert.SsdSampleRefIdeal.τ).loc Cert.SsdSampleRefIdeal.main_arg3) = m' ((c.tc : Thread Cert.SsdSampleRefIdeal.nD Cert.SsdSampleRefIdeal.τ).loc Cert.SsdSampleRefIdeal.main_arg3)
          ∧ r.2.mem ((c.tc : Thread Cert.SsdSampleRefIdeal.nD Cert.SsdSampleRefIdeal.τ).loc Cert.SsdSampleRefIdeal.main_arg4) = m' ((c.tc : Thread Cert.SsdSampleRefIdeal.nD Cert.SsdSampleRefIdeal.τ).loc Cert.SsdSampleRefIdeal.main_arg4)
          ∧ r.2.mem ((c.tc : Thread Cert.SsdSampleRefIdeal.nD Cert.SsdSampleRefIdeal.τ).loc Cert.SsdSampleRefIdeal.main_arg5) = m' ((c.tc : Thread Cert.SsdSampleRefIdeal.nD Cert.SsdSampleRefIdeal.τ).loc Cert.SsdSampleRefIdeal.main_arg5)
          ∧ r.2.mem ((c.tc : Thread Cert.SsdSampleRefIdeal.nD Cert.SsdSampleRefIdeal.τ).loc Cert.SsdSampleRefIdeal.main_arg6) = m' ((c.tc : Thread Cert.SsdSampleRefIdeal.nD Cert.SsdSampleRefIdeal.τ).loc Cert.SsdSampleRefIdeal.main_arg6)
          ∧ r.2.mem ((c.tc : Thread Cert.SsdSampleRefIdeal.nD Cert.SsdSampleRefIdeal.τ).loc Cert.SsdSampleRefIdeal.main_arg7) = m' ((c.tc : Thread Cert.SsdSampleRefIdeal.nD Cert.SsdSampleRefIdeal.τ).loc Cert.SsdSampleRefIdeal.main_arg7))

def preserves_SegA_SegAIdeal : Prop :=
  True

def algebraic_SegAIdeal_SegARefIdeal [hSegAIdeal : Cert.SegAIdeal.Facts] [hSegARefIdeal : Cert.SegARefIdeal.Facts] : Prop :=
  ∀ (m : (ℓ : Loc Cert.SegAIdeal.nD Cert.SegAIdeal.τ Cert.SegAIdeal.sig) → Buf (Elt Ideal) ℓ) (g : Dev Cert.SegAIdeal.nD → PrngReg)
    (m' : (ℓ : Loc Cert.SegARefIdeal.nD Cert.SegARefIdeal.τ Cert.SegARefIdeal.sig) → Buf (Elt Ideal) ℓ) (g' : Dev Cert.SegARefIdeal.nD → PrngReg), Pre_SegAIdeal m →
    (∀ c : Dev Cert.SegAIdeal.nD,
      m' ((c.tc : Thread Cert.SegARefIdeal.nD Cert.SegARefIdeal.τ).loc Cert.SegARefIdeal.main_arg0) = m ((c.tc : Thread Cert.SegAIdeal.nD Cert.SegAIdeal.τ).loc Cert.SegAIdeal.main_arg0)
      ∧ m' ((c.tc : Thread Cert.SegARefIdeal.nD Cert.SegARefIdeal.τ).loc Cert.SegARefIdeal.main_arg1) = m ((c.tc : Thread Cert.SegAIdeal.nD Cert.SegAIdeal.τ).loc Cert.SegAIdeal.main_arg1)) →
    ∃ (v0 : (c : Dev Cert.SegAIdeal.nD) → Buf (Elt Ideal) ((c.tc : Thread Cert.SegAIdeal.nD Cert.SegAIdeal.τ).loc Cert.SegAIdeal.main_v3)),
      θ_run (Cert.SegAIdeal.defs (F := Ideal)) (onTc (τ := Cert.SegAIdeal.τ) (Cert.SegAIdeal.main (F := Ideal))) ⟨m, fun _ => 0, g⟩ (fun r => ∀ c : Dev Cert.SegAIdeal.nD,
          r.2.mem ((c.tc : Thread Cert.SegAIdeal.nD Cert.SegAIdeal.τ).loc Cert.SegAIdeal.main_v3) = v0 c
          ∧ r.2.mem ((c.tc : Thread Cert.SegAIdeal.nD Cert.SegAIdeal.τ).loc Cert.SegAIdeal.main_arg0) = m ((c.tc : Thread Cert.SegAIdeal.nD Cert.SegAIdeal.τ).loc Cert.SegAIdeal.main_arg0)
          ∧ r.2.mem ((c.tc : Thread Cert.SegAIdeal.nD Cert.SegAIdeal.τ).loc Cert.SegAIdeal.main_arg1) = m ((c.tc : Thread Cert.SegAIdeal.nD Cert.SegAIdeal.τ).loc Cert.SegAIdeal.main_arg1))
      ∧ θ_run (Cert.SegARefIdeal.defs (F := Ideal)) (onTc (τ := Cert.SegARefIdeal.τ) (Cert.SegARefIdeal.main (F := Ideal))) ⟨m', fun _ => 0, g'⟩ (fun r => ∀ c : Dev Cert.SegARefIdeal.nD,
          r.2.mem ((c.tc : Thread Cert.SegARefIdeal.nD Cert.SegARefIdeal.τ).loc Cert.SegARefIdeal.main_v3) = v0 c
          ∧ r.2.mem ((c.tc : Thread Cert.SegARefIdeal.nD Cert.SegARefIdeal.τ).loc Cert.SegARefIdeal.main_arg0) = m' ((c.tc : Thread Cert.SegARefIdeal.nD Cert.SegARefIdeal.τ).loc Cert.SegARefIdeal.main_arg0)
          ∧ r.2.mem ((c.tc : Thread Cert.SegARefIdeal.nD Cert.SegARefIdeal.τ).loc Cert.SegARefIdeal.main_arg1) = m' ((c.tc : Thread Cert.SegARefIdeal.nD Cert.SegARefIdeal.τ).loc Cert.SegARefIdeal.main_arg1))

def preserves_SegB_SegBIdeal : Prop :=
  True

def algebraic_SegBIdeal_SegBRefIdeal [hSegBIdeal : Cert.SegBIdeal.Facts] [hSegBRefIdeal : Cert.SegBRefIdeal.Facts] : Prop :=
  ∀ (m : (ℓ : Loc Cert.SegBIdeal.nD Cert.SegBIdeal.τ Cert.SegBIdeal.sig) → Buf (Elt Ideal) ℓ) (g : Dev Cert.SegBIdeal.nD → PrngReg)
    (m' : (ℓ : Loc Cert.SegBRefIdeal.nD Cert.SegBRefIdeal.τ Cert.SegBRefIdeal.sig) → Buf (Elt Ideal) ℓ) (g' : Dev Cert.SegBRefIdeal.nD → PrngReg), Pre_SegBIdeal m →
    (∀ c : Dev Cert.SegBIdeal.nD,
      m' ((c.tc : Thread Cert.SegBRefIdeal.nD Cert.SegBRefIdeal.τ).loc Cert.SegBRefIdeal.main_arg0) = m ((c.tc : Thread Cert.SegBIdeal.nD Cert.SegBIdeal.τ).loc Cert.SegBIdeal.main_arg0)
      ∧ m' ((c.tc : Thread Cert.SegBRefIdeal.nD Cert.SegBRefIdeal.τ).loc Cert.SegBRefIdeal.main_arg1) = m ((c.tc : Thread Cert.SegBIdeal.nD Cert.SegBIdeal.τ).loc Cert.SegBIdeal.main_arg1)) →
    ∃ (v0 : (c : Dev Cert.SegBIdeal.nD) → Buf (Elt Ideal) ((c.tc : Thread Cert.SegBIdeal.nD Cert.SegBIdeal.τ).loc Cert.SegBIdeal.main_v3)),
      θ_run (Cert.SegBIdeal.defs (F := Ideal)) (onTc (τ := Cert.SegBIdeal.τ) (Cert.SegBIdeal.main (F := Ideal))) ⟨m, fun _ => 0, g⟩ (fun r => ∀ c : Dev Cert.SegBIdeal.nD,
          r.2.mem ((c.tc : Thread Cert.SegBIdeal.nD Cert.SegBIdeal.τ).loc Cert.SegBIdeal.main_v3) = v0 c
          ∧ r.2.mem ((c.tc : Thread Cert.SegBIdeal.nD Cert.SegBIdeal.τ).loc Cert.SegBIdeal.main_arg0) = m ((c.tc : Thread Cert.SegBIdeal.nD Cert.SegBIdeal.τ).loc Cert.SegBIdeal.main_arg0)
          ∧ r.2.mem ((c.tc : Thread Cert.SegBIdeal.nD Cert.SegBIdeal.τ).loc Cert.SegBIdeal.main_arg1) = m ((c.tc : Thread Cert.SegBIdeal.nD Cert.SegBIdeal.τ).loc Cert.SegBIdeal.main_arg1))
      ∧ θ_run (Cert.SegBRefIdeal.defs (F := Ideal)) (onTc (τ := Cert.SegBRefIdeal.τ) (Cert.SegBRefIdeal.main (F := Ideal))) ⟨m', fun _ => 0, g'⟩ (fun r => ∀ c : Dev Cert.SegBRefIdeal.nD,
          r.2.mem ((c.tc : Thread Cert.SegBRefIdeal.nD Cert.SegBRefIdeal.τ).loc Cert.SegBRefIdeal.main_v3) = v0 c
          ∧ r.2.mem ((c.tc : Thread Cert.SegBRefIdeal.nD Cert.SegBRefIdeal.τ).loc Cert.SegBRefIdeal.main_arg0) = m' ((c.tc : Thread Cert.SegBRefIdeal.nD Cert.SegBRefIdeal.τ).loc Cert.SegBRefIdeal.main_arg0)
          ∧ r.2.mem ((c.tc : Thread Cert.SegBRefIdeal.nD Cert.SegBRefIdeal.τ).loc Cert.SegBRefIdeal.main_arg1) = m' ((c.tc : Thread Cert.SegBRefIdeal.nD Cert.SegBRefIdeal.τ).loc Cert.SegBRefIdeal.main_arg1))

def preserves_SegC_SegCIdeal : Prop :=
  True

def algebraic_SegCIdeal_SegCRefIdeal [hSegCIdeal : Cert.SegCIdeal.Facts] [hSegCRefIdeal : Cert.SegCRefIdeal.Facts] : Prop :=
  ∀ (m : (ℓ : Loc Cert.SegCIdeal.nD Cert.SegCIdeal.τ Cert.SegCIdeal.sig) → Buf (Elt Ideal) ℓ) (g : Dev Cert.SegCIdeal.nD → PrngReg)
    (m' : (ℓ : Loc Cert.SegCRefIdeal.nD Cert.SegCRefIdeal.τ Cert.SegCRefIdeal.sig) → Buf (Elt Ideal) ℓ) (g' : Dev Cert.SegCRefIdeal.nD → PrngReg), Pre_SegCIdeal m →
    (∀ c : Dev Cert.SegCIdeal.nD,
      m' ((c.tc : Thread Cert.SegCRefIdeal.nD Cert.SegCRefIdeal.τ).loc Cert.SegCRefIdeal.main_arg0) = m ((c.tc : Thread Cert.SegCIdeal.nD Cert.SegCIdeal.τ).loc Cert.SegCIdeal.main_arg0)
      ∧ m' ((c.tc : Thread Cert.SegCRefIdeal.nD Cert.SegCRefIdeal.τ).loc Cert.SegCRefIdeal.main_arg1) = m ((c.tc : Thread Cert.SegCIdeal.nD Cert.SegCIdeal.τ).loc Cert.SegCIdeal.main_arg1)) →
    ∃ (v0 : (c : Dev Cert.SegCIdeal.nD) → Buf (Elt Ideal) ((c.tc : Thread Cert.SegCIdeal.nD Cert.SegCIdeal.τ).loc Cert.SegCIdeal.main_v3)),
      θ_run (Cert.SegCIdeal.defs (F := Ideal)) (onTc (τ := Cert.SegCIdeal.τ) (Cert.SegCIdeal.main (F := Ideal))) ⟨m, fun _ => 0, g⟩ (fun r => ∀ c : Dev Cert.SegCIdeal.nD,
          r.2.mem ((c.tc : Thread Cert.SegCIdeal.nD Cert.SegCIdeal.τ).loc Cert.SegCIdeal.main_v3) = v0 c
          ∧ r.2.mem ((c.tc : Thread Cert.SegCIdeal.nD Cert.SegCIdeal.τ).loc Cert.SegCIdeal.main_arg0) = m ((c.tc : Thread Cert.SegCIdeal.nD Cert.SegCIdeal.τ).loc Cert.SegCIdeal.main_arg0)
          ∧ r.2.mem ((c.tc : Thread Cert.SegCIdeal.nD Cert.SegCIdeal.τ).loc Cert.SegCIdeal.main_arg1) = m ((c.tc : Thread Cert.SegCIdeal.nD Cert.SegCIdeal.τ).loc Cert.SegCIdeal.main_arg1))
      ∧ θ_run (Cert.SegCRefIdeal.defs (F := Ideal)) (onTc (τ := Cert.SegCRefIdeal.τ) (Cert.SegCRefIdeal.main (F := Ideal))) ⟨m', fun _ => 0, g'⟩ (fun r => ∀ c : Dev Cert.SegCRefIdeal.nD,
          r.2.mem ((c.tc : Thread Cert.SegCRefIdeal.nD Cert.SegCRefIdeal.τ).loc Cert.SegCRefIdeal.main_v3) = v0 c
          ∧ r.2.mem ((c.tc : Thread Cert.SegCRefIdeal.nD Cert.SegCRefIdeal.τ).loc Cert.SegCRefIdeal.main_arg0) = m' ((c.tc : Thread Cert.SegCRefIdeal.nD Cert.SegCRefIdeal.τ).loc Cert.SegCRefIdeal.main_arg0)
          ∧ r.2.mem ((c.tc : Thread Cert.SegCRefIdeal.nD Cert.SegCRefIdeal.τ).loc Cert.SegCRefIdeal.main_arg1) = m' ((c.tc : Thread Cert.SegCRefIdeal.nD Cert.SegCRefIdeal.τ).loc Cert.SegCRefIdeal.main_arg1))

def preserves_SegD_SegDIdeal : Prop :=
  True

def algebraic_SegDIdeal_SegDRefIdeal [hSegDIdeal : Cert.SegDIdeal.Facts] [hSegDRefIdeal : Cert.SegDRefIdeal.Facts] : Prop :=
  ∀ (m : (ℓ : Loc Cert.SegDIdeal.nD Cert.SegDIdeal.τ Cert.SegDIdeal.sig) → Buf (Elt Ideal) ℓ) (g : Dev Cert.SegDIdeal.nD → PrngReg)
    (m' : (ℓ : Loc Cert.SegDRefIdeal.nD Cert.SegDRefIdeal.τ Cert.SegDRefIdeal.sig) → Buf (Elt Ideal) ℓ) (g' : Dev Cert.SegDRefIdeal.nD → PrngReg), Pre_SegDIdeal m →
    (∀ c : Dev Cert.SegDIdeal.nD,
      m' ((c.tc : Thread Cert.SegDRefIdeal.nD Cert.SegDRefIdeal.τ).loc Cert.SegDRefIdeal.main_arg0) = m ((c.tc : Thread Cert.SegDIdeal.nD Cert.SegDIdeal.τ).loc Cert.SegDIdeal.main_arg0)
      ∧ m' ((c.tc : Thread Cert.SegDRefIdeal.nD Cert.SegDRefIdeal.τ).loc Cert.SegDRefIdeal.main_arg1) = m ((c.tc : Thread Cert.SegDIdeal.nD Cert.SegDIdeal.τ).loc Cert.SegDIdeal.main_arg1)) →
    ∃ (v0 : (c : Dev Cert.SegDIdeal.nD) → Buf (Elt Ideal) ((c.tc : Thread Cert.SegDIdeal.nD Cert.SegDIdeal.τ).loc Cert.SegDIdeal.main_v6)),
      θ_run (Cert.SegDIdeal.defs (F := Ideal)) (onTc (τ := Cert.SegDIdeal.τ) (Cert.SegDIdeal.main (F := Ideal))) ⟨m, fun _ => 0, g⟩ (fun r => ∀ c : Dev Cert.SegDIdeal.nD,
          r.2.mem ((c.tc : Thread Cert.SegDIdeal.nD Cert.SegDIdeal.τ).loc Cert.SegDIdeal.main_v6) = v0 c
          ∧ r.2.mem ((c.tc : Thread Cert.SegDIdeal.nD Cert.SegDIdeal.τ).loc Cert.SegDIdeal.main_arg0) = m ((c.tc : Thread Cert.SegDIdeal.nD Cert.SegDIdeal.τ).loc Cert.SegDIdeal.main_arg0)
          ∧ r.2.mem ((c.tc : Thread Cert.SegDIdeal.nD Cert.SegDIdeal.τ).loc Cert.SegDIdeal.main_arg1) = m ((c.tc : Thread Cert.SegDIdeal.nD Cert.SegDIdeal.τ).loc Cert.SegDIdeal.main_arg1))
      ∧ θ_run (Cert.SegDRefIdeal.defs (F := Ideal)) (onTc (τ := Cert.SegDRefIdeal.τ) (Cert.SegDRefIdeal.main (F := Ideal))) ⟨m', fun _ => 0, g'⟩ (fun r => ∀ c : Dev Cert.SegDRefIdeal.nD,
          r.2.mem ((c.tc : Thread Cert.SegDRefIdeal.nD Cert.SegDRefIdeal.τ).loc Cert.SegDRefIdeal.main_v9) = v0 c
          ∧ r.2.mem ((c.tc : Thread Cert.SegDRefIdeal.nD Cert.SegDRefIdeal.τ).loc Cert.SegDRefIdeal.main_arg0) = m' ((c.tc : Thread Cert.SegDRefIdeal.nD Cert.SegDRefIdeal.τ).loc Cert.SegDRefIdeal.main_arg0)
          ∧ r.2.mem ((c.tc : Thread Cert.SegDRefIdeal.nD Cert.SegDRefIdeal.τ).loc Cert.SegDRefIdeal.main_arg1) = m' ((c.tc : Thread Cert.SegDRefIdeal.nD Cert.SegDRefIdeal.τ).loc Cert.SegDRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_CrossOut_CrossOutIdeal : Prop :=
  True

def algebraic_CrossOutIdeal_CrossOutRefIdeal [hCrossOutIdeal : Cert.CrossOutIdeal.Facts] [hCrossOutRefIdeal : Cert.CrossOutRefIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutRefIdeal.nD Cert.CrossOutRefIdeal.τ Cert.CrossOutRefIdeal.sig) → Buf (Elt Ideal) ℓ) (g' : Dev Cert.CrossOutRefIdeal.nD → PrngReg), Pre_CrossOutIdeal m →
    (∀ c : Dev Cert.CrossOutIdeal.nD,
      m' ((c.tc : Thread Cert.CrossOutRefIdeal.nD Cert.CrossOutRefIdeal.τ).loc Cert.CrossOutRefIdeal.main_arg0) = m ((c.tc : Thread Cert.CrossOutIdeal.nD Cert.CrossOutIdeal.τ).loc Cert.CrossOutIdeal.main_arg0)
      ∧ m' ((c.tc : Thread Cert.CrossOutRefIdeal.nD Cert.CrossOutRefIdeal.τ).loc Cert.CrossOutRefIdeal.main_arg1) = m ((c.tc : Thread Cert.CrossOutIdeal.nD Cert.CrossOutIdeal.τ).loc Cert.CrossOutIdeal.main_arg1)
      ∧ m' ((c.tc : Thread Cert.CrossOutRefIdeal.nD Cert.CrossOutRefIdeal.τ).loc Cert.CrossOutRefIdeal.main_arg2) = m ((c.tc : Thread Cert.CrossOutIdeal.nD Cert.CrossOutIdeal.τ).loc Cert.CrossOutIdeal.main_arg2)) →
    ∃ (v0 : (c : Dev Cert.CrossOutIdeal.nD) → Buf (Elt Ideal) ((c.tc : Thread Cert.CrossOutIdeal.nD Cert.CrossOutIdeal.τ).loc Cert.CrossOutIdeal.main_v2)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v2) = v0 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ θ_run (Cert.CrossOutRefIdeal.defs (F := Ideal)) (onTc (τ := Cert.CrossOutRefIdeal.τ) (Cert.CrossOutRefIdeal.main (F := Ideal))) ⟨m', fun _ => 0, g'⟩ (fun r => ∀ c : Dev Cert.CrossOutRefIdeal.nD,
          r.2.mem ((c.tc : Thread Cert.CrossOutRefIdeal.nD Cert.CrossOutRefIdeal.τ).loc Cert.CrossOutRefIdeal.main_v3) = v0 c
          ∧ r.2.mem ((c.tc : Thread Cert.CrossOutRefIdeal.nD Cert.CrossOutRefIdeal.τ).loc Cert.CrossOutRefIdeal.main_arg0) = m' ((c.tc : Thread Cert.CrossOutRefIdeal.nD Cert.CrossOutRefIdeal.τ).loc Cert.CrossOutRefIdeal.main_arg0)
          ∧ r.2.mem ((c.tc : Thread Cert.CrossOutRefIdeal.nD Cert.CrossOutRefIdeal.τ).loc Cert.CrossOutRefIdeal.main_arg1) = m' ((c.tc : Thread Cert.CrossOutRefIdeal.nD Cert.CrossOutRefIdeal.τ).loc Cert.CrossOutRefIdeal.main_arg1)
          ∧ r.2.mem ((c.tc : Thread Cert.CrossOutRefIdeal.nD Cert.CrossOutRefIdeal.τ).loc Cert.CrossOutRefIdeal.main_arg2) = m' ((c.tc : Thread Cert.CrossOutRefIdeal.nD Cert.CrossOutRefIdeal.τ).loc Cert.CrossOutRefIdeal.main_arg2))

def preserves_CrossQuery_CrossQueryIdeal : Prop :=
  True

def algebraic_CrossQueryIdeal_CrossQueryRefIdeal [hCrossQueryIdeal : Cert.CrossQueryIdeal.Facts] [hCrossQueryRefIdeal : Cert.CrossQueryRefIdeal.Facts] : Prop :=
  ∀ (m : (ℓ : Loc Cert.CrossQueryIdeal.nD Cert.CrossQueryIdeal.τ Cert.CrossQueryIdeal.sig) → Buf (Elt Ideal) ℓ) (g : Dev Cert.CrossQueryIdeal.nD → PrngReg)
    (m' : (ℓ : Loc Cert.CrossQueryRefIdeal.nD Cert.CrossQueryRefIdeal.τ Cert.CrossQueryRefIdeal.sig) → Buf (Elt Ideal) ℓ) (g' : Dev Cert.CrossQueryRefIdeal.nD → PrngReg), Pre_CrossQueryIdeal m →
    (∀ c : Dev Cert.CrossQueryIdeal.nD,
      m' ((c.tc : Thread Cert.CrossQueryRefIdeal.nD Cert.CrossQueryRefIdeal.τ).loc Cert.CrossQueryRefIdeal.main_arg0) = m ((c.tc : Thread Cert.CrossQueryIdeal.nD Cert.CrossQueryIdeal.τ).loc Cert.CrossQueryIdeal.main_arg0)
      ∧ m' ((c.tc : Thread Cert.CrossQueryRefIdeal.nD Cert.CrossQueryRefIdeal.τ).loc Cert.CrossQueryRefIdeal.main_arg1) = m ((c.tc : Thread Cert.CrossQueryIdeal.nD Cert.CrossQueryIdeal.τ).loc Cert.CrossQueryIdeal.main_arg1)) →
    ∃ (v0 : (c : Dev Cert.CrossQueryIdeal.nD) → Buf (Elt Ideal) ((c.tc : Thread Cert.CrossQueryIdeal.nD Cert.CrossQueryIdeal.τ).loc Cert.CrossQueryIdeal.main_v2)),
      θ_run (Cert.CrossQueryIdeal.defs (F := Ideal)) (onTc (τ := Cert.CrossQueryIdeal.τ) (Cert.CrossQueryIdeal.main (F := Ideal))) ⟨m, fun _ => 0, g⟩ (fun r => ∀ c : Dev Cert.CrossQueryIdeal.nD,
          r.2.mem ((c.tc : Thread Cert.CrossQueryIdeal.nD Cert.CrossQueryIdeal.τ).loc Cert.CrossQueryIdeal.main_v2) = v0 c
          ∧ r.2.mem ((c.tc : Thread Cert.CrossQueryIdeal.nD Cert.CrossQueryIdeal.τ).loc Cert.CrossQueryIdeal.main_arg0) = m ((c.tc : Thread Cert.CrossQueryIdeal.nD Cert.CrossQueryIdeal.τ).loc Cert.CrossQueryIdeal.main_arg0)
          ∧ r.2.mem ((c.tc : Thread Cert.CrossQueryIdeal.nD Cert.CrossQueryIdeal.τ).loc Cert.CrossQueryIdeal.main_arg1) = m ((c.tc : Thread Cert.CrossQueryIdeal.nD Cert.CrossQueryIdeal.τ).loc Cert.CrossQueryIdeal.main_arg1))
      ∧ θ_run (Cert.CrossQueryRefIdeal.defs (F := Ideal)) (onTc (τ := Cert.CrossQueryRefIdeal.τ) (Cert.CrossQueryRefIdeal.main (F := Ideal))) ⟨m', fun _ => 0, g'⟩ (fun r => ∀ c : Dev Cert.CrossQueryRefIdeal.nD,
          r.2.mem ((c.tc : Thread Cert.CrossQueryRefIdeal.nD Cert.CrossQueryRefIdeal.τ).loc Cert.CrossQueryRefIdeal.main_v2) = v0 c
          ∧ r.2.mem ((c.tc : Thread Cert.CrossQueryRefIdeal.nD Cert.CrossQueryRefIdeal.τ).loc Cert.CrossQueryRefIdeal.main_arg0) = m' ((c.tc : Thread Cert.CrossQueryRefIdeal.nD Cert.CrossQueryRefIdeal.τ).loc Cert.CrossQueryRefIdeal.main_arg0)
          ∧ r.2.mem ((c.tc : Thread Cert.CrossQueryRefIdeal.nD Cert.CrossQueryRefIdeal.τ).loc Cert.CrossQueryRefIdeal.main_arg1) = m' ((c.tc : Thread Cert.CrossQueryRefIdeal.nD Cert.CrossQueryRefIdeal.τ).loc Cert.CrossQueryRefIdeal.main_arg1))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v2)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v2) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v2) = v0 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1))

def preserves_MemoryKeys_MemoryKeysIdeal : Prop :=
  True

def algebraic_MemoryKeysIdeal_MemoryKeysRefIdeal [hMemoryKeysIdeal : Cert.MemoryKeysIdeal.Facts] [hMemoryKeysRefIdeal : Cert.MemoryKeysRefIdeal.Facts] : Prop :=
  ∀ (m : (ℓ : Loc Cert.MemoryKeysIdeal.nD Cert.MemoryKeysIdeal.τ Cert.MemoryKeysIdeal.sig) → Buf (Elt Ideal) ℓ) (g : Dev Cert.MemoryKeysIdeal.nD → PrngReg)
    (m' : (ℓ : Loc Cert.MemoryKeysRefIdeal.nD Cert.MemoryKeysRefIdeal.τ Cert.MemoryKeysRefIdeal.sig) → Buf (Elt Ideal) ℓ) (g' : Dev Cert.MemoryKeysRefIdeal.nD → PrngReg), Pre_MemoryKeysIdeal m →
    (∀ c : Dev Cert.MemoryKeysIdeal.nD,
      m' ((c.tc : Thread Cert.MemoryKeysRefIdeal.nD Cert.MemoryKeysRefIdeal.τ).loc Cert.MemoryKeysRefIdeal.main_arg0) = m ((c.tc : Thread Cert.MemoryKeysIdeal.nD Cert.MemoryKeysIdeal.τ).loc Cert.MemoryKeysIdeal.main_arg0)
      ∧ m' ((c.tc : Thread Cert.MemoryKeysRefIdeal.nD Cert.MemoryKeysRefIdeal.τ).loc Cert.MemoryKeysRefIdeal.main_arg1) = m ((c.tc : Thread Cert.MemoryKeysIdeal.nD Cert.MemoryKeysIdeal.τ).loc Cert.MemoryKeysIdeal.main_arg1)) →
    ∃ (v0 : (c : Dev Cert.MemoryKeysIdeal.nD) → Buf (Elt Ideal) ((c.tc : Thread Cert.MemoryKeysIdeal.nD Cert.MemoryKeysIdeal.τ).loc Cert.MemoryKeysIdeal.main_v3)),
      θ_run (Cert.MemoryKeysIdeal.defs (F := Ideal)) (onTc (τ := Cert.MemoryKeysIdeal.τ) (Cert.MemoryKeysIdeal.main (F := Ideal))) ⟨m, fun _ => 0, g⟩ (fun r => ∀ c : Dev Cert.MemoryKeysIdeal.nD,
          r.2.mem ((c.tc : Thread Cert.MemoryKeysIdeal.nD Cert.MemoryKeysIdeal.τ).loc Cert.MemoryKeysIdeal.main_v3) = v0 c
          ∧ r.2.mem ((c.tc : Thread Cert.MemoryKeysIdeal.nD Cert.MemoryKeysIdeal.τ).loc Cert.MemoryKeysIdeal.main_arg0) = m ((c.tc : Thread Cert.MemoryKeysIdeal.nD Cert.MemoryKeysIdeal.τ).loc Cert.MemoryKeysIdeal.main_arg0)
          ∧ r.2.mem ((c.tc : Thread Cert.MemoryKeysIdeal.nD Cert.MemoryKeysIdeal.τ).loc Cert.MemoryKeysIdeal.main_arg1) = m ((c.tc : Thread Cert.MemoryKeysIdeal.nD Cert.MemoryKeysIdeal.τ).loc Cert.MemoryKeysIdeal.main_arg1))
      ∧ θ_run (Cert.MemoryKeysRefIdeal.defs (F := Ideal)) (onTc (τ := Cert.MemoryKeysRefIdeal.τ) (Cert.MemoryKeysRefIdeal.main (F := Ideal))) ⟨m', fun _ => 0, g'⟩ (fun r => ∀ c : Dev Cert.MemoryKeysRefIdeal.nD,
          r.2.mem ((c.tc : Thread Cert.MemoryKeysRefIdeal.nD Cert.MemoryKeysRefIdeal.τ).loc Cert.MemoryKeysRefIdeal.main_v2) = v0 c
          ∧ r.2.mem ((c.tc : Thread Cert.MemoryKeysRefIdeal.nD Cert.MemoryKeysRefIdeal.τ).loc Cert.MemoryKeysRefIdeal.main_arg0) = m' ((c.tc : Thread Cert.MemoryKeysRefIdeal.nD Cert.MemoryKeysRefIdeal.τ).loc Cert.MemoryKeysRefIdeal.main_arg0)
          ∧ r.2.mem ((c.tc : Thread Cert.MemoryKeysRefIdeal.nD Cert.MemoryKeysRefIdeal.τ).loc Cert.MemoryKeysRefIdeal.main_arg1) = m' ((c.tc : Thread Cert.MemoryKeysRefIdeal.nD Cert.MemoryKeysRefIdeal.τ).loc Cert.MemoryKeysRefIdeal.main_arg1))

def preserves_MemoryValues_MemoryValuesIdeal : Prop :=
  True

def algebraic_MemoryValuesIdeal_MemoryValuesRefIdeal [hMemoryValuesIdeal : Cert.MemoryValuesIdeal.Facts] [hMemoryValuesRefIdeal : Cert.MemoryValuesRefIdeal.Facts] : Prop :=
  ∀ (m : (ℓ : Loc Cert.MemoryValuesIdeal.nD Cert.MemoryValuesIdeal.τ Cert.MemoryValuesIdeal.sig) → Buf (Elt Ideal) ℓ) (g : Dev Cert.MemoryValuesIdeal.nD → PrngReg)
    (m' : (ℓ : Loc Cert.MemoryValuesRefIdeal.nD Cert.MemoryValuesRefIdeal.τ Cert.MemoryValuesRefIdeal.sig) → Buf (Elt Ideal) ℓ) (g' : Dev Cert.MemoryValuesRefIdeal.nD → PrngReg), Pre_MemoryValuesIdeal m →
    (∀ c : Dev Cert.MemoryValuesIdeal.nD,
      m' ((c.tc : Thread Cert.MemoryValuesRefIdeal.nD Cert.MemoryValuesRefIdeal.τ).loc Cert.MemoryValuesRefIdeal.main_arg0) = m ((c.tc : Thread Cert.MemoryValuesIdeal.nD Cert.MemoryValuesIdeal.τ).loc Cert.MemoryValuesIdeal.main_arg0)
      ∧ m' ((c.tc : Thread Cert.MemoryValuesRefIdeal.nD Cert.MemoryValuesRefIdeal.τ).loc Cert.MemoryValuesRefIdeal.main_arg1) = m ((c.tc : Thread Cert.MemoryValuesIdeal.nD Cert.MemoryValuesIdeal.τ).loc Cert.MemoryValuesIdeal.main_arg1)) →
    ∃ (v0 : (c : Dev Cert.MemoryValuesIdeal.nD) → Buf (Elt Ideal) ((c.tc : Thread Cert.MemoryValuesIdeal.nD Cert.MemoryValuesIdeal.τ).loc Cert.MemoryValuesIdeal.main_v3)),
      θ_run (Cert.MemoryValuesIdeal.defs (F := Ideal)) (onTc (τ := Cert.MemoryValuesIdeal.τ) (Cert.MemoryValuesIdeal.main (F := Ideal))) ⟨m, fun _ => 0, g⟩ (fun r => ∀ c : Dev Cert.MemoryValuesIdeal.nD,
          r.2.mem ((c.tc : Thread Cert.MemoryValuesIdeal.nD Cert.MemoryValuesIdeal.τ).loc Cert.MemoryValuesIdeal.main_v3) = v0 c
          ∧ r.2.mem ((c.tc : Thread Cert.MemoryValuesIdeal.nD Cert.MemoryValuesIdeal.τ).loc Cert.MemoryValuesIdeal.main_arg0) = m ((c.tc : Thread Cert.MemoryValuesIdeal.nD Cert.MemoryValuesIdeal.τ).loc Cert.MemoryValuesIdeal.main_arg0)
          ∧ r.2.mem ((c.tc : Thread Cert.MemoryValuesIdeal.nD Cert.MemoryValuesIdeal.τ).loc Cert.MemoryValuesIdeal.main_arg1) = m ((c.tc : Thread Cert.MemoryValuesIdeal.nD Cert.MemoryValuesIdeal.τ).loc Cert.MemoryValuesIdeal.main_arg1))
      ∧ θ_run (Cert.MemoryValuesRefIdeal.defs (F := Ideal)) (onTc (τ := Cert.MemoryValuesRefIdeal.τ) (Cert.MemoryValuesRefIdeal.main (F := Ideal))) ⟨m', fun _ => 0, g'⟩ (fun r => ∀ c : Dev Cert.MemoryValuesRefIdeal.nD,
          r.2.mem ((c.tc : Thread Cert.MemoryValuesRefIdeal.nD Cert.MemoryValuesRefIdeal.τ).loc Cert.MemoryValuesRefIdeal.main_v2) = v0 c
          ∧ r.2.mem ((c.tc : Thread Cert.MemoryValuesRefIdeal.nD Cert.MemoryValuesRefIdeal.τ).loc Cert.MemoryValuesRefIdeal.main_arg0) = m' ((c.tc : Thread Cert.MemoryValuesRefIdeal.nD Cert.MemoryValuesRefIdeal.τ).loc Cert.MemoryValuesRefIdeal.main_arg0)
          ∧ r.2.mem ((c.tc : Thread Cert.MemoryValuesRefIdeal.nD Cert.MemoryValuesRefIdeal.τ).loc Cert.MemoryValuesRefIdeal.main_arg1) = m' ((c.tc : Thread Cert.MemoryValuesRefIdeal.nD Cert.MemoryValuesRefIdeal.τ).loc Cert.MemoryValuesRefIdeal.main_arg1))

def preserves_InputNorm_InputNormIdeal : Prop :=
  True

def algebraic_InputNormIdeal_InputNormRefIdeal [hInputNormIdeal : Cert.InputNormIdeal.Facts] [hInputNormRefIdeal : Cert.InputNormRefIdeal.Facts] : Prop :=
  ∀ (m : (ℓ : Loc Cert.InputNormIdeal.nD Cert.InputNormIdeal.τ Cert.InputNormIdeal.sig) → Buf (Elt Ideal) ℓ) (g : Dev Cert.InputNormIdeal.nD → PrngReg)
    (m' : (ℓ : Loc Cert.InputNormRefIdeal.nD Cert.InputNormRefIdeal.τ Cert.InputNormRefIdeal.sig) → Buf (Elt Ideal) ℓ) (g' : Dev Cert.InputNormRefIdeal.nD → PrngReg), Pre_InputNormIdeal m →
    (∀ c : Dev Cert.InputNormIdeal.nD,
      m' ((c.tc : Thread Cert.InputNormRefIdeal.nD Cert.InputNormRefIdeal.τ).loc Cert.InputNormRefIdeal.main_arg0) = m ((c.tc : Thread Cert.InputNormIdeal.nD Cert.InputNormIdeal.τ).loc Cert.InputNormIdeal.main_arg0)
      ∧ m' ((c.tc : Thread Cert.InputNormRefIdeal.nD Cert.InputNormRefIdeal.τ).loc Cert.InputNormRefIdeal.main_arg1) = m ((c.tc : Thread Cert.InputNormIdeal.nD Cert.InputNormIdeal.τ).loc Cert.InputNormIdeal.main_arg1)
      ∧ m' ((c.tc : Thread Cert.InputNormRefIdeal.nD Cert.InputNormRefIdeal.τ).loc Cert.InputNormRefIdeal.main_arg2) = m ((c.tc : Thread Cert.InputNormIdeal.nD Cert.InputNormIdeal.τ).loc Cert.InputNormIdeal.main_arg2)) →
    ∃ (v0 : (c : Dev Cert.InputNormIdeal.nD) → Buf (Elt Ideal) ((c.tc : Thread Cert.InputNormIdeal.nD Cert.InputNormIdeal.τ).loc Cert.InputNormIdeal.main_v8)) (v1 : (c : Dev Cert.InputNormIdeal.nD) → Buf (Elt Ideal) ((c.tc : Thread Cert.InputNormIdeal.nD Cert.InputNormIdeal.τ).loc Cert.InputNormIdeal.main_v11)),
      θ_run (Cert.InputNormIdeal.defs (F := Ideal)) (onTc (τ := Cert.InputNormIdeal.τ) (Cert.InputNormIdeal.main (F := Ideal))) ⟨m, fun _ => 0, g⟩ (fun r => ∀ c : Dev Cert.InputNormIdeal.nD,
          r.2.mem ((c.tc : Thread Cert.InputNormIdeal.nD Cert.InputNormIdeal.τ).loc Cert.InputNormIdeal.main_v8) = v0 c
          ∧ r.2.mem ((c.tc : Thread Cert.InputNormIdeal.nD Cert.InputNormIdeal.τ).loc Cert.InputNormIdeal.main_v11) = v1 c
          ∧ r.2.mem ((c.tc : Thread Cert.InputNormIdeal.nD Cert.InputNormIdeal.τ).loc Cert.InputNormIdeal.main_arg0) = m ((c.tc : Thread Cert.InputNormIdeal.nD Cert.InputNormIdeal.τ).loc Cert.InputNormIdeal.main_arg0)
          ∧ r.2.mem ((c.tc : Thread Cert.InputNormIdeal.nD Cert.InputNormIdeal.τ).loc Cert.InputNormIdeal.main_arg1) = m ((c.tc : Thread Cert.InputNormIdeal.nD Cert.InputNormIdeal.τ).loc Cert.InputNormIdeal.main_arg1)
          ∧ r.2.mem ((c.tc : Thread Cert.InputNormIdeal.nD Cert.InputNormIdeal.τ).loc Cert.InputNormIdeal.main_arg2) = m ((c.tc : Thread Cert.InputNormIdeal.nD Cert.InputNormIdeal.τ).loc Cert.InputNormIdeal.main_arg2))
      ∧ θ_run (Cert.InputNormRefIdeal.defs (F := Ideal)) (onTc (τ := Cert.InputNormRefIdeal.τ) (Cert.InputNormRefIdeal.main (F := Ideal))) ⟨m', fun _ => 0, g'⟩ (fun r => ∀ c : Dev Cert.InputNormRefIdeal.nD,
          r.2.mem ((c.tc : Thread Cert.InputNormRefIdeal.nD Cert.InputNormRefIdeal.τ).loc Cert.InputNormRefIdeal.main_v14) = v0 c
          ∧ r.2.mem ((c.tc : Thread Cert.InputNormRefIdeal.nD Cert.InputNormRefIdeal.τ).loc Cert.InputNormRefIdeal.main_v29) = v1 c
          ∧ r.2.mem ((c.tc : Thread Cert.InputNormRefIdeal.nD Cert.InputNormRefIdeal.τ).loc Cert.InputNormRefIdeal.main_arg0) = m' ((c.tc : Thread Cert.InputNormRefIdeal.nD Cert.InputNormRefIdeal.τ).loc Cert.InputNormRefIdeal.main_arg0)
          ∧ r.2.mem ((c.tc : Thread Cert.InputNormRefIdeal.nD Cert.InputNormRefIdeal.τ).loc Cert.InputNormRefIdeal.main_arg1) = m' ((c.tc : Thread Cert.InputNormRefIdeal.nD Cert.InputNormRefIdeal.τ).loc Cert.InputNormRefIdeal.main_arg1)
          ∧ r.2.mem ((c.tc : Thread Cert.InputNormRefIdeal.nD Cert.InputNormRefIdeal.τ).loc Cert.InputNormRefIdeal.main_arg2) = m' ((c.tc : Thread Cert.InputNormRefIdeal.nD Cert.InputNormRefIdeal.τ).loc Cert.InputNormRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)
      ∧ m' ((c.tc : Thread Cert.FinalNormRefIdeal.nD Cert.FinalNormRefIdeal.τ).loc Cert.FinalNormRefIdeal.main_arg2) = m ((c.tc : Thread Cert.FinalNormIdeal.nD Cert.FinalNormIdeal.τ).loc Cert.FinalNormIdeal.main_arg2)) →
    ∃ (v0 : (c : Dev Cert.FinalNormIdeal.nD) → Buf (Elt Ideal) ((c.tc : Thread Cert.FinalNormIdeal.nD Cert.FinalNormIdeal.τ).loc Cert.FinalNormIdeal.main_v3)) (v1 : (c : Dev Cert.FinalNormIdeal.nD) → Buf (Elt Ideal) ((c.tc : Thread Cert.FinalNormIdeal.nD Cert.FinalNormIdeal.τ).loc Cert.FinalNormIdeal.main_v6)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v3) = v0 c
          ∧ r.2.mem ((c.tc : Thread Cert.FinalNormIdeal.nD Cert.FinalNormIdeal.τ).loc Cert.FinalNormIdeal.main_v6) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v18) = v0 c
          ∧ r.2.mem ((c.tc : Thread Cert.FinalNormRefIdeal.nD Cert.FinalNormRefIdeal.τ).loc Cert.FinalNormRefIdeal.main_v31) = v1 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1)
          ∧ r.2.mem ((c.tc : Thread Cert.FinalNormRefIdeal.nD Cert.FinalNormRefIdeal.τ).loc Cert.FinalNormRefIdeal.main_arg2) = m' ((c.tc : Thread Cert.FinalNormRefIdeal.nD Cert.FinalNormRefIdeal.τ).loc Cert.FinalNormRefIdeal.main_arg2))

def preserves_DnConvState_DnConvStateIdeal : Prop :=
  True

def algebraic_DnConvStateIdeal_DnConvStateRefIdeal [hDnConvStateIdeal : Cert.DnConvStateIdeal.Facts] [hDnConvStateRefIdeal : Cert.DnConvStateRefIdeal.Facts] : Prop :=
  ∀ (m : (ℓ : Loc Cert.DnConvStateIdeal.nD Cert.DnConvStateIdeal.τ Cert.DnConvStateIdeal.sig) → Buf (Elt Ideal) ℓ) (g : Dev Cert.DnConvStateIdeal.nD → PrngReg)
    (m' : (ℓ : Loc Cert.DnConvStateRefIdeal.nD Cert.DnConvStateRefIdeal.τ Cert.DnConvStateRefIdeal.sig) → Buf (Elt Ideal) ℓ) (g' : Dev Cert.DnConvStateRefIdeal.nD → PrngReg), Pre_DnConvStateIdeal m →
    (∀ c : Dev Cert.DnConvStateIdeal.nD,
      m' ((c.tc : Thread Cert.DnConvStateRefIdeal.nD Cert.DnConvStateRefIdeal.τ).loc Cert.DnConvStateRefIdeal.main_arg0) = m ((c.tc : Thread Cert.DnConvStateIdeal.nD Cert.DnConvStateIdeal.τ).loc Cert.DnConvStateIdeal.main_arg0)
      ∧ m' ((c.tc : Thread Cert.DnConvStateRefIdeal.nD Cert.DnConvStateRefIdeal.τ).loc Cert.DnConvStateRefIdeal.main_arg1) = m ((c.tc : Thread Cert.DnConvStateIdeal.nD Cert.DnConvStateIdeal.τ).loc Cert.DnConvStateIdeal.main_arg1)
      ∧ m' ((c.tc : Thread Cert.DnConvStateRefIdeal.nD Cert.DnConvStateRefIdeal.τ).loc Cert.DnConvStateRefIdeal.main_arg2) = m ((c.tc : Thread Cert.DnConvStateIdeal.nD Cert.DnConvStateIdeal.τ).loc Cert.DnConvStateIdeal.main_arg2)) →
    ∃ (v0 : (c : Dev Cert.DnConvStateIdeal.nD) → Buf (Elt Ideal) ((c.tc : Thread Cert.DnConvStateIdeal.nD Cert.DnConvStateIdeal.τ).loc Cert.DnConvStateIdeal.main_v7)) (v1 : (c : Dev Cert.DnConvStateIdeal.nD) → Buf (Elt Ideal) ((c.tc : Thread Cert.DnConvStateIdeal.nD Cert.DnConvStateIdeal.τ).loc Cert.DnConvStateIdeal.main_v12)),
      θ_run (Cert.DnConvStateIdeal.defs (F := Ideal)) (onTc (τ := Cert.DnConvStateIdeal.τ) (Cert.DnConvStateIdeal.main (F := Ideal))) ⟨m, fun _ => 0, g⟩ (fun r => ∀ c : Dev Cert.DnConvStateIdeal.nD,
          r.2.mem ((c.tc : Thread Cert.DnConvStateIdeal.nD Cert.DnConvStateIdeal.τ).loc Cert.DnConvStateIdeal.main_v7) = v0 c
          ∧ r.2.mem ((c.tc : Thread Cert.DnConvStateIdeal.nD Cert.DnConvStateIdeal.τ).loc Cert.DnConvStateIdeal.main_v12) = v1 c
          ∧ r.2.mem ((c.tc : Thread Cert.DnConvStateIdeal.nD Cert.DnConvStateIdeal.τ).loc Cert.DnConvStateIdeal.main_arg0) = m ((c.tc : Thread Cert.DnConvStateIdeal.nD Cert.DnConvStateIdeal.τ).loc Cert.DnConvStateIdeal.main_arg0)
          ∧ r.2.mem ((c.tc : Thread Cert.DnConvStateIdeal.nD Cert.DnConvStateIdeal.τ).loc Cert.DnConvStateIdeal.main_arg1) = m ((c.tc : Thread Cert.DnConvStateIdeal.nD Cert.DnConvStateIdeal.τ).loc Cert.DnConvStateIdeal.main_arg1)
          ∧ r.2.mem ((c.tc : Thread Cert.DnConvStateIdeal.nD Cert.DnConvStateIdeal.τ).loc Cert.DnConvStateIdeal.main_arg2) = m ((c.tc : Thread Cert.DnConvStateIdeal.nD Cert.DnConvStateIdeal.τ).loc Cert.DnConvStateIdeal.main_arg2))
      ∧ θ_run (Cert.DnConvStateRefIdeal.defs (F := Ideal)) (onTc (τ := Cert.DnConvStateRefIdeal.τ) (Cert.DnConvStateRefIdeal.main (F := Ideal))) ⟨m', fun _ => 0, g'⟩ (fun r => ∀ c : Dev Cert.DnConvStateRefIdeal.nD,
          r.2.mem ((c.tc : Thread Cert.DnConvStateRefIdeal.nD Cert.DnConvStateRefIdeal.τ).loc Cert.DnConvStateRefIdeal.main_v14) = v0 c
          ∧ r.2.mem ((c.tc : Thread Cert.DnConvStateRefIdeal.nD Cert.DnConvStateRefIdeal.τ).loc Cert.DnConvStateRefIdeal.main_v16) = v1 c
          ∧ r.2.mem ((c.tc : Thread Cert.DnConvStateRefIdeal.nD Cert.DnConvStateRefIdeal.τ).loc Cert.DnConvStateRefIdeal.main_arg0) = m' ((c.tc : Thread Cert.DnConvStateRefIdeal.nD Cert.DnConvStateRefIdeal.τ).loc Cert.DnConvStateRefIdeal.main_arg0)
          ∧ r.2.mem ((c.tc : Thread Cert.DnConvStateRefIdeal.nD Cert.DnConvStateRefIdeal.τ).loc Cert.DnConvStateRefIdeal.main_arg1) = m' ((c.tc : Thread Cert.DnConvStateRefIdeal.nD Cert.DnConvStateRefIdeal.τ).loc Cert.DnConvStateRefIdeal.main_arg1)
          ∧ r.2.mem ((c.tc : Thread Cert.DnConvStateRefIdeal.nD Cert.DnConvStateRefIdeal.τ).loc Cert.DnConvStateRefIdeal.main_arg2) = m' ((c.tc : Thread Cert.DnConvStateRefIdeal.nD Cert.DnConvStateRefIdeal.τ).loc Cert.DnConvStateRefIdeal.main_arg2))

def preserves_SsmConvState_SsmConvStateIdeal : Prop :=
  True

def algebraic_SsmConvStateIdeal_SsmConvStateRefIdeal [hSsmConvStateIdeal : Cert.SsmConvStateIdeal.Facts] [hSsmConvStateRefIdeal : Cert.SsmConvStateRefIdeal.Facts] : Prop :=
  ∀ (m : (ℓ : Loc Cert.SsmConvStateIdeal.nD Cert.SsmConvStateIdeal.τ Cert.SsmConvStateIdeal.sig) → Buf (Elt Ideal) ℓ) (g : Dev Cert.SsmConvStateIdeal.nD → PrngReg)
    (m' : (ℓ : Loc Cert.SsmConvStateRefIdeal.nD Cert.SsmConvStateRefIdeal.τ Cert.SsmConvStateRefIdeal.sig) → Buf (Elt Ideal) ℓ) (g' : Dev Cert.SsmConvStateRefIdeal.nD → PrngReg), Pre_SsmConvStateIdeal m →
    (∀ c : Dev Cert.SsmConvStateIdeal.nD,
      m' ((c.tc : Thread Cert.SsmConvStateRefIdeal.nD Cert.SsmConvStateRefIdeal.τ).loc Cert.SsmConvStateRefIdeal.main_arg0) = m ((c.tc : Thread Cert.SsmConvStateIdeal.nD Cert.SsmConvStateIdeal.τ).loc Cert.SsmConvStateIdeal.main_arg0)
      ∧ m' ((c.tc : Thread Cert.SsmConvStateRefIdeal.nD Cert.SsmConvStateRefIdeal.τ).loc Cert.SsmConvStateRefIdeal.main_arg1) = m ((c.tc : Thread Cert.SsmConvStateIdeal.nD Cert.SsmConvStateIdeal.τ).loc Cert.SsmConvStateIdeal.main_arg1)
      ∧ m' ((c.tc : Thread Cert.SsmConvStateRefIdeal.nD Cert.SsmConvStateRefIdeal.τ).loc Cert.SsmConvStateRefIdeal.main_arg2) = m ((c.tc : Thread Cert.SsmConvStateIdeal.nD Cert.SsmConvStateIdeal.τ).loc Cert.SsmConvStateIdeal.main_arg2)) →
    ∃ (v0 : (c : Dev Cert.SsmConvStateIdeal.nD) → Buf (Elt Ideal) ((c.tc : Thread Cert.SsmConvStateIdeal.nD Cert.SsmConvStateIdeal.τ).loc Cert.SsmConvStateIdeal.main_v7)) (v1 : (c : Dev Cert.SsmConvStateIdeal.nD) → Buf (Elt Ideal) ((c.tc : Thread Cert.SsmConvStateIdeal.nD Cert.SsmConvStateIdeal.τ).loc Cert.SsmConvStateIdeal.main_v12)),
      θ_run (Cert.SsmConvStateIdeal.defs (F := Ideal)) (onTc (τ := Cert.SsmConvStateIdeal.τ) (Cert.SsmConvStateIdeal.main (F := Ideal))) ⟨m, fun _ => 0, g⟩ (fun r => ∀ c : Dev Cert.SsmConvStateIdeal.nD,
          r.2.mem ((c.tc : Thread Cert.SsmConvStateIdeal.nD Cert.SsmConvStateIdeal.τ).loc Cert.SsmConvStateIdeal.main_v7) = v0 c
          ∧ r.2.mem ((c.tc : Thread Cert.SsmConvStateIdeal.nD Cert.SsmConvStateIdeal.τ).loc Cert.SsmConvStateIdeal.main_v12) = v1 c
          ∧ r.2.mem ((c.tc : Thread Cert.SsmConvStateIdeal.nD Cert.SsmConvStateIdeal.τ).loc Cert.SsmConvStateIdeal.main_arg0) = m ((c.tc : Thread Cert.SsmConvStateIdeal.nD Cert.SsmConvStateIdeal.τ).loc Cert.SsmConvStateIdeal.main_arg0)
          ∧ r.2.mem ((c.tc : Thread Cert.SsmConvStateIdeal.nD Cert.SsmConvStateIdeal.τ).loc Cert.SsmConvStateIdeal.main_arg1) = m ((c.tc : Thread Cert.SsmConvStateIdeal.nD Cert.SsmConvStateIdeal.τ).loc Cert.SsmConvStateIdeal.main_arg1)
          ∧ r.2.mem ((c.tc : Thread Cert.SsmConvStateIdeal.nD Cert.SsmConvStateIdeal.τ).loc Cert.SsmConvStateIdeal.main_arg2) = m ((c.tc : Thread Cert.SsmConvStateIdeal.nD Cert.SsmConvStateIdeal.τ).loc Cert.SsmConvStateIdeal.main_arg2))
      ∧ θ_run (Cert.SsmConvStateRefIdeal.defs (F := Ideal)) (onTc (τ := Cert.SsmConvStateRefIdeal.τ) (Cert.SsmConvStateRefIdeal.main (F := Ideal))) ⟨m', fun _ => 0, g'⟩ (fun r => ∀ c : Dev Cert.SsmConvStateRefIdeal.nD,
          r.2.mem ((c.tc : Thread Cert.SsmConvStateRefIdeal.nD Cert.SsmConvStateRefIdeal.τ).loc Cert.SsmConvStateRefIdeal.main_v14) = v0 c
          ∧ r.2.mem ((c.tc : Thread Cert.SsmConvStateRefIdeal.nD Cert.SsmConvStateRefIdeal.τ).loc Cert.SsmConvStateRefIdeal.main_v16) = v1 c
          ∧ r.2.mem ((c.tc : Thread Cert.SsmConvStateRefIdeal.nD Cert.SsmConvStateRefIdeal.τ).loc Cert.SsmConvStateRefIdeal.main_arg0) = m' ((c.tc : Thread Cert.SsmConvStateRefIdeal.nD Cert.SsmConvStateRefIdeal.τ).loc Cert.SsmConvStateRefIdeal.main_arg0)
          ∧ r.2.mem ((c.tc : Thread Cert.SsmConvStateRefIdeal.nD Cert.SsmConvStateRefIdeal.τ).loc Cert.SsmConvStateRefIdeal.main_arg1) = m' ((c.tc : Thread Cert.SsmConvStateRefIdeal.nD Cert.SsmConvStateRefIdeal.τ).loc Cert.SsmConvStateRefIdeal.main_arg1)
          ∧ r.2.mem ((c.tc : Thread Cert.SsmConvStateRefIdeal.nD Cert.SsmConvStateRefIdeal.τ).loc Cert.SsmConvStateRefIdeal.main_arg2) = m' ((c.tc : Thread Cert.SsmConvStateRefIdeal.nD Cert.SsmConvStateRefIdeal.τ).loc Cert.SsmConvStateRefIdeal.main_arg2))

def preserves_SsmConv_SsmConvIdeal : Prop :=
  True

def algebraic_SsmConvIdeal_SsmConvRefIdeal [hSsmConvIdeal : Cert.SsmConvIdeal.Facts] [hSsmConvRefIdeal : Cert.SsmConvRefIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg)
    (m' : (ℓ : Loc Cert.SsmConvRefIdeal.nD Cert.SsmConvRefIdeal.τ Cert.SsmConvRefIdeal.sig) → Buf (Elt Ideal) ℓ) (g' : Dev Cert.SsmConvRefIdeal.nD → PrngReg), Pre_SsmConvIdeal m →
    (∀ c : Dev Cert.SsmConvIdeal.nD,
      m' ((c.tc : Thread Cert.SsmConvRefIdeal.nD Cert.SsmConvRefIdeal.τ).loc Cert.SsmConvRefIdeal.main_arg0) = m ((c.tc : Thread Cert.SsmConvIdeal.nD Cert.SsmConvIdeal.τ).loc Cert.SsmConvIdeal.main_arg0)
      ∧ m' ((c.tc : Thread Cert.SsmConvRefIdeal.nD Cert.SsmConvRefIdeal.τ).loc Cert.SsmConvRefIdeal.main_arg1) = m ((c.tc : Thread Cert.SsmConvIdeal.nD Cert.SsmConvIdeal.τ).loc Cert.SsmConvIdeal.main_arg1)
      ∧ m' ((c.tc : Thread Cert.SsmConvRefIdeal.nD Cert.SsmConvRefIdeal.τ).loc Cert.SsmConvRefIdeal.main_arg2) = m ((c.tc : Thread Cert.SsmConvIdeal.nD Cert.SsmConvIdeal.τ).loc Cert.SsmConvIdeal.main_arg2)) →
    ∃ (v0 : (c : Dev Cert.SsmConvIdeal.nD) → Buf (Elt Ideal) ((c.tc : Thread Cert.SsmConvIdeal.nD Cert.SsmConvIdeal.τ).loc Cert.SsmConvIdeal.main_v4)),
      θ_run (Cert.SsmConvIdeal.defs (F := Ideal)) (onTc (τ := Cert.SsmConvIdeal.τ) (Cert.SsmConvIdeal.main (F := Ideal))) ⟨m, fun _ => 0, g⟩ (fun r => ∀ c : Dev Cert.SsmConvIdeal.nD,
          r.2.mem ((c.tc : Thread Cert.SsmConvIdeal.nD Cert.SsmConvIdeal.τ).loc Cert.SsmConvIdeal.main_v4) = v0 c
          ∧ r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
          ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
          ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ θ_run (Cert.SsmConvRefIdeal.defs (F := Ideal)) (onTc (τ := Cert.SsmConvRefIdeal.τ) (Cert.SsmConvRefIdeal.main (F := Ideal))) ⟨m', fun _ => 0, g'⟩ (fun r => ∀ c : Dev Cert.SsmConvRefIdeal.nD,
          r.2.mem ((c.tc : Thread Cert.SsmConvRefIdeal.nD Cert.SsmConvRefIdeal.τ).loc Cert.SsmConvRefIdeal.main_v42) = v0 c
          ∧ r.2.mem ((c.tc : Thread Cert.SsmConvRefIdeal.nD Cert.SsmConvRefIdeal.τ).loc Cert.SsmConvRefIdeal.main_arg0) = m' ((c.tc : Thread Cert.SsmConvRefIdeal.nD Cert.SsmConvRefIdeal.τ).loc Cert.SsmConvRefIdeal.main_arg0)
          ∧ r.2.mem ((c.tc : Thread Cert.SsmConvRefIdeal.nD Cert.SsmConvRefIdeal.τ).loc Cert.SsmConvRefIdeal.main_arg1) = m' ((c.tc : Thread Cert.SsmConvRefIdeal.nD Cert.SsmConvRefIdeal.τ).loc Cert.SsmConvRefIdeal.main_arg1)
          ∧ r.2.mem ((c.tc : Thread Cert.SsmConvRefIdeal.nD Cert.SsmConvRefIdeal.τ).loc Cert.SsmConvRefIdeal.main_arg2) = m' ((c.tc : Thread Cert.SsmConvRefIdeal.nD Cert.SsmConvRefIdeal.τ).loc Cert.SsmConvRefIdeal.main_arg2))

def preserves_CrossAttention_CrossAttentionIdeal : Prop :=
  True

def algebraic_CrossAttentionIdeal_CrossAttentionRefIdeal [hCrossAttentionIdeal : Cert.CrossAttentionIdeal.Facts] [hCrossAttentionRefIdeal : Cert.CrossAttentionRefIdeal.Facts] : Prop :=
  ∀ (m : (ℓ : Loc Cert.CrossAttentionIdeal.nD Cert.CrossAttentionIdeal.τ Cert.CrossAttentionIdeal.sig) → Buf (Elt Ideal) ℓ) (g : Dev Cert.CrossAttentionIdeal.nD → PrngReg)
    (m' : (ℓ : Loc Cert.CrossAttentionRefIdeal.nD Cert.CrossAttentionRefIdeal.τ Cert.CrossAttentionRefIdeal.sig) → Buf (Elt Ideal) ℓ) (g' : Dev Cert.CrossAttentionRefIdeal.nD → PrngReg), Pre_CrossAttentionIdeal m →
    (∀ c : Dev Cert.CrossAttentionIdeal.nD,
      m' ((c.tc : Thread Cert.CrossAttentionRefIdeal.nD Cert.CrossAttentionRefIdeal.τ).loc Cert.CrossAttentionRefIdeal.main_arg0) = m ((c.tc : Thread Cert.CrossAttentionIdeal.nD Cert.CrossAttentionIdeal.τ).loc Cert.CrossAttentionIdeal.main_arg0)
      ∧ m' ((c.tc : Thread Cert.CrossAttentionRefIdeal.nD Cert.CrossAttentionRefIdeal.τ).loc Cert.CrossAttentionRefIdeal.main_arg1) = m ((c.tc : Thread Cert.CrossAttentionIdeal.nD Cert.CrossAttentionIdeal.τ).loc Cert.CrossAttentionIdeal.main_arg1)
      ∧ m' ((c.tc : Thread Cert.CrossAttentionRefIdeal.nD Cert.CrossAttentionRefIdeal.τ).loc Cert.CrossAttentionRefIdeal.main_arg2) = m ((c.tc : Thread Cert.CrossAttentionIdeal.nD Cert.CrossAttentionIdeal.τ).loc Cert.CrossAttentionIdeal.main_arg2)) →
    ∃ (v0 : (c : Dev Cert.CrossAttentionIdeal.nD) → Buf (Elt Ideal) ((c.tc : Thread Cert.CrossAttentionIdeal.nD Cert.CrossAttentionIdeal.τ).loc Cert.CrossAttentionIdeal.main_v2)),
      θ_run (Cert.CrossAttentionIdeal.defs (F := Ideal)) (onTc (τ := Cert.CrossAttentionIdeal.τ) (Cert.CrossAttentionIdeal.main (F := Ideal))) ⟨m, fun _ => 0, g⟩ (fun r => ∀ c : Dev Cert.CrossAttentionIdeal.nD,
          r.2.mem ((c.tc : Thread Cert.CrossAttentionIdeal.nD Cert.CrossAttentionIdeal.τ).loc Cert.CrossAttentionIdeal.main_v2) = v0 c
          ∧ r.2.mem ((c.tc : Thread Cert.CrossAttentionIdeal.nD Cert.CrossAttentionIdeal.τ).loc Cert.CrossAttentionIdeal.main_arg0) = m ((c.tc : Thread Cert.CrossAttentionIdeal.nD Cert.CrossAttentionIdeal.τ).loc Cert.CrossAttentionIdeal.main_arg0)
          ∧ r.2.mem ((c.tc : Thread Cert.CrossAttentionIdeal.nD Cert.CrossAttentionIdeal.τ).loc Cert.CrossAttentionIdeal.main_arg1) = m ((c.tc : Thread Cert.CrossAttentionIdeal.nD Cert.CrossAttentionIdeal.τ).loc Cert.CrossAttentionIdeal.main_arg1)
          ∧ r.2.mem ((c.tc : Thread Cert.CrossAttentionIdeal.nD Cert.CrossAttentionIdeal.τ).loc Cert.CrossAttentionIdeal.main_arg2) = m ((c.tc : Thread Cert.CrossAttentionIdeal.nD Cert.CrossAttentionIdeal.τ).loc Cert.CrossAttentionIdeal.main_arg2))
      ∧ θ_run (Cert.CrossAttentionRefIdeal.defs (F := Ideal)) (onTc (τ := Cert.CrossAttentionRefIdeal.τ) (Cert.CrossAttentionRefIdeal.main (F := Ideal))) ⟨m', fun _ => 0, g'⟩ (fun r => ∀ c : Dev Cert.CrossAttentionRefIdeal.nD,
          r.2.mem ((c.tc : Thread Cert.CrossAttentionRefIdeal.nD Cert.CrossAttentionRefIdeal.τ).loc Cert.CrossAttentionRefIdeal.main_v19) = v0 c
          ∧ r.2.mem ((c.tc : Thread Cert.CrossAttentionRefIdeal.nD Cert.CrossAttentionRefIdeal.τ).loc Cert.CrossAttentionRefIdeal.main_arg0) = m' ((c.tc : Thread Cert.CrossAttentionRefIdeal.nD Cert.CrossAttentionRefIdeal.τ).loc Cert.CrossAttentionRefIdeal.main_arg0)
          ∧ r.2.mem ((c.tc : Thread Cert.CrossAttentionRefIdeal.nD Cert.CrossAttentionRefIdeal.τ).loc Cert.CrossAttentionRefIdeal.main_arg1) = m' ((c.tc : Thread Cert.CrossAttentionRefIdeal.nD Cert.CrossAttentionRefIdeal.τ).loc Cert.CrossAttentionRefIdeal.main_arg1)
          ∧ r.2.mem ((c.tc : Thread Cert.CrossAttentionRefIdeal.nD Cert.CrossAttentionRefIdeal.τ).loc Cert.CrossAttentionRefIdeal.main_arg2) = m' ((c.tc : Thread Cert.CrossAttentionRefIdeal.nD Cert.CrossAttentionRefIdeal.τ).loc Cert.CrossAttentionRefIdeal.main_arg2))

def Claim : Prop :=
  ∃ (hSsd : Cert.Ssd.Facts) (hSsdIdeal : Cert.SsdIdeal.Facts) (hSsdRefIdeal : Cert.SsdRefIdeal.Facts) (hSsdSample : Cert.SsdSample.Facts) (hSsdSampleIdeal : Cert.SsdSampleIdeal.Facts) (hSsdSampleRefIdeal : Cert.SsdSampleRefIdeal.Facts) (hSegA : Cert.SegA.Facts) (hSegAIdeal : Cert.SegAIdeal.Facts) (hSegARefIdeal : Cert.SegARefIdeal.Facts) (hSegB : Cert.SegB.Facts) (hSegBIdeal : Cert.SegBIdeal.Facts) (hSegBRefIdeal : Cert.SegBRefIdeal.Facts) (hSegC : Cert.SegC.Facts) (hSegCIdeal : Cert.SegCIdeal.Facts) (hSegCRefIdeal : Cert.SegCRefIdeal.Facts) (hSegD : Cert.SegD.Facts) (hSegDIdeal : Cert.SegDIdeal.Facts) (hSegDRefIdeal : Cert.SegDRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hCrossOut : Cert.CrossOut.Facts) (hCrossOutIdeal : Cert.CrossOutIdeal.Facts) (hCrossOutRefIdeal : Cert.CrossOutRefIdeal.Facts) (hCrossQuery : Cert.CrossQuery.Facts) (hCrossQueryIdeal : Cert.CrossQueryIdeal.Facts) (hCrossQueryRefIdeal : Cert.CrossQueryRefIdeal.Facts) (hPeerQuery : Cert.PeerQuery.Facts) (hPeerQueryIdeal : Cert.PeerQueryIdeal.Facts) (hPeerQueryRefIdeal : Cert.PeerQueryRefIdeal.Facts) (hMemoryKeys : Cert.MemoryKeys.Facts) (hMemoryKeysIdeal : Cert.MemoryKeysIdeal.Facts) (hMemoryKeysRefIdeal : Cert.MemoryKeysRefIdeal.Facts) (hMemoryValues : Cert.MemoryValues.Facts) (hMemoryValuesIdeal : Cert.MemoryValuesIdeal.Facts) (hMemoryValuesRefIdeal : Cert.MemoryValuesRefIdeal.Facts) (hInputNorm : Cert.InputNorm.Facts) (hInputNormIdeal : Cert.InputNormIdeal.Facts) (hInputNormRefIdeal : Cert.InputNormRefIdeal.Facts) (hFinalNorm : Cert.FinalNorm.Facts) (hFinalNormIdeal : Cert.FinalNormIdeal.Facts) (hFinalNormRefIdeal : Cert.FinalNormRefIdeal.Facts) (hDnConvState : Cert.DnConvState.Facts) (hDnConvStateIdeal : Cert.DnConvStateIdeal.Facts) (hDnConvStateRefIdeal : Cert.DnConvStateRefIdeal.Facts) (hSsmConvState : Cert.SsmConvState.Facts) (hSsmConvStateIdeal : Cert.SsmConvStateIdeal.Facts) (hSsmConvStateRefIdeal : Cert.SsmConvStateRefIdeal.Facts) (hSsmConv : Cert.SsmConv.Facts) (hSsmConvIdeal : Cert.SsmConvIdeal.Facts) (hSsmConvRefIdeal : Cert.SsmConvRefIdeal.Facts) (hCrossAttention : Cert.CrossAttention.Facts) (hCrossAttentionIdeal : Cert.CrossAttentionIdeal.Facts) (hCrossAttentionRefIdeal : Cert.CrossAttentionRefIdeal.Facts),
    quiescent_Ssd (hSsd := hSsd)
    ∧ quiescent_SsdIdeal (hSsdIdeal := hSsdIdeal)
    ∧ quiescent_SsdRefIdeal (hSsdRefIdeal := hSsdRefIdeal)
    ∧ quiescent_SsdSample (hSsdSample := hSsdSample)
    ∧ quiescent_SsdSampleIdeal (hSsdSampleIdeal := hSsdSampleIdeal)
    ∧ quiescent_SsdSampleRefIdeal (hSsdSampleRefIdeal := hSsdSampleRefIdeal)
    ∧ quiescent_SegA (hSegA := hSegA)
    ∧ quiescent_SegAIdeal (hSegAIdeal := hSegAIdeal)
    ∧ quiescent_SegARefIdeal (hSegARefIdeal := hSegARefIdeal)
    ∧ quiescent_SegB (hSegB := hSegB)
    ∧ quiescent_SegBIdeal (hSegBIdeal := hSegBIdeal)
    ∧ quiescent_SegBRefIdeal (hSegBRefIdeal := hSegBRefIdeal)
    ∧ quiescent_SegC (hSegC := hSegC)
    ∧ quiescent_SegCIdeal (hSegCIdeal := hSegCIdeal)
    ∧ quiescent_SegCRefIdeal (hSegCRefIdeal := hSegCRefIdeal)
    ∧ quiescent_SegD (hSegD := hSegD)
    ∧ quiescent_SegDIdeal (hSegDIdeal := hSegDIdeal)
    ∧ quiescent_SegDRefIdeal (hSegDRefIdeal := hSegDRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_CrossOut (hCrossOut := hCrossOut)
    ∧ quiescent_CrossOutIdeal (hCrossOutIdeal := hCrossOutIdeal)
    ∧ quiescent_CrossOutRefIdeal (hCrossOutRefIdeal := hCrossOutRefIdeal)
    ∧ quiescent_CrossQuery (hCrossQuery := hCrossQuery)
    ∧ quiescent_CrossQueryIdeal (hCrossQueryIdeal := hCrossQueryIdeal)
    ∧ quiescent_CrossQueryRefIdeal (hCrossQueryRefIdeal := hCrossQueryRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_MemoryKeys (hMemoryKeys := hMemoryKeys)
    ∧ quiescent_MemoryKeysIdeal (hMemoryKeysIdeal := hMemoryKeysIdeal)
    ∧ quiescent_MemoryKeysRefIdeal (hMemoryKeysRefIdeal := hMemoryKeysRefIdeal)
    ∧ quiescent_MemoryValues (hMemoryValues := hMemoryValues)
    ∧ quiescent_MemoryValuesIdeal (hMemoryValuesIdeal := hMemoryValuesIdeal)
    ∧ quiescent_MemoryValuesRefIdeal (hMemoryValuesRefIdeal := hMemoryValuesRefIdeal)
    ∧ quiescent_InputNorm (hInputNorm := hInputNorm)
    ∧ quiescent_InputNormIdeal (hInputNormIdeal := hInputNormIdeal)
    ∧ quiescent_InputNormRefIdeal (hInputNormRefIdeal := hInputNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_DnConvState (hDnConvState := hDnConvState)
    ∧ quiescent_DnConvStateIdeal (hDnConvStateIdeal := hDnConvStateIdeal)
    ∧ quiescent_DnConvStateRefIdeal (hDnConvStateRefIdeal := hDnConvStateRefIdeal)
    ∧ quiescent_SsmConvState (hSsmConvState := hSsmConvState)
    ∧ quiescent_SsmConvStateIdeal (hSsmConvStateIdeal := hSsmConvStateIdeal)
    ∧ quiescent_SsmConvStateRefIdeal (hSsmConvStateRefIdeal := hSsmConvStateRefIdeal)
    ∧ quiescent_SsmConv (hSsmConv := hSsmConv)
    ∧ quiescent_SsmConvIdeal (hSsmConvIdeal := hSsmConvIdeal)
    ∧ quiescent_SsmConvRefIdeal (hSsmConvRefIdeal := hSsmConvRefIdeal)
    ∧ quiescent_CrossAttention (hCrossAttention := hCrossAttention)
    ∧ quiescent_CrossAttentionIdeal (hCrossAttentionIdeal := hCrossAttentionIdeal)
    ∧ quiescent_CrossAttentionRefIdeal (hCrossAttentionRefIdeal := hCrossAttentionRefIdeal)
    ∧ preserves_Ssd_SsdIdeal
    ∧ algebraic_SsdIdeal_SsdRefIdeal (hSsdIdeal := hSsdIdeal) (hSsdRefIdeal := hSsdRefIdeal)
    ∧ preserves_SsdSample_SsdSampleIdeal
    ∧ algebraic_SsdSampleIdeal_SsdSampleRefIdeal (hSsdSampleIdeal := hSsdSampleIdeal) (hSsdSampleRefIdeal := hSsdSampleRefIdeal)
    ∧ preserves_SegA_SegAIdeal
    ∧ algebraic_SegAIdeal_SegARefIdeal (hSegAIdeal := hSegAIdeal) (hSegARefIdeal := hSegARefIdeal)
    ∧ preserves_SegB_SegBIdeal
    ∧ algebraic_SegBIdeal_SegBRefIdeal (hSegBIdeal := hSegBIdeal) (hSegBRefIdeal := hSegBRefIdeal)
    ∧ preserves_SegC_SegCIdeal
    ∧ algebraic_SegCIdeal_SegCRefIdeal (hSegCIdeal := hSegCIdeal) (hSegCRefIdeal := hSegCRefIdeal)
    ∧ preserves_SegD_SegDIdeal
    ∧ algebraic_SegDIdeal_SegDRefIdeal (hSegDIdeal := hSegDIdeal) (hSegDRefIdeal := hSegDRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_CrossOut_CrossOutIdeal
    ∧ algebraic_CrossOutIdeal_CrossOutRefIdeal (hCrossOutIdeal := hCrossOutIdeal) (hCrossOutRefIdeal := hCrossOutRefIdeal)
    ∧ preserves_CrossQuery_CrossQueryIdeal
    ∧ algebraic_CrossQueryIdeal_CrossQueryRefIdeal (hCrossQueryIdeal := hCrossQueryIdeal) (hCrossQueryRefIdeal := hCrossQueryRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_MemoryKeys_MemoryKeysIdeal
    ∧ algebraic_MemoryKeysIdeal_MemoryKeysRefIdeal (hMemoryKeysIdeal := hMemoryKeysIdeal) (hMemoryKeysRefIdeal := hMemoryKeysRefIdeal)
    ∧ preserves_MemoryValues_MemoryValuesIdeal
    ∧ algebraic_MemoryValuesIdeal_MemoryValuesRefIdeal (hMemoryValuesIdeal := hMemoryValuesIdeal) (hMemoryValuesRefIdeal := hMemoryValuesRefIdeal)
    ∧ preserves_InputNorm_InputNormIdeal
    ∧ algebraic_InputNormIdeal_InputNormRefIdeal (hInputNormIdeal := hInputNormIdeal) (hInputNormRefIdeal := hInputNormRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_DnConvState_DnConvStateIdeal
    ∧ algebraic_DnConvStateIdeal_DnConvStateRefIdeal (hDnConvStateIdeal := hDnConvStateIdeal) (hDnConvStateRefIdeal := hDnConvStateRefIdeal)
    ∧ preserves_SsmConvState_SsmConvStateIdeal
    ∧ algebraic_SsmConvStateIdeal_SsmConvStateRefIdeal (hSsmConvStateIdeal := hSsmConvStateIdeal) (hSsmConvStateRefIdeal := hSsmConvStateRefIdeal)
    ∧ preserves_SsmConv_SsmConvIdeal
    ∧ algebraic_SsmConvIdeal_SsmConvRefIdeal (hSsmConvIdeal := hSsmConvIdeal) (hSsmConvRefIdeal := hSsmConvRefIdeal)
    ∧ preserves_CrossAttention_CrossAttentionIdeal
    ∧ algebraic_CrossAttentionIdeal_CrossAttentionRefIdeal (hCrossAttentionIdeal := hCrossAttentionIdeal) (hCrossAttentionRefIdeal := hCrossAttentionRefIdeal)
-- ==== Ssd.lean ====
abbrev S8192x4096 : Shape := ⟨2, ![8192, 4096]⟩
abbrev S9216x6144 : Shape := ⟨2, ![9216, 6144]⟩
abbrev S9216x128 : Shape := ⟨2, ![9216, 128]⟩
abbrev S1x32 : Shape := ⟨2, ![1, 32]⟩
abbrev S1x2048 : Shape := ⟨2, ![1, 2048]⟩
abbrev S32 : Shape := ⟨1, ![32]⟩
abbrev S_ : Shape := ⟨0, ![]⟩
abbrev S8x128 : Shape := ⟨2, ![8, 128]⟩
abbrev S1 : Shape := ⟨1, ![1]⟩
abbrev S2 : Shape := ⟨1, ![2]⟩
abbrev S4x8x256x128 : Shape := ⟨4, ![4, 8, 256, 128]⟩
abbrev S2048 : Shape := ⟨1, ![2048]⟩
abbrev S8192x2048 : Shape := ⟨2, ![8192, 2048]⟩
abbrev S64x2048 : Shape := ⟨2, ![64, 2048]⟩
abbrev S64x1024 : Shape := ⟨2, ![64, 1024]⟩
abbrev S64x128 : Shape := ⟨2, ![64, 128]⟩
abbrev S1x8x256x128 : Shape := ⟨4, ![1, 8, 256, 128]⟩
abbrev S8x256x128 : Shape := ⟨3, ![8, 256, 128]⟩
abbrev S1x128 : Shape := ⟨2, ![1, 128]⟩
abbrev S64x64 : Shape := ⟨2, ![64, 64]⟩
abbrev S128x128 : Shape := ⟨2, ![128, 128]⟩
abbrev S64x256 : Shape := ⟨2, ![64, 256]⟩
abbrev S256x128 : Shape := ⟨2, ![256, 128]⟩
abbrev S1x256x128 : Shape := ⟨3, ![1, 256, 128]⟩
abbrev S1x256 : Shape := ⟨2, ![1, 256]⟩
abbrev S64x1 : Shape := ⟨2, ![64, 1]⟩
abbrev S1x1 : Shape := ⟨2, ![1, 1]⟩
abbrev S1x64 : Shape := ⟨2, ![1, 64]⟩
abbrev S64 : Shape := ⟨1, ![64]⟩

abbrev nBuf : Space → Nat
  | .hbm => 36
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S9216x6144, .f32⟩
  | .hbm, ⟨2, _⟩ => ⟨S9216x128, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x2048, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S8x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S8x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S8x128, .f32⟩
  | .hbm, ⟨30, _⟩ => ⟨S_, .f32⟩
  | .hbm, ⟨31, _⟩ => ⟨S4x8x256x128, .f32⟩
  | .hbm, ⟨32, _⟩ => ⟨S2048, .f32⟩
  | .hbm, ⟨33, _⟩ => ⟨S1x2048, .f32⟩
  | .hbm, ⟨34, _⟩ => ⟨S8192x2048, .bf16⟩
  | .hbm, ⟨35, _⟩ => ⟨S4x8x256x128, .f32⟩
  | .local _ .vmem, ⟨0, _⟩ => ⟨S64x2048, .f32⟩
  | .local _ .vmem, ⟨1, _⟩ => ⟨S64x2048, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S1x8x256x128, .f32⟩
  | .local _ .vmem, ⟨11, _⟩ => ⟨S1x8x256x128, .f32⟩
  | .local _ .vmem, ⟨12, _⟩ => ⟨S8x128, .f32⟩
  | .local _ .vmem, ⟨13, _⟩ => ⟨S1x2048, .f32⟩
  | .local _ .vmem, ⟨14, _⟩ => ⟨S64x2048, .bf16⟩
  | .local _ .vmem, ⟨15, _⟩ => ⟨S64x2048, .bf16⟩
  | .local _ .vmem, ⟨16, _⟩ => ⟨S1x8x256x128, .f32⟩
  | .local _ .vmem, ⟨17, _⟩ => ⟨S1x8x256x128, .f32⟩
  | .local _ .vmem, ⟨18, _⟩ => ⟨S8x256x128, .f32⟩
  | .local _ .vmem, ⟨19, _⟩ => ⟨S64x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1888 : BitVec 1 := Scalar.cmpi .eq arg1 c31_i32
  let v1889 : BitVec 32 := Scalar.extui v1888
  let c0_i32_409 : BitVec 32 := 0#32
  let v1890 : BitVec 1 := Scalar.cmpi .ne v1889 c0_i32_409
  v1890

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SsdIdeal.lean ====
variable {F : FTy → Type} [FloatOps F] [Named F]
def κ : String → Option EReal := fun
  | "mask" => some ⊥
  | _ => none
-- ==== SsdRefIdeal.lean ====
abbrev S8192x4096 : Shape := ⟨2, ![8192, 4096]⟩
abbrev S9216x6144 : Shape := ⟨2, ![9216, 6144]⟩
abbrev S9216x128 : Shape := ⟨2, ![9216, 128]⟩
abbrev S1x32 : Shape := ⟨2, ![1, 32]⟩
abbrev S1x2048 : Shape := ⟨2, ![1, 2048]⟩
abbrev S4x2048x4096 : Shape := ⟨3, ![4, 2048, 4096]⟩
abbrev S8192x32 : Shape := ⟨2, ![8192, 32]⟩
abbrev S4x2048x32 : Shape := ⟨3, ![4, 2048, 32]⟩
abbrev S4x2048x2048 : Shape := ⟨3, ![4, 2048, 2048]⟩
abbrev S4x2048x1024 : Shape := ⟨3, ![4, 2048, 1024]⟩
abbrev S4x2048x8x4x64 : Shape := ⟨5, ![4, 2048, 8, 4, 64]⟩
abbrev S4x2048x8x128 : Shape := ⟨4, ![4, 2048, 8, 128]⟩
abbrev S32 : Shape := ⟨1, ![32]⟩
abbrev S1x1x32 : Shape := ⟨3, ![1, 1, 32]⟩
abbrev S_ : Shape := ⟨0, ![]⟩
abbrev S4x2048x8x4 : Shape := ⟨4, ![4, 2048, 8, 4]⟩
abbrev S8x4 : Shape := ⟨2, ![8, 4]⟩
abbrev S4x8x4x64x128 : Shape := ⟨5, ![4, 8, 4, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x32x64x8x4x64 : Shape := ⟨6, ![4, 32, 64, 8, 4, 64]⟩
abbrev S32x4x64x8x4x64 : Shape := ⟨6, ![32, 4, 64, 8, 4, 64]⟩
abbrev S4x32x64x8x4 : Shape := ⟨5, ![4, 32, 64, 8, 4]⟩
abbrev S32x4x64x8x4 : Shape := ⟨5, ![32, 4, 64, 8, 4]⟩
abbrev S4x32x64x8x128 : Shape := ⟨5, ![4, 32, 64, 8, 128]⟩
abbrev S32x4x64x8x128 : Shape := ⟨5, ![32, 4, 64, 8, 128]⟩
abbrev S1x4x64x8x4x64 : Shape := ⟨6, ![1, 4, 64, 8, 4, 64]⟩
abbrev S4x64x8x4x64 : Shape := ⟨5, ![4, 64, 8, 4, 64]⟩
abbrev S1x4x64x8x4 : Shape := ⟨5, ![1, 4, 64, 8, 4]⟩
abbrev S4x64x8x4 : Shape := ⟨4, ![4, 64, 8, 4]⟩
abbrev S1x4x64x8x128 : Shape := ⟨5, ![1, 4, 64, 8, 128]⟩
abbrev S4x64x8x128 : Shape := ⟨4, ![4, 64, 8, 128]⟩
abbrev S1x1x8x4 : Shape := ⟨4, ![1, 1, 8, 4]⟩
abbrev S4x8x4x64 : Shape := ⟨4, ![4, 8, 4, 64]⟩
abbrev S4x8x4x64x1 : Shape := ⟨5, ![4, 8, 4, 64, 1]⟩
abbrev S4x8x4x1x64 : Shape := ⟨5, ![4, 8, 4, 1, 64]⟩
abbrev S4x8x4x64x64 : Shape := ⟨5, ![4, 8, 4, 64, 64]⟩
abbrev S4x8x64x64 : Shape := ⟨4, ![4, 8, 64, 64]⟩
abbrev S4x64x8x4x1 : Shape := ⟨5, ![4, 64, 8, 4, 1]⟩
abbrev S4x8x1x64x64 : Shape := ⟨5, ![4, 8, 1, 64, 64]⟩
abbrev S4x1x8x4 : Shape := ⟨4, ![4, 1, 8, 4]⟩
abbrev S4x8x4 : Shape := ⟨3, ![4, 8, 4]⟩
abbrev S4x8x4x1x1 : Shape := ⟨5, ![4, 8, 4, 1, 1]⟩
abbrev S8192x2048 : Shape := ⟨2, ![8192, 2048]⟩
abbrev S8x4x1 : Shape := ⟨3, ![8, 4, 1]⟩
abbrev S1x1x8x4x1 : Shape := ⟨5, ![1, 1, 8, 4, 1]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S4x8x256x128 : Shape := ⟨4, ![4, 8, 256, 128]⟩

abbrev nBuf : Space → Nat
  | .hbm => 209
  | .vmem => 0
  | .smem => 0
  | _ => 0

abbrev hbmTy0_0 (i : Nat) : BufTy := match i % 128 with
  | 0 => ⟨S8192x4096, .f32⟩
  | 1 => ⟨S9216x6144, .f32⟩
  | 2 => ⟨S9216x128, .f32⟩
  | 3 => ⟨S1x32, .f32⟩
  | 4 => ⟨S1x32, .f32⟩
  | 5 => ⟨S1x32, .f32⟩
  | 6 => ⟨S1x2048, .f32⟩
  | 7 => ⟨S4x2048x4096, .f32⟩
  | 8 => ⟨S8192x32, .f32⟩
  | 9 => ⟨S4x2048x32, .f32⟩
  | 10 => ⟨S4x2048x2048, .f32⟩
  | 11 => ⟨S4x2048x1024, .f32⟩
  | 12 => ⟨S4x2048x1024, .f32⟩
  | 13 => ⟨S4x2048x8x4x64, .f32⟩
  | 14 => ⟨S4x2048x8x128, .f32⟩
  | 15 => ⟨S4x2048x8x128, .f32⟩
  | 16 => ⟨S32, .f32⟩
  | 17 => ⟨S1x1x32, .f32⟩
  | 18 => ⟨S4x2048x32, .f32⟩
  | 19 => ⟨S4x2048x32, .f32⟩
  | 20 => ⟨S_, .f32⟩
  | 21 => ⟨S4x2048x32, .f32⟩
  | 22 => ⟨S4x2048x32, .f32⟩
  | 23 => ⟨S4x2048x32, .f32⟩
  | 24 => ⟨S4x2048x32, .f32⟩
  | 25 => ⟨S4x2048x32, .i1⟩
  | 26 => ⟨S4x2048x32, .f32⟩
  | 27 => ⟨S4x2048x32, .f32⟩
  | 28 => ⟨S4x2048x32, .f32⟩
  | 29 => ⟨S4x2048x32, .f32⟩
  | 30 => ⟨S4x2048x32, .f32⟩
  | 31 => ⟨S4x2048x32, .f32⟩
  | 32 => ⟨S4x2048x32, .f32⟩
  | 33 => ⟨S4x2048x32, .f32⟩
  | 34 => ⟨S4x2048x8x4, .f32⟩
  | 35 => ⟨S32, .f32⟩
  | 36 => ⟨S32, .f32⟩
  | 37 => ⟨S8x4, .f32⟩
  | 38 => ⟨S8x4, .f32⟩
  | 39 => ⟨S_, .f32⟩
  | 40 => ⟨S4x8x4x64x128, .f32⟩
  | 41 => ⟨S64, .i32⟩
  | 42 => ⟨S64x1, .i32⟩
  | 43 => ⟨S1x64, .i32⟩
  | 44 => ⟨S64x64, .i32⟩
  | 45 => ⟨S64x64, .i32⟩
  | 46 => ⟨S64x64, .i1⟩
  | 47 => ⟨S_, .i32⟩
  | 48 => ⟨S_, .f32⟩
  | 49 => ⟨S4x2048x8x4x64, .f32⟩
  | 50 => ⟨S4x32x64x8x4x64, .f32⟩
  | 51 => ⟨S32x4x64x8x4x64, .f32⟩
  | 52 => ⟨S_, .i32⟩
  | 53 => ⟨S_, .f32⟩
  | 54 => ⟨S4x2048x8x4, .f32⟩
  | 55 => ⟨S4x32x64x8x4, .f32⟩
  | 56 => ⟨S32x4x64x8x4, .f32⟩
  | 57 => ⟨S_, .i32⟩
  | 58 => ⟨S_, .f32⟩
  | 59 => ⟨S4x2048x8x128, .f32⟩
  | 60 => ⟨S4x32x64x8x128, .f32⟩
  | 61 => ⟨S32x4x64x8x128, .f32⟩
  | 62 => ⟨S_, .i32⟩
  | 63 => ⟨S_, .f32⟩
  | 64 => ⟨S4x2048x8x128, .f32⟩
  | 65 => ⟨S4x32x64x8x128, .f32⟩
  | 66 => ⟨S32x4x64x8x128, .f32⟩
  | 67 => ⟨S_, .f32⟩
  | 68 => ⟨S32x4x64x8x4x64, .f32⟩
  | 69 => ⟨S_, .i32⟩
  | 70 => ⟨S32x4x64x8x4x64, .f32⟩
  | 71 => ⟨S32x4x64x8x4, .f32⟩
  | 72 => ⟨S32x4x64x8x128, .f32⟩
  | 73 => ⟨S32x4x64x8x128, .f32⟩
  | 74 => ⟨S8x4, .f32⟩
  | 75 => ⟨S64x64, .i1⟩
  | 76 => ⟨S_, .i32⟩
  | 77 => ⟨S4x8x4x64x128, .f32⟩
  | 78 => ⟨S32x4x64x8x4x64, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x4x64x8x4x64, .f32⟩
  | 87 => ⟨S4x64x8x4x64, .f32⟩
  | 88 => ⟨S_, .i32⟩
  | 89 => ⟨S_, .i32⟩
  | 90 => ⟨S_, .i32⟩
  | 91 => ⟨S_, .i32⟩
  | 92 => ⟨S1x4x64x8x4, .f32⟩
  | 93 => ⟨S4x64x8x4, .f32⟩
  | 94 => ⟨S_, .i32⟩
  | 95 => ⟨S_, .i32⟩
  | 96 => ⟨S_, .i32⟩
  | 97 => ⟨S_, .i32⟩
  | 98 => ⟨S1x4x64x8x128, .f32⟩
  | 99 => ⟨S4x64x8x128, .f32⟩
  | 100 => ⟨S_, .i32⟩
  | 101 => ⟨S_, .i32⟩
  | 102 => ⟨S_, .i32⟩
  | 103 => ⟨S_, .i32⟩
  | 104 => ⟨S1x4x64x8x128, .f32⟩
  | 105 => ⟨S4x64x8x128, .f32⟩
  | 106 => ⟨S1x1x8x4, .f32⟩
  | 107 => ⟨S4x64x8x4, .f32⟩
  | 108 => ⟨S4x64x8x4, .f32⟩
  | 109 => ⟨S_, .f32⟩
  | 110 => ⟨S_, .f32⟩
  | 111 => ⟨S4x64x8x4, .f32⟩
  | 112 => ⟨S4x8x4x64, .f32⟩
  | 113 => ⟨S4x8x4x64x1, .f32⟩
  | 114 => ⟨S4x8x4x1x64, .f32⟩
  | 115 => ⟨S4x8x4x64x64, .f32⟩
  | 116 => ⟨S4x8x4x64x64, .f32⟩
  | 117 => ⟨S4x8x4x64x64, .f32⟩
  | 118 => ⟨S_, .f32⟩
  | 119 => ⟨S_, .f32⟩
  | 120 => ⟨S4x8x4x64x64, .i1⟩
  | 121 => ⟨S4x8x4x64x64, .f32⟩
  | 122 => ⟨S4x8x4x64x64, .f32⟩
  | 123 => ⟨S4x8x4x64x64, .f32⟩
  | 124 => ⟨S4x8x64x64, .f32⟩
  | 125 => ⟨S4x64x8x4x1, .f32⟩
  | 126 => ⟨S4x64x8x4x64, .f32⟩
  | 127 => ⟨S4x64x8x4x64, .f32⟩
  | _ => ⟨S8192x4096, .f32⟩

abbrev hbmTy0_1 (i : Nat) : BufTy := match i % 128 with
  | 0 => ⟨S4x8x1x64x64, .f32⟩
  | 1 => ⟨S4x8x4x64x64, .f32⟩
  | 2 => ⟨S4x8x4x64x64, .f32⟩
  | 3 => ⟨S4x8x4x64x64, .f32⟩
  | 4 => ⟨S4x64x8x4x64, .f32⟩
  | 5 => ⟨S4x8x4x64x64, .f32⟩
  | 6 => ⟨S4x64x8x4x64, .f32⟩
  | 7 => ⟨S4x64x8x4, .f32⟩
  | 8 => ⟨S4x64x8x4x1, .f32⟩
  | 9 => ⟨S4x64x8x4x64, .f32⟩
  | 10 => ⟨S4x64x8x4x64, .f32⟩
  | 11 => ⟨S4x64x8x4x64, .f32⟩
  | 12 => ⟨S4x1x8x4, .f32⟩
  | 13 => ⟨S4x8x4, .f32⟩
  | 14 => ⟨S4x8x4, .f32⟩
  | 15 => ⟨S4x8x4x1x1, .f32⟩
  | 16 => ⟨S4x8x4x64x128, .f32⟩
  | 17 => ⟨S4x8x4x64x128, .f32⟩
  | 18 => ⟨S4x1x8x4, .f32⟩
  | 19 => ⟨S4x64x8x4, .f32⟩
  | 20 => ⟨S4x64x8x4, .f32⟩
  | 21 => ⟨S4x64x8x4, .f32⟩
  | 22 => ⟨S4x64x8x4x1, .f32⟩
  | 23 => ⟨S4x64x8x4x64, .f32⟩
  | 24 => ⟨S4x64x8x4x64, .f32⟩
  | 25 => ⟨S4x8x4x64x128, .f32⟩
  | 26 => ⟨S4x8x4x64x128, .f32⟩
  | 27 => ⟨S1x4x64x8x4x64, .f32⟩
  | 28 => ⟨S_, .i32⟩
  | 29 => ⟨S_, .i32⟩
  | 30 => ⟨S_, .i32⟩
  | 31 => ⟨S_, .i32⟩
  | 32 => ⟨S_, .i32⟩
  | 33 => ⟨S32x4x64x8x4x64, .f32⟩
  | 34 => ⟨S_, .i32⟩
  | 35 => ⟨S_, .i32⟩
  | 36 => ⟨S4x32x64x8x4x64, .f32⟩
  | 37 => ⟨S4x2048x8x4x64, .f32⟩
  | 38 => ⟨S4x2048x4096, .f32⟩
  | 39 => ⟨S4x2048x2048, .f32⟩
  | 40 => ⟨S4x2048x8x4x64, .f32⟩
  | 41 => ⟨S8192x2048, .f32⟩
  | 42 => ⟨S4x2048x2048, .f32⟩
  | 43 => ⟨S32, .f32⟩
  | 44 => ⟨S8x4, .f32⟩
  | 45 => ⟨S8x4x1, .f32⟩
  | 46 => ⟨S1x1x8x4x1, .f32⟩
  | 47 => ⟨S4x2048x8x4x64, .f32⟩
  | 48 => ⟨S4x2048x8x4x64, .f32⟩
  | 49 => ⟨S4x2048x8x4x64, .f32⟩
  | 50 => ⟨S4x2048x2048, .f32⟩
  | 51 => ⟨S4x2048x2048, .f32⟩
  | 52 => ⟨S4x2048x2048, .f32⟩
  | 53 => ⟨S_, .f32⟩
  | 54 => ⟨S4x2048x2048, .f32⟩
  | 55 => ⟨S4x2048x2048, .f32⟩
  | 56 => ⟨S_, .f32⟩
  | 57 => ⟨S4x2048x2048, .f32⟩
  | 58 => ⟨S4x2048x2048, .f32⟩
  | 59 => ⟨S4x2048x2048, .f32⟩
  | 60 => ⟨S4x2048x2048, .f32⟩
  | 61 => ⟨S2048, .f32⟩
  | 62 => ⟨S4x2048x2048, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S_, .f32⟩
  | 70 => ⟨S4x2048x1, .f32⟩
  | 71 => ⟨S4x2048x1, .f32⟩
  | 72 => ⟨S4x2048x1, .f32⟩
  | 73 => ⟨S4x2048x2048, .f32⟩
  | 74 => ⟨S4x2048x2048, .f32⟩
  | 75 => ⟨S1x1x2048, .f32⟩
  | 76 => ⟨S4x2048x2048, .f32⟩
  | 77 => ⟨S4x2048x2048, .f32⟩
  | 78 => ⟨S4x2048x2048, .bf16⟩
  | 79 => ⟨S8192x2048, .bf16⟩
  | 80 => ⟨S4x8x256x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_call1_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_0 : Ref sig .tc := ⟨.hbm, 52, rfl⟩
abbrev main_call2_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_1 : Ref sig .tc := ⟨.hbm, 57, rfl⟩
abbrev main_call3_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_2 : Ref sig .tc := ⟨.hbm, 62, rfl⟩
abbrev main_call4_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_c_4 : Ref sig .tc := ⟨.hbm, 69, rfl⟩
abbrev main_v39_0 : Ref sig .tc := ⟨.hbm, 70, rfl⟩
abbrev main_v39_1 : Ref sig .tc := ⟨.hbm, 71, rfl⟩
abbrev main_v39_2 : Ref sig .tc := ⟨.hbm, 72, rfl⟩
abbrev main_v39_3 : Ref sig .tc := ⟨.hbm, 73, rfl⟩
abbrev main_v39_4 : Ref sig .tc := ⟨.hbm, 74, rfl⟩
abbrev main_v39_5 : Ref sig .tc := ⟨.hbm, 75, rfl⟩
abbrev main_v39_6 : Ref sig .tc := ⟨.hbm, 76, rfl⟩
abbrev main_v39_7 : Ref sig .tc := ⟨.hbm, 77, rfl⟩
abbrev main_v39_8 : Ref sig .tc := ⟨.hbm, 78, rfl⟩
abbrev main_while0c_c_16 : Ref sig .tc := ⟨.hbm, 79, rfl⟩
abbrev main_while0c_v74 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_c_2 : Ref sig .tc := ⟨.hbm, 84, rfl⟩
abbrev main_while0b_call5_c_3 : Ref sig .tc := ⟨.hbm, 85, rfl⟩
abbrev main_while0b_call5_v0 : Ref sig .tc := ⟨.hbm, 86, rfl⟩
abbrev main_while0b_v74 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_call6_v0 : Ref sig .tc := ⟨.hbm, 92, rfl⟩
abbrev main_while0b_v75 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_c_2 : Ref sig .tc := ⟨.hbm, 97, rfl⟩
abbrev main_while0b_call7_v0 : Ref sig .tc := ⟨.hbm, 98, rfl⟩
abbrev main_while0b_v76 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_call8_c_2 : Ref sig .tc := ⟨.hbm, 103, rfl⟩
abbrev main_while0b_call8_v0 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_call9_call0_cst : Ref sig .tc := ⟨.hbm, 109, rfl⟩
abbrev main_while0b_call9_call0_v0 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_cst_16 : Ref sig .tc := ⟨.hbm, 118, rfl⟩
abbrev main_while0b_call10_v0 : Ref sig .tc := ⟨.hbm, 119, rfl⟩
abbrev main_while0b_call10_v1 : Ref sig .tc := ⟨.hbm, 120, rfl⟩
abbrev main_while0b_call10_v2 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_v116 : Ref sig .tc := ⟨.hbm, 150, rfl⟩
abbrev main_while0b_v117 : Ref sig .tc := ⟨.hbm, 151, rfl⟩
abbrev main_while0b_v118 : Ref sig .tc := ⟨.hbm, 152, rfl⟩
abbrev main_while0b_v119 : Ref sig .tc := ⟨.hbm, 153, rfl⟩
abbrev main_while0b_v120 : Ref sig .tc := ⟨.hbm, 154, rfl⟩
abbrev main_while0b_call11_v0 : Ref sig .tc := ⟨.hbm, 155, rfl⟩
abbrev main_while0b_call11_c : Ref sig .tc := ⟨.hbm, 156, rfl⟩
abbrev main_while0b_call11_c_0 : Ref sig .tc := ⟨.hbm, 157, rfl⟩
abbrev main_while0b_call11_c_1 : Ref sig .tc := ⟨.hbm, 158, rfl⟩
abbrev main_while0b_call11_c_2 : Ref sig .tc := ⟨.hbm, 159, rfl⟩
abbrev main_while0b_call11_c_3 : Ref sig .tc := ⟨.hbm, 160, rfl⟩
abbrev main_while0b_v121 : Ref sig .tc := ⟨.hbm, 161, rfl⟩
abbrev main_while0b_c_17 : Ref sig .tc := ⟨.hbm, 162, rfl⟩
abbrev main_while0b_v122 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_call12_v0 : Ref sig .tc := ⟨.hbm, 179, rfl⟩
abbrev main_call12_v1 : Ref sig .tc := ⟨.hbm, 180, rfl⟩
abbrev main_call12_cst : Ref sig .tc := ⟨.hbm, 181, rfl⟩
abbrev main_call12_v2 : Ref sig .tc := ⟨.hbm, 182, rfl⟩
abbrev main_call12_v3 : Ref sig .tc := ⟨.hbm, 183, rfl⟩
abbrev main_call12_cst_0 : Ref sig .tc := ⟨.hbm, 184, rfl⟩
abbrev main_call12_v4 : Ref sig .tc := ⟨.hbm, 185, rfl⟩
abbrev main_call12_v5 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_cst_5 : Ref sig .tc := ⟨.hbm, 191, rfl⟩
abbrev main_v59 : Ref sig .tc := ⟨.hbm, 192, rfl⟩
abbrev main_v60 : Ref sig .tc := ⟨.hbm, 193, rfl⟩
abbrev main_cst_6 : Ref sig .tc := ⟨.hbm, 194, rfl⟩
abbrev main_v61 : Ref sig .tc := ⟨.hbm, 195, rfl⟩
abbrev main_v62 : Ref sig .tc := ⟨.hbm, 196, rfl⟩
abbrev main_cst_7 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩

abbrev nD : Nat := 1
abbrev τ : Topo := Topo.v7x

variable {F : FTy → Type} [FloatOps F]

abbrev main_while0_count : Scf.Loop 32 := ⟨0#32, 32#32, 1#32⟩
-- ==== SsdSample.lean ====
abbrev S1024x4096 : Shape := ⟨2, ![1024, 4096]⟩
abbrev S9216x6144 : Shape := ⟨2, ![9216, 6144]⟩
abbrev S9216x128 : Shape := ⟨2, ![9216, 128]⟩
abbrev S1x128x32x64x128 : Shape := ⟨5, ![1, 128, 32, 64, 128]⟩
abbrev S1x32 : Shape := ⟨2, ![1, 32]⟩
abbrev S1x2048 : Shape := ⟨2, ![1, 2048]⟩
abbrev S32 : Shape := ⟨1, ![32]⟩
abbrev S_ : Shape := ⟨0, ![]⟩
abbrev S8x128 : Shape := ⟨2, ![8, 128]⟩
abbrev S1 : Shape := ⟨1, ![1]⟩
abbrev S2 : Shape := ⟨1, ![2]⟩
abbrev S128x32x64x128 : Shape := ⟨4, ![128, 32, 64, 128]⟩
abbrev S128x8x256x128 : Shape := ⟨4, ![128, 8, 256, 128]⟩
abbrev S2048 : Shape := ⟨1, ![2048]⟩
abbrev S1024x2048 : Shape := ⟨2, ![1024, 2048]⟩
abbrev S8x2048 : Shape := ⟨2, ![8, 2048]⟩
abbrev S8x1024 : Shape := ⟨2, ![8, 1024]⟩
abbrev S1x8x256x128 : Shape := ⟨4, ![1, 8, 256, 128]⟩
abbrev S8x256x128 : Shape := ⟨3, ![8, 256, 128]⟩
abbrev S1x128 : Shape := ⟨2, ![1, 128]⟩
abbrev S8x8 : Shape := ⟨2, ![8, 8]⟩
abbrev S120x128 : Shape := ⟨2, ![120, 128]⟩
abbrev S128x128 : Shape := ⟨2, ![128, 128]⟩
abbrev S8x256 : Shape := ⟨2, ![8, 256]⟩
abbrev S256x128 : Shape := ⟨2, ![256, 128]⟩
abbrev S1x256x128 : Shape := ⟨3, ![1, 256, 128]⟩
abbrev S1x256 : Shape := ⟨2, ![1, 256]⟩
abbrev S8x1 : Shape := ⟨2, ![8, 1]⟩
abbrev S1x1 : Shape := ⟨2, ![1, 1]⟩
abbrev S1x8 : Shape := ⟨2, ![1, 8]⟩
abbrev S8 : Shape := ⟨1, ![8]⟩
abbrev S128x8x2048 : Shape := ⟨3, ![128, 8, 2048]⟩
abbrev S128x4x2048 : Shape := ⟨3, ![128, 4, 2048]⟩

abbrev nBuf : Space → Nat
  | .hbm => 39
  | .vmem => 20
  | .smem => 0
  | _ => 0

abbrev bufTy : (tb : Table) → Fin (tcTables nBuf tb) → BufTy
  | .hbm, ⟨0, _⟩ => ⟨S1024x4096, .f32⟩
  | .hbm, ⟨1, _⟩ => ⟨S9216x6144, .f32⟩
  | .hbm, ⟨2, _⟩ => ⟨S9216x128, .f32⟩
  | .hbm, ⟨3, _⟩ => ⟨S1x128x32x64x128, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S8x128, .f32⟩
  | .hbm, ⟨31, _⟩ => ⟨S128x32x64x128, .f32⟩
  | .hbm, ⟨32, _⟩ => ⟨S128x8x256x128, .f32⟩
  | .hbm, ⟨33, _⟩ => ⟨S2048, .f32⟩
  | .hbm, ⟨34, _⟩ => ⟨S1x2048, .f32⟩
  | .hbm, ⟨35, _⟩ => ⟨S1024x2048, .bf16⟩
  | .hbm, ⟨36, _⟩ => ⟨S128x8x256x128, .f32⟩
  | .hbm, ⟨37, _⟩ => ⟨S128x8x2048, .bf16⟩
  | .hbm, ⟨38, _⟩ => ⟨S128x4x2048, .bf16⟩
  | .local _ .vmem, ⟨0, _⟩ => ⟨S8x2048, .f32⟩
  | .local _ .vmem, ⟨1, _⟩ => ⟨S8x2048, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x2048, .f32⟩
  | .local _ .vmem, ⟨7, _⟩ => ⟨S8x2048, .f32⟩
  | .local _ .vmem, ⟨8, _⟩ => ⟨S8x128, .f32⟩
  | .local _ .vmem, ⟨9, _⟩ => ⟨S8x128, .f32⟩
  | .local _ .vmem, ⟨10, _⟩ => ⟨S1x8x256x128, .f32⟩
  | .local _ .vmem, ⟨11, _⟩ => ⟨S1x8x256x128, .f32⟩
  | .local _ .vmem, ⟨12, _⟩ => ⟨S8x128, .f32⟩
  | .local _ .vmem, ⟨13, _⟩ => ⟨S1x2048, .f32⟩
  | .local _ .vmem, ⟨14, _⟩ => ⟨S8x2048, .bf16⟩
  | .local _ .vmem, ⟨15, _⟩ => ⟨S8x2048, .bf16⟩
  | .local _ .vmem, ⟨16, _⟩ => ⟨S1x8x256x128, .f32⟩
  | .local _ .vmem, ⟨17, _⟩ => ⟨S1x8x256x128, .f32⟩
  | .local _ .vmem, ⟨18, _⟩ => ⟨S8x256x128, .f32⟩
  | .local _ .vmem, ⟨19, _⟩ => ⟨S8x2048, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_410 : BitVec 32 := 0#32
  let v1893 : BitVec 1 := Scalar.cmpi .eq arg1 c0_i32_410
  let v1894 : BitVec 32 := Scalar.extui v1893
  let c0_i32_411 : BitVec 32 := 0#32
  let v1895 : BitVec 1 := Scalar.cmpi .ne v1894 c0_i32_411
  v1895

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SsdSampleIdeal.lean ====
variable {F : FTy → Type} [FloatOps F] [Named F]
def κ : String → Option EReal := fun
  | "mask" => some ⊥
  | _ => none
-- ==== SsdSampleRefIdeal.lean ====
abbrev S1024x4096 : Shape := ⟨2, ![1024, 4096]⟩
abbrev S9216x6144 : Shape := ⟨2, ![9216, 6144]⟩
abbrev S9216x128 : Shape := ⟨2, ![9216, 128]⟩
abbrev S1x128x32x64x128 : Shape := ⟨5, ![1, 128, 32, 64, 128]⟩
abbrev S1x32 : Shape := ⟨2, ![1, 32]⟩
abbrev S1x2048 : Shape := ⟨2, ![1, 2048]⟩
abbrev S128x8x4096 : Shape := ⟨3, ![128, 8, 4096]⟩
abbrev S128x4x4096 : Shape := ⟨3, ![128, 4, 4096]⟩
abbrev S1024x32 : Shape := ⟨2, ![1024, 32]⟩
abbrev S128x8x32 : Shape := ⟨3, ![128, 8, 32]⟩
abbrev S128x4x32 : Shape := ⟨3, ![128, 4, 32]⟩
abbrev S1024x2048 : Shape := ⟨2, ![1024, 2048]⟩
abbrev S128x8x2048 : Shape := ⟨3, ![128, 8, 2048]⟩
abbrev S128x4x2048 : Shape := ⟨3, ![128, 4, 2048]⟩
abbrev S128x4x1024 : Shape := ⟨3, ![128, 4, 1024]⟩
abbrev S128x4x8x4x64 : Shape := ⟨5, ![128, 4, 8, 4, 64]⟩
abbrev S128x4x8x128 : Shape := ⟨4, ![128, 4, 8, 128]⟩
abbrev S32 : Shape := ⟨1, ![32]⟩
abbrev S1x1x32 : Shape := ⟨3, ![1, 1, 32]⟩
abbrev S_ : Shape := ⟨0, ![]⟩
abbrev S128x4x8x4 : Shape := ⟨4, ![128, 4, 8, 4]⟩
abbrev S8x4 : Shape := ⟨2, ![8, 4]⟩
abbrev S128x32x64x128 : Shape := ⟨4, ![128, 32, 64, 128]⟩
abbrev S128x8x4x64x128 : Shape := ⟨5, ![128, 8, 4, 64, 128]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x1x8x4 : Shape := ⟨4, ![1, 1, 8, 4]⟩
abbrev S128x8x4x4 : Shape := ⟨4, ![128, 8, 4, 4]⟩
abbrev S128x8x4x4x1 : Shape := ⟨5, ![128, 8, 4, 4, 1]⟩
abbrev S128x8x4x1x4 : Shape := ⟨5, ![128, 8, 4, 1, 4]⟩
abbrev S128x8x4x4x4 : Shape := ⟨5, ![128, 8, 4, 4, 4]⟩
abbrev S128x4x8x4x1 : Shape := ⟨5, ![128, 4, 8, 4, 1]⟩
abbrev S128x8x1x4x4 : Shape := ⟨5, ![128, 8, 1, 4, 4]⟩
abbrev S128x8x4x64x4 : Shape := ⟨5, ![128, 8, 4, 64, 4]⟩
abbrev S128x1x8x4 : Shape := ⟨4, ![128, 1, 8, 4]⟩
abbrev S128x8x4 : Shape := ⟨3, ![128, 8, 4]⟩
abbrev S128x8x4x1x1 : Shape := ⟨5, ![128, 8, 4, 1, 1]⟩
abbrev S8x4x1 : Shape := ⟨3, ![8, 4, 1]⟩
abbrev S1x1x8x4x1 : Shape := ⟨5, ![1, 1, 8, 4, 1]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩
abbrev S128x8x256x128 : Shape := ⟨4, ![128, 8, 256, 128]⟩

abbrev nBuf : Space → Nat
  | .hbm => 139
  | .vmem => 0
  | .smem => 0
  | _ => 0

abbrev hbmTy0_0 (i : Nat) : BufTy := match i % 128 with
  | 0 => ⟨S1024x4096, .f32⟩
  | 1 => ⟨S9216x6144, .f32⟩
  | 2 => ⟨S9216x128, .f32⟩
  | 3 => ⟨S1x128x32x64x128, .f32⟩
  | 4 => ⟨S1x32, .f32⟩
  | 5 => ⟨S1x32, .f32⟩
  | 6 => ⟨S1x32, .f32⟩
  | 7 => ⟨S1x2048, .f32⟩
  | 8 => ⟨S128x8x4096, .f32⟩
  | 9 => ⟨S128x4x4096, .f32⟩
  | 10 => ⟨S1024x32, .f32⟩
  | 11 => ⟨S128x8x32, .f32⟩
  | 12 => ⟨S128x4x32, .f32⟩
  | 13 => ⟨S1024x2048, .f32⟩
  | 14 => ⟨S128x8x2048, .f32⟩
  | 15 => ⟨S128x4x2048, .f32⟩
  | 16 => ⟨S128x4x2048, .f32⟩
  | 17 => ⟨S128x4x1024, .f32⟩
  | 18 => ⟨S128x4x1024, .f32⟩
  | 19 => ⟨S128x4x8x4x64, .f32⟩
  | 20 => ⟨S128x4x8x128, .f32⟩
  | 21 => ⟨S128x4x8x128, .f32⟩
  | 22 => ⟨S32, .f32⟩
  | 23 => ⟨S1x1x32, .f32⟩
  | 24 => ⟨S128x4x32, .f32⟩
  | 25 => ⟨S128x4x32, .f32⟩
  | 26 => ⟨S_, .f32⟩
  | 27 => ⟨S128x4x32, .f32⟩
  | 28 => ⟨S128x4x32, .f32⟩
  | 29 => ⟨S128x4x32, .f32⟩
  | 30 => ⟨S128x4x32, .f32⟩
  | 31 => ⟨S128x4x32, .i1⟩
  | 32 => ⟨S128x4x32, .f32⟩
  | 33 => ⟨S128x4x32, .f32⟩
  | 34 => ⟨S128x4x32, .f32⟩
  | 35 => ⟨S128x4x32, .f32⟩
  | 36 => ⟨S128x4x32, .f32⟩
  | 37 => ⟨S128x4x32, .f32⟩
  | 38 => ⟨S128x4x32, .f32⟩
  | 39 => ⟨S128x4x32, .f32⟩
  | 40 => ⟨S128x4x8x4, .f32⟩
  | 41 => ⟨S32, .f32⟩
  | 42 => ⟨S32, .f32⟩
  | 43 => ⟨S8x4, .f32⟩
  | 44 => ⟨S8x4, .f32⟩
  | 45 => ⟨S128x32x64x128, .f32⟩
  | 46 => ⟨S128x8x4x64x128, .f32⟩
  | 47 => ⟨S4, .i32⟩
  | 48 => ⟨S4x1, .i32⟩
  | 49 => ⟨S1x4, .i32⟩
  | 50 => ⟨S4x4, .i32⟩
  | 51 => ⟨S4x4, .i32⟩
  | 52 => ⟨S4x4, .i1⟩
  | 53 => ⟨S1x1x8x4, .f32⟩
  | 54 => ⟨S128x4x8x4, .f32⟩
  | 55 => ⟨S128x4x8x4, .f32⟩
  | 56 => ⟨S_, .f32⟩
  | 57 => ⟨S_, .f32⟩
  | 58 => ⟨S128x4x8x4, .f32⟩
  | 59 => ⟨S128x8x4x4, .f32⟩
  | 60 => ⟨S128x8x4x4x1, .f32⟩
  | 61 => ⟨S128x8x4x1x4, .f32⟩
  | 62 => ⟨S128x8x4x4x4, .f32⟩
  | 63 => ⟨S128x8x4x4x4, .f32⟩
  | 64 => ⟨S128x8x4x4x4, .f32⟩
  | 65 => ⟨S_, .f32⟩
  | 66 => ⟨S_, .f32⟩
  | 67 => ⟨S128x8x4x4x4, .i1⟩
  | 68 => ⟨S128x8x4x4x4, .f32⟩
  | 69 => ⟨S128x8x4x4x4, .f32⟩
  | 70 => ⟨S128x8x4x4x4, .f32⟩
  | 71 => ⟨S128x8x4x4, .f32⟩
  | 72 => ⟨S128x4x8x4x1, .f32⟩
  | 73 => ⟨S128x4x8x4x64, .f32⟩
  | 74 => ⟨S128x4x8x4x64, .f32⟩
  | 75 => ⟨S128x8x1x4x4, .f32⟩
  | 76 => ⟨S128x8x4x4x4, .f32⟩
  | 77 => ⟨S128x8x4x4x4, .f32⟩
  | 78 => ⟨S128x8x4x64x4, .f32⟩
  | 79 => ⟨S128x4x8x4x64, .f32⟩
  | 80 => ⟨S128x8x4x64x4, .f32⟩
  | 81 => ⟨S128x4x8x4x64, .f32⟩
  | 82 => ⟨S128x4x8x4, .f32⟩
  | 83 => ⟨S128x4x8x4x1, .f32⟩
  | 84 => ⟨S128x4x8x4x64, .f32⟩
  | 85 => ⟨S128x4x8x4x64, .f32⟩
  | 86 => ⟨S128x4x8x4x64, .f32⟩
  | 87 => ⟨S128x1x8x4, .f32⟩
  | 88 => ⟨S128x8x4, .f32⟩
  | 89 => ⟨S128x8x4, .f32⟩
  | 90 => ⟨S128x8x4x1x1, .f32⟩
  | 91 => ⟨S128x8x4x64x128, .f32⟩
  | 92 => ⟨S128x8x4x64x128, .f32⟩
  | 93 => ⟨S128x1x8x4, .f32⟩
  | 94 => ⟨S128x4x8x4, .f32⟩
  | 95 => ⟨S128x4x8x4, .f32⟩
  | 96 => ⟨S128x4x8x4, .f32⟩
  | 97 => ⟨S128x4x8x4x1, .f32⟩
  | 98 => ⟨S128x4x8x4x64, .f32⟩
  | 99 => ⟨S128x4x8x4x64, .f32⟩
  | 100 => ⟨S128x8x4x64x128, .f32⟩
  | 101 => ⟨S128x8x4x64x128, .f32⟩
  | 102 => ⟨S32, .f32⟩
  | 103 => ⟨S8x4, .f32⟩
  | 104 => ⟨S8x4x1, .f32⟩
  | 105 => ⟨S1x1x8x4x1, .f32⟩
  | 106 => ⟨S128x4x8x4x64, .f32⟩
  | 107 => ⟨S128x4x8x4x64, .f32⟩
  | 108 => ⟨S128x4x8x4x64, .f32⟩
  | 109 => ⟨S128x4x2048, .f32⟩
  | 110 => ⟨S128x4x2048, .f32⟩
  | 111 => ⟨S128x4x2048, .f32⟩
  | 112 => ⟨S_, .f32⟩
  | 113 => ⟨S128x4x2048, .f32⟩
  | 114 => ⟨S128x4x2048, .f32⟩
  | 115 => ⟨S_, .f32⟩
  | 116 => ⟨S128x4x2048, .f32⟩
  | 117 => ⟨S128x4x2048, .f32⟩
  | 118 => ⟨S128x4x2048, .f32⟩
  | 119 => ⟨S128x4x2048, .f32⟩
  | 120 => ⟨S2048, .f32⟩
  | 121 => ⟨S128x4x2048, .f32⟩
  | 122 => ⟨S_, .f32⟩
  | 123 => ⟨S128x4, .f32⟩
  | 124 => ⟨S128x4x1, .f32⟩
  | 125 => ⟨S_, .f32⟩
  | 126 => ⟨S128x4x1, .f32⟩
  | 127 => ⟨S128x4x1, .f32⟩
  | _ => ⟨S1024x4096, .f32⟩

abbrev hbmTy0_1 (i : Nat) : BufTy := match i % 128 with
  | 0 => ⟨S_, .f32⟩
  | 1 => ⟨S128x4x1, .f32⟩
  | 2 => ⟨S128x4x1, .f32⟩
  | 3 => ⟨S128x4x1, .f32⟩
  | 4 => ⟨S128x4x2048, .f32⟩
  | 5 => ⟨S128x4x2048, .f32⟩
  | 6 => ⟨S1x1x2048, .f32⟩
  | 7 => ⟨S128x4x2048, .f32⟩
  | 8 => ⟨S128x4x2048, .f32⟩
  | 9 => ⟨S128x4x2048, .bf16⟩
  | 10 => ⟨S128x8x256x128, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_call0_cst : Ref sig .tc := ⟨.hbm, 56, rfl⟩
abbrev main_call1_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_0 : Ref sig .tc := ⟨.hbm, 122, rfl⟩
abbrev main_v87 : Ref sig .tc := ⟨.hbm, 123, rfl⟩
abbrev main_v88 : Ref sig .tc := ⟨.hbm, 124, rfl⟩
abbrev main_cst_1 : Ref sig .tc := ⟨.hbm, 125, rfl⟩
abbrev main_v89 : Ref sig .tc := ⟨.hbm, 126, rfl⟩
abbrev main_v90 : Ref sig .tc := ⟨.hbm, 127, rfl⟩
abbrev main_cst_2 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== SegA.lean ====
abbrev S9216x4096 : Shape := ⟨2, ![9216, 4096]⟩
abbrev S1x4096x22592 : Shape := ⟨3, ![1, 4096, 22592]⟩
abbrev S4096x22592 : Shape := ⟨2, ![4096, 22592]⟩
abbrev S4096x8192 : Shape := ⟨2, ![4096, 8192]⟩
abbrev S9216x8192 : Shape := ⟨2, ![9216, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S4096x22592, .f32⟩
  | .hbm, ⟨3, _⟩ => ⟨S4096x8192, .f32⟩
  | .hbm, ⟨4, _⟩ => ⟨S4096x8192, .bf16⟩
  | .hbm, ⟨5, _⟩ => ⟨S9216x8192, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SegARefIdeal.lean ====
abbrev S9216x4096 : Shape := ⟨2, ![9216, 4096]⟩
abbrev S1x4096x22592 : Shape := ⟨3, ![1, 4096, 22592]⟩
abbrev S4096x22592 : Shape := ⟨2, ![4096, 22592]⟩
abbrev S4096x8192 : Shape := ⟨2, ![4096, 8192]⟩
abbrev S9216x8192 : Shape := ⟨2, ![9216, 8192]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S9216x4096, .f32⟩
  | .hbm, ⟨3, _⟩ => ⟨S4096x22592, .f32⟩
  | .hbm, ⟨4, _⟩ => ⟨S4096x8192, .f32⟩
  | .hbm, ⟨5, _⟩ => ⟨S9216x8192, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SegB.lean ====
abbrev S9216x4096 : Shape := ⟨2, ![9216, 4096]⟩
abbrev S1x4096x22592 : Shape := ⟨3, ![1, 4096, 22592]⟩
abbrev S4096x22592 : Shape := ⟨2, ![4096, 22592]⟩
abbrev S4096x6144 : Shape := ⟨2, ![4096, 6144]⟩
abbrev S9216x6144 : Shape := ⟨2, ![9216, 6144]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S4096x22592, .f32⟩
  | .hbm, ⟨3, _⟩ => ⟨S4096x6144, .f32⟩
  | .hbm, ⟨4, _⟩ => ⟨S4096x6144, .bf16⟩
  | .hbm, ⟨5, _⟩ => ⟨S9216x6144, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SegBRefIdeal.lean ====
abbrev S9216x4096 : Shape := ⟨2, ![9216, 4096]⟩
abbrev S1x4096x22592 : Shape := ⟨3, ![1, 4096, 22592]⟩
abbrev S4096x22592 : Shape := ⟨2, ![4096, 22592]⟩
abbrev S4096x6144 : Shape := ⟨2, ![4096, 6144]⟩
abbrev S9216x6144 : Shape := ⟨2, ![9216, 6144]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S9216x4096, .f32⟩
  | .hbm, ⟨3, _⟩ => ⟨S4096x22592, .f32⟩
  | .hbm, ⟨4, _⟩ => ⟨S4096x6144, .f32⟩
  | .hbm, ⟨5, _⟩ => ⟨S9216x6144, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SegC.lean ====
abbrev S9216x4096 : Shape := ⟨2, ![9216, 4096]⟩
abbrev S1x4096x22592 : Shape := ⟨3, ![1, 4096, 22592]⟩
abbrev S4096x22592 : Shape := ⟨2, ![4096, 22592]⟩
abbrev S4096x8192 : Shape := ⟨2, ![4096, 8192]⟩
abbrev S9216x8192 : Shape := ⟨2, ![9216, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S4096x22592, .f32⟩
  | .hbm, ⟨3, _⟩ => ⟨S4096x8192, .f32⟩
  | .hbm, ⟨4, _⟩ => ⟨S4096x8192, .bf16⟩
  | .hbm, ⟨5, _⟩ => ⟨S9216x8192, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SegCRefIdeal.lean ====
abbrev S9216x4096 : Shape := ⟨2, ![9216, 4096]⟩
abbrev S1x4096x22592 : Shape := ⟨3, ![1, 4096, 22592]⟩
abbrev S4096x22592 : Shape := ⟨2, ![4096, 22592]⟩
abbrev S4096x8192 : Shape := ⟨2, ![4096, 8192]⟩
abbrev S9216x8192 : Shape := ⟨2, ![9216, 8192]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S9216x4096, .f32⟩
  | .hbm, ⟨3, _⟩ => ⟨S4096x22592, .f32⟩
  | .hbm, ⟨4, _⟩ => ⟨S4096x8192, .f32⟩
  | .hbm, ⟨5, _⟩ => ⟨S9216x8192, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SegD.lean ====
abbrev S9216x4096 : Shape := ⟨2, ![9216, 4096]⟩
abbrev S1x4096x22592 : Shape := ⟨3, ![1, 4096, 22592]⟩
abbrev S4096x22592 : Shape := ⟨2, ![4096, 22592]⟩
abbrev S4096x32 : Shape := ⟨2, ![4096, 32]⟩
abbrev S_ : Shape := ⟨0, ![]⟩
abbrev S4096x64 : Shape := ⟨2, ![4096, 64]⟩
abbrev S4096x128 : Shape := ⟨2, ![4096, 128]⟩
abbrev S9216x128 : Shape := ⟨2, ![9216, 128]⟩
abbrev S512x4096 : Shape := ⟨2, ![512, 4096]⟩
abbrev S512x128 : Shape := ⟨2, ![512, 128]⟩

abbrev nBuf : Space → Nat
  | .hbm => 10
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S4096x22592, .f32⟩
  | .hbm, ⟨3, _⟩ => ⟨S4096x32, .f32⟩
  | .hbm, ⟨4, _⟩ => ⟨S4096x32, .f32⟩
  | .hbm, ⟨5, _⟩ => ⟨S_, .f32⟩
  | .hbm, ⟨6, _⟩ => ⟨S4096x64, .f32⟩
  | .hbm, ⟨7, _⟩ => ⟨S4096x128, .f32⟩
  | .hbm, ⟨8, _⟩ => ⟨S4096x128, .bf16⟩
  | .hbm, ⟨9, _⟩ => ⟨S9216x128, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SegDRefIdeal.lean ====
abbrev S9216x4096 : Shape := ⟨2, ![9216, 4096]⟩
abbrev S1x4096x22592 : Shape := ⟨3, ![1, 4096, 22592]⟩
abbrev S4096x22592 : Shape := ⟨2, ![4096, 22592]⟩
abbrev S4096x32 : Shape := ⟨2, ![4096, 32]⟩
abbrev S9216x32 : Shape := ⟨2, ![9216, 32]⟩
abbrev S9216x64 : Shape := ⟨2, ![9216, 64]⟩
abbrev S_ : Shape := ⟨0, ![]⟩
abbrev S9216x128 : Shape := ⟨2, ![9216, 128]⟩

abbrev nBuf : Space → Nat
  | .hbm => 13
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S9216x4096, .f32⟩
  | .hbm, ⟨3, _⟩ => ⟨S4096x22592, .f32⟩
  | .hbm, ⟨4, _⟩ => ⟨S4096x32, .f32⟩
  | .hbm, ⟨5, _⟩ => ⟨S9216x32, .f32⟩
  | .hbm, ⟨6, _⟩ => ⟨S4096x22592, .f32⟩
  | .hbm, ⟨7, _⟩ => ⟨S4096x32, .f32⟩
  | .hbm, ⟨8, _⟩ => ⟨S9216x32, .f32⟩
  | .hbm, ⟨9, _⟩ => ⟨S9216x64, .f32⟩
  | .hbm, ⟨10, _⟩ => ⟨S_, .f32⟩
  | .hbm, ⟨11, _⟩ => ⟨S9216x64, .f32⟩
  | .hbm, ⟨12, _⟩ => ⟨S9216x128, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Merge.lean ====
abbrev S9216x2048 : Shape := ⟨2, ![9216, 2048]⟩
abbrev S1x2048x4096 : Shape := ⟨3, ![1, 2048, 4096]⟩
abbrev S9216x8192 : Shape := ⟨2, ![9216, 8192]⟩
abbrev S2048x4096 : Shape := ⟨2, ![2048, 4096]⟩
abbrev S9216x4096 : Shape := ⟨2, ![9216, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S9216x2048, .bf16⟩
  | .hbm, ⟨1, _⟩ => ⟨S1x2048x4096, .f32⟩
  | .hbm, ⟨2, _⟩ => ⟨S9216x2048, .bf16⟩
  | .hbm, ⟨3, _⟩ => ⟨S1x2048x4096, .f32⟩
  | .hbm, ⟨4, _⟩ => ⟨S9216x8192, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S9216x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S9216x2048 : Shape := ⟨2, ![9216, 2048]⟩
abbrev S1x2048x4096 : Shape := ⟨3, ![1, 2048, 4096]⟩
abbrev S9216x8192 : Shape := ⟨2, ![9216, 8192]⟩
abbrev S9216x4096 : Shape := ⟨2, ![9216, 4096]⟩
abbrev S_ : Shape := ⟨0, ![]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x4096, .f32⟩
  | .hbm, ⟨2, _⟩ => ⟨S9216x2048, .bf16⟩
  | .hbm, ⟨3, _⟩ => ⟨S1x2048x4096, .f32⟩
  | .hbm, ⟨4, _⟩ => ⟨S9216x8192, .f32⟩
  | .hbm, ⟨5, _⟩ => ⟨S9216x4096, .f32⟩
  | .hbm, ⟨6, _⟩ => ⟨S9216x4096, .f32⟩
  | .hbm, ⟨7, _⟩ => ⟨S9216x4096, .f32⟩
  | .hbm, ⟨8, _⟩ => ⟨S9216x4096, .f32⟩
  | .hbm, ⟨9, _⟩ => ⟨S_, .f32⟩
  | .hbm, ⟨10, _⟩ => ⟨S9216x4096, .f32⟩
  | .hbm, ⟨11, _⟩ => ⟨S9216x4096, .f32⟩
  | .hbm, ⟨12, _⟩ => ⟨S_, .f32⟩
  | .hbm, ⟨13, _⟩ => ⟨S9216x4096, .f32⟩
  | .hbm, ⟨14, _⟩ => ⟨S9216x4096, .f32⟩
  | .hbm, ⟨15, _⟩ => ⟨S9216x2048, .f32⟩
  | .hbm, ⟨16, _⟩ => ⟨S2048x4096, .f32⟩
  | .hbm, ⟨17, _⟩ => ⟨S9216x4096, .f32⟩
  | .hbm, ⟨18, _⟩ => ⟨S9216x4096, .f32⟩
  | .hbm, ⟨19, _⟩ => ⟨S9216x4096, .f32⟩
  | .hbm, ⟨20, _⟩ => ⟨S9216x4096, .f32⟩
  | .hbm, ⟨21, _⟩ => ⟨S_, .f32⟩
  | .hbm, ⟨22, _⟩ => ⟨S9216x4096, .f32⟩
  | .hbm, ⟨23, _⟩ => ⟨S9216x4096, .f32⟩
  | .hbm, ⟨24, _⟩ => ⟨S_, .f32⟩
  | .hbm, ⟨25, _⟩ => ⟨S9216x4096, .f32⟩
  | .hbm, ⟨26, _⟩ => ⟨S9216x4096, .f32⟩
  | .hbm, ⟨27, _⟩ => ⟨S9216x2048, .f32⟩
  | .hbm, ⟨28, _⟩ => ⟨S2048x4096, .f32⟩
  | .hbm, ⟨29, _⟩ => ⟨S9216x4096, .f32⟩
  | .hbm, ⟨30, _⟩ => ⟨S9216x4096, .f32⟩
  | .hbm, ⟨31, _⟩ => ⟨S9216x4096, .f32⟩
  | .hbm, ⟨32, _⟩ => ⟨S9216x4096, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutProj.lean ====
abbrev S9216x4096 : Shape := ⟨2, ![9216, 4096]⟩
abbrev S1x4096x4096 : Shape := ⟨3, ![1, 4096, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S1x4096x4096, .f32⟩
  | .hbm, ⟨2, _⟩ => ⟨S9216x4096, .f32⟩
  | .hbm, ⟨3, _⟩ => ⟨S4096x4096, .f32⟩
  | .hbm, ⟨4, _⟩ => ⟨S4096x4096, .bf16⟩
  | .hbm, ⟨5, _⟩ => ⟨S9216x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjIdeal.lean ====
abbrev S9216x4096 : Shape := ⟨2, ![9216, 4096]⟩
abbrev S1x4096x4096 : Shape := ⟨3, ![1, 4096, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S1x4096x4096, .f32⟩
  | .hbm, ⟨2, _⟩ => ⟨S9216x4096, .f32⟩
  | .hbm, ⟨3, _⟩ => ⟨S4096x4096, .f32⟩
  | .hbm, ⟨4, _⟩ => ⟨S4096x4096, .bf16⟩
  | .hbm, ⟨5, _⟩ => ⟨S9216x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S9216x4096 : Shape := ⟨2, ![9216, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x4096, .f32⟩
  | .hbm, ⟨2, _⟩ => ⟨S9216x4096, .f32⟩
  | .hbm, ⟨3, _⟩ => ⟨S9216x4096, .f32⟩
  | .hbm, ⟨4, _⟩ => ⟨S4096x4096, .f32⟩
  | .hbm, ⟨5, _⟩ => ⟨S9216x4096, .f32⟩
  | .hbm, ⟨6, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossOut.lean ====
abbrev S9216x1024 : Shape := ⟨2, ![9216, 1024]⟩
abbrev S1x1024x4096 : Shape := ⟨3, ![1, 1024, 4096]⟩
abbrev S9216x4096 : Shape := ⟨2, ![9216, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S1x1024x4096, .f32⟩
  | .hbm, ⟨2, _⟩ => ⟨S9216x4096, .f32⟩
  | .hbm, ⟨3, _⟩ => ⟨S1024x4096, .f32⟩
  | .hbm, ⟨4, _⟩ => ⟨S1024x4096, .bf16⟩
  | .hbm, ⟨5, _⟩ => ⟨S9216x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossOutRefIdeal.lean ====
abbrev S9216x1024 : Shape := ⟨2, ![9216, 1024]⟩
abbrev S1x1024x4096 : Shape := ⟨3, ![1, 1024, 4096]⟩
abbrev S9216x4096 : Shape := ⟨2, ![9216, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1x1024x4096, .f32⟩
  | .hbm, ⟨2, _⟩ => ⟨S9216x4096, .f32⟩
  | .hbm, ⟨3, _⟩ => ⟨S9216x1024, .f32⟩
  | .hbm, ⟨4, _⟩ => ⟨S1024x4096, .f32⟩
  | .hbm, ⟨5, _⟩ => ⟨S9216x4096, .f32⟩
  | .hbm, ⟨6, _⟩ => ⟨S9216x4096, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossQuery.lean ====
abbrev S9216x4096 : Shape := ⟨2, ![9216, 4096]⟩
abbrev S1x4096x1024 : Shape := ⟨3, ![1, 4096, 1024]⟩
abbrev S4096x1024 : Shape := ⟨2, ![4096, 1024]⟩
abbrev S9216x1024 : Shape := ⟨2, ![9216, 1024]⟩
abbrev S512x4096 : Shape := ⟨2, ![512, 4096]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S9216x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CrossQueryIdeal.lean ====
abbrev S9216x4096 : Shape := ⟨2, ![9216, 4096]⟩
abbrev S1x4096x1024 : Shape := ⟨3, ![1, 4096, 1024]⟩
abbrev S4096x1024 : Shape := ⟨2, ![4096, 1024]⟩
abbrev S9216x1024 : Shape := ⟨2, ![9216, 1024]⟩
abbrev S512x4096 : Shape := ⟨2, ![512, 4096]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S9216x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CrossQueryRefIdeal.lean ====
abbrev S9216x4096 : Shape := ⟨2, ![9216, 4096]⟩
abbrev S1x4096x1024 : Shape := ⟨3, ![1, 4096, 1024]⟩
abbrev S4096x1024 : Shape := ⟨2, ![4096, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x1024, .f32⟩
  | .hbm, ⟨2, _⟩ => ⟨S9216x4096, .f32⟩
  | .hbm, ⟨3, _⟩ => ⟨S4096x1024, .f32⟩
  | .hbm, ⟨4, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PeerQuery.lean ====
abbrev S9216x4096 : Shape := ⟨2, ![9216, 4096]⟩
abbrev S1x4096x2048 : Shape := ⟨3, ![1, 4096, 2048]⟩
abbrev S4096x2048 : Shape := ⟨2, ![4096, 2048]⟩
abbrev S9216x2048 : Shape := ⟨2, ![9216, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S9216x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryRefIdeal.lean ====
abbrev S9216x4096 : Shape := ⟨2, ![9216, 4096]⟩
abbrev S1x4096x2048 : Shape := ⟨3, ![1, 4096, 2048]⟩
abbrev S4096x2048 : Shape := ⟨2, ![4096, 2048]⟩
abbrev S9216x2048 : Shape := ⟨2, ![9216, 2048]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S9216x4096, .f32⟩
  | .hbm, ⟨3, _⟩ => ⟨S4096x2048, .f32⟩
  | .hbm, ⟨4, _⟩ => ⟨S9216x2048, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemoryKeys.lean ====
abbrev S4x256x4096 : Shape := ⟨3, ![4, 256, 4096]⟩
abbrev S1x4096x1024 : Shape := ⟨3, ![1, 4096, 1024]⟩
abbrev S1024x4096 : Shape := ⟨2, ![1024, 4096]⟩
abbrev S4096x1024 : Shape := ⟨2, ![4096, 1024]⟩
abbrev S1024x1024 : Shape := ⟨2, ![1024, 1024]⟩
abbrev S512x4096 : Shape := ⟨2, ![512, 4096]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S1x4096x1024, .f32⟩
  | .hbm, ⟨2, _⟩ => ⟨S1024x4096, .f32⟩
  | .hbm, ⟨3, _⟩ => ⟨S4096x1024, .f32⟩
  | .hbm, ⟨4, _⟩ => ⟨S4096x1024, .bf16⟩
  | .hbm, ⟨5, _⟩ => ⟨S1024x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryKeysRefIdeal.lean ====
abbrev S4x256x4096 : Shape := ⟨3, ![4, 256, 4096]⟩
abbrev S1x4096x1024 : Shape := ⟨3, ![1, 4096, 1024]⟩
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x1024, .f32⟩
  | .hbm, ⟨2, _⟩ => ⟨S4096x1024, .f32⟩
  | .hbm, ⟨3, _⟩ => ⟨S4x256x1024, .f32⟩
  | .hbm, ⟨4, _⟩ => ⟨S1024x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemoryValues.lean ====
abbrev S4x256x4096 : Shape := ⟨3, ![4, 256, 4096]⟩
abbrev S1x4096x1024 : Shape := ⟨3, ![1, 4096, 1024]⟩
abbrev S1024x4096 : Shape := ⟨2, ![1024, 4096]⟩
abbrev S4096x1024 : Shape := ⟨2, ![4096, 1024]⟩
abbrev S1024x1024 : Shape := ⟨2, ![1024, 1024]⟩
abbrev S512x4096 : Shape := ⟨2, ![512, 4096]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S1x4096x1024, .f32⟩
  | .hbm, ⟨2, _⟩ => ⟨S1024x4096, .f32⟩
  | .hbm, ⟨3, _⟩ => ⟨S4096x1024, .f32⟩
  | .hbm, ⟨4, _⟩ => ⟨S4096x1024, .bf16⟩
  | .hbm, ⟨5, _⟩ => ⟨S1024x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryValuesRefIdeal.lean ====
abbrev S4x256x4096 : Shape := ⟨3, ![4, 256, 4096]⟩
abbrev S1x4096x1024 : Shape := ⟨3, ![1, 4096, 1024]⟩
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x1024, .f32⟩
  | .hbm, ⟨2, _⟩ => ⟨S4096x1024, .f32⟩
  | .hbm, ⟨3, _⟩ => ⟨S4x256x1024, .f32⟩
  | .hbm, ⟨4, _⟩ => ⟨S1024x1024, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InputNorm.lean ====
abbrev S4x2048x4096 : Shape := ⟨3, ![4, 2048, 4096]⟩
abbrev S128x4x4096 : Shape := ⟨3, ![128, 4, 4096]⟩
abbrev S1x4096 : Shape := ⟨2, ![1, 4096]⟩
abbrev S_ : Shape := ⟨0, ![]⟩
abbrev S128x8x4096 : Shape := ⟨3, ![128, 8, 4096]⟩
abbrev S8192x4096 : Shape := ⟨2, ![8192, 4096]⟩
abbrev S1024x4096 : Shape := ⟨2, ![1024, 4096]⟩
abbrev S9216x4096 : Shape := ⟨2, ![9216, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x4096, .f32⟩
  | .hbm, ⟨3, _⟩ => ⟨S_, .i32⟩
  | .hbm, ⟨4, _⟩ => ⟨S_, .f32⟩
  | .hbm, ⟨5, _⟩ => ⟨S128x8x4096, .f32⟩
  | .hbm, ⟨6, _⟩ => ⟨S8192x4096, .f32⟩
  | .hbm, ⟨7, _⟩ => ⟨S1024x4096, .f32⟩
  | .hbm, ⟨8, _⟩ => ⟨S9216x4096, .f32⟩
  | .hbm, ⟨9, _⟩ => ⟨S4096, .f32⟩
  | .hbm, ⟨10, _⟩ => ⟨S1x4096, .f32⟩
  | .hbm, ⟨11, _⟩ => ⟨S9216x4096, .bf16⟩
  | .hbm, ⟨12, _⟩ => ⟨S8192x4096, .bf16⟩
  | .hbm, ⟨13, _⟩ => ⟨S4x2048x4096, .bf16⟩
  | .hbm, ⟨14, _⟩ => ⟨S1024x4096, .bf16⟩
  | .hbm, ⟨15, _⟩ => ⟨S128x8x4096, .bf16⟩
  | .hbm, ⟨16, _⟩ => ⟨S128x4x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InputNormRefIdeal.lean ====
abbrev S4x2048x4096 : Shape := ⟨3, ![4, 2048, 4096]⟩
abbrev S128x4x4096 : Shape := ⟨3, ![128, 4, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S128x4 : Shape := ⟨2, ![128, 4]⟩
abbrev S128x4x1 : Shape := ⟨3, ![128, 4, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S1x4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x2048x4096, .bf16⟩
  | .hbm, ⟨21, _⟩ => ⟨S4096, .f32⟩
  | .hbm, ⟨22, _⟩ => ⟨S128x4x4096, .f32⟩
  | .hbm, ⟨23, _⟩ => ⟨S_, .f32⟩
  | .hbm, ⟨24, _⟩ => ⟨S128x4, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S128x4x1, .f32⟩
  | .hbm, ⟨33, _⟩ => ⟨S128x4x4096, .f32⟩
  | .hbm, ⟨34, _⟩ => ⟨S128x4x4096, .f32⟩
  | .hbm, ⟨35, _⟩ => ⟨S1x1x4096, .f32⟩
  | .hbm, ⟨36, _⟩ => ⟨S128x4x4096, .f32⟩
  | .hbm, ⟨37, _⟩ => ⟨S128x4x4096, .f32⟩
  | .hbm, ⟨38, _⟩ => ⟨S128x4x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== FinalNorm.lean ====
abbrev S9216x4096 : Shape := ⟨2, ![9216, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x4096 : Shape := ⟨2, ![8192, 4096]⟩
abbrev S4x2048x4096 : Shape := ⟨3, ![4, 2048, 4096]⟩
abbrev S1024x4096 : Shape := ⟨2, ![1024, 4096]⟩
abbrev S128x8x4096 : Shape := ⟨3, ![128, 8, 4096]⟩
abbrev S128x4x4096 : Shape := ⟨3, ![128, 4, 4096]⟩

abbrev nBuf : Space → Nat
  | .hbm => 10
  | .vmem => 7
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S1x4096, .f32⟩
  | .hbm, ⟨4, _⟩ => ⟨S9216x4096, .f32⟩
  | .hbm, ⟨5, _⟩ => ⟨S8192x4096, .f32⟩
  | .hbm, ⟨6, _⟩ => ⟨S4x2048x4096, .f32⟩
  | .hbm, ⟨7, _⟩ => ⟨S1024x4096, .f32⟩
  | .hbm, ⟨8, _⟩ => ⟨S128x8x4096, .f32⟩
  | .hbm, ⟨9, _⟩ => ⟨S128x4x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalNormRefIdeal.lean ====
abbrev S9216x4096 : Shape := ⟨2, ![9216, 4096]⟩
abbrev S4096 : Shape := ⟨1, ![4096]⟩
abbrev S8192x4096 : Shape := ⟨2, ![8192, 4096]⟩
abbrev S4x2048x4096 : Shape := ⟨3, ![4, 2048, 4096]⟩
abbrev S1024x4096 : Shape := ⟨2, ![1024, 4096]⟩
abbrev S128x8x4096 : Shape := ⟨3, ![128, 8, 4096]⟩
abbrev S128x4x4096 : Shape := ⟨3, ![128, 4, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S128x4 : Shape := ⟨2, ![128, 4]⟩
abbrev S128x4x1 : Shape := ⟨3, ![128, 4, 1]⟩

abbrev nBuf : Space → Nat
  | .hbm => 41
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S9216x4096, .f32⟩
  | .hbm, ⟨4, _⟩ => ⟨S8192x4096, .f32⟩
  | .hbm, ⟨5, _⟩ => ⟨S4x2048x4096, .f32⟩
  | .hbm, ⟨6, _⟩ => ⟨S1024x4096, .f32⟩
  | .hbm, ⟨7, _⟩ => ⟨S128x8x4096, .f32⟩
  | .hbm, ⟨8, _⟩ => ⟨S128x4x4096, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S128x4x4096, .f32⟩
  | .hbm, ⟨26, _⟩ => ⟨S_, .f32⟩
  | .hbm, ⟨27, _⟩ => ⟨S128x4, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S_, .f32⟩
  | .hbm, ⟨33, _⟩ => ⟨S128x4x1, .f32⟩
  | .hbm, ⟨34, _⟩ => ⟨S128x4x1, .f32⟩
  | .hbm, ⟨35, _⟩ => ⟨S128x4x1, .f32⟩
  | .hbm, ⟨36, _⟩ => ⟨S128x4x4096, .f32⟩
  | .hbm, ⟨37, _⟩ => ⟨S128x4x4096, .f32⟩
  | .hbm, ⟨38, _⟩ => ⟨S1x1x4096, .f32⟩
  | .hbm, ⟨39, _⟩ => ⟨S128x4x4096, .f32⟩
  | .hbm, ⟨40, _⟩ => ⟨S128x4x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== DnConvState.lean ====
abbrev S9216x4096 : Shape := ⟨2, ![9216, 4096]⟩
abbrev S1x4096x22592 : Shape := ⟨3, ![1, 4096, 22592]⟩
abbrev S1x128x3x6144 : Shape := ⟨4, ![1, 128, 3, 6144]⟩
abbrev S4096x22592 : Shape := ⟨2, ![4096, 22592]⟩
abbrev S4096x8192 : Shape := ⟨2, ![4096, 8192]⟩
abbrev S9216x8192 : Shape := ⟨2, ![9216, 8192]⟩
abbrev S512x4096 : Shape := ⟨2, ![512, 4096]⟩
abbrev S4096x1024 : Shape := ⟨2, ![4096, 1024]⟩
abbrev S512x1024 : Shape := ⟨2, ![512, 1024]⟩
abbrev S8192x8192 : Shape := ⟨2, ![8192, 8192]⟩
abbrev S4x2048x8192 : Shape := ⟨3, ![4, 2048, 8192]⟩
abbrev S4x3x6144 : Shape := ⟨3, ![4, 3, 6144]⟩
abbrev S1x4x3x6144 : Shape := ⟨4, ![1, 4, 3, 6144]⟩
abbrev S128x3x6144 : Shape := ⟨3, ![128, 3, 6144]⟩
abbrev S1024x8192 : Shape := ⟨2, ![1024, 8192]⟩
abbrev S128x8x8192 : Shape := ⟨3, ![128, 8, 8192]⟩

abbrev nBuf : Space → Nat
  | .hbm => 16
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S1x128x3x6144, .f32⟩
  | .hbm, ⟨3, _⟩ => ⟨S4096x22592, .f32⟩
  | .hbm, ⟨4, _⟩ => ⟨S4096x8192, .f32⟩
  | .hbm, ⟨5, _⟩ => ⟨S4096x8192, .bf16⟩
  | .hbm, ⟨6, _⟩ => ⟨S9216x8192, .f32⟩
  | .hbm, ⟨7, _⟩ => ⟨S8192x8192, .f32⟩
  | .hbm, ⟨8, _⟩ => ⟨S4x2048x8192, .f32⟩
  | .hbm, ⟨9, _⟩ => ⟨S4x3x6144, .f32⟩
  | .hbm, ⟨10, _⟩ => ⟨S1x4x3x6144, .f32⟩
  | .hbm, ⟨11, _⟩ => ⟨S128x3x6144, .f32⟩
  | .hbm, ⟨12, _⟩ => ⟨S1024x8192, .f32⟩
  | .hbm, ⟨13, _⟩ => ⟨S128x8x8192, .f32⟩
  | .hbm, ⟨14, _⟩ => ⟨S128x3x6144, .f32⟩
  | .hbm, ⟨15, _⟩ => ⟨S1x128x3x6144, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnConvStateRefIdeal.lean ====
abbrev S9216x4096 : Shape := ⟨2, ![9216, 4096]⟩
abbrev S1x4096x22592 : Shape := ⟨3, ![1, 4096, 22592]⟩
abbrev S1x128x3x6144 : Shape := ⟨4, ![1, 128, 3, 6144]⟩
abbrev S4096x22592 : Shape := ⟨2, ![4096, 22592]⟩
abbrev S4096x6144 : Shape := ⟨2, ![4096, 6144]⟩
abbrev S9216x6144 : Shape := ⟨2, ![9216, 6144]⟩
abbrev S8192x6144 : Shape := ⟨2, ![8192, 6144]⟩
abbrev S4x2048x6144 : Shape := ⟨3, ![4, 2048, 6144]⟩
abbrev S1024x6144 : Shape := ⟨2, ![1024, 6144]⟩
abbrev S128x8x6144 : Shape := ⟨3, ![128, 8, 6144]⟩
abbrev S128x4x6144 : Shape := ⟨3, ![128, 4, 6144]⟩
abbrev S_ : Shape := ⟨0, ![]⟩
abbrev S4x3x6144 : Shape := ⟨3, ![4, 3, 6144]⟩
abbrev S4x2051x6144 : Shape := ⟨3, ![4, 2051, 6144]⟩
abbrev S128x3x6144 : Shape := ⟨3, ![128, 3, 6144]⟩
abbrev S128x7x6144 : Shape := ⟨3, ![128, 7, 6144]⟩
abbrev S1x4x3x6144 : Shape := ⟨4, ![1, 4, 3, 6144]⟩

abbrev nBuf : Space → Nat
  | .hbm => 21
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S1x128x3x6144, .f32⟩
  | .hbm, ⟨3, _⟩ => ⟨S9216x4096, .f32⟩
  | .hbm, ⟨4, _⟩ => ⟨S4096x22592, .f32⟩
  | .hbm, ⟨5, _⟩ => ⟨S4096x6144, .f32⟩
  | .hbm, ⟨6, _⟩ => ⟨S9216x6144, .f32⟩
  | .hbm, ⟨7, _⟩ => ⟨S8192x6144, .f32⟩
  | .hbm, ⟨8, _⟩ => ⟨S4x2048x6144, .f32⟩
  | .hbm, ⟨9, _⟩ => ⟨S1024x6144, .f32⟩
  | .hbm, ⟨10, _⟩ => ⟨S128x8x6144, .f32⟩
  | .hbm, ⟨11, _⟩ => ⟨S128x4x6144, .f32⟩
  | .hbm, ⟨12, _⟩ => ⟨S_, .f32⟩
  | .hbm, ⟨13, _⟩ => ⟨S4x3x6144, .f32⟩
  | .hbm, ⟨14, _⟩ => ⟨S4x2051x6144, .f32⟩
  | .hbm, ⟨15, _⟩ => ⟨S128x3x6144, .f32⟩
  | .hbm, ⟨16, _⟩ => ⟨S128x7x6144, .f32⟩
  | .hbm, ⟨17, _⟩ => ⟨S4x3x6144, .f32⟩
  | .hbm, ⟨18, _⟩ => ⟨S1x4x3x6144, .f32⟩
  | .hbm, ⟨19, _⟩ => ⟨S128x3x6144, .f32⟩
  | .hbm, ⟨20, _⟩ => ⟨S1x128x3x6144, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== SsmConvState.lean ====
abbrev S9216x4096 : Shape := ⟨2, ![9216, 4096]⟩
abbrev S1x4096x22592 : Shape := ⟨3, ![1, 4096, 22592]⟩
abbrev S1x128x3x4096 : Shape := ⟨4, ![1, 128, 3, 4096]⟩
abbrev S4096x22592 : Shape := ⟨2, ![4096, 22592]⟩
abbrev S4096x6144 : Shape := ⟨2, ![4096, 6144]⟩
abbrev S9216x6144 : Shape := ⟨2, ![9216, 6144]⟩
abbrev S512x4096 : Shape := ⟨2, ![512, 4096]⟩
abbrev S4096x1024 : Shape := ⟨2, ![4096, 1024]⟩
abbrev S512x1024 : Shape := ⟨2, ![512, 1024]⟩
abbrev S8192x6144 : Shape := ⟨2, ![8192, 6144]⟩
abbrev S4x2048x6144 : Shape := ⟨3, ![4, 2048, 6144]⟩
abbrev S4x3x4096 : Shape := ⟨3, ![4, 3, 4096]⟩
abbrev S1x4x3x4096 : Shape := ⟨4, ![1, 4, 3, 4096]⟩
abbrev S128x3x4096 : Shape := ⟨3, ![128, 3, 4096]⟩
abbrev S1024x6144 : Shape := ⟨2, ![1024, 6144]⟩
abbrev S128x8x6144 : Shape := ⟨3, ![128, 8, 6144]⟩

abbrev nBuf : Space → Nat
  | .hbm => 16
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S1x128x3x4096, .f32⟩
  | .hbm, ⟨3, _⟩ => ⟨S4096x22592, .f32⟩
  | .hbm, ⟨4, _⟩ => ⟨S4096x6144, .f32⟩
  | .hbm, ⟨5, _⟩ => ⟨S4096x6144, .bf16⟩
  | .hbm, ⟨6, _⟩ => ⟨S9216x6144, .f32⟩
  | .hbm, ⟨7, _⟩ => ⟨S8192x6144, .f32⟩
  | .hbm, ⟨8, _⟩ => ⟨S4x2048x6144, .f32⟩
  | .hbm, ⟨9, _⟩ => ⟨S4x3x4096, .f32⟩
  | .hbm, ⟨10, _⟩ => ⟨S1x4x3x4096, .f32⟩
  | .hbm, ⟨11, _⟩ => ⟨S128x3x4096, .f32⟩
  | .hbm, ⟨12, _⟩ => ⟨S1024x6144, .f32⟩
  | .hbm, ⟨13, _⟩ => ⟨S128x8x6144, .f32⟩
  | .hbm, ⟨14, _⟩ => ⟨S128x3x4096, .f32⟩
  | .hbm, ⟨15, _⟩ => ⟨S1x128x3x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmConvStateRefIdeal.lean ====
abbrev S9216x4096 : Shape := ⟨2, ![9216, 4096]⟩
abbrev S1x4096x22592 : Shape := ⟨3, ![1, 4096, 22592]⟩
abbrev S1x128x3x4096 : Shape := ⟨4, ![1, 128, 3, 4096]⟩
abbrev S4096x22592 : Shape := ⟨2, ![4096, 22592]⟩
abbrev S4096x4096 : Shape := ⟨2, ![4096, 4096]⟩
abbrev S8192x4096 : Shape := ⟨2, ![8192, 4096]⟩
abbrev S4x2048x4096 : Shape := ⟨3, ![4, 2048, 4096]⟩
abbrev S1024x4096 : Shape := ⟨2, ![1024, 4096]⟩
abbrev S128x8x4096 : Shape := ⟨3, ![128, 8, 4096]⟩
abbrev S128x4x4096 : Shape := ⟨3, ![128, 4, 4096]⟩
abbrev S_ : Shape := ⟨0, ![]⟩
abbrev S4x3x4096 : Shape := ⟨3, ![4, 3, 4096]⟩
abbrev S4x2051x4096 : Shape := ⟨3, ![4, 2051, 4096]⟩
abbrev S128x3x4096 : Shape := ⟨3, ![128, 3, 4096]⟩
abbrev S128x7x4096 : Shape := ⟨3, ![128, 7, 4096]⟩
abbrev S1x4x3x4096 : Shape := ⟨4, ![1, 4, 3, 4096]⟩

abbrev nBuf : Space → Nat
  | .hbm => 21
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x22592, .f32⟩
  | .hbm, ⟨2, _⟩ => ⟨S1x128x3x4096, .f32⟩
  | .hbm, ⟨3, _⟩ => ⟨S9216x4096, .f32⟩
  | .hbm, ⟨4, _⟩ => ⟨S4096x22592, .f32⟩
  | .hbm, ⟨5, _⟩ => ⟨S4096x4096, .f32⟩
  | .hbm, ⟨6, _⟩ => ⟨S9216x4096, .f32⟩
  | .hbm, ⟨7, _⟩ => ⟨S8192x4096, .f32⟩
  | .hbm, ⟨8, _⟩ => ⟨S4x2048x4096, .f32⟩
  | .hbm, ⟨9, _⟩ => ⟨S1024x4096, .f32⟩
  | .hbm, ⟨10, _⟩ => ⟨S128x8x4096, .f32⟩
  | .hbm, ⟨11, _⟩ => ⟨S128x4x4096, .f32⟩
  | .hbm, ⟨12, _⟩ => ⟨S_, .f32⟩
  | .hbm, ⟨13, _⟩ => ⟨S4x3x4096, .f32⟩
  | .hbm, ⟨14, _⟩ => ⟨S4x2051x4096, .f32⟩
  | .hbm, ⟨15, _⟩ => ⟨S128x3x4096, .f32⟩
  | .hbm, ⟨16, _⟩ => ⟨S128x7x4096, .f32⟩
  | .hbm, ⟨17, _⟩ => ⟨S4x3x4096, .f32⟩
  | .hbm, ⟨18, _⟩ => ⟨S1x4x3x4096, .f32⟩
  | .hbm, ⟨19, _⟩ => ⟨S128x3x4096, .f32⟩
  | .hbm, ⟨20, _⟩ => ⟨S1x128x3x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== SsmConv.lean ====
abbrev S9216x6144 : Shape := ⟨2, ![9216, 6144]⟩
abbrev S1x4x4096 : Shape := ⟨3, ![1, 4, 4096]⟩
abbrev S1x4096 : Shape := ⟨2, ![1, 4096]⟩
abbrev S_ : Shape := ⟨0, ![]⟩
abbrev S4x3x4096 : Shape := ⟨3, ![4, 3, 4096]⟩
abbrev S4x4096 : Shape := ⟨2, ![4, 4096]⟩
abbrev S4096 : Shape := ⟨1, ![4096]⟩
abbrev S8192x4096 : Shape := ⟨2, ![8192, 4096]⟩
abbrev S512x512 : Shape := ⟨2, ![512, 512]⟩
abbrev S8x512 : Shape := ⟨2, ![8, 512]⟩
abbrev S1x3x512 : Shape := ⟨3, ![1, 3, 512]⟩
abbrev S4x512 : Shape := ⟨2, ![4, 512]⟩
abbrev S1x512 : Shape := ⟨2, ![1, 512]⟩
abbrev S520x512 : Shape := ⟨2, ![520, 512]⟩
abbrev S3x512 : Shape := ⟨2, ![3, 512]⟩

abbrev nBuf : Space → Nat
  | .hbm => 9
  | .vmem => 13
  | .smem => 0
  | _ => 0

abbrev bufTy : (tb : Table) → Fin (tcTables nBuf tb) → BufTy
  | .hbm, ⟨0, _⟩ => ⟨S9216x6144, .f32⟩
  | .hbm, ⟨1, _⟩ => ⟨S1x4x4096, .f32⟩
  | .hbm, ⟨2, _⟩ => ⟨S1x4096, .f32⟩
  | .hbm, ⟨3, _⟩ => ⟨S_, .f32⟩
  | .hbm, ⟨4, _⟩ => ⟨S4x3x4096, .f32⟩
  | .hbm, ⟨5, _⟩ => ⟨S4x4096, .f32⟩
  | .hbm, ⟨6, _⟩ => ⟨S4096, .f32⟩
  | .hbm, ⟨7, _⟩ => ⟨S1x4096, .f32⟩
  | .hbm, ⟨8, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S1x3x512, .f32⟩
  | .local _ .vmem, ⟨5, _⟩ => ⟨S1x3x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S520x512, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c4_i32_0 : BitVec 32 := 4#32
  let v3 : BitVec 32 := Scalar.addi c4_i32_0 arg2
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let c1_i32 : BitVec 32 := 1#32
  let v4 : BitVec 32 := Scalar.subi v3 c1_i32
  let c0_i32_0 : BitVec 32 := 0#32
  let v5 : BitVec 32 := Scalar.maxsi v4 c0_i32_0
  let c4_i32_1 : BitVec 32 := 4#32
  let v6 : BitVec 32 := Scalar.addi c4_i32_1 arg2
  let c0_i32_2 : BitVec 32 := 0#32
  ![v5.toNat, v6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SsmConvRefIdeal.lean ====
abbrev S9216x6144 : Shape := ⟨2, ![9216, 6144]⟩
abbrev S1x4x4096 : Shape := ⟨3, ![1, 4, 4096]⟩
abbrev S1x4096 : Shape := ⟨2, ![1, 4096]⟩
abbrev S8192x4096 : Shape := ⟨2, ![8192, 4096]⟩
abbrev S4x2048x4096 : Shape := ⟨3, ![4, 2048, 4096]⟩
abbrev S_ : Shape := ⟨0, ![]⟩
abbrev S4x3x4096 : Shape := ⟨3, ![4, 3, 4096]⟩
abbrev S4x2051x4096 : Shape := ⟨3, ![4, 2051, 4096]⟩
abbrev S4x4096 : Shape := ⟨2, ![4, 4096]⟩
abbrev S4096 : Shape := ⟨1, ![4096]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S1x4x4096, .f32⟩
  | .hbm, ⟨2, _⟩ => ⟨S1x4096, .f32⟩
  | .hbm, ⟨3, _⟩ => ⟨S8192x4096, .f32⟩
  | .hbm, ⟨4, _⟩ => ⟨S4x2048x4096, .f32⟩
  | .hbm, ⟨5, _⟩ => ⟨S_, .f32⟩
  | .hbm, ⟨6, _⟩ => ⟨S4x3x4096, .f32⟩
  | .hbm, ⟨7, _⟩ => ⟨S4x2051x4096, .f32⟩
  | .hbm, ⟨8, _⟩ => ⟨S4x2048x4096, .f32⟩
  | .hbm, ⟨9, _⟩ => ⟨S4x4096, .f32⟩
  | .hbm, ⟨10, _⟩ => ⟨S1x4096, .f32⟩
  | .hbm, ⟨11, _⟩ => ⟨S4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x4096, .f32⟩
  | .hbm, ⟨20, _⟩ => ⟨S1x4096, .f32⟩
  | .hbm, ⟨21, _⟩ => ⟨S4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x4096, .f32⟩
  | .hbm, ⟨28, _⟩ => ⟨S1x4096, .f32⟩
  | .hbm, ⟨29, _⟩ => ⟨S4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | .hbm, ⟨46, _⟩ => ⟨S4x2048x4096, .f32⟩
  | .hbm, ⟨47, _⟩ => ⟨S4x2048x4096, .f32⟩
  | .hbm, ⟨48, _⟩ => ⟨S_, .f32⟩
  | .hbm, ⟨49, _⟩ => ⟨S4x2048x4096, .f32⟩
  | .hbm, ⟨50, _⟩ => ⟨S4x2048x4096, .f32⟩
  | .hbm, ⟨51, _⟩ => ⟨S_, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S8192x4096, .f32⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== CrossAttention.lean ====
abbrev S9216x1024 : Shape := ⟨2, ![9216, 1024]⟩
abbrev S4x256x4x256 : Shape := ⟨4, ![4, 256, 4, 256]⟩
abbrev S4x256x1024 : Shape := ⟨3, ![4, 256, 1024]⟩
abbrev S8192x1024 : Shape := ⟨2, ![8192, 1024]⟩
abbrev S512x1024 : Shape := ⟨2, ![512, 1024]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S4x256x4x256, .f32⟩
  | .hbm, ⟨2, _⟩ => ⟨S4x256x4x256, .f32⟩
  | .hbm, ⟨3, _⟩ => ⟨S4x256x1024, .f32⟩
  | .hbm, ⟨4, _⟩ => ⟨S4x256x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossAttentionRefIdeal.lean ====
abbrev S9216x1024 : Shape := ⟨2, ![9216, 1024]⟩
abbrev S4x256x4x256 : Shape := ⟨4, ![4, 256, 4, 256]⟩
abbrev S8192x1024 : Shape := ⟨2, ![8192, 1024]⟩
abbrev S4x2048x4x256 : Shape := ⟨4, ![4, 2048, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S4x256x4x256, .f32⟩
  | .hbm, ⟨2, _⟩ => ⟨S4x256x4x256, .f32⟩
  | .hbm, ⟨3, _⟩ => ⟨S8192x1024, .f32⟩
  | .hbm, ⟨4, _⟩ => ⟨S4x2048x4x256, .f32⟩
  | .hbm, ⟨5, _⟩ => ⟨S4x4x2048x256, .f32⟩
  | .hbm, ⟨6, _⟩ => ⟨S_, .f32⟩
  | .hbm, ⟨7, _⟩ => ⟨S4x4x2048x256, .f32⟩
  | .hbm, ⟨8, _⟩ => ⟨S4x4x2048x256, .f32⟩
  | .hbm, ⟨9, _⟩ => ⟨S_, .f32⟩
  | .hbm, ⟨10, _⟩ => ⟨S4x4x2048, .f32⟩
  | .hbm, ⟨11, _⟩ => ⟨S_, .f32⟩
  | .hbm, ⟨12, _⟩ => ⟨S4x4x2048, .f32⟩
  | .hbm, ⟨13, _⟩ => ⟨S4x4x2048, .f32⟩
  | .hbm, ⟨14, _⟩ => ⟨S4x4x2048x1, .f32⟩
  | .hbm, ⟨15, _⟩ => ⟨S4x4x2048x256, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x256x2048, .f32⟩
  | .hbm, ⟨24, _⟩ => ⟨S4x2048x4x256, .f32⟩
  | .hbm, ⟨25, _⟩ => ⟨S8192x1024, .f32⟩
  | .hbm, ⟨26, _⟩ => ⟨S8192x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.SsdSpec.lean ====
/- The recurrence on the extended reals. -/
module
public import Idealize.ShloMosaic.Lib.Pipeline.ValueKit
@[expose] public section
noncomputable section
open Idealize.ShloMosaic
namespace Cert.SsdProduct

/-! The state-space recurrence of one layer on the extended reals, as both programs compute it: chunks of
64 rows, a decay `gc` that sums the step sizes of a chunk, a state carried from chunk to chunk. -/

/-- The softplus as both programs write it: `max v 0 + log (1 + exp (-|v|))`. -/
def splus (v : EReal) : EReal := max v 0 + Ideal.log1p (Ideal.exp (-(max v (-v))))

/-- The exponential is never negative. -/
theorem exp_nonneg' (x : EReal) : 0 ≤ Ideal.exp x := by
  induction x with
  | bot => exact le_of_eq rfl
  | top => exact le_top
  | coe r => exact EReal.coe_nonneg.mpr (Real.exp_nonneg r)

/-- `log (1 + x)` is not negative at an `x` that is not. -/
theorem log1p_nonneg {x : EReal} (hx : 0 ≤ x) : 0 ≤ Ideal.log1p x := by
  induction x with
  | bot => exact absurd hx (by simp)
  | top => exact (le_top : (0 : EReal) ≤ ⊤)
  | coe r =>
    have hr : 0 ≤ r := EReal.coe_nonneg.mp hx
    have h1 : (1 : EReal) + (r : EReal) = ((1 + r : ℝ) : EReal) := by norm_cast
    have h2 : ¬ (1 + r ≤ 0) := by linarith
    have h3 : Ideal.log ((1 + r : ℝ) : EReal) = ((Real.log (1 + r) : ℝ) : EReal) := by
      show (if 1 + r ≤ 0 then (⊥ : EReal) else _) = _
      rw [if_neg h2]
    rw [Ideal.log1p, h1, h3]
    exact EReal.coe_nonneg.mpr (Real.log_nonneg (by linarith))

/-- The softplus is not negative. -/
theorem splus_nonneg (v : EReal) : 0 ≤ splus v :=
  add_nonneg (le_max_right _ _) (log1p_nonneg (exp_nonneg' _))

/-- A step size times the negated rate is at most zero. -/
theorem decay_nonpos {d e : EReal} (hd : 0 ≤ d) (he : 0 ≤ e) : d * (0 - e) ≤ 0 := by
  rw [zero_sub, mul_neg]
  rw [EReal.neg_le, neg_zero]
  exact mul_nonneg hd he

/-- A sum of two terms none of which is `⊤`. -/
theorem sum_bot {ι : Type*} [DecidableEq ι] (S : Finset ι) (f : ι → EReal) (i : ι) (hi : i ∈ S) (h : f i = ⊥) : ∑ j ∈ S, f j = ⊥ := by
  rw [← Finset.add_sum_erase S f hi, h, EReal.bot_add]

/-- The kernel sums a decay in three parts: the value, what its first rounding lost, and what the second
lost. Where no summand is `⊤` the last two add nothing. -/
theorem three_parts (f : Fin 64 → EReal) (p : Fin 64 → Prop) [DecidablePred p] (hf : ∀ s, f s ≤ 0) :
    (∑ s, if p s then f s else 0) + (∑ s, if p s then f s - f s else 0)
        + (∑ s, if p s then (f s - f s) - (f s - f s) else 0) = ∑ s, if p s then f s else 0 := by
  by_cases hb : ∃ s, p s ∧ f s = ⊥
  · obtain ⟨s, hp, hs⟩ := hb
    have : (∑ s, if p s then f s else 0) = (⊥ : EReal) :=
      sum_bot _ _ s (Finset.mem_univ s) (by rw [if_pos hp, hs])
    rw [this, EReal.bot_add, EReal.bot_add]
  · have hz : ∀ s, p s → f s - f s = 0 := fun s hp =>
      EReal.sub_self (fun h => by have := hf s; rw [h] at this; exact absurd this (by simp)) (fun h => hb ⟨s, hp, h⟩)
    have h2 : (∑ s, if p s then f s - f s else 0) = (0 : EReal) :=
      Finset.sum_eq_zero fun s _ => by split_ifs with h; exacts [hz s h, rfl]
    have h3 : (∑ s, if p s then (f s - f s) - (f s - f s) else 0) = (0 : EReal) :=
      Finset.sum_eq_zero fun s _ => by
        split_ifs with h
        · rw [hz s h, sub_zero]
        · rfl
    rw [h2, h3, add_zero, add_zero]

/-- The head a row of a group's state belongs to: 32 heads, four to a group, 64 rows each. -/
def head (g : Fin 8) (w : Fin 256) : Fin 32 := ⟨4 * g.val + w.val / 64, by omega⟩
/-- Lane `w` of group `g` among the 2048 channels. -/
def chan (g : Fin 8) (w : Fin 256) : Fin 2048 := ⟨256 * g.val + w.val, by omega⟩
/-- State column `n` of group `g` among the 1024 columns of `B` and `C`. -/
def scol (g : Fin 8) (n : Fin 128) : Fin 1024 := ⟨128 * g.val + n.val, by omega⟩

/-- One chunk's decay: the sum of the step sizes up to row `t`, times the negated rate. -/
def decay (d : Fin 64 → EReal) (a : EReal) (t : Fin 64) : EReal := ∑ s : Fin 64, if s ≤ t then d s * -(Ideal.exp a) else 0

/-- The state after a chunk, from the state before it. -/
def next (dt gc : Fin 64 → Fin 32 → EReal) (x : Fin 64 → Fin 2048 → EReal) (b : Fin 64 → Fin 1024 → EReal)
    (h : Fin 8 → Fin 256 → Fin 128 → EReal) (g : Fin 8) (w : Fin 256) (n : Fin 128) : EReal :=
  Ideal.exp (gc 63 (head g w)) * h g w n
    + ∑ s : Fin 64, x s (chan g w) * dt s (head g w) * Ideal.exp (gc 63 (head g w) - gc s (head g w)) * b s (scol g n)

/-- What a chunk's row reads: from the rows of its own chunk, and from the state before the chunk. -/
def reads (dt gc : Fin 64 → Fin 32 → EReal) (x : Fin 64 → Fin 2048 → EReal) (b cc : Fin 64 → Fin 1024 → EReal)
    (h : Fin 8 → Fin 256 → Fin 128 → EReal) (t : Fin 64) (g : Fin 8) (w : Fin 256) : EReal :=
  (∑ s : Fin 64, x s (chan g w) * dt s (head g w)
      * ((∑ n : Fin 128, cc t (scol g n) * b s (scol g n))
          * Ideal.exp (if s ≤ t then gc t (head g w) - gc s (head g w) else ⊥)))
    + (∑ n : Fin 128, h g w n * cc t (scol g n)) * Ideal.exp (gc t (head g w))

/-- The row with its skip term, gated. -/
def gated (y d x z : EReal) : EReal := (y + d * x) * (z * Ideal.div 1 (1 + Ideal.exp (-z)))

/-- The group of a channel, and its lane in the group. -/
def grp (l : Fin 2048) : Fin 8 := ⟨l.val / 256, by omega⟩
/-- The lane of a channel in its group. -/
def lane (l : Fin 2048) : Fin 256 := ⟨l.val % 256, by omega⟩

section
variable (cs : Fin 8192 → Fin 4096 → EReal) (zz : Fin 8192 → Fin 2048 → EReal) (db : Fin 8192 → Fin 32 → EReal)
  (al bi sk : Fin 32 → EReal) (ga : Fin 2048 → EReal)

/-- Row `s` of chunk `k` of sequence `b`. -/
def row (b : Fin 4) (k : ℕ) (s : Fin 64) : Fin 8192 := ⟨(2048 * b.val + 64 * k + s.val) % 8192, Nat.mod_lt _ (by norm_num)⟩
/-- The step sizes of a chunk. -/
def dtc (b : Fin 4) (k : ℕ) (s : Fin 64) (q : Fin 32) : EReal := splus (db (row b k s) q + bi q)
/-- The decay of a chunk. -/
def gcc (b : Fin 4) (k : ℕ) (t : Fin 64) (q : Fin 32) : EReal := decay (fun s => dtc db bi b k s q) (al q) t
/-- The channels, and the `B` and `C` columns, of a chunk. -/
def xc (b : Fin 4) (k : ℕ) (s : Fin 64) (l : Fin 2048) : EReal := cs (row b k s) ⟨l.val, by omega⟩
/-- The `B` columns of a chunk. -/
def bc (b : Fin 4) (k : ℕ) (s : Fin 64) (l : Fin 1024) : EReal := cs (row b k s) ⟨2048 + l.val, by omega⟩
/-- The `C` columns of a chunk. -/
def cc (b : Fin 4) (k : ℕ) (s : Fin 64) (l : Fin 1024) : EReal := cs (row b k s) ⟨3072 + l.val, by omega⟩

/-- The state of sequence `b` before chunk `k`. -/
def state (b : Fin 4) : ℕ → Fin 8 → Fin 256 → Fin 128 → EReal
  | 0 => fun _ _ _ => 0
  | k + 1 => next (dtc db bi b k) (gcc db al bi b k) (xc cs b k) (bc cs b k) (state b k)

/-- What row `t` of chunk `k` reads. -/
def yrow (b : Fin 4) (k : ℕ) (t : Fin 64) (g : Fin 8) (w : Fin 256) : EReal :=
  reads (dtc db bi b k) (gcc db al bi b k) (xc cs b k) (bc cs b k) (cc cs b k) (state cs db al bi b k) t g w

/-- The gated row of channel `l`. -/
def grow (b : Fin 4) (k : ℕ) (t : Fin 64) (l : Fin 2048) : EReal :=
  gated (yrow cs db al bi b k t (grp l) (lane l)) (sk (head (grp l) (lane l))) (xc cs b k t l) (zz (row b k t) l)

/-- The mean-square normalisation of a row, times the gain. -/
def normed (v : Fin 2048 → EReal) (gain : Fin 2048 → EReal) (l : Fin 2048) : EReal :=
  v l * Ideal.rsqrt (Ideal.div (∑ j : Fin 2048, v j * v j) ((FloatOps.ofBits .f32 0x45000000#32 : Ideal .f32)) + (FloatOps.ofBits .f32 0x358637BD#32 : Ideal .f32)) * gain l

/-- The layer's first result. -/
def out (b : Fin 4) (k : ℕ) (t : Fin 64) (l : Fin 2048) : EReal := normed (grow cs zz db al bi sk b k t) ga l
end
end Cert.SsdProduct
-- ==== Proof.SsdState.lean ====
/- The kernel's state after a chunk, group by group. -/
module
public import proofs.«01_k».proof.Proof.Gen.SsdIdeal.Frame
public import proofs.«01_k».proof.Proof.SsdSpec
public import Idealize.ShloMosaic.Lib.Pipeline.ReadBack
@[expose] public section
set_option maxRecDepth 16384
noncomputable section
open Idealize.ShloMosaic Idealize.ShloMosaic.TcCoe
namespace Cert.SsdProduct
open Cert.SsdIdeal Cert.SsdIdeal.Gen
variable (m : (ℓ : Loc nD τ sig) → Buf (Elt Ideal) ℓ)

/-- The lane of the step-size block that holds head `q`. -/
def hcol (q : Fin 32) : Fin 128 := ⟨32 + q.val, by omega⟩

/-- The step sizes and the decay, read at the heads' lanes. -/
def heads (v : FVec Ideal S64x128 .f32) (s : Fin 64) (q : Fin 32) : EReal := v (ix2 s (hcol q))
/-- A block of channels, as a function of row and channel. -/
def wide (v : FVec Ideal S64x2048 .f32) (s : Fin 64) (l : Fin 2048) : EReal := v (ix2 s l)
/-- A block of `B` or `C` columns, as a function of row and column. -/
def narrow (v : FVec Ideal S64x1024 .f32) (s : Fin 64) (l : Fin 1024) : EReal := v (ix2 s l)
/-- A state, as a function of group, lane and column. -/
def cube (v : FVec Ideal S8x256x128 .f32) (g : Fin 8) (w : Fin 256) (n : Fin 128) : EReal := v (ix3 g w n)

/-- The kernel's test of the head of a lane. -/
theorem lane_test : ∀ (l : Fin 256) (k : Fin 4), IntOp.cmpi CmpIPredicate.eq (IntOp.shrsi ArithUnit.vector (BitVec.ofNat 32 l.val) 6#32)
    (BitVec.ofNat 32 k.val) = if l.val / 64 = k.val then 1#1 else 0#1 := by decide +kernel

/-- Choosing among a group's four heads picks the column of the lane's own head. -/
theorem pick {α : Type} (F : Fin 32 → α) (g : Fin 8) (l : Fin 256) (e : α) :
    F (head g l) = Scalar.select (IntOp.cmpi CmpIPredicate.eq (IntOp.shrsi ArithUnit.vector (BitVec.ofNat 32 l.val) 6#32) 3#32) (F ⟨4 * g.val + 3, by omega⟩)
      (Scalar.select (IntOp.cmpi CmpIPredicate.eq (IntOp.shrsi ArithUnit.vector (BitVec.ofNat 32 l.val) 6#32) 2#32) (F ⟨4 * g.val + 2, by omega⟩)
        (Scalar.select (IntOp.cmpi CmpIPredicate.eq (IntOp.shrsi ArithUnit.vector (BitVec.ofNat 32 l.val) 6#32) 1#32) (F ⟨4 * g.val + 1, by omega⟩)
          (Scalar.select (IntOp.cmpi CmpIPredicate.eq (IntOp.shrsi ArithUnit.vector (BitVec.ofNat 32 l.val) 6#32) 0#32) (F ⟨4 * g.val + 0, by omega⟩) e))) := by
  have e3 : IntOp.cmpi CmpIPredicate.eq (IntOp.shrsi ArithUnit.vector (BitVec.ofNat 32 l.val) 6#32) 3#32 = if l.val / 64 = 3 then 1#1 else 0#1 := lane_test l 3
  have e2 : IntOp.cmpi CmpIPredicate.eq (IntOp.shrsi ArithUnit.vector (BitVec.ofNat 32 l.val) 6#32) 2#32 = if l.val / 64 = 2 then 1#1 else 0#1 := lane_test l 2
  have e1 : IntOp.cmpi CmpIPredicate.eq (IntOp.shrsi ArithUnit.vector (BitVec.ofNat 32 l.val) 6#32) 1#32 = if l.val / 64 = 1 then 1#1 else 0#1 := lane_test l 1
  have e0 : IntOp.cmpi CmpIPredicate.eq (IntOp.shrsi ArithUnit.vector (BitVec.ofNat 32 l.val) 6#32) 0#32 = if l.val / 64 = 0 then 1#1 else 0#1 := lane_test l 0
  rw [e3, e2, e1, e0]
  unfold head
  rcases (by omega : l.val / 64 = 0 ∨ l.val / 64 = 1 ∨ l.val / 64 = 2 ∨ l.val / 64 = 3) with h | h | h | h <;>
    simp [h, Scalar.select]

/-- The group a tile of one group's state belongs to. -/
theorem group_of {g : Fin 8} {k i : ℕ} (hk : k < 8) (h : g.val = k + i) (hi : i < 1) : g = ⟨k, hk⟩ :=
  Fin.ext (show g.val = k by omega)
/-- A group below 1 is the first. -/
theorem first_group {g : Fin 8} {i : ℕ} (h : g.val = i) (hi : i < 1) : g = ⟨0, by decide⟩ := Fin.ext (show g.val = 0 by omega)

/-- A sum and a decayed state of the kernel's form are the next state. -/
theorem next_of (dt gc : FVec Ideal S64x128 .f32) (X : FVec Ideal S64x2048 .f32) (B : FVec Ideal S64x1024 .f32) (h : Fin 8 → Fin 256 → Fin 128 → EReal)
    (g : Fin 8) (w : Fin 256) (n : Fin 128) {a hv : EReal} {x d e b : Fin 64 → EReal}
    (ha : a = Ideal.exp (heads gc 63 (head g w))) (hh : hv = h g w n)
    (hx : ∀ s, x s = X (ix2 s (chan g w))) (hd : ∀ s, d s = heads dt s (head g w))
    (he : ∀ s, e s = Ideal.exp (heads gc 63 (head g w) - heads gc s (head g w))) (hb : ∀ s, b s = B (ix2 s (scol g n))) :
    a * hv + ∑ s, x s * d s * e s * b s = next (heads dt) (heads gc) (wide X) (narrow B) h g w n := by
  rw [ha, hh]
  exact Ideal.add_congr rfl (Finset.sum_congr rfl fun s _ => by rw [hx, hd, he, hb]; rfl)

/-- An index that some later store covers does not see the first store. -/
theorem canon_last {s : Shape} {e : EltTy} (L : List (View.Piece (Elt Ideal) s e)) (q : View.Piece (Elt Ideal) s e) (y : s.Idx)
    (hc : ∃ p ∈ L, y ∈ p.1.set) : View.canon (L ++ [q]) y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ [q]) x).trans (View.canon_cons_emb p.1 p.2 L x).symm
    · rw [List.cons_append, View.canon_cons_of_not_mem _ _ hm, View.canon_cons_of_not_mem _ _ hm]
      obtain ⟨r, hr, hy⟩ := hc
      rcases List.mem_cons.mp hr with rfl | hr'
      · exact absurd hy hm
      · exact ih ⟨r, hr', hy⟩

set_option maxHeartbeats 4000000 in
/-- At a point that is first of its sequence, the scratch is the next state. -/
theorem state_A (c : Dev nD) (t : Fin cfg0.N) (h0 : t.val % 32 = 0) (h1 : ¬t.val % 32 = 31) (g : Fin 8) (w : Fin 256) (n : Fin 128) :
    (outsAt0 m c t.val t.isLt).2.2 (ix3 g w n) = next (heads (k0_pay4 (iblk m c 4 t) (iblk m c 6 t))) (heads (k0_pay5 (iblk m c 4 t) (iblk m c 6 t)))
      (wide (iblk m c 0 t)) (narrow (iblk m c 1 t)) (fun g w n => iblk m c 5 t (ix4 0 g w n)) g w n := by
  rw [outsAt0_A m c t h0 h1]
  frame_open
  simp (disch := decide) only [↓ View.readCov_skip, ↓ View.readCov_cons_toLoadRect, ↓ View.readCov_fill]
  frame_out
  refine (canon_last [_, _, _, _, _, _, _, _] _ _ (View.cover_of_tiled_head _ _ _ rfl _)).trans ?_
  generalize hq : iblk m c 5 t = h5
  generalize k0_pay4 (iblk m c 4 t) (iblk m c 6 t) = dt
  generalize k0_pay5 (iblk m c 4 t) (iblk m c 6 t) = gc
  generalize iblk m c 0 t = X
  generalize iblk m c 1 t = B
  clear h0 h1 hq
  canon_tiles x h
  all_goals
    replace h0 : g.val = _ := h0
    replace h1 : w.val = _ := h1
    replace h2 : n.val = _ := h2
    obtain rfl : w = x 1 := Fin.ext h1
    obtain rfl : n = x 2 := Fin.ext h2
    first
      | obtain rfl := group_of (by decide) h0 x0_lt
      | obtain rfl := first_group h0 x0_lt
    open_payloads
    pointwise
    refine next_of dt gc X B (fun g w n => h5 (ix4 0 g w n)) _ _ _ (Eq.symm (pick (fun q => Ideal.exp (heads gc 63 q)) _ (x 1) _)) ?_
      (fun s => congrArg (fun z => X (ix2 s z)) (Fin.ext (by simp [chan])))
      (fun s => Eq.symm (pick (fun q => heads dt s q) _ (x 1) _))
      (fun s => Eq.symm (pick (fun q => Ideal.exp (heads gc 63 q - heads gc s q)) _ (x 1) _))
      (fun s => congrArg (fun z => B (ix2 s z)) (Fin.ext (by simp [scol])))
    rfl

set_option maxHeartbeats 4000000 in
/-- At a point that is neither first nor last of its sequence, the scratch is the next state. -/
theorem state_B (c : Dev nD) (t : Fin cfg0.N) (h0 : ¬t.val % 32 = 0) (h1 : ¬t.val % 32 = 31) (g : Fin 8) (w : Fin 256) (n : Fin 128) :
    (outsAt0 m c t.val t.isLt).2.2 (ix3 g w n) = next (heads (k0_pay4 (iblk m c 4 t) (iblk m c 6 t))) (heads (k0_pay5 (iblk m c 4 t) (iblk m c 6 t)))
      (wide (iblk m c 0 t)) (narrow (iblk m c 1 t)) (cube (outsAt0 m c (t.val - 1) (by omega)).2.2) g w n := by
  rw [outsAt0_B m c t h0 h1]
  frame_out
  generalize (outsAt0 m c (t.val - 1) (by omega)).2.2 = hp
  generalize k0_pay4 (iblk m c 4 t) (iblk m c 6 t) = dt
  generalize k0_pay5 (iblk m c 4 t) (iblk m c 6 t) = gc
  generalize iblk m c 0 t = X
  generalize iblk m c 1 t = B
  clear h0 h1
  canon_tiles x h
  all_goals
    replace h0 : g.val = _ := h0
    replace h1 : w.val = _ := h1
    replace h2 : n.val = _ := h2
    obtain rfl : w = x 1 := Fin.ext h1
    obtain rfl : n = x 2 := Fin.ext h2
    first
      | obtain rfl := group_of (by decide) h0 x0_lt
      | obtain rfl := first_group h0 x0_lt
    open_payloads
    pointwise
    refine next_of dt gc X B (cube hp) _ _ _ (Eq.symm (pick (fun q => Ideal.exp (heads gc 63 q)) _ (x 1) _)) ?_
      (fun s => congrArg (fun z => X (ix2 s z)) (Fin.ext (by simp [chan])))
      (fun s => Eq.symm (pick (fun q => heads dt s q) _ (x 1) _))
      (fun s => Eq.symm (pick (fun q => Ideal.exp (heads gc 63 q - heads gc s q)) _ (x 1) _))
      (fun s => congrArg (fun z => B (ix2 s z)) (Fin.ext (by simp [scol])))
    exact congrFun (read_unread_whole _ _ _) _

set_option maxHeartbeats 4000000 in
/-- At a point that is last of its sequence, the scratch is the next state. -/
theorem state_C (c : Dev nD) (t : Fin cfg0.N) (h0 : ¬t.val % 32 = 0) (h1 : t.val % 32 = 31) (g : Fin 8) (w : Fin 256) (n : Fin 128) :
    (outsAt0 m c t.val t.isLt).2.2 (ix3 g w n) = next (heads (k0_pay4 (iblk m c 4 t) (iblk m c 6 t))) (heads (k0_pay5 (iblk m c 4 t) (iblk m c 6 t)))
      (wide (iblk m c 0 t)) (narrow (iblk m c 1 t)) (cube (outsAt0 m c (t.val - 1) (by omega)).2.2) g w n := by
  rw [outsAt0_C m c t h0 h1]
  frame_out
  generalize (outsAt0 m c (t.val - 1) (by omega)).2.2 = hp
  generalize k0_pay4 (iblk m c 4 t) (iblk m c 6 t) = dt
  generalize k0_pay5 (iblk m c 4 t) (iblk m c 6 t) = gc
  generalize iblk m c 0 t = X
  generalize iblk m c 1 t = B
  clear h0 h1
  canon_tiles x h
  all_goals
    replace h0 : g.val = _ := h0
    replace h1 : w.val = _ := h1
    replace h2 : n.val = _ := h2
    obtain rfl : w = x 1 := Fin.ext h1
    obtain rfl : n = x 2 := Fin.ext h2
    first
      | obtain rfl := group_of (by decide) h0 x0_lt
      | obtain rfl := first_group h0 x0_lt
    open_payloads
    pointwise
    refine next_of dt gc X B (cube hp) _ _ _ (Eq.symm (pick (fun q => Ideal.exp (heads gc 63 q)) _ (x 1) _)) ?_
      (fun s => congrArg (fun z => X (ix2 s z)) (Fin.ext (by simp [chan])))
      (fun s => Eq.symm (pick (fun q => heads dt s q) _ (x 1) _))
      (fun s => Eq.symm (pick (fun q => Ideal.exp (heads gc 63 q - heads gc s q)) _ (x 1) _))
      (fun s => congrArg (fun z => B (ix2 s z)) (Fin.ext (by simp [scol])))
    exact congrFun (read_unread_whole _ _ _) _
end Cert.SsdProduct
-- ==== Proof.SsdOut.lean ====
/- The kernel's row block: the recurrence's rows, gated and normalised, group by group. -/
module
public import proofs.«01_k».proof.Proof.SsdState
@[expose] public section
set_option maxRecDepth 16384
noncomputable section
open Idealize.ShloMosaic Idealize.ShloMosaic.TcCoe
namespace Cert.SsdProduct
open Cert.SsdIdeal Cert.SsdIdeal.Gen
variable (m : (ℓ : Loc nD τ sig) → Buf (Elt Ideal) ℓ)

/-- The kernel's last step on a block of rows: the mean-square normalisation and the gain. -/
theorem norm_at (Y : FVec Ideal S64x2048 .f32) (ga : FVec Ideal S1x2048 .f32) (t : Fin 64) (l : Fin 2048) :
    k0_pay272 (F := Ideal) Y ga (ix2 t l) = normed (fun j => Y (ix2 t j)) (fun j => ga (ix2 0 j)) l := by
  open_payloads
  pointwise
  rfl

/-- The kernel's test that row `s` is not after row `t`. -/
theorem row_test : ∀ t s : Fin 64, IntOp.cmpi CmpIPredicate.sge (BitVec.ofNat 32 t.val) (BitVec.ofNat 32 s.val) = if s ≤ t then 1#1 else 0#1 := by
  decide +kernel

/-- The masked decay between two rows of a chunk, the mask's constant read as `⊥`. -/
theorem masked (F : Fin 64 → EReal) (t s : Fin 64) :
    Ideal.exp (if s ≤ t then F t - F s else ⊥)
      = Ideal.exp (Scalar.select (IntOp.cmpi CmpIPredicate.sge (BitVec.ofNat 32 t.val) (BitVec.ofNat 32 s.val)) (F t - F s) (Named.named (F := Ideal) κ "mask" (φ := .f32) 0xF149F2CA#32)) := by
  rw [row_test, IdealRules.named_const.ideal_named_scalar _ _ _ _ rfl]
  by_cases h : s ≤ t <;> simp [h, Scalar.select]

/-- A sum over the four heads of a group, each masked to its own lanes, is the lane's own head's. -/
theorem own_head (l : Fin 256) (y : EReal) {T0 T1 T2 T3 : Fin 64 → EReal} (U : Fin 64 → EReal)
    (h0 : l.val / 64 = 0 → ∀ s, T0 s = U s) (h1 : l.val / 64 = 1 → ∀ s, T1 s = U s)
    (h2 : l.val / 64 = 2 → ∀ s, T2 s = U s) (h3 : l.val / 64 = 3 → ∀ s, T3 s = U s) :
    (((y + ∑ s, Scalar.select (IntOp.cmpi CmpIPredicate.eq (IntOp.shrsi ArithUnit.vector (BitVec.ofNat 32 l.val) 6#32) 0#32) (T0 s) 0)
        + ∑ s, Scalar.select (IntOp.cmpi CmpIPredicate.eq (IntOp.shrsi ArithUnit.vector (BitVec.ofNat 32 l.val) 6#32) 1#32) (T1 s) 0)
        + ∑ s, Scalar.select (IntOp.cmpi CmpIPredicate.eq (IntOp.shrsi ArithUnit.vector (BitVec.ofNat 32 l.val) 6#32) 2#32) (T2 s) 0)
        + ∑ s, Scalar.select (IntOp.cmpi CmpIPredicate.eq (IntOp.shrsi ArithUnit.vector (BitVec.ofNat 32 l.val) 6#32) 3#32) (T3 s) 0
      = y + ∑ s, U s := by
  have e3 : IntOp.cmpi CmpIPredicate.eq (IntOp.shrsi ArithUnit.vector (BitVec.ofNat 32 l.val) 6#32) 3#32 = if l.val / 64 = 3 then 1#1 else 0#1 := lane_test l 3
  have e2 : IntOp.cmpi CmpIPredicate.eq (IntOp.shrsi ArithUnit.vector (BitVec.ofNat 32 l.val) 6#32) 2#32 = if l.val / 64 = 2 then 1#1 else 0#1 := lane_test l 2
  have e1 : IntOp.cmpi CmpIPredicate.eq (IntOp.shrsi ArithUnit.vector (BitVec.ofNat 32 l.val) 6#32) 1#32 = if l.val / 64 = 1 then 1#1 else 0#1 := lane_test l 1
  have e0 : IntOp.cmpi CmpIPredicate.eq (IntOp.shrsi ArithUnit.vector (BitVec.ofNat 32 l.val) 6#32) 0#32 = if l.val / 64 = 0 then 1#1 else 0#1 := lane_test l 0
  rw [e3, e2, e1, e0]
  rcases (by omega : l.val / 64 = 0 ∨ l.val / 64 = 1 ∨ l.val / 64 = 2 ∨ l.val / 64 = 3) with h | h | h | h
  · simp [h, Scalar.select, h0 h]
  · simp [h, Scalar.select, h1 h]
  · simp [h, Scalar.select, h2 h]
  · simp [h, Scalar.select, h3 h]

/-- Row `t` of group `g` in the kernel's form is the gated row. -/
theorem gated_of (dt gc : FVec Ideal S64x128 .f32) (X : FVec Ideal S64x2048 .f32) (B C : FVec Ideal S64x1024 .f32)
    (h : Fin 8 → Fin 256 → Fin 128 → EReal) (t : Fin 64) (g : Fin 8) (w : Fin 256) {d xj z e p x' z' : EReal}
    {cn hn : Fin 128 → EReal} {bn : Fin 64 → Fin 128 → EReal} {xs D E0 E1 E2 E3 : Fin 64 → EReal}
    (hc : ∀ n, cn n = narrow C t (scol g n)) (hh : ∀ n, hn n = h g w n) (he : e = Ideal.exp (heads gc t (head g w)))
    (hp : p = d) (hx : x' = xj) (hz : z' = z) (hb : ∀ s n, bn s n = narrow B s (scol g n)) (hxs : ∀ s, xs s = wide X s (chan g w))
    (hD : ∀ s, D s = heads dt s (head g w))
    (h0 : ∀ s, E0 s = Ideal.exp (if s ≤ t then heads gc t ⟨4 * g.val + 0, by omega⟩ - heads gc s ⟨4 * g.val + 0, by omega⟩ else ⊥))
    (h1 : ∀ s, E1 s = Ideal.exp (if s ≤ t then heads gc t ⟨4 * g.val + 1, by omega⟩ - heads gc s ⟨4 * g.val + 1, by omega⟩ else ⊥))
    (h2 : ∀ s, E2 s = Ideal.exp (if s ≤ t then heads gc t ⟨4 * g.val + 2, by omega⟩ - heads gc s ⟨4 * g.val + 2, by omega⟩ else ⊥))
    (h3 : ∀ s, E3 s = Ideal.exp (if s ≤ t then heads gc t ⟨4 * g.val + 3, by omega⟩ - heads gc s ⟨4 * g.val + 3, by omega⟩ else ⊥)) :
    ((((((∑ n, cn n * hn n) * e + p * x')
        + ∑ s, Scalar.select (IntOp.cmpi CmpIPredicate.eq (IntOp.shrsi ArithUnit.vector (BitVec.ofNat 32 w.val) 6#32) 0#32) ((∑ n, cn n * bn s n) * E0 s * (xs s * D s)) 0)
        + ∑ s, Scalar.select (IntOp.cmpi CmpIPredicate.eq (IntOp.shrsi ArithUnit.vector (BitVec.ofNat 32 w.val) 6#32) 1#32) ((∑ n, cn n * bn s n) * E1 s * (xs s * D s)) 0)
        + ∑ s, Scalar.select (IntOp.cmpi CmpIPredicate.eq (IntOp.shrsi ArithUnit.vector (BitVec.ofNat 32 w.val) 6#32) 2#32) ((∑ n, cn n * bn s n) * E2 s * (xs s * D s)) 0)
        + ∑ s, Scalar.select (IntOp.cmpi CmpIPredicate.eq (IntOp.shrsi ArithUnit.vector (BitVec.ofNat 32 w.val) 6#32) 3#32) ((∑ n, cn n * bn s n) * E3 s * (xs s * D s)) 0)
      * (z' * Ideal.div 1 (1 + Ideal.exp (0 - z')))
      = gated (reads (heads dt) (heads gc) (wide X) (narrow B) (narrow C) h t g w) d xj z := by
  subst hp hx hz
  have hq : ∀ (k : ℕ) (hk : 4 * g.val + k < 32), w.val / 64 = k → (⟨4 * g.val + k, hk⟩ : Fin 32) = head g w :=
    fun k hk hw => Fin.ext (by simp [head, hw])
  have key := own_head w ((∑ n, cn n * hn n) * e + p * x')
    (T0 := fun s => (∑ n, cn n * bn s n) * E0 s * (xs s * D s)) (T1 := fun s => (∑ n, cn n * bn s n) * E1 s * (xs s * D s))
    (T2 := fun s => (∑ n, cn n * bn s n) * E2 s * (xs s * D s)) (T3 := fun s => (∑ n, cn n * bn s n) * E3 s * (xs s * D s))
    (fun s => wide X s (chan g w) * heads dt s (head g w)
      * ((∑ n : Fin 128, narrow C t (scol g n) * narrow B s (scol g n))
          * Ideal.exp (if s ≤ t then heads gc t (head g w) - heads gc s (head g w) else ⊥)))
    (fun hw s => by simp only [h0, hq 0 _ hw, hc, hb, hxs, hD]; exact mul_comm _ _)
    (fun hw s => by simp only [h1, hq 1 _ hw, hc, hb, hxs, hD]; exact mul_comm _ _)
    (fun hw s => by simp only [h2, hq 2 _ hw, hc, hb, hxs, hD]; exact mul_comm _ _)
    (fun hw s => by simp only [h3, hq 3 _ hw, hc, hb, hxs, hD]; exact mul_comm _ _)
  refine Ideal.mul_congr (key.trans ?_) (by rw [zero_sub])
  unfold reads
  rw [he, show (∑ n, cn n * hn n) = ∑ n, h g w n * narrow C t (scol g n) from
    Finset.sum_congr rfl fun n _ => by rw [hc, hh, mul_comm]]
  rw [add_comm, ← add_assoc]

/-- The group and the lane of a channel in a tile of one group's lanes. -/
theorem chan_at {j : Fin 2048} {o i : ℕ} (ho : o < 2048) (hd : o % 256 = 0) (h : j.val = o + i) (hi : i < 256) :
    grp j = ⟨o / 256, by omega⟩ ∧ lane j = ⟨i, hi⟩ :=
  ⟨Fin.ext (show j.val / 256 = o / 256 by omega), Fin.ext (show j.val % 256 = i by omega)⟩
/-- A channel below 256 belongs to the first group. -/
theorem first_chan {j : Fin 2048} {i : ℕ} (h : j.val = i) (hi : i < 256) : grp j = ⟨0, by decide⟩ ∧ lane j = ⟨i, hi⟩ :=
  ⟨Fin.ext (show j.val / 256 = 0 by omega), Fin.ext (show j.val % 256 = i by omega)⟩

set_option maxHeartbeats 4000000 in
/-- At a point that is first of its sequence, the rows stored are the normalised gated rows. -/
theorem out_A (c : Dev nD) (t : Fin cfg0.N) (h0 : t.val % 32 = 0) (h1 : ¬t.val % 32 = 31) (a : Fin 64) (l : Fin 2048) :
    (outsAt0 m c t.val t.isLt).1 (ix2 a l) = normed (fun j => gated (reads (heads (k0_pay4 (iblk m c 4 t) (iblk m c 6 t)))
      (heads (k0_pay5 (iblk m c 4 t) (iblk m c 6 t))) (wide (iblk m c 0 t)) (narrow (iblk m c 1 t)) (narrow (iblk m c 2 t)) (fun g w n => iblk m c 5 t (ix4 0 g w n)) a (grp j) (lane j))
      (iblk m c 6 t (ix2 2 (hcol (head (grp j) (lane j))))) (iblk m c 0 t (ix2 a j)) (iblk m c 3 t (ix2 a j))) (fun j => iblk m c 7 t (ix2 0 j)) l := by
  rw [outsAt0_A m c t h0 h1]
  frame_open
  simp (disch := decide) only [↓ View.readCov_skip, ↓ View.readCov_cons_toLoadRect, ↓ View.readCov_fill]
  frame_out
  generalize iblk m c 5 t = hp
  generalize k0_pay4 (iblk m c 4 t) (iblk m c 6 t) = dt
  generalize k0_pay5 (iblk m c 4 t) (iblk m c 6 t) = gc
  generalize iblk m c 0 t = X
  generalize iblk m c 1 t = B
  generalize iblk m c 2 t = C
  generalize iblk m c 3 t = Z
  generalize iblk m c 6 t = P
  generalize iblk m c 7 t = G
  clear h0 h1
  refine (norm_at _ _ _ _).trans ?_
  refine congrArg (fun f => normed f (fun j => G (ix2 0 j)) l) (funext fun j => ?_)
  refine (congrFun (View.readCov_eq_canon' _ _ _) _).trans ?_
  have e : (Rect.unit ![0, 0] ![64, 2048] inb_S64x2048_S64x2048_0_0).toLoadRect.idx (ix2 a j) = ix2 a j := by
    funext q
    fin_cases q
    · exact Fin.ext (show 0 + 1 * a.val = a.val by omega)
    · exact Fin.ext (show 0 + 1 * j.val = j.val by omega)
  refine (congrArg (View.canon _) e).trans ?_
  clear e
  canon_tiles x h
  all_goals
    obtain rfl : a = x 0 := Fin.ext h0
    replace h1 : j.val = _ := h1
    first
      | rw [(chan_at (by decide) (by decide) h1 x1_lt).1, (chan_at (by decide) (by decide) h1 x1_lt).2]
      | rw [(first_chan h1 x1_lt).1, (first_chan h1 x1_lt).2]
    open_payloads
    pointwise
    refine gated_of dt gc X B C (fun g w n => hp (ix4 0 g w n)) (x 0) _ (x 1)
      (fun n => congrArg (fun z => C (ix2 (x 0) z)) (Fin.ext (by simp [scol]))) ?_
      (Eq.symm (pick (fun q => Ideal.exp (heads gc (x 0) q)) _ (x 1) _)) (Eq.symm (pick (fun q => P (ix2 2 (hcol q))) _ (x 1) _))
      (congrArg (fun z => X (ix2 (x 0) z)) (Fin.ext h1.symm)) (congrArg (fun z => Z (ix2 (x 0) z)) (Fin.ext h1.symm))
      (fun s n => congrArg (fun z => B (ix2 s z)) (Fin.ext (by simp [scol]))) (fun s => congrArg (fun z => X (ix2 s z)) (Fin.ext (by simp [chan])))
      (fun s => Eq.symm (pick (fun q => heads dt s q) _ (x 1) _))
      (fun s => Eq.symm (masked (fun s => heads gc s _) (x 0) s)) (fun s => Eq.symm (masked (fun s => heads gc s _) (x 0) s))
      (fun s => Eq.symm (masked (fun s => heads gc s _) (x 0) s)) (fun s => Eq.symm (masked (fun s => heads gc s _) (x 0) s))
    exact fun n => rfl

set_option maxHeartbeats 4000000 in
/-- At a point that is neither first nor last of its sequence, the rows stored are the normalised gated rows. -/
theorem out_B (c : Dev nD) (t : Fin cfg0.N) (h0 : ¬t.val % 32 = 0) (h1 : ¬t.val % 32 = 31) (a : Fin 64) (l : Fin 2048) :
    (outsAt0 m c t.val t.isLt).1 (ix2 a l) = normed (fun j => gated (reads (heads (k0_pay4 (iblk m c 4 t) (iblk m c 6 t)))
      (heads (k0_pay5 (iblk m c 4 t) (iblk m c 6 t))) (wide (iblk m c 0 t)) (narrow (iblk m c 1 t)) (narrow (iblk m c 2 t)) (cube (outsAt0 m c (t.val - 1) (by omega)).2.2) a (grp j) (lane j))
      (iblk m c 6 t (ix2 2 (hcol (head (grp j) (lane j))))) (iblk m c 0 t (ix2 a j)) (iblk m c 3 t (ix2 a j))) (fun j => iblk m c 7 t (ix2 0 j)) l := by
  rw [outsAt0_B m c t h0 h1]
  frame_open
  simp (disch := decide) only [↓ View.readCov_skip, ↓ View.readCov_cons_toLoadRect, ↓ View.readCov_fill]
  frame_out
  generalize (outsAt0 m c (t.val - 1) (by omega)).2.2 = hp
  generalize k0_pay4 (iblk m c 4 t) (iblk m c 6 t) = dt
  generalize k0_pay5 (iblk m c 4 t) (iblk m c 6 t) = gc
  generalize iblk m c 0 t = X
  generalize iblk m c 1 t = B
  generalize iblk m c 2 t = C
  generalize iblk m c 3 t = Z
  generalize iblk m c 6 t = P
  generalize iblk m c 7 t = G
  clear h0 h1
  refine (norm_at _ _ _ _).trans ?_
  refine congrArg (fun f => normed f (fun j => G (ix2 0 j)) l) (funext fun j => ?_)
  refine (congrFun (View.readCov_eq_canon' _ _ _) _).trans ?_
  have e : (Rect.unit ![0, 0] ![64, 2048] inb_S64x2048_S64x2048_0_0).toLoadRect.idx (ix2 a j) = ix2 a j := by
    funext q
    fin_cases q
    · exact Fin.ext (show 0 + 1 * a.val = a.val by omega)
    · exact Fin.ext (show 0 + 1 * j.val = j.val by omega)
  refine (congrArg (View.canon _) e).trans ?_
  clear e
  canon_tiles x h
  all_goals
    obtain rfl : a = x 0 := Fin.ext h0
    replace h1 : j.val = _ := h1
    first
      | rw [(chan_at (by decide) (by decide) h1 x1_lt).1, (chan_at (by decide) (by decide) h1 x1_lt).2]
      | rw [(first_chan h1 x1_lt).1, (first_chan h1 x1_lt).2]
    open_payloads
    pointwise
    refine gated_of dt gc X B C (cube hp) (x 0) _ (x 1)
      (fun n => congrArg (fun z => C (ix2 (x 0) z)) (Fin.ext (by simp [scol]))) ?_
      (Eq.symm (pick (fun q => Ideal.exp (heads gc (x 0) q)) _ (x 1) _)) (Eq.symm (pick (fun q => P (ix2 2 (hcol q))) _ (x 1) _))
      (congrArg (fun z => X (ix2 (x 0) z)) (Fin.ext h1.symm)) (congrArg (fun z => Z (ix2 (x 0) z)) (Fin.ext h1.symm))
      (fun s n => congrArg (fun z => B (ix2 s z)) (Fin.ext (by simp [scol]))) (fun s => congrArg (fun z => X (ix2 s z)) (Fin.ext (by simp [chan])))
      (fun s => Eq.symm (pick (fun q => heads dt s q) _ (x 1) _))
      (fun s => Eq.symm (masked (fun s => heads gc s _) (x 0) s)) (fun s => Eq.symm (masked (fun s => heads gc s _) (x 0) s))
      (fun s => Eq.symm (masked (fun s => heads gc s _) (x 0) s)) (fun s => Eq.symm (masked (fun s => heads gc s _) (x 0) s))
    exact fun n => congrFun (read_unread_whole _ _ _) _

set_option maxHeartbeats 4000000 in
/-- At a point that is last of its sequence, the rows stored are the normalised gated rows. -/
theorem out_C (c : Dev nD) (t : Fin cfg0.N) (h0 : ¬t.val % 32 = 0) (h1 : t.val % 32 = 31) (a : Fin 64) (l : Fin 2048) :
    (outsAt0 m c t.val t.isLt).1 (ix2 a l) = normed (fun j => gated (reads (heads (k0_pay4 (iblk m c 4 t) (iblk m c 6 t)))
      (heads (k0_pay5 (iblk m c 4 t) (iblk m c 6 t))) (wide (iblk m c 0 t)) (narrow (iblk m c 1 t)) (narrow (iblk m c 2 t)) (cube (outsAt0 m c (t.val - 1) (by omega)).2.2) a (grp j) (lane j))
      (iblk m c 6 t (ix2 2 (hcol (head (grp j) (lane j))))) (iblk m c 0 t (ix2 a j)) (iblk m c 3 t (ix2 a j))) (fun j => iblk m c 7 t (ix2 0 j)) l := by
  rw [outsAt0_C m c t h0 h1]
  frame_open
  simp (disch := decide) only [↓ View.readCov_skip, ↓ View.readCov_cons_toLoadRect, ↓ View.readCov_fill]
  frame_out
  generalize (outsAt0 m c (t.val - 1) (by omega)).2.2 = hp
  generalize k0_pay4 (iblk m c 4 t) (iblk m c 6 t) = dt
  generalize k0_pay5 (iblk m c 4 t) (iblk m c 6 t) = gc
  generalize iblk m c 0 t = X
  generalize iblk m c 1 t = B
  generalize iblk m c 2 t = C
  generalize iblk m c 3 t = Z
  generalize iblk m c 6 t = P
  generalize iblk m c 7 t = G
  clear h0 h1
  refine (norm_at _ _ _ _).trans ?_
  refine congrArg (fun f => normed f (fun j => G (ix2 0 j)) l) (funext fun j => ?_)
  refine (congrFun (View.readCov_eq_canon' _ _ _) _).trans ?_
  have e : (Rect.unit ![0, 0] ![64, 2048] inb_S64x2048_S64x2048_0_0).toLoadRect.idx (ix2 a j) = ix2 a j := by
    funext q
    fin_cases q
    · exact Fin.ext (show 0 + 1 * a.val = a.val by omega)
    · exact Fin.ext (show 0 + 1 * j.val = j.val by omega)
  refine (congrArg (View.canon _) e).trans ?_
  clear e
  canon_tiles x h
  all_goals
    obtain rfl : a = x 0 := Fin.ext h0
    replace h1 : j.val = _ := h1
    first
      | rw [(chan_at (by decide) (by decide) h1 x1_lt).1, (chan_at (by decide) (by decide) h1 x1_lt).2]
      | rw [(first_chan h1 x1_lt).1, (first_chan h1 x1_lt).2]
    open_payloads
    pointwise
    refine gated_of dt gc X B C (cube hp) (x 0) _ (x 1)
      (fun n => congrArg (fun z => C (ix2 (x 0) z)) (Fin.ext (by simp [scol]))) ?_
      (Eq.symm (pick (fun q => Ideal.exp (heads gc (x 0) q)) _ (x 1) _)) (Eq.symm (pick (fun q => P (ix2 2 (hcol q))) _ (x 1) _))
      (congrArg (fun z => X (ix2 (x 0) z)) (Fin.ext h1.symm)) (congrArg (fun z => Z (ix2 (x 0) z)) (Fin.ext h1.symm))
      (fun s n => congrArg (fun z => B (ix2 s z)) (Fin.ext (by simp [scol]))) (fun s => congrArg (fun z => X (ix2 s z)) (Fin.ext (by simp [chan])))
      (fun s => Eq.symm (pick (fun q => heads dt s q) _ (x 1) _))
      (fun s => Eq.symm (masked (fun s => heads gc s _) (x 0) s)) (fun s => Eq.symm (masked (fun s => heads gc s _) (x 0) s))
      (fun s => Eq.symm (masked (fun s => heads gc s _) (x 0) s)) (fun s => Eq.symm (masked (fun s => heads gc s _) (x 0) s))
    exact fun n => congrFun (read_unread_whole _ _ _) _

end Cert.SsdProduct
-- ==== Proof.SsdBlocks.lean ====
/- What the kernel's blocks hold at one grid step, read from the layer's arguments. -/
module
public import proofs.«01_k».proof.Proof.Gen.SsdIdeal.Value
public import proofs.«01_k».proof.Proof.SsdOut
public import Idealize.ShloMosaic.Lib.Routing.OpsSet
@[expose] public section
set_option maxRecDepth 16384
noncomputable section
open Idealize.ShloMosaic Idealize.ShloMosaic.TcCoe Idealize.SL.Sem
open Idealize.ShloMosaic.Pipeline (Dat)
namespace Cert.SsdProduct
open Cert.SsdIdeal Cert.SsdIdeal.Gen

/-- The kernel's step sizes at the heads' lanes. -/
theorem dt_at (v : FVec Ideal S64x128 .f32) (p : FVec Ideal S8x128 .f32) (s : Fin 64) (q : Fin 32) :
    heads (k0_pay4 (F := Ideal) v p) s q = splus (v (ix2 s (hcol q)) + p (ix2 1 (hcol q))) := by
  unfold heads
  pointwise [k0_pay4, k0_pay3]
  rw [zero_sub]
  rfl

/-- A choice by a decided test. -/
theorem choose {α : Type} (P : Prop) [Decidable P] (a b : α) : Scalar.select (if P then 1#1 else 0#1) a b = if P then a else b := by
  by_cases h : P <;> simp [h, Scalar.select]

/-- The kernel's decay at the heads' lanes: its three-part running sum is the sum. -/
theorem gc_at (v : FVec Ideal S64x128 .f32) (p : FVec Ideal S8x128 .f32) (t : Fin 64) (q : Fin 32) :
    heads (k0_pay5 (F := Ideal) v p) t q = decay (fun s => splus (v (ix2 s (hcol q)) + p (ix2 1 (hcol q)))) (p (ix2 0 (hcol q))) t := by
  have hd : ∀ s, k0_pay4 (F := Ideal) v p (ix2 s (hcol q)) = splus (v (ix2 s (hcol q)) + p (ix2 1 (hcol q))) := fun s => dt_at v p s q
  unfold heads decay
  pointwise [k0_pay5, k0_pay3]
  simp only [hd, row_test, choose]
  refine (three_parts (fun s => splus (v (ix2 s (hcol q)) + p (ix2 1 (hcol q))) * (0 - Ideal.exp (p (ix2 0 (hcol q))))) (fun s => s ≤ t)
    (fun s => decay_nonpos (splus_nonneg _) (exp_nonneg' _))).trans ?_
  simp only [zero_sub]

/-- The indices of one row's write: row `r`, from column 32 on. -/
def rowIdx (r : BitVec 32) : IVec S2 32 :=
  concatenate S2 0 [⟨S1, broadcastInDim S1 ![] bcast_S_S1 (constantI S_ 32 r)⟩, ⟨S1, broadcastInDim S1 ![] bcast_S_S1 (constantI S_ 32 32#32)⟩] concatenates_S1_S1_S2_d0

/-- Where the write of a row's 32 parameters lands. -/
theorem lands : ∀ (r : Fin 3) (q : Fin 32), (scatter_S8x128_S2_S32_0_0_01_0.resultIdx? (ix1 q) (rowIdx (BitVec.ofNat 32 r.val))).map
    (fun j => ((j 0).val, (j 1).val)) = some (r.val, 32 + q.val) := by decide +kernel

/-- The parameter block after a row is written, read at a head's lane of row `r`. -/
theorem set_row (r' r : Fin 3) (x : FVec Ideal S8x128 .f32) (u : FVec Ideal S32 .f32) (q : Fin 32) :
    Host.scatter scatter_S8x128_S2_S32_0_0_01_0 (fun _ b => b) x (rowIdx (BitVec.ofNat 32 r'.val)) u (ix2 (⟨r.val, by omega⟩ : Fin 8) (hcol q))
      = if r = r' then u (ix1 q) else x (ix2 (⟨r.val, by omega⟩ : Fin 8) (hcol q)) := by
  by_cases h : r = r'
  · subst h
    rw [if_pos rfl]
    have key : ∀ q' : Fin 32, scatter_S8x128_S2_S32_0_0_01_0.resultIdx? (ix1 q') (rowIdx (BitVec.ofNat 32 r.val)) = some (ix2 (⟨r.val, by omega⟩ : Fin 8) (hcol q')) := fun q' => by
      obtain ⟨j, hj, hj'⟩ := Option.map_eq_some_iff.mp (lands r q')
      rw [hj, eq_ix2 j]
      exact congrArg some (congrArg₂ ix2 (Fin.ext (congrArg Prod.fst hj')) (Fin.ext (congrArg Prod.snd hj')))
    refine Routing.scatter_set_hit _ _ _ _ _ _ (fun k hk => ?_) (ix1 q) (key q)
    rw [eq_ix1 k] at hk ⊢
    have e := (key (k 0)).symm.trans hk
    have e2 : hcol (k 0) = hcol q := congrFun (Option.some.inj e) 1
    have e3 : (32 + (k 0).val) = 32 + q.val := congrArg Fin.val e2
    exact congrArg (fun z => u (ix1 z)) (Fin.ext (by omega))
  · rw [if_neg h]
    refine Routing.scatter_set_miss _ _ _ _ _ fun k hk => ?_
    have e := lands r' (k 0)
    rw [← eq_ix1 k, hk] at e
    exact h (Fin.ext (congrArg Prod.fst (Option.some.inj e)))

variable (m : (ℓ : Loc nD τ sig) → Buf (Elt Ideal) ℓ)

/-- Where each window's block lies at grid point `t`. -/
theorem idx : ∀ t : Fin cfg0.N, win0_0.index t = ![t.val, 0] ∧ win0_1.index t = ![t.val, 2] ∧ win0_2.index t = ![t.val, 3]
    ∧ win0_3.index t = ![t.val, 0] ∧ win0_4.index t = ![t.val, 0] ∧ win0_5.index t = ![t.val / 32, 0, 0, 0] ∧ win0_6.index t = ![0, 0]
    ∧ win0_7.index t = ![0, 0] ∧ win0_8.index t = ![t.val, 0] ∧ win0_9.index t = ![t.val / 32, 0, 0, 0] :=
  (by decide +kernel : ∀ t : Fin grid0.N, _)

/-- The parameter rows the kernel is given: rates, biases and skips written into a block of zeros. -/
theorem entry6 (c : Dev nD) : V m c main_v15 = (Host.scatter scatter_S8x128_S2_S32_0_0_01_0 (fun _ b => b)
    (Host.scatter scatter_S8x128_S2_S32_0_0_01_0 (fun _ b => b)
      (Host.scatter scatter_S8x128_S2_S32_0_0_01_0 (fun _ b => b) (broadcastInDim S8x128 ![] bcast_S_S8x128 (constant (F := Ideal) S_ .f32 0x00000000#32))
        (rowIdx 0#32) (shapeCast S32 (m ((c : Thread nD τ).loc main_arg3)) shapeCasts_S1x32_S32))
      (rowIdx 1#32) (shapeCast S32 (m ((c : Thread nD τ).loc main_arg4)) shapeCasts_S1x32_S32))
    (rowIdx 2#32) (shapeCast S32 (m ((c : Thread nD τ).loc main_arg5)) shapeCasts_S1x32_S32) : FVec Ideal S8x128 .f32) := by
  unfold V; after_results; try rfl

/-- The state the kernel starts from. -/
theorem entry5 (c : Dev nD) : V m c main_v16 = broadcastInDim S4x8x256x128 ![] bcast_S_S4x8x256x128 (constant (F := Ideal) S_ .f32 0x00000000#32) := by
  unfold V; after_results; try rfl

/-- The gain the kernel is given. -/
theorem entry7 (c : Dev nD) : V m c main_v18 = shapeCast S1x2048 (shapeCast S2048 (m ((c : Thread nD τ).loc main_arg6)) shapeCasts_S1x2048_S2048) shapeCasts_S2048_S1x2048 := by
  unfold V; after_results; try rfl

/-- The windows' blocks, read at an index, are elements of the arguments. -/
theorem blk0 (c : Dev nD) (t : Fin cfg0.N) (a : Fin 64) (l : Fin 2048) (r : Fin 8192) (l' : Fin 4096) (hr : r.val = t.val * 64 + a.val) (hl : l'.val = l.val) :
    iblk m c 0 t (ix2 a l) = m ((c : Thread nD τ).loc main_arg0) (ix2 r l') := by
  have h : iblk m c 0 t (ix2 a l) = V m c main_arg0 (ix2 r l') := by blk_ext [iblk, idx t, hr, hl]
  exact h.trans (congrFun (V_main_arg0 m c) _)
/-- A step's block of `B` columns, read from the argument. -/
theorem blk1 (c : Dev nD) (t : Fin cfg0.N) (a : Fin 64) (l : Fin 1024) (r : Fin 8192) (l' : Fin 4096) (hr : r.val = t.val * 64 + a.val) (hl : l'.val = 2048 + l.val) :
    iblk m c 1 t (ix2 a l) = m ((c : Thread nD τ).loc main_arg0) (ix2 r l') := by
  have h : iblk m c 1 t (ix2 a l) = V m c main_arg0 (ix2 r l') := by blk_ext [iblk, idx t, hr, hl]
  exact h.trans (congrFun (V_main_arg0 m c) _)
/-- A step's block of `C` columns, read from the argument. -/
theorem blk2 (c : Dev nD) (t : Fin cfg0.N) (a : Fin 64) (l : Fin 1024) (r : Fin 8192) (l' : Fin 4096) (hr : r.val = t.val * 64 + a.val) (hl : l'.val = 3072 + l.val) :
    iblk m c 2 t (ix2 a l) = m ((c : Thread nD τ).loc main_arg0) (ix2 r l') := by
  have h : iblk m c 2 t (ix2 a l) = V m c main_arg0 (ix2 r l') := by blk_ext [iblk, idx t, hr, hl]
  exact h.trans (congrFun (V_main_arg0 m c) _)
/-- A step's block of gate rows, read from the argument. -/
theorem blk3 (c : Dev nD) (t : Fin cfg0.N) (a : Fin 64) (l : Fin 2048) (r : Fin 9216) (l' : Fin 6144) (hr : r.val = t.val * 64 + a.val) (hl : l'.val = l.val) :
    iblk m c 3 t (ix2 a l) = m ((c : Thread nD τ).loc main_arg1) (ix2 r l') := by
  have h : iblk m c 3 t (ix2 a l) = V m c main_arg1 (ix2 r l') := by blk_ext [iblk, idx t, hr, hl]
  exact h.trans (congrFun (V_main_arg1 m c) _)
/-- A step's block of the narrow projections, read from the argument. -/
theorem blk4 (c : Dev nD) (t : Fin cfg0.N) (a : Fin 64) (l : Fin 128) (r : Fin 9216) (hr : r.val = t.val * 64 + a.val) :
    iblk m c 4 t (ix2 a l) = m ((c : Thread nD τ).loc main_arg2) (ix2 r l) := by
  have h : iblk m c 4 t (ix2 a l) = V m c main_arg2 (ix2 r l) := by blk_ext [iblk, idx t, hr]
  exact h.trans (congrFun (V_main_arg2 m c) _)

/-- The starting state is zero. -/
theorem zeros_at (b : Fin 4) (g : Fin 8) (w : Fin 256) (n : Fin 128) :
    broadcastInDim S4x8x256x128 ![] bcast_S_S4x8x256x128 (constant (F := Ideal) S_ .f32 0x00000000#32) (ix4 b g w n) = 0 := by
  pointwise

/-- A step's block of the starting state is zero. -/
theorem blk5 (c : Dev nD) (t : Fin cfg0.N) (g : Fin 8) (w : Fin 256) (n : Fin 128) : iblk m c 5 t (ix4 0 g w n) = (0 : EReal) := by
  have h : iblk m c 5 t (ix4 0 g w n) = V m c main_v16 (ix4 (⟨t.val / 32, by have := t.isLt; have : cfg0.N = 128 := rfl; omega⟩ : Fin 4) g w n) := by blk_ext [iblk, idx t]
  exact h.trans ((congrFun (entry5 m c) _).trans (zeros_at _ g w n))

/-- The gain, reshaped twice, at an index. -/
theorem gain_at (v : FVec Ideal S1x2048 .f32) (l : Fin 2048) : shapeCast S1x2048 (shapeCast S2048 v shapeCasts_S1x2048_S2048) shapeCasts_S2048_S1x2048 (ix2 0 l) = v (ix2 0 l) := by
  pointwise

/-- A step's block of the gain, read from the argument. -/
theorem blk7 (c : Dev nD) (t : Fin cfg0.N) (l : Fin 2048) : iblk m c 7 t (ix2 0 l) = m ((c : Thread nD τ).loc main_arg6) (ix2 (0 : Fin 1) l) := by
  have h : iblk m c 7 t (ix2 0 l) = V m c main_v18 (ix2 0 l) := by blk_ext [iblk, idx t]
  exact h.trans ((congrFun (entry7 m c) _).trans (gain_at _ l))

/-- A row of head parameters, reshaped, at an index. -/
theorem cast_at (v : FVec Ideal S1x32 .f32) (q : Fin 32) : shapeCast S32 v shapeCasts_S1x32_S32 (ix1 q) = v (ix2 0 q) := by pointwise

/-- A step's block of the parameter rows is the whole of them. -/
theorem blk6 (c : Dev nD) (t : Fin cfg0.N) (r : Fin 8) (l : Fin 128) : iblk m c 6 t (ix2 r l) = V m c main_v15 (ix2 r l) := by
  blk_ext [iblk, idx t]

/-- Row 0 of the parameters holds the rates. -/
theorem rate_at (c : Dev nD) (t : Fin cfg0.N) (q : Fin 32) : iblk m c 6 t (ix2 0 (hcol q)) = m ((c : Thread nD τ).loc main_arg3) (ix2 (0 : Fin 1) q) := by
  refine (blk6 m c t _ _).trans ((congrFun (entry6 m c) _).trans ?_)
  exact (set_row 2 0 _ _ q).trans ((set_row 1 0 _ _ q).trans ((set_row 0 0 _ _ q).trans (cast_at _ q)))
/-- Row 1 of the parameters holds the biases. -/
theorem bias_at (c : Dev nD) (t : Fin cfg0.N) (q : Fin 32) : iblk m c 6 t (ix2 1 (hcol q)) = m ((c : Thread nD τ).loc main_arg4) (ix2 (0 : Fin 1) q) := by
  refine (blk6 m c t _ _).trans ((congrFun (entry6 m c) _).trans ?_)
  exact (set_row 2 1 _ _ q).trans ((set_row 1 1 _ _ q).trans (cast_at _ q))
/-- Row 2 of the parameters holds the skip weights. -/
theorem skip_at (c : Dev nD) (t : Fin cfg0.N) (q : Fin 32) : iblk m c 6 t (ix2 2 (hcol q)) = m ((c : Thread nD τ).loc main_arg5) (ix2 (0 : Fin 1) q) := by
  refine (blk6 m c t _ _).trans ((congrFun (entry6 m c) _).trans ?_)
  exact (set_row 2 2 _ _ q).trans (cast_at _ q)
end Cert.SsdProduct
-- ==== Proof.SsdKernel.lean ====
/- The kernel's two results: the gated rows and the final states, by recursion over the chunks. -/
module
public import proofs.«01_k».proof.Proof.SsdBlocks
@[expose] public section
set_option maxRecDepth 16384
noncomputable section
open Idealize.ShloMosaic Idealize.ShloMosaic.TcCoe Idealize.SL.Sem
open Idealize.ShloMosaic.Pipeline (Dat)
namespace Cert.SsdProduct
open Cert.SsdIdeal Cert.SsdIdeal.Gen

/-- The arguments as the layer's mathematics takes them: the convolved columns, the gate, the step-size columns, the head
parameters and the gain. -/
def CS (a : FVec Ideal S8192x4096 .f32) (r : Fin 8192) (l : Fin 4096) : EReal := a (ix2 r l)
/-- The gate rows, as a function of row and channel. -/
def ZZ (a : FVec Ideal S9216x6144 .f32) (r : Fin 8192) (l : Fin 2048) : EReal := a (ix2 (⟨r.val, by omega⟩ : Fin 9216) (⟨l.val, by omega⟩ : Fin 6144))
/-- The step-size columns of the narrow projections, as a function of row and head. -/
def DB (a : FVec Ideal S9216x128 .f32) (r : Fin 8192) (q : Fin 32) : EReal := a (ix2 (⟨r.val, by omega⟩ : Fin 9216) (hcol q))
/-- A row of head parameters, as a function of the head. -/
def HP (a : FVec Ideal S1x32 .f32) (q : Fin 32) : EReal := a (ix2 (0 : Fin 1) q)
/-- The gain, as a function of the channel. -/
def GA (a : FVec Ideal S1x2048 .f32) (l : Fin 2048) : EReal := a (ix2 (0 : Fin 1) l)

/-- The layer's first result as an array. -/
def RES8 (a0 : FVec Ideal S8192x4096 .f32) (a1 : FVec Ideal S9216x6144 .f32) (a2 : FVec Ideal S9216x128 .f32) (a3 a4 a5 : FVec Ideal S1x32 .f32)
    (a6 : FVec Ideal S1x2048 .f32) : FVec Ideal S8192x2048 .bf16 := fun i =>
  out (CS a0) (ZZ a1) (DB a2) (HP a3) (HP a4) (HP a5) (GA a6) ⟨(i 0).val / 2048, by have : (i 0).val < 8192 := (i 0).isLt; omega⟩ ((i 0).val % 2048 / 64)
    ⟨(i 0).val % 64, by omega⟩ (i 1)

/-- The layer's second result, the last states, as an array. -/
def RES9 (a0 : FVec Ideal S8192x4096 .f32) (a2 : FVec Ideal S9216x128 .f32) (a3 a4 : FVec Ideal S1x32 .f32) : FVec Ideal S4x8x256x128 .f32 := fun i =>
  state (CS a0) (DB a2) (HP a3) (HP a4) (i 0) 32 (i 1) (i 2) (i 3)

variable (m : (ℓ : Loc nD τ sig) → Buf (Elt Ideal) ℓ)

/-- The row a point's block row is. -/
theorem row_val (t : ℕ) (b : Fin 4) (k : ℕ) (s : Fin 64) (ht : t = 32 * b.val + k) (hk : k < 32) : (row b k s).val = t * 64 + s.val := by
  simp only [row]; omega

section
variable (c : Dev nD) (t : Fin cfg0.N) (b : Fin 4) (k : ℕ) (ht : t.val = 32 * b.val + k) (hk : k < 32)
include ht hk

/-- The point's step sizes are the chunk's. -/
theorem dts : heads (k0_pay4 (F := Ideal) (iblk m c 4 t) (iblk m c 6 t)) = dtc (DB (m ((c : Thread nD τ).loc main_arg2))) (HP (m ((c : Thread nD τ).loc main_arg4))) b k :=
  funext fun s => funext fun q => (dt_at _ _ s q).trans (congrArg splus (Ideal.add_congr
    (blk4 m c t s (hcol q) ⟨(row b k s).val, by omega⟩ (row_val t.val b k s ht hk)) (bias_at m c t q)))

/-- The point's decays are the chunk's. -/
theorem gcs : heads (k0_pay5 (F := Ideal) (iblk m c 4 t) (iblk m c 6 t))
    = gcc (DB (m ((c : Thread nD τ).loc main_arg2))) (HP (m ((c : Thread nD τ).loc main_arg3))) (HP (m ((c : Thread nD τ).loc main_arg4))) b k :=
  funext fun s => funext fun q => (gc_at _ _ s q).trans (congrArg₂ (fun d a => decay d a s)
    (funext fun s' => (dt_at _ _ s' q).symm.trans (congrFun (congrFun (dts m c t b k ht hk) s') q)) (rate_at m c t q))

/-- The point's channels and its `B` and `C` columns are the chunk's. -/
theorem xcs : wide (iblk m c 0 t) = xc (CS (m ((c : Thread nD τ).loc main_arg0))) b k :=
  funext fun s => funext fun l => blk0 m c t s l _ ⟨l.val, by omega⟩ (row_val t.val b k s ht hk) rfl
/-- A step's block of `B` columns is the chunk's. -/
theorem bcs : narrow (iblk m c 1 t) = bc (CS (m ((c : Thread nD τ).loc main_arg0))) b k :=
  funext fun s => funext fun l => blk1 m c t s l _ ⟨2048 + l.val, by omega⟩ (row_val t.val b k s ht hk) rfl
/-- A step's block of `C` columns is the chunk's. -/
theorem ccs : narrow (iblk m c 2 t) = cc (CS (m ((c : Thread nD τ).loc main_arg0))) b k :=
  funext fun s => funext fun l => blk2 m c t s l _ ⟨3072 + l.val, by omega⟩ (row_val t.val b k s ht hk) rfl
/-- A step's block of gate rows is the chunk's. -/
theorem zcs (s : Fin 64) (l : Fin 2048) : iblk m c 3 t (ix2 s l) = ZZ (m ((c : Thread nD τ).loc main_arg1)) (row b k s) l :=
  blk3 m c t s l ⟨(row b k s).val, by omega⟩ ⟨l.val, by omega⟩ (row_val t.val b k s ht hk) rfl
end

/-- The state carried in the scratch, as the layer's mathematics has it. -/
abbrev ST (c : Dev nD) (b : Fin 4) (k : ℕ) : Fin 8 → Fin 256 → Fin 128 → EReal :=
  state (CS (m ((c : Thread nD τ).loc main_arg0))) (DB (m ((c : Thread nD τ).loc main_arg2))) (HP (m ((c : Thread nD τ).loc main_arg3)))
    (HP (m ((c : Thread nD τ).loc main_arg4))) b k

/-- After the point of chunk `k` of sequence `b`, the scratch holds the state after that chunk. -/
theorem scratch (c : Dev nD) (b : Fin 4) : ∀ (k : ℕ) (hk : k < 32) (hn : 32 * b.val + k < cfg0.N),
    cube (outsAt0 m c (32 * b.val + k) hn).2.2 = ST m c b (k + 1)
  | 0, hk, hn => by
    funext g w n
    refine (state_A m c ⟨32 * b.val + 0, hn⟩ (by show (32 * b.val + 0) % 32 = 0; omega) (by show ¬ (32 * b.val + 0) % 32 = 31; omega) g w n).trans ?_
    rw [dts m c ⟨32 * b.val + 0, hn⟩ b 0 rfl hk, gcs m c ⟨32 * b.val + 0, hn⟩ b 0 rfl hk, xcs m c ⟨32 * b.val + 0, hn⟩ b 0 rfl hk, bcs m c ⟨32 * b.val + 0, hn⟩ b 0 rfl hk]
    refine congrArg (fun h => next _ _ _ _ h g w n) (funext fun g => funext fun w => funext fun n => blk5 m c _ g w n)
  | k + 1, hk, hn => by
    have ih := scratch c b k (by omega) (by omega)
    have e : ∀ (j : ℕ) (hj : j < cfg0.N), j = 32 * b.val + k → cube (outsAt0 m c j hj).2.2 = ST m c b (k + 1) := fun j hj h => by subst h; exact ih
    funext g w n
    have h0 : ¬ (32 * b.val + (k + 1)) % 32 = 0 := by omega
    by_cases h1 : (32 * b.val + (k + 1)) % 32 = 31
    · refine (state_C m c ⟨32 * b.val + (k + 1), hn⟩ h0 h1 g w n).trans ?_
      rw [dts m c ⟨_, hn⟩ b (k + 1) rfl hk, gcs m c ⟨_, hn⟩ b (k + 1) rfl hk, xcs m c ⟨_, hn⟩ b (k + 1) rfl hk, bcs m c ⟨_, hn⟩ b (k + 1) rfl hk, e _ _ (by show 32 * b.val + (k + 1) - 1 = _; omega)]
      rfl
    · refine (state_B m c ⟨32 * b.val + (k + 1), hn⟩ h0 h1 g w n).trans ?_
      rw [dts m c ⟨_, hn⟩ b (k + 1) rfl hk, gcs m c ⟨_, hn⟩ b (k + 1) rfl hk, xcs m c ⟨_, hn⟩ b (k + 1) rfl hk, bcs m c ⟨_, hn⟩ b (k + 1) rfl hk, e _ _ (by show 32 * b.val + (k + 1) - 1 = _; omega)]
      rfl

/-- What a point writes to the first result. -/
theorem rows (c : Dev nD) (b : Fin 4) (k : ℕ) (hk : k < 32) (t : Fin cfg0.N) (ht : t.val = 32 * b.val + k) (a : Fin 64) (l : Fin 2048) :
    (outsAt0 m c t.val t.isLt).1 (ix2 a l) = out (CS (m ((c : Thread nD τ).loc main_arg0))) (ZZ (m ((c : Thread nD τ).loc main_arg1)))
      (DB (m ((c : Thread nD τ).loc main_arg2))) (HP (m ((c : Thread nD τ).loc main_arg3))) (HP (m ((c : Thread nD τ).loc main_arg4)))
      (HP (m ((c : Thread nD τ).loc main_arg5))) (GA (m ((c : Thread nD τ).loc main_arg6))) b k a l := by
  have fin : ∀ h : Fin 8 → Fin 256 → Fin 128 → EReal, h = ST m c b k →
      normed (fun j => gated (reads (heads (k0_pay4 (F := Ideal) (iblk m c 4 t) (iblk m c 6 t)))
        (heads (k0_pay5 (F := Ideal) (iblk m c 4 t) (iblk m c 6 t))) (wide (iblk m c 0 t)) (narrow (iblk m c 1 t)) (narrow (iblk m c 2 t)) h a (grp j) (lane j))
        (iblk m c 6 t (ix2 2 (hcol (head (grp j) (lane j))))) (iblk m c 0 t (ix2 a j)) (iblk m c 3 t (ix2 a j))) (fun j => iblk m c 7 t (ix2 0 j)) l
      = out (CS (m ((c : Thread nD τ).loc main_arg0))) (ZZ (m ((c : Thread nD τ).loc main_arg1)))
      (DB (m ((c : Thread nD τ).loc main_arg2))) (HP (m ((c : Thread nD τ).loc main_arg3))) (HP (m ((c : Thread nD τ).loc main_arg4)))
      (HP (m ((c : Thread nD τ).loc main_arg5))) (GA (m ((c : Thread nD τ).loc main_arg6))) b k a l := fun h hh => by
    rw [dts m c t b k ht hk, gcs m c t b k ht hk, xcs m c t b k ht hk, bcs m c t b k ht hk, ccs m c t b k ht hk, hh]
    refine congrArg₂ (fun f g => normed f g l) (funext fun j => ?_) (funext fun j => blk7 m c t j)
    have hs := skip_at m c t (head (grp j) (lane j))
    have hx := congrFun (congrFun (xcs m c t b k ht hk) a) j
    have hz := zcs m c t b k ht hk a j
    unfold wide at hx
    rw [hs, hx, hz]
    rfl
  by_cases h0 : t.val % 32 = 0
  · have h1 : ¬ t.val % 32 = 31 := by omega
    have hk0 : k = 0 := by omega
    refine (out_A m c t h0 h1 a l).trans (fin _ ?_)
    subst hk0
    exact funext fun g => funext fun w => funext fun n => blk5 m c _ g w n
  · obtain ⟨j, rfl⟩ : ∃ j, k = j + 1 := ⟨k - 1, by omega⟩
    have e : ∀ (i : ℕ) (hi : i < cfg0.N), i = 32 * b.val + j → cube (outsAt0 m c i hi).2.2 = ST m c b (j + 1) := fun i hi h => by
      subst h; exact scratch m c b j (by omega) hi
    by_cases h1 : t.val % 32 = 31
    · exact (out_C m c t h0 h1 a l).trans (fin _ (e _ _ (by omega)))
    · exact (out_B m c t h0 h1 a l).trans (fin _ (e _ _ (by omega)))

/-- A state with a unit axis before it, read at an index. -/
theorem cube_at (v : FVec Ideal S8x256x128 .f32) (g : Fin 8) (w : Fin 256) (n : Fin 128) :
    k0_pay1 (F := Ideal) v (ix4 0 g w n) = v (ix3 g w n) := by
  pointwise [k0_pay1]

set_option maxHeartbeats 4000000 in
/-- At the last point of a sequence, the second result's block is the scratch. -/
theorem copied (c : Dev nD) (t : Fin cfg0.N) (h0 : ¬t.val % 32 = 0) (h1 : t.val % 32 = 31) (g : Fin 8) (w : Fin 256) (n : Fin 128) :
    (outsAt0 m c t.val t.isLt).2.1 (ix4 0 g w n) = (outsAt0 m c t.val t.isLt).2.2 (ix3 g w n) := by
  rw [outsAt0_C m c t h0 h1]
  frame_out
  refine (cube_at _ g w n).trans ?_
  refine (congrFun (View.readCov_eq_canon' _ _ _) _).trans ?_
  refine congrArg (View.canon _) ?_
  funext q
  fin_cases q
  · exact Fin.ext (show 0 + 1 * g.val = g.val by omega)
  · exact Fin.ext (show 0 + 1 * w.val = w.val by omega)
  · exact Fin.ext (show 0 + 1 * n.val = n.val by omega)

/-- The first result array after the run. -/
theorem final_rows (c : Dev nD) : (dats m 0 c).arrAt 8 (cfgs 0).N
    = RES8 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 8 _ (by decide +kernel) fun t _ y => ?_
  have htN : t.val < 128 := t.isLt
  have hy0 : (y 0).val < 64 := (y 0).isLt
  have hy1 : (y 1).val < 2048 := (y 1).isLt
  have h8 : (dats m 0 c).after 8 t y = (outsAt0 m c t.val t.isLt).1 y := congrFun (after0_8 m c t) y
  refine h8.trans ?_
  rw [eq_ix2 y]
  refine (rows m c ⟨t.val / 32, by omega⟩ (t.val % 32) (by omega) t (by show t.val = 32 * (t.val / 32) + t.val % 32; omega) (y 0) (y 1)).trans ?_
  have e0 : (((cfg0.win 8).blk t).view.emb y 0).val = t.val * 64 + (y 0).val := by blk_simp [idx t]
  have e1 : (((cfg0.win 8).blk t).view.emb y 1).val = (y 1).val := by blk_simp [idx t]
  rw [← eq_ix2 y]
  show _ = RES8 _ _ _ _ _ _ _ (((cfg0.win 8).blk t).view.emb y)
  unfold RES8
  congr 1
  · exact Fin.ext (by show t.val / 32 = (((cfg0.win 8).blk t).view.emb y 0).val / 2048; omega)
  · show t.val % 32 = (((cfg0.win 8).blk t).view.emb y 0).val % 2048 / 64; omega
  · exact Fin.ext (by show (y 0).val = (((cfg0.win 8).blk t).view.emb y 0).val % 64; omega)
  · exact Fin.ext (by show (y 1).val = (((cfg0.win 8).blk t).view.emb y 1).val; omega)

/-- The second result array after the run. -/
theorem final_states (c : Dev nD) : (dats m 0 c).arrAt 9 (cfgs 0).N
    = RES9 (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have htN : t.val < 128 := t.isLt
  have hm : t.val % 32 = 31 := (flush0_9 t).mp hf
  have h9 : (dats m 0 c).after 9 t y = (outsAt0 m c t.val t.isLt).2.1 y := congrFun (after0_9 m c t) y
  refine h9.trans ?_
  have ey : y = ix4 (0 : Fin 1) (y 1) (y 2) (y 3) := by
    conv_lhs => rw [eq_ix4 y]
    exact congrArg (fun z => ix4 z (y 1) (y 2) (y 3)) (Subsingleton.elim _ _)
  rw [ey]
  refine (copied m c t (by omega) hm (y 1) (y 2) (y 3)).trans ?_
  have e : ∀ (i : ℕ) (hi : i < cfg0.N), i = 32 * (t.val / 32) + 31 → cube (outsAt0 m c i hi).2.2 = ST m c ⟨t.val / 32, by omega⟩ 32 := fun i hi h => by
    subst h; exact scratch m c ⟨t.val / 32, by omega⟩ 31 (by omega) hi
  refine (congrFun (congrFun (congrFun (e t.val t.isLt (by omega)) (y 1)) (y 2)) (y 3)).trans ?_
  rw [← ey]
  have hy0 : (y 0).val < 1 := (y 0).isLt
  have e0 : (((cfg0.win 9).blk t).view.emb y 0).val = t.val / 32 + (y 0).val := by blk_simp [idx t]
  have e1 : (((cfg0.win 9).blk t).view.emb y 1).val = (y 1).val := by blk_simp [idx t]
  have e2 : (((cfg0.win 9).blk t).view.emb y 2).val = (y 2).val := by blk_simp [idx t]
  have e3 : (((cfg0.win 9).blk t).view.emb y 3).val = (y 3).val := by blk_simp [idx t]
  show _ = RES9 _ _ _ _ (((cfg0.win 9).blk t).view.emb y)
  unfold RES9
  congr 1
  · exact Fin.ext (by show t.val / 32 = (((cfg0.win 9).blk t).view.emb y 0).val; omega)
  · exact Fin.ext (by show (y 1).val = (((cfg0.win 9).blk t).view.emb y 1).val; omega)
  · exact Fin.ext (by show (y 2).val = (((cfg0.win 9).blk t).view.emb y 2).val; omega)
  · exact Fin.ext (by show (y 3).val = (((cfg0.win 9).blk t).view.emb y 3).val; omega)
end Cert.SsdProduct
-- ==== Proof.SsdTrip.lean ====
/- One trip of the reference's loop over the chunks, read at an index. -/
module
public import proofs.«01_k».proof.Proof.Gen.SsdRefIdeal.Run
public import proofs.«01_k».proof.Proof.SsdKernel
public import Idealize.ShloMosaic.Lib.DynamicIndex
@[expose] public section
set_option maxRecDepth 16384
noncomputable section
open Idealize.ShloMosaic Idealize.ShloMosaic.TcCoe Idealize.SL.Sem
namespace Cert.SsdProduct
open Cert.SsdRefIdeal Cert.SsdRefIdeal.Gen Cert.SsdRefIdeal.Value

/-- Where a loop's slice starts: at the chunk of the counter. -/
theorem start5 {k : ℕ} (hk : k < 32) (C : IVec S_ 32) (hC : C = fun _ => BitVec.ofNat 32 k) : ∀ a : Fin 5,
    ((![C, constantI S_ 32 0#32, constantI S_ 32 0#32, constantI S_ 32 0#32, constantI S_ 32 0#32] : Fin 5 → (⟨S_, .i32⟩ : BufTy).Contents (Elt Ideal)) a (Shape.Idx.first h_S_)).toInt
      = ((![k, 0, 0, 0, 0] : Fin 5 → ℕ) a : Int) := by
  subst hC
  intro a
  fin_cases a
  · exact toInt_ofNat_of_lt (by omega)
  all_goals rfl
/-- The same for a slice of six axes. -/
theorem start6 {k : ℕ} (hk : k < 32) (C : IVec S_ 32) (hC : C = fun _ => BitVec.ofNat 32 k) : ∀ a : Fin 6,
    ((![C, constantI S_ 32 0#32, constantI S_ 32 0#32, constantI S_ 32 0#32, constantI S_ 32 0#32, constantI S_ 32 0#32] : Fin 6 → (⟨S_, .i32⟩ : BufTy).Contents (Elt Ideal)) a (Shape.Idx.first h_S_)).toInt
      = ((![k, 0, 0, 0, 0, 0] : Fin 6 → ℕ) a : Int) := by
  subst hC
  intro a
  fin_cases a
  · exact toInt_ofNat_of_lt (by omega)
  all_goals rfl

section
variable {k : ℕ} (hk : k < 32)
include hk

/-- A chunk taken out of an array of chunks, read at an index. -/
theorem chunk_dt (A : FVec Ideal S32x4x64x8x4 .f32) (st : Fin 5 → ℤ) (hst : ∀ a, st a = ((![k, 0, 0, 0, 0] : Fin 5 → ℕ) a : ℤ)) (b : Fin 4) (s : Fin 64) (g : Fin 8) (r : Fin 4) :
    shapeCast S4x64x8x4 (Host.dynamicSlice S1x4x64x8x4 A st sliceFits_S32x4x64x8x4_S1x4x64x8x4) shapeCasts_S1x4x64x8x4_S4x64x8x4 (ix4 b s g r) = A (ix5 (⟨k, hk⟩ : Fin 32) b s g r) := by
  rw [Host.dynamicSlice_eq_extractStridedSlice S1x4x64x8x4 A st ![k, 0, 0, 0, 0] _ ⟨rfl, fun a => by fin_cases a; exacts [by show k + 1 ≤ 32; omega, Nat.le_refl _, Nat.le_refl _, Nat.le_refl _, Nat.le_refl _]⟩ hst]
  pointwise
/-- A chunk of `B` or `C` columns, read at an index. -/
theorem chunk_bc (A : FVec Ideal S32x4x64x8x128 .f32) (st : Fin 5 → ℤ) (hst : ∀ a, st a = ((![k, 0, 0, 0, 0] : Fin 5 → ℕ) a : ℤ)) (b : Fin 4) (s : Fin 64) (g : Fin 8) (n : Fin 128) :
    shapeCast S4x64x8x128 (Host.dynamicSlice S1x4x64x8x128 A st sliceFits_S32x4x64x8x128_S1x4x64x8x128) shapeCasts_S1x4x64x8x128_S4x64x8x128 (ix4 b s g n) = A (ix5 (⟨k, hk⟩ : Fin 32) b s g n) := by
  rw [Host.dynamicSlice_eq_extractStridedSlice S1x4x64x8x128 A st ![k, 0, 0, 0, 0] _ ⟨rfl, fun a => by fin_cases a; exacts [by show k + 1 ≤ 32; omega, Nat.le_refl _, Nat.le_refl _, Nat.le_refl _, Nat.le_refl _]⟩ hst]
  pointwise
/-- A chunk of channels, each scaled by its step size. -/
theorem chunk_x (A : FVec Ideal S32x4x64x8x4x64 .f32) (D : FVec Ideal S4x64x8x4 .f32) (st : Fin 6 → ℤ) (hst : ∀ a, st a = ((![k, 0, 0, 0, 0, 0] : Fin 6 → ℕ) a : ℤ))
    (b : Fin 4) (s : Fin 64) (g : Fin 8) (r : Fin 4) (p : Fin 64) :
    mulf (shapeCast S4x64x8x4x64 (Host.dynamicSlice S1x4x64x8x4x64 A st sliceFits_S32x4x64x8x4x64_S1x4x64x8x4x64) shapeCasts_S1x4x64x8x4x64_S4x64x8x4x64)
      (broadcastInDim S4x64x8x4x64 ![0, 1, 2, 3, 4] bcast_S4x64x8x4x1_S4x64x8x4x64_0_1_2_3_4 (broadcastInDim S4x64x8x4x1 ![0, 1, 2, 3] bcast_S4x64x8x4_S4x64x8x4x1_0_1_2_3 D)) (ix5 b s g r p)
      = A (ix6 (⟨k, hk⟩ : Fin 32) b s g r p) * D (ix4 b s g r) := by
  rw [Host.dynamicSlice_eq_extractStridedSlice S1x4x64x8x4x64 A st ![k, 0, 0, 0, 0, 0] _ ⟨rfl, fun a => by fin_cases a; exacts [by show k + 1 ≤ 32; omega, Nat.le_refl _, Nat.le_refl _, Nat.le_refl _, Nat.le_refl _, Nat.le_refl _]⟩ hst]
  pointwise
end

/-- The window a running sum reads, its places in order. -/
theorem places : ∀ n : Fin (⟨4, ![1, 64, 1, 1]⟩ : Shape).numel, (((⟨4, ![1, 64, 1, 1]⟩ : Shape).rowMajor.symm n) 0).val = 0
    ∧ (((⟨4, ![1, 64, 1, 1]⟩ : Shape).rowMajor.symm n) 1).val = n.val ∧ (((⟨4, ![1, 64, 1, 1]⟩ : Shape).rowMajor.symm n) 2).val = 0
    ∧ (((⟨4, ![1, 64, 1, 1]⟩ : Shape).rowMajor.symm n) 3).val = 0 := by decide +kernel

/-- A fold of additions is a sum. -/
theorem fold_sum {N : ℕ} (f : Fin N → EReal) : (List.finRange N).foldl (fun r n => r + f n) 0 = ∑ n, f n := by
  rw [Fin.sum_univ_def, List.sum_eq_foldl, List.foldl_map]

/-- The sum over a window's places inside the array is the sum over the rows up to its last. -/
theorem window_sum (f : Fin 64 → EReal) (t : Fin 64) :
    (∑ n : Fin 64, if h : 63 ≤ t.val + n.val ∧ t.val + n.val - 63 < 64 then f ⟨t.val + n.val - 63, h.2⟩ else 0) = ∑ s, if s ≤ t then f s else 0 := by
  have e : ∀ n : Fin 64, (if h : 63 ≤ t.val + n.val ∧ t.val + n.val - 63 < 64 then f ⟨t.val + n.val - 63, h.2⟩ else 0)
      = if 63 ≤ t.val + n.val then f ⟨t.val + n.val - 63, by omega⟩ else 0 := fun n => by
    by_cases h : 63 ≤ t.val + n.val
    · rw [dif_pos ⟨h, by omega⟩, if_pos h]
    · rw [dif_neg (fun q => h q.1), if_neg h]
  simp only [e]
  rw [← Finset.sum_filter, ← Finset.sum_filter]
  refine Finset.sum_bij' (fun n _ => (⟨t.val + n.val - 63, by omega⟩ : Fin 64)) (fun s _ => (⟨(s.val + 63 - t.val) % 64, by omega⟩ : Fin 64)) ?_ ?_ ?_ ?_ ?_
  · intro n hn
    simp only [Finset.mem_filter, Finset.mem_univ, true_and] at hn ⊢
    exact Fin.le_def.mpr (by show t.val + n.val - 63 ≤ t.val; omega)
  · intro s hs
    simp only [Finset.mem_filter, Finset.mem_univ, true_and, Fin.le_def] at hs ⊢
    omega
  · intro n hn
    simp only [Finset.mem_filter, Finset.mem_univ, true_and] at hn
    exact Fin.ext (by show (t.val + n.val - 63 + 63 - t.val) % 64 = n.val; omega)
  · intro s hs
    simp only [Finset.mem_filter, Finset.mem_univ, true_and, Fin.le_def] at hs
    exact Fin.ext (by show t.val + (s.val + 63 - t.val) % 64 - 63 = s.val; omega)
  · intro n hn
    rfl

/-- The running sum down the rows of a chunk. -/
theorem running (x : FVec Ideal S4x64x8x4 .f32) (b : Fin 4) (t : Fin 64) (g : Fin 8) (r : Fin 4) :
    Host.reduceWindowAdd (F := Ideal) ![1, 64, 1, 1] ![1, 1, 1, 1] ![0, 63, 0, 0] ![0, 0, 0, 0] x (broadcastInDim S_ ![] bcast_S_S_ (constant S_ .f32 0x00000000#32))
      reduceWindows_S4x64x8x4_S4x64x8x4_w1s1p0_0_w64s1p63_0_w1s1p0_0_w1s1p0_0 h_S_ (ix4 b t g r) = ∑ s : Fin 64, if s ≤ t then x (ix4 b s g r) else 0 := by
  have hz : broadcastInDim S_ ![] bcast_S_S_ (constant (F := Ideal) S_ .f32 0x00000000#32) (Shape.Idx.first h_S_) = (0 : EReal) := by
    pointwise
  refine Eq.trans ?_ (window_sum (fun s => x (ix4 b s g r)) t)
  unfold Host.reduceWindowAdd
  rw [Ideal.hostReduceWindowAdd_def, hz]
  unfold Ideal.hostReduceWindowAdd Host.reduceWindow
  refine (fold_sum _).trans ?_
  refine Finset.sum_congr rfl fun n _ => ?_
  obtain ⟨p0, p1, p2, p3⟩ := places n
  have hb := b.isLt; have ht := t.isLt; have hg := g.isLt; have hr := r.isLt
  have hn : n.val < 64 := n.isLt
  by_cases h : 63 ≤ t.val + n.val ∧ t.val + n.val - 63 < 64
  · rw [dif_pos h, dif_pos]
    · refine congrArg x (funext fun a => ?_)
      fin_cases a
      · exact Fin.ext (by show b.val * 1 + ((⟨4, ![1, 64, 1, 1]⟩ : Shape).rowMajor.symm n 0).val - 0 = b.val; omega)
      · exact Fin.ext (by show t.val * 1 + ((⟨4, ![1, 64, 1, 1]⟩ : Shape).rowMajor.symm n 1).val - 63 = t.val + n.val - 63; omega)
      · exact Fin.ext (by show g.val * 1 + ((⟨4, ![1, 64, 1, 1]⟩ : Shape).rowMajor.symm n 2).val - 0 = g.val; omega)
      · exact Fin.ext (by show r.val * 1 + ((⟨4, ![1, 64, 1, 1]⟩ : Shape).rowMajor.symm n 3).val - 0 = r.val; omega)
    · intro a
      fin_cases a
      · show 0 ≤ b.val * 1 + ((⟨4, ![1, 64, 1, 1]⟩ : Shape).rowMajor.symm n 0).val ∧ b.val * 1 + ((⟨4, ![1, 64, 1, 1]⟩ : Shape).rowMajor.symm n 0).val - 0 < 4; omega
      · show 63 ≤ t.val * 1 + ((⟨4, ![1, 64, 1, 1]⟩ : Shape).rowMajor.symm n 1).val ∧ t.val * 1 + ((⟨4, ![1, 64, 1, 1]⟩ : Shape).rowMajor.symm n 1).val - 63 < 64; omega
      · show 0 ≤ g.val * 1 + ((⟨4, ![1, 64, 1, 1]⟩ : Shape).rowMajor.symm n 2).val ∧ g.val * 1 + ((⟨4, ![1, 64, 1, 1]⟩ : Shape).rowMajor.symm n 2).val - 0 < 8; omega
      · show 0 ≤ r.val * 1 + ((⟨4, ![1, 64, 1, 1]⟩ : Shape).rowMajor.symm n 3).val ∧ r.val * 1 + ((⟨4, ![1, 64, 1, 1]⟩ : Shape).rowMajor.symm n 3).val - 0 < 4; omega
  · rw [dif_neg h, dif_neg]
    intro q
    have q1 : 63 ≤ t.val * 1 + ((⟨4, ![1, 64, 1, 1]⟩ : Shape).rowMajor.symm n 1).val ∧ t.val * 1 + ((⟨4, ![1, 64, 1, 1]⟩ : Shape).rowMajor.symm n 1).val - 63 < 64 := q (1 : Fin 4)
    omega

/-- A trip's state, from the decays `v81`, the scaled channels `v93`, the columns of `B` and the state before. -/
theorem trip7 (v81 : FVec Ideal S4x64x8x4 .f32) (v93 : FVec Ideal S4x64x8x4x64 .f32) (v76 : FVec Ideal S4x64x8x128 .f32) (H : FVec Ideal S4x8x4x64x128 .f32)
    (b : Fin 4) (g : Fin 8) (r : Fin 4) (p : Fin 64) (n : Fin 128) :
    addf (mulf (broadcastInDim S4x8x4x64x128 ![0, 1, 2, 3, 4] bcast_S4x8x4x1x1_S4x8x4x64x128_0_1_2_3_4 (broadcastInDim S4x8x4x1x1 ![0, 1, 2] bcast_S4x8x4_S4x8x4x1x1_0_1_2
        (Host.exp (shapeCast S4x8x4 (extractStridedSlice S4x1x8x4 ![0, 63, 0, 0] v81 slices_S4x64x8x4_S4x1x8x4_0_63_0_0) shapeCasts_S4x1x8x4_S4x8x4)))) H)
      (Host.dotGeneral dot_S4x64x8x4x64_S4x64x8x128_S4x8x4x64x128_1_1_34_3_02_02 none (mulf v93 (broadcastInDim S4x64x8x4x64 ![0, 1, 2, 3, 4] bcast_S4x64x8x4x1_S4x64x8x4x64_0_1_2_3_4
        (broadcastInDim S4x64x8x4x1 ![0, 1, 2, 3] bcast_S4x64x8x4_S4x64x8x4x1_0_1_2_3 (Host.exp (subf (broadcastInDim S4x64x8x4 ![0, 1, 2, 3] bcast_S4x1x8x4_S4x64x8x4_0_1_2_3
          (extractStridedSlice S4x1x8x4 ![0, 63, 0, 0] v81 slices_S4x64x8x4_S4x1x8x4_0_63_0_0)) v81))))) v76) (ix5 b g r p n)
      = Ideal.exp (v81 (ix4 b 63 g r)) * H (ix5 b g r p n)
        + ∑ s : Fin 64, v93 (ix5 b s g r p) * Ideal.exp (v81 (ix4 b 63 g r) - v81 (ix4 b s g r)) * v76 (ix4 b s g n) := by
  pointwise

/-- The word of minus infinity. -/
theorem minus_inf : Ideal.ofBits FTy.f32 4286578688#32 = (⊥ : EReal) := by simp [Ideal.ofBits, Ideal.ieee]

/-- A trip's rows. -/
theorem trip8 (v81 : FVec Ideal S4x64x8x4 .f32) (v93 : FVec Ideal S4x64x8x4x64 .f32) (v76 v77 : FVec Ideal S4x64x8x128 .f32) (H : FVec Ideal S4x8x4x64x128 .f32) (M : IVec S64x64 1)
    (b : Fin 4) (t : Fin 64) (g : Fin 8) (r : Fin 4) (p : Fin 64) :
    broadcastInDim S1x4x64x8x4x64 ![1, 2, 3, 4, 5] bcast_S4x64x8x4x64_S1x4x64x8x4x64_1_2_3_4_5 (addf (transpose S4x64x8x4x64 [0, 4, 1, 2, 3] (Host.dotGeneral dot_S4x64x8x4x64_S4x8x4x64x64_S4x8x4x64x64_1_4_4_3_023_012 none v93
      (mulf (broadcastInDim S4x8x4x64x64 ![0, 1, 2, 3, 4] bcast_S4x8x1x64x64_S4x8x4x64x64_0_1_2_3_4 (broadcastInDim S4x8x1x64x64 ![0, 1, 3, 4] bcast_S4x8x64x64_S4x8x1x64x64_0_1_3_4 (Host.dotGeneral dot_S4x64x8x128_S4x64x8x128_S4x8x64x64_3_3_1_1_02_02 none v77 v76)))
        (Host.exp (select (broadcastInDim S4x8x4x64x64 ![3, 4] bcast_S64x64_S4x8x4x64x64_3_4 M)
          (subf (broadcastInDim S4x8x4x64x64 ![0, 1, 2, 3, 4] bcast_S4x8x4x64x1_S4x8x4x64x64_0_1_2_3_4 (broadcastInDim S4x8x4x64x1 ![0, 1, 2, 3] bcast_S4x8x4x64_S4x8x4x64x1_0_1_2_3 (transpose S4x8x4x64 [0, 2, 3, 1] v81 transposes_S4x64x8x4_S4x8x4x64_0_2_3_1)))
            (broadcastInDim S4x8x4x64x64 ![0, 1, 2, 3, 4] bcast_S4x8x4x1x64_S4x8x4x64x64_0_1_2_3_4 (broadcastInDim S4x8x4x1x64 ![0, 1, 2, 4] bcast_S4x8x4x64_S4x8x4x1x64_0_1_2_4 (transpose S4x8x4x64 [0, 2, 3, 1] v81 transposes_S4x64x8x4_S4x8x4x64_0_2_3_1))))
          (broadcastInDim S4x8x4x64x64 ![] bcast_S_S4x8x4x64x64 (constant S_ .f32 0xFF800000#32)))))) transposes_S4x8x4x64x64_S4x64x8x4x64_0_4_1_2_3)
      (mulf (transpose S4x64x8x4x64 [0, 4, 1, 2, 3] (Host.dotGeneral dot_S4x8x4x64x128_S4x64x8x128_S4x8x4x64x64_4_3_23_1_01_02 none H v77) transposes_S4x8x4x64x64_S4x64x8x4x64_0_4_1_2_3)
        (broadcastInDim S4x64x8x4x64 ![0, 1, 2, 3, 4] bcast_S4x64x8x4x1_S4x64x8x4x64_0_1_2_3_4 (broadcastInDim S4x64x8x4x1 ![0, 1, 2, 3] bcast_S4x64x8x4_S4x64x8x4x1_0_1_2_3 (Host.exp v81))))) (ix6 0 b t g r p)
      = (∑ s : Fin 64, v93 (ix5 b s g r p)
          * ((∑ n : Fin 128, v77 (ix4 b t g n) * v76 (ix4 b s g n))
            * Ideal.exp (Scalar.select (M (ix2 t s)) (v81 (ix4 b t g r) - v81 (ix4 b s g r)) (⊥ : EReal))))
        + (∑ n : Fin 128, H (ix5 b g r p n) * v77 (ix4 b t g n)) * Ideal.exp (v81 (ix4 b t g r)) := by
  pointwise
  rw [show Ideal.ofBits FTy.f32 4286578688#32 = (⊥ : EReal) from minus_inf]

/-- A chunk's rows written over an array of chunks. -/
theorem write_chunk {k : ℕ} (hk : k < 32) (A : FVec Ideal S32x4x64x8x4x64 .f32) (U : FVec Ideal S1x4x64x8x4x64 .f32) (st : Fin 6 → ℤ) (hst : ∀ a, st a = ((![k, 0, 0, 0, 0, 0] : Fin 6 → ℕ) a : ℤ))
    (j : Fin 32) (b : Fin 4) (s : Fin 64) (g : Fin 8) (r : Fin 4) (p : Fin 64) :
    Host.dynamicUpdateSlice A U st updateFits_S32x4x64x8x4x64_S1x4x64x8x4x64 (ix6 j b s g r p) = if j.val = k then U (ix6 0 b s g r p) else A (ix6 j b s g r p) := by
  rw [Host.dynamicUpdateSlice_eq_updateSlice A U st _ ![k, 0, 0, 0, 0, 0]
    (fun a => by rw [hst a]; fin_cases a; exacts [by show (min (max (k : ℤ) 0) ((32 - 1 : ℕ) : ℤ)).toNat = k; omega, rfl, rfl, rfl, rfl, rfl]) ⟨rfl, fun a => by fin_cases a; exacts [by show k + 1 ≤ 32; omega, Nat.le_refl _, Nat.le_refl _, Nat.le_refl _, Nat.le_refl _, Nat.le_refl _]⟩]
  pointwise
  by_cases h : j.val = k
  · rw [dif_pos (by omega), if_pos h]
    exact congrArg (fun z => U (ix6 z b s g r p)) (Subsingleton.elim _ _)
  · rw [dif_neg (by omega), if_neg h]
end Cert.SsdProduct
-- ==== Proof.SsdEntry.lean ====
/- The reference's chunks. -/
module
public import proofs.«01_k».proof.Proof.SsdTrip
@[expose] public section
set_option maxRecDepth 16384
noncomputable section
open Idealize.ShloMosaic Idealize.ShloMosaic.TcCoe Idealize.ShloMosaic.Tactic Idealize.ShloMosaic.StableHlo Idealize.SL.Sem
namespace Cert.SsdProduct
open Cert.SsdRefIdeal Cert.SsdRefIdeal.Gen Cert.SsdRefIdeal.Value

/-! What the reference's loop starts from: the layer's arguments cut into chunks of 64 rows, read at an index. -/

/-- Lane `p` of head `r` among a group's 256 lanes. -/
def wof (r : Fin 4) (p : Fin 64) : Fin 256 := ⟨64 * r.val + p.val, by omega⟩
/-- Head `r` of group `g` among the 32 heads. -/
def hof (g : Fin 8) (r : Fin 4) : Fin 32 := ⟨4 * g.val + r.val, by omega⟩

/-- The head of a lane. -/
theorem head_wof (g : Fin 8) (r : Fin 4) (p : Fin 64) : head g (wof r p) = hof g r :=
  Fin.ext (by show 4 * g.val + (64 * r.val + p.val) / 64 = 4 * g.val + r.val; omega)

/-- The channels, cut into chunks. -/
def chunksX (a : FVec Ideal S8192x4096 .f32) : FVec Ideal S32x4x64x8x4x64 .f32 :=
  transpose S32x4x64x8x4x64 [1, 0, 2, 3, 4, 5] (shapeCast S4x32x64x8x4x64 (pad S4x2048x8x4x64 ![0, 0, 0, 0, 0] ![0, 0, 0, 0, 0] ![0, 0, 0, 0, 0]
    (shapeCast S4x2048x8x4x64 (extractStridedSlice S4x2048x2048 ![0, 0, 0] (shapeCast S4x2048x4096 a shapeCasts_S8192x4096_S4x2048x4096) slices_S4x2048x4096_S4x2048x2048_0_0_0)
      shapeCasts_S4x2048x2048_S4x2048x8x4x64) (sitofp (F := Ideal) .f32 (constantI S_ 32 0#32)) pads_S4x2048x8x4x64_S4x2048x8x4x64_000_000_000_000_000 h_S_)
    shapeCasts_S4x2048x8x4x64_S4x32x64x8x4x64) transposes_S4x32x64x8x4x64_S32x4x64x8x4x64_1_0_2_3_4_5

/-- The columns of `B`, cut into chunks. -/
def chunksB (a : FVec Ideal S8192x4096 .f32) : FVec Ideal S32x4x64x8x128 .f32 :=
  transpose S32x4x64x8x128 [1, 0, 2, 3, 4] (shapeCast S4x32x64x8x128 (pad S4x2048x8x128 ![0, 0, 0, 0] ![0, 0, 0, 0] ![0, 0, 0, 0]
    (shapeCast S4x2048x8x128 (extractStridedSlice S4x2048x1024 ![0, 0, 2048] (shapeCast S4x2048x4096 a shapeCasts_S8192x4096_S4x2048x4096) slices_S4x2048x4096_S4x2048x1024_0_0_2048)
      shapeCasts_S4x2048x1024_S4x2048x8x128) (sitofp (F := Ideal) .f32 (constantI S_ 32 0#32)) pads_S4x2048x8x128_S4x2048x8x128_000_000_000_000 h_S_)
    shapeCasts_S4x2048x8x128_S4x32x64x8x128) transposes_S4x32x64x8x128_S32x4x64x8x128_1_0_2_3_4

/-- The columns of `C`, cut into chunks. -/
def chunksC (a : FVec Ideal S8192x4096 .f32) : FVec Ideal S32x4x64x8x128 .f32 :=
  transpose S32x4x64x8x128 [1, 0, 2, 3, 4] (shapeCast S4x32x64x8x128 (pad S4x2048x8x128 ![0, 0, 0, 0] ![0, 0, 0, 0] ![0, 0, 0, 0]
    (shapeCast S4x2048x8x128 (extractStridedSlice S4x2048x1024 ![0, 0, 3072] (shapeCast S4x2048x4096 a shapeCasts_S8192x4096_S4x2048x4096) slices_S4x2048x4096_S4x2048x1024_0_0_3072)
      shapeCasts_S4x2048x1024_S4x2048x8x128) (sitofp (F := Ideal) .f32 (constantI S_ 32 0#32)) pads_S4x2048x8x128_S4x2048x8x128_000_000_000_000 h_S_)
    shapeCasts_S4x2048x8x128_S4x32x64x8x128) transposes_S4x32x64x8x128_S32x4x64x8x128_1_0_2_3_4

/-- The softplus on an array, as the reference writes it. -/
def softs (v : FVec Ideal S4x2048x32 .f32) : FVec Ideal S4x2048x32 .f32 :=
  select (cmpf .une (subf v (broadcastInDim S4x2048x32 ![] bcast_S_S4x2048x32 (constant S_ .f32 0#32))) (subf v (broadcastInDim S4x2048x32 ![] bcast_S_S4x2048x32 (constant S_ .f32 0#32))))
    (addf v (broadcastInDim S4x2048x32 ![] bcast_S_S4x2048x32 (constant S_ .f32 0#32)))
    (addf (maximumf v (broadcastInDim S4x2048x32 ![] bcast_S_S4x2048x32 (constant S_ .f32 0#32)))
      (Host.log1p (Host.exp (Host.negf (Host.absf (subf v (broadcastInDim S4x2048x32 ![] bcast_S_S4x2048x32 (constant S_ .f32 0#32))))))))

/-- The step sizes before the softplus. -/
def steps (a : FVec Ideal S9216x128 .f32) (b : FVec Ideal S1x32 .f32) : FVec Ideal S4x2048x32 .f32 :=
  addf (shapeCast S4x2048x32 (extractStridedSlice S8192x32 ![0, 32] a slices_S9216x128_S8192x32_0_32) shapeCasts_S8192x32_S4x2048x32)
    (broadcastInDim S4x2048x32 ![0, 1, 2] bcast_S1x1x32_S4x2048x32_0_1_2 (broadcastInDim S1x1x32 ![2] bcast_S32_S1x1x32_2 (shapeCast S32 b shapeCasts_S1x32_S32)))

/-- The step sizes, cut into chunks. -/
def chunksD (v : FVec Ideal S4x2048x32 .f32) : FVec Ideal S32x4x64x8x4 .f32 :=
  transpose S32x4x64x8x4 [1, 0, 2, 3, 4] (shapeCast S4x32x64x8x4 (pad S4x2048x8x4 ![0, 0, 0, 0] ![0, 0, 0, 0] ![0, 0, 0, 0]
    (shapeCast S4x2048x8x4 v shapeCasts_S4x2048x32_S4x2048x8x4) (sitofp (F := Ideal) .f32 (constantI S_ 32 0#32)) pads_S4x2048x8x4_S4x2048x8x4_000_000_000_000 h_S_)
    shapeCasts_S4x2048x8x4_S4x32x64x8x4) transposes_S4x32x64x8x4_S32x4x64x8x4_1_0_2_3_4

/-- The negated rates. -/
def rates (a : FVec Ideal S1x32 .f32) : FVec Ideal S8x4 .f32 :=
  Host.negf (shapeCast S8x4 (Host.exp (shapeCast S32 a shapeCasts_S1x32_S32)) shapeCasts_S32_S8x4)

/-- The test that a row is not after another. -/
def tests : IVec S64x64 1 :=
  cmpi .sge (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

/-- The chunks of the channels at an index. -/
theorem chunksX_at (a : FVec Ideal S8192x4096 .f32) (k : Fin 32) (b : Fin 4) (s : Fin 64) (g : Fin 8) (r : Fin 4) (p : Fin 64) :
    chunksX a (ix6 k b s g r p) = xc (CS a) b k.val s (chan g (wof r p)) := by
  pointwise [chunksX]
  unfold xc CS row chan wof
  have hk := k.isLt
  rw [dif_pos (by omega)]
  exact congrArg₂ (fun x y => a (ix2 x y)) (Fin.ext (by show b.val * 2048 + (k.val * 64 + s.val) = (2048 * b.val + 64 * k.val + s.val) % 8192; omega))
    (Fin.ext (by show g.val * 256 + r.val * 64 + p.val = 256 * g.val + (64 * r.val + p.val); omega))

/-- The chunks of `B` at an index. -/
theorem chunksB_at (a : FVec Ideal S8192x4096 .f32) (k : Fin 32) (b : Fin 4) (s : Fin 64) (g : Fin 8) (n : Fin 128) :
    chunksB a (ix5 k b s g n) = bc (CS a) b k.val s (scol g n) := by
  pointwise [chunksB]
  unfold bc CS row scol
  have hk := k.isLt
  rw [dif_pos (by omega)]
  exact congrArg₂ (fun x y => a (ix2 x y)) (Fin.ext (by show b.val * 2048 + (k.val * 64 + s.val) = (2048 * b.val + 64 * k.val + s.val) % 8192; omega))
    (Fin.ext (by show 2048 + (g.val * 128 + n.val) = 2048 + (128 * g.val + n.val); omega))

/-- The chunks of `C` at an index. -/
theorem chunksC_at (a : FVec Ideal S8192x4096 .f32) (k : Fin 32) (b : Fin 4) (s : Fin 64) (g : Fin 8) (n : Fin 128) :
    chunksC a (ix5 k b s g n) = cc (CS a) b k.val s (scol g n) := by
  pointwise [chunksC]
  unfold cc CS row scol
  have hk := k.isLt
  rw [dif_pos (by omega)]
  exact congrArg₂ (fun x y => a (ix2 x y)) (Fin.ext (by show b.val * 2048 + (k.val * 64 + s.val) = (2048 * b.val + 64 * k.val + s.val) % 8192; omega))
    (Fin.ext (by show 3072 + (g.val * 128 + n.val) = 3072 + (128 * g.val + n.val); omega))

/-- The reference's softplus at an index. -/
theorem softs_at (v : FVec Ideal S4x2048x32 .f32) (b : Fin 4) (q : Fin 2048) (h : Fin 32) : softs v (ix3 b q h) = splus (v (ix3 b q h)) := by
  pointwise [softs]
  rw [if_neg (fun q => q rfl)]
  rfl

/-- The chunks of the step sizes at an index. -/
theorem chunksD_at (a : FVec Ideal S9216x128 .f32) (e : FVec Ideal S1x32 .f32) (k : Fin 32) (b : Fin 4) (s : Fin 64) (g : Fin 8) (r : Fin 4) :
    chunksD (softs (steps a e)) (ix5 k b s g r) = dtc (DB a) (HP e) b k.val s (hof g r) := by
  have h : ∀ v : FVec Ideal S4x2048x32 .f32, chunksD v (ix5 k b s g r) = v (ix3 b (⟨64 * k.val + s.val, by omega⟩ : Fin 2048) (hof g r)) := fun v => by
    pointwise [chunksD]
    have hk := k.isLt
    rw [dif_pos (by omega)]
    exact congrArg₂ (fun x y => v (ix3 b x y)) (Fin.ext (by show k.val * 64 + s.val = 64 * k.val + s.val; omega)) (Fin.ext (by show g.val * 4 + r.val = 4 * g.val + r.val; omega))
  have h2 : ∀ (q : Fin 2048) (j : Fin 32), steps a e (ix3 b q j) = a (ix2 (⟨2048 * b.val + q.val, by omega⟩ : Fin 9216) (hcol j)) + e (ix2 (0 : Fin 1) j) := fun q j => by
    pointwise [steps]
    exact congrArg (fun x => a (ix2 x (hcol j)) + e (ix2 (0 : Fin 1) j)) (Fin.ext (by show b.val * 2048 + q.val = 2048 * b.val + q.val; omega))
  rw [h, softs_at, h2]
  unfold dtc DB HP row
  exact congrArg (fun x => splus (a (ix2 x (hcol (hof g r))) + e (ix2 (0 : Fin 1) (hof g r))))
    (Fin.ext (by show 2048 * b.val + (64 * k.val + s.val) = (2048 * b.val + 64 * k.val + s.val) % 8192; have hk := k.isLt; omega))

/-- The negated rates at an index. -/
theorem rates_at (a : FVec Ideal S1x32 .f32) (g : Fin 8) (r : Fin 4) : rates a (ix2 g r) = -(Ideal.exp (HP a (hof g r))) := by
  pointwise [rates]
  unfold HP hof
  exact congrArg (fun x => -(Ideal.exp (a (ix2 (0 : Fin 1) x)))) (Fin.ext (by show g.val * 4 + r.val = 4 * g.val + r.val; omega))

/-- The test at an index. -/
theorem tests_at (t s : Fin 64) : tests (ix2 t s) = if s ≤ t then 1#1 else 0#1 := by
  pointwise [tests]
  exact row_test t s

section
variable (m : (ℓ : Loc nD τ sig) → Buf (Elt Ideal) ℓ) (c : Dev nD)

set_option maxHeartbeats 4000000 in
/-- The loop's channels. -/
theorem entry_X : entryContents preI m c (Proc.devRef .tc main_v39_0) = chunksX (m ((c.tc : Thread nD τ).loc main_arg0)) := by
  simp only [entryContents, afterL_cons, afterL_nil]
  after_reads_simp
  rfl
set_option maxHeartbeats 4000000 in
/-- The loop's step sizes. -/
theorem entry_D : entryContents preI m c (Proc.devRef .tc main_v39_1) = chunksD (softs (steps (m ((c.tc : Thread nD τ).loc main_arg2)) (m ((c.tc : Thread nD τ).loc main_arg4)))) := by
  simp only [entryContents, afterL_cons, afterL_nil]
  after_reads_simp
  rfl
set_option maxHeartbeats 4000000 in
/-- The loop's columns of `B`. -/
theorem entry_B : entryContents preI m c (Proc.devRef .tc main_v39_2) = chunksB (m ((c.tc : Thread nD τ).loc main_arg0)) := by
  simp only [entryContents, afterL_cons, afterL_nil]
  after_reads_simp
  rfl
set_option maxHeartbeats 4000000 in
/-- The loop's columns of `C`. -/
theorem entry_C : entryContents preI m c (Proc.devRef .tc main_v39_3) = chunksC (m ((c.tc : Thread nD τ).loc main_arg0)) := by
  simp only [entryContents, afterL_cons, afterL_nil]
  after_reads_simp
  rfl
set_option maxHeartbeats 4000000 in
/-- The loop's negated rates. -/
theorem entry_A : entryContents preI m c (Proc.devRef .tc main_v39_4) = rates (m ((c.tc : Thread nD τ).loc main_arg3)) := by
  simp only [entryContents, afterL_cons, afterL_nil]
  after_reads_simp
  rfl
set_option maxHeartbeats 4000000 in
/-- The loop's test of rows. -/
theorem entry_M : entryContents preI m c (Proc.devRef .tc main_v39_5) = tests := by
  simp only [entryContents, afterL_cons, afterL_nil]
  after_reads_simp
  rfl
set_option maxHeartbeats 4000000 in
/-- The loop's counter. -/
theorem entry_K : entryContents preI m c (Proc.devRef .tc main_v39_6) = fun _ => BitVec.ofNat 32 0 := by
  simp only [entryContents, afterL_cons, afterL_nil]
  after_reads_simp
  rfl
set_option maxHeartbeats 4000000 in
/-- The loop's state. -/
theorem entry_H : entryContents preI m c (Proc.devRef .tc main_v39_7) = broadcastInDim S4x8x4x64x128 ![] bcast_S_S4x8x4x64x128 (constant (F := Ideal) S_ .f32 0#32) := by
  simp only [entryContents, afterL_cons, afterL_nil]
  after_reads_simp
  rfl
end
end Cert.SsdProduct
-- ==== Proof.SsdRef.lean ====
/- The reference's loop. -/
module
public import proofs.«01_k».proof.Proof.SsdEntry
@[expose] public section
set_option maxRecDepth 16384
noncomputable section
open Idealize.ShloMosaic Idealize.ShloMosaic.TcCoe Idealize.ShloMosaic.Tactic Idealize.ShloMosaic.StableHlo Idealize.SL.Sem
namespace Cert.SsdProduct
open Cert.SsdRefIdeal Cert.SsdRefIdeal.Gen Cert.SsdRefIdeal.Value

/-! The reference's loop, trip by trip: before trip `k` it carries the state before chunk `k` and the rows of
the chunks before it. -/

section
variable (cs : Fin 8192 → Fin 4096 → EReal) (db : Fin 8192 → Fin 32 → EReal) (al bi : Fin 32 → EReal)

/-- What the loop carries before trip `k`. -/
structure Before (k : ℕ) (X : FVec Ideal S32x4x64x8x4x64 .f32) (D : FVec Ideal S32x4x64x8x4 .f32) (B C : FVec Ideal S32x4x64x8x128 .f32) (A : FVec Ideal S8x4 .f32)
    (M : IVec S64x64 1) (K : IVec S_ 32) (H : FVec Ideal S4x8x4x64x128 .f32) (Y : FVec Ideal S32x4x64x8x4x64 .f32) : Prop where
  hX : ∀ (j : Fin 32) (b : Fin 4) (s : Fin 64) (g : Fin 8) (r : Fin 4) (p : Fin 64), X (ix6 j b s g r p) = xc cs b j.val s (chan g (wof r p))
  hD : ∀ (j : Fin 32) (b : Fin 4) (s : Fin 64) (g : Fin 8) (r : Fin 4), D (ix5 j b s g r) = dtc db bi b j.val s (hof g r)
  hB : ∀ (j : Fin 32) (b : Fin 4) (s : Fin 64) (g : Fin 8) (n : Fin 128), B (ix5 j b s g n) = bc cs b j.val s (scol g n)
  hC : ∀ (j : Fin 32) (b : Fin 4) (s : Fin 64) (g : Fin 8) (n : Fin 128), C (ix5 j b s g n) = cc cs b j.val s (scol g n)
  hA : ∀ (g : Fin 8) (r : Fin 4), A (ix2 g r) = -(Ideal.exp (al (hof g r)))
  hM : ∀ t s : Fin 64, M (ix2 t s) = if s ≤ t then 1#1 else 0#1
  hK : K = fun _ => BitVec.ofNat 32 k
  hH : ∀ (b : Fin 4) (g : Fin 8) (r : Fin 4) (p : Fin 64) (n : Fin 128), H (ix5 b g r p n) = state cs db al bi b k g (wof r p) n
  hY : ∀ (j : Fin 32) (b : Fin 4) (t : Fin 64) (g : Fin 8) (r : Fin 4) (p : Fin 64), j.val < k → Y (ix6 j b t g r p) = yrow cs db al bi b j.val t g (wof r p)

/-- `Before` of the loop's buffers. -/
abbrev BeforeV (k : ℕ) (V : Valuation τ sig (Elt Ideal)) : Prop :=
  Before cs db al bi k (V (Proc.devRef .tc main_v39_0)) (V (Proc.devRef .tc main_v39_1)) (V (Proc.devRef .tc main_v39_2)) (V (Proc.devRef .tc main_v39_3))
    (V (Proc.devRef .tc main_v39_4)) (V (Proc.devRef .tc main_v39_5)) (V (Proc.devRef .tc main_v39_6)) (V (Proc.devRef .tc main_v39_7)) (V (Proc.devRef .tc main_v39_8))

/-- The step sizes times the negated rates. -/
theorem scaled (D : FVec Ideal S4x64x8x4 .f32) (A : FVec Ideal S8x4 .f32) (b : Fin 4) (s : Fin 64) (g : Fin 8) (r : Fin 4) :
    mulf D (broadcastInDim S4x64x8x4 ![0, 1, 2, 3] bcast_S1x1x8x4_S4x64x8x4_0_1_2_3 (broadcastInDim S1x1x8x4 ![2, 3] bcast_S8x4_S1x1x8x4_2_3 A)) (ix4 b s g r) = D (ix4 b s g r) * A (ix2 g r) := by
  pointwise

variable {cs db al bi}

/-- The state after a trip. -/
theorem state_next (k : ℕ) (v81 : FVec Ideal S4x64x8x4 .f32) (v93 : FVec Ideal S4x64x8x4x64 .f32) (v76 : FVec Ideal S4x64x8x128 .f32) (H : FVec Ideal S4x8x4x64x128 .f32)
    (h81 : ∀ (b : Fin 4) (t : Fin 64) (g : Fin 8) (r : Fin 4), v81 (ix4 b t g r) = gcc db al bi b k t (hof g r))
    (h93 : ∀ (b : Fin 4) (s : Fin 64) (g : Fin 8) (r : Fin 4) (p : Fin 64), v93 (ix5 b s g r p) = xc cs b k s (chan g (wof r p)) * dtc db bi b k s (hof g r))
    (h76 : ∀ (b : Fin 4) (s : Fin 64) (g : Fin 8) (n : Fin 128), v76 (ix4 b s g n) = bc cs b k s (scol g n))
    (hH : ∀ (b : Fin 4) (g : Fin 8) (r : Fin 4) (p : Fin 64) (n : Fin 128), H (ix5 b g r p n) = state cs db al bi b k g (wof r p) n)
    (b : Fin 4) (g : Fin 8) (r : Fin 4) (p : Fin 64) (n : Fin 128) (y : EReal)
    (hy : y = Ideal.exp (v81 (ix4 b 63 g r)) * H (ix5 b g r p n)
        + ∑ s : Fin 64, v93 (ix5 b s g r p) * Ideal.exp (v81 (ix4 b 63 g r) - v81 (ix4 b s g r)) * v76 (ix4 b s g n)) :
    y = state cs db al bi b (k + 1) g (wof r p) n := by
  simp only [h81, h93, h76, hH] at hy
  rw [hy]
  show _ = next _ _ _ _ _ g (wof r p) n
  unfold next
  rw [head_wof]

/-- The rows of a trip. -/
theorem rows_next (k : ℕ) (v81 : FVec Ideal S4x64x8x4 .f32) (v93 : FVec Ideal S4x64x8x4x64 .f32) (v76 v77 : FVec Ideal S4x64x8x128 .f32) (H : FVec Ideal S4x8x4x64x128 .f32) (M : IVec S64x64 1)
    (h81 : ∀ (b : Fin 4) (t : Fin 64) (g : Fin 8) (r : Fin 4), v81 (ix4 b t g r) = gcc db al bi b k t (hof g r))
    (h93 : ∀ (b : Fin 4) (s : Fin 64) (g : Fin 8) (r : Fin 4) (p : Fin 64), v93 (ix5 b s g r p) = xc cs b k s (chan g (wof r p)) * dtc db bi b k s (hof g r))
    (h76 : ∀ (b : Fin 4) (s : Fin 64) (g : Fin 8) (n : Fin 128), v76 (ix4 b s g n) = bc cs b k s (scol g n))
    (h77 : ∀ (b : Fin 4) (s : Fin 64) (g : Fin 8) (n : Fin 128), v77 (ix4 b s g n) = cc cs b k s (scol g n))
    (hH : ∀ (b : Fin 4) (g : Fin 8) (r : Fin 4) (p : Fin 64) (n : Fin 128), H (ix5 b g r p n) = state cs db al bi b k g (wof r p) n)
    (hM : ∀ t s : Fin 64, M (ix2 t s) = if s ≤ t then 1#1 else 0#1)
    (b : Fin 4) (t : Fin 64) (g : Fin 8) (r : Fin 4) (p : Fin 64) (y : EReal)
    (hy : y = (∑ s : Fin 64, v93 (ix5 b s g r p)
          * ((∑ n : Fin 128, v77 (ix4 b t g n) * v76 (ix4 b s g n))
            * Ideal.exp (Scalar.select (M (ix2 t s)) (v81 (ix4 b t g r) - v81 (ix4 b s g r)) (⊥ : EReal))))
        + (∑ n : Fin 128, H (ix5 b g r p n) * v77 (ix4 b t g n)) * Ideal.exp (v81 (ix4 b t g r))) :
    y = yrow cs db al bi b k t g (wof r p) := by
  simp only [h81, h93, h76, h77, hH, hM, choose] at hy
  rw [hy]
  unfold yrow reads
  rw [head_wof]

/-- One trip. -/
theorem step {k : ℕ} (hk : k < 32) (V : Valuation τ sig (Elt Ideal)) (h : BeforeV cs db al bi k V) : BeforeV cs db al bi (k + 1) (STEP V) := by
  have h75 : ∀ (b : Fin 4) (s : Fin 64) (g : Fin 8) (r : Fin 4), (res_main_while0b_v75 V : FVec Ideal S4x64x8x4 .f32) (ix4 b s g r) = dtc db bi b k s (hof g r) := fun b s g r =>
    (chunk_dt hk (V (Proc.devRef .tc main_v39_1)) _ (start5 hk _ h.hK) b s g r).trans (h.hD ⟨k, hk⟩ b s g r)
  have h76 : ∀ (b : Fin 4) (s : Fin 64) (g : Fin 8) (n : Fin 128), (res_main_while0b_v76 V : FVec Ideal S4x64x8x128 .f32) (ix4 b s g n) = bc cs b k s (scol g n) := fun b s g n =>
    (chunk_bc hk (V (Proc.devRef .tc main_v39_2)) _ (start5 hk _ h.hK) b s g n).trans (h.hB ⟨k, hk⟩ b s g n)
  have h77 : ∀ (b : Fin 4) (s : Fin 64) (g : Fin 8) (n : Fin 128), (res_main_while0b_v77 V : FVec Ideal S4x64x8x128 .f32) (ix4 b s g n) = cc cs b k s (scol g n) := fun b s g n =>
    (chunk_bc hk (V (Proc.devRef .tc main_v39_3)) _ (start5 hk _ h.hK) b s g n).trans (h.hC ⟨k, hk⟩ b s g n)
  have h81 : ∀ (b : Fin 4) (t : Fin 64) (g : Fin 8) (r : Fin 4), (res_main_while0b_v81 V : FVec Ideal S4x64x8x4 .f32) (ix4 b t g r) = gcc db al bi b k t (hof g r) := fun b t g r =>
    (running _ b t g r).trans (by
      unfold gcc decay
      refine Finset.sum_congr rfl fun s _ => ?_
      exact congrArg (fun z => if s ≤ t then z else (0 : EReal))
        ((scaled (res_main_while0b_v75 V) (V (Proc.devRef .tc main_v39_4)) b s g r).trans (Ideal.mul_congr (h75 b s g r) (h.hA g r))))
  have h93 : ∀ (b : Fin 4) (s : Fin 64) (g : Fin 8) (r : Fin 4) (p : Fin 64), (res_main_while0b_v93 V : FVec Ideal S4x64x8x4x64 .f32) (ix5 b s g r p) = xc cs b k s (chan g (wof r p)) * dtc db bi b k s (hof g r) := fun b s g r p =>
    (chunk_x hk (V (Proc.devRef .tc main_v39_0)) (res_main_while0b_v75 V) _ (start6 hk _ h.hK) b s g r p).trans (Ideal.mul_congr (h.hX ⟨k, hk⟩ b s g r p) (h75 b s g r))
  unfold BeforeV
  rw [STEP_main_v39_0, STEP_main_v39_1, STEP_main_v39_2, STEP_main_v39_3, STEP_main_v39_4, STEP_main_v39_5, STEP_main_v39_6, STEP_main_v39_7, STEP_main_v39_8]
  refine ⟨h.hX, h.hD, h.hB, h.hC, h.hA, h.hM, ?_, ?_, ?_⟩
  · show addi (V (Proc.devRef .tc main_v39_6)) (constantI S_ 32 1#32) = _
    rw [h.hK]
    funext i
    exact (BitVec.ofNat_add (n := 32) k 1).symm
  · intro b g r p n
    exact state_next k (res_main_while0b_v81 V) (res_main_while0b_v93 V) (res_main_while0b_v76 V) (V (Proc.devRef .tc main_v39_7)) h81 h93 h76 h.hH b g r p n _
      (trip7 (res_main_while0b_v81 V) (res_main_while0b_v93 V) (res_main_while0b_v76 V) (V (Proc.devRef .tc main_v39_7)) b g r p n)
  · intro j b t g r p hj
    refine (write_chunk hk (V (Proc.devRef .tc main_v39_8)) _ _ (start6 hk _ h.hK) j b t g r p).trans ?_
    by_cases e : j.val = k
    · rw [if_pos e, e]
      exact rows_next k (res_main_while0b_v81 V) (res_main_while0b_v93 V) (res_main_while0b_v76 V) (res_main_while0b_v77 V) (V (Proc.devRef .tc main_v39_7)) (V (Proc.devRef .tc main_v39_5))
        h81 h93 h76 h77 h.hH h.hM b t g r p _
        (trip8 (res_main_while0b_v81 V) (res_main_while0b_v93 V) (res_main_while0b_v76 V) (res_main_while0b_v77 V) (V (Proc.devRef .tc main_v39_7)) (V (Proc.devRef .tc main_v39_5)) b t g r p)
    · rw [if_neg e]
      exact h.hY j b t g r p (by omega)
end

/-- The zeros the state starts from. -/
theorem zero_state (b : Fin 4) (g : Fin 8) (r : Fin 4) (p : Fin 64) (n : Fin 128) :
    broadcastInDim S4x8x4x64x128 ![] bcast_S_S4x8x4x64x128 (constant (F := Ideal) S_ .f32 0#32) (ix5 b g r p n) = (0 : EReal) := by
  pointwise

section
variable (m : (ℓ : Loc nD τ sig) → Buf (Elt Ideal) ℓ) (c : Dev nD)

/-- The loop after `k` trips. -/
theorem trips : ∀ k : ℕ, k ≤ 32 → BeforeV (CS (m ((c.tc : Thread nD τ).loc main_arg0))) (DB (m ((c.tc : Thread nD τ).loc main_arg2))) (HP (m ((c.tc : Thread nD τ).loc main_arg3)))
    (HP (m ((c.tc : Thread nD τ).loc main_arg4))) k (STEP^[k] (entryContents preI m c)) := by
  intro k
  induction k with
  | zero =>
    intro _
    rw [Function.iterate_zero, id_eq]
    unfold BeforeV
    rw [entry_X, entry_D, entry_B, entry_C, entry_A, entry_M, entry_K, entry_H]
    exact ⟨chunksX_at _, chunksD_at _ _, chunksB_at _, chunksC_at _, rates_at _, tests_at, rfl, zero_state, fun j _ _ _ _ _ hj => absurd hj (Nat.not_lt_zero _)⟩
  | succ k ih =>
    intro hk
    rw [Function.iterate_succ_apply']
    exact step (by omega) _ (ih (by omega))
end
end Cert.SsdProduct
-- ==== Proof.SsdEnd.lean ====
/- The reference's two results. -/
module
public import proofs.«01_k».proof.Proof.SsdRef
@[expose] public section
set_option maxRecDepth 16384
noncomputable section
open Idealize.ShloMosaic Idealize.ShloMosaic.TcCoe Idealize.ShloMosaic.Tactic Idealize.ShloMosaic.StableHlo Idealize.SL.Sem
namespace Cert.SsdProduct
open Cert.SsdRefIdeal Cert.SsdRefIdeal.Gen Cert.SsdRefIdeal.Value

/-! What the reference makes of the loop's rows and state: the gate, the normalisation, the two results. -/

/-- The gated rows, as the reference writes them. -/
def gates (Y : FVec Ideal S32x4x64x8x4x64 .f32) (a0 : FVec Ideal S8192x4096 .f32) (a1 : FVec Ideal S9216x6144 .f32) (a5 : FVec Ideal S1x32 .f32) : FVec Ideal S4x2048x2048 .f32 :=
  mulf (shapeCast S4x2048x2048 (addf (shapeCast S4x2048x8x4x64 (transpose S4x32x64x8x4x64 [1, 0, 2, 3, 4, 5] Y transposes_S32x4x64x8x4x64_S4x32x64x8x4x64_1_0_2_3_4_5) shapeCasts_S4x32x64x8x4x64_S4x2048x8x4x64)
      (mulf (broadcastInDim S4x2048x8x4x64 ![0, 1, 2, 3, 4] bcast_S1x1x8x4x1_S4x2048x8x4x64_0_1_2_3_4 (broadcastInDim S1x1x8x4x1 ![2, 3, 4] bcast_S8x4x1_S1x1x8x4x1_2_3_4
          (broadcastInDim S8x4x1 ![0, 1] bcast_S8x4_S8x4x1_0_1 (shapeCast S8x4 (shapeCast S32 a5 shapeCasts_S1x32_S32) shapeCasts_S32_S8x4))))
        (shapeCast S4x2048x8x4x64 (extractStridedSlice S4x2048x2048 ![0, 0, 0] (shapeCast S4x2048x4096 a0 shapeCasts_S8192x4096_S4x2048x4096) slices_S4x2048x4096_S4x2048x2048_0_0_0)
          shapeCasts_S4x2048x2048_S4x2048x8x4x64))) shapeCasts_S4x2048x8x4x64_S4x2048x2048)
    (mulf (shapeCast S4x2048x2048 (extractStridedSlice S8192x2048 ![0, 0] a1 slices_S9216x6144_S8192x2048_0_0) shapeCasts_S8192x2048_S4x2048x2048)
      (Host.divf (broadcastInDim S4x2048x2048 ![] bcast_S_S4x2048x2048 (constant S_ .f32 0x3F800000#32)) (addf (broadcastInDim S4x2048x2048 ![] bcast_S_S4x2048x2048 (constant S_ .f32 0x3F800000#32))
        (Host.exp (Host.negf (shapeCast S4x2048x2048 (extractStridedSlice S8192x2048 ![0, 0] a1 slices_S9216x6144_S8192x2048_0_0) shapeCasts_S8192x2048_S4x2048x2048))))))

/-- The normalisation, as the reference writes it. -/
def norms (G : FVec Ideal S4x2048x2048 .f32) (a6 : FVec Ideal S1x2048 .f32) : FVec Ideal S8192x2048 .bf16 :=
  shapeCast S8192x2048 (truncf .bf16 (mulf (mulf G (broadcastInDim S4x2048x2048 ![0, 1, 2] bcast_S4x2048x1_S4x2048x2048_0_1_2 (Host.rsqrt (addf
      (Host.divf (broadcastInDim S4x2048x1 ![0, 1] bcast_S4x2048_S4x2048x1_0_1 (Host.reduceAdd (mulf G G) (constant S_ .f32 0x00000000#32) reducesTo_S4x2048x2048_S4x2048_d2 h_S_))
        (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 (shapeCast S2048 a6 shapeCasts_S1x2048_S2048))))) shapeCasts_S4x2048x2048_S8192x2048

/-- A gated row at an index. -/
theorem gates_at (Y : FVec Ideal S32x4x64x8x4x64 .f32) (a0 : FVec Ideal S8192x4096 .f32) (a1 : FVec Ideal S9216x6144 .f32) (a5 : FVec Ideal S1x32 .f32)
    (b : Fin 4) (q : Fin 2048) (l : Fin 2048) :
    gates Y a0 a1 a5 (ix3 b q l)
      = gated (Y (ix6 (⟨q.val / 64, by omega⟩ : Fin 32) b (⟨q.val % 64, by omega⟩ : Fin 64) (grp l) (⟨lane l / 64, by have := (lane l).isLt; omega⟩ : Fin 4) (⟨l.val % 64, by omega⟩ : Fin 64)))
          (HP a5 (head (grp l) (lane l))) (xc (CS a0) b (q.val / 64) ⟨q.val % 64, by omega⟩ l) (ZZ a1 (row b (q.val / 64) ⟨q.val % 64, by omega⟩) l) := by
  pointwise [gates]
  have er : b.val * 2048 + q.val = (2048 * b.val + 64 * (q.val / 64) + q.val % 64) % 8192 := by omega
  exact Ideal.mul_congr
    (Ideal.add_congr
      (congrArg (fun z : Fin 4 => Y (ix6 (⟨q.val / 64, by omega⟩ : Fin 32) b (⟨q.val % 64, by omega⟩ : Fin 64) (grp l) z (⟨l.val % 64, by omega⟩ : Fin 64)))
        (Fin.ext (by show l.val / 64 % 4 = l.val % 256 / 64; omega)))
      (Ideal.mul_congr
        (congrArg (fun z : Fin 32 => a5 (ix2 (0 : Fin 1) z)) (Fin.ext (by show l.val / 256 * 4 + l.val / 64 % 4 = 4 * (l.val / 256) + l.val % 256 / 64; omega)))
        (congrArg (fun z : Fin 8192 => a0 (ix2 z (⟨l.val, by omega⟩ : Fin 4096))) (Fin.ext er))))
    (congrArg (fun z : Fin 9216 => a1 (ix2 z (⟨l.val, by omega⟩ : Fin 6144)) * Ideal.div 1 (1 + Ideal.exp (-(a1 (ix2 z (⟨l.val, by omega⟩ : Fin 6144)))))) (Fin.ext er))

/-- The normalisation at an index. -/
theorem norms_at (G : FVec Ideal S4x2048x2048 .f32) (a6 : FVec Ideal S1x2048 .f32) (r : Fin 8192) (l : Fin 2048) :
    norms G a6 (ix2 r l) = normed (fun j => G (ix3 (⟨r.val / 2048, by omega⟩ : Fin 4) (⟨r.val % 2048, by omega⟩ : Fin 2048) j)) (GA a6) l := by
  pointwise [norms]
  rfl

section
variable (m : (ℓ : Loc nD τ sig) → Buf (Elt Ideal) ℓ) (c : Dev nD)

/-- The reference's first result. -/
theorem ref_rows : out_main_v72 (STEP^[32] (entryContents preI m c))
    = RES8 (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  have hV := trips m c 32 (le_refl _)
  have e : out_main_v72 (STEP^[32] (entryContents preI m c)) = norms (gates ((STEP^[32] (entryContents preI m c)) (Proc.devRef .tc main_v39_8)) (m ((c.tc : Thread nD τ).loc main_arg0))
      (m ((c.tc : Thread nD τ).loc main_arg1)) (m ((c.tc : Thread nD τ).loc main_arg5))) (m ((c.tc : Thread nD τ).loc main_arg6)) := by
    unfold out_main_v72
    rw [iter_main_arg0, iter_main_arg1, iter_main_arg5, iter_main_arg6]
    rfl
  rw [e]
  funext i
  obtain ⟨r, l, rfl⟩ : ∃ (r : Fin 8192) (l : Fin 2048), i = ix2 r l := ⟨i 0, i 1, by funext a; fin_cases a <;> rfl⟩
  refine (norms_at _ _ r l).trans ?_
  have hr := r.isLt
  show normed _ _ l = normed _ _ l
  refine congrArg (fun f => normed f (GA (m ((c.tc : Thread nD τ).loc main_arg6))) l) (funext fun j => ?_)
  refine (gates_at _ _ _ _ _ _ j).trans ?_
  refine congrArg₂ (fun y t => gated y _ (xc _ _ _ t j) (ZZ _ (row _ _ t) j)) ((hV.hY _ _ _ _ _ _ (by show r.val % 2048 / 64 < 32; omega)).trans ?_) (Fin.ext (by show r.val % 2048 % 64 = r.val % 64; omega))
  refine congrArg₂ (fun t w => yrow _ _ _ _ _ _ t (grp j) w) (Fin.ext (by show r.val % 2048 % 64 = r.val % 64; omega)) (Fin.ext (by show 64 * (j.val % 256 / 64) + j.val % 64 = j.val % 256; omega))

/-- The reference's second result. -/
theorem ref_states : out_main_v73 (STEP^[32] (entryContents preI m c))
    = RES9 (m ((c.tc : Thread nD τ).loc main_arg0)) (m ((c.tc : Thread nD τ).loc main_arg2)) (m ((c.tc : Thread nD τ).loc main_arg3)) (m ((c.tc : Thread nD τ).loc main_arg4)) := by
  have hV := trips m c 32 (le_refl _)
  have e : ∀ (H : FVec Ideal S4x8x4x64x128 .f32) (b : Fin 4) (g : Fin 8) (w : Fin 256) (n : Fin 128),
      shapeCast S4x8x256x128 H shapeCasts_S4x8x4x64x128_S4x8x256x128 (ix4 b g w n) = H (ix5 b g (⟨w.val / 64, by omega⟩ : Fin 4) (⟨w.val % 64, by omega⟩ : Fin 64) n) := fun H b g w n => by
    pointwise
  funext i
  obtain ⟨b, g, w, n, rfl⟩ : ∃ (b : Fin 4) (g : Fin 8) (w : Fin 256) (n : Fin 128), i = ix4 b g w n := ⟨i 0, i 1, i 2, i 3, by funext a; fin_cases a <;> rfl⟩
  refine (e _ b g w n).trans ((hV.hH b g _ _ n).trans ?_)
  unfold RES9
  show _ = state _ _ _ _ b 32 g w n
  exact congrArg (fun z => state _ _ _ _ b 32 g z n) (Fin.ext (by show 64 * (w.val / 64) + w.val % 64 = w.val; omega))
end
end Cert.SsdProduct
-- ==== Proof.Ssd.lean ====
/- The state-space recurrence: the kernel and the reference end with equal results. -/
module
public import proofs.«01_k».proof.Proof.SsdEnd
public import proofs.«01_k».proof.Defs
public import Idealize.ShloMosaic.Adequacy
public import Idealize.ShloMosaic.Init
public import Idealize.ShloMosaic.Lib.Claim
public import Idealize.ShloMosaic.Lib.Quiescent
@[expose] public section
noncomputable section
open Idealize.ShloMosaic Idealize.ShloMosaic.TcCoe Idealize.SL.Sem

namespace Cert.Proof.SsdClaims

/-- The recurrence's reference runs and leaves every semaphore at zero. -/
theorem frame_ref : Cert.quiescent_SsdRefIdeal := fun m ρ _ =>
  (θ_run Cert.SsdRefIdeal.defs _ _).mono (fun r h => ⟨fun c => (h c).2.2,
      Idealize.ShloMosaic.sem_eq_zero_of_no_sems (by decide) r.2⟩)
    (Cert.SsdRefIdeal.Value.run (F := Ideal) m ρ)

/-- The kernel and the reference end with equal rows and equal final states. -/
theorem algebraic : Cert.algebraic_SsdIdeal_SsdRefIdeal := fun m ρ m' ρ' _ hag =>
  ⟨fun c => Cert.SsdProduct.RES8 (m ((c.tc : Thread _ _).loc Cert.SsdIdeal.main_arg0)) (m ((c.tc : Thread _ _).loc Cert.SsdIdeal.main_arg1))
      (m ((c.tc : Thread _ _).loc Cert.SsdIdeal.main_arg2)) (m ((c.tc : Thread _ _).loc Cert.SsdIdeal.main_arg3)) (m ((c.tc : Thread _ _).loc Cert.SsdIdeal.main_arg4))
      (m ((c.tc : Thread _ _).loc Cert.SsdIdeal.main_arg5)) (m ((c.tc : Thread _ _).loc Cert.SsdIdeal.main_arg6)),
   fun c => Cert.SsdProduct.RES9 (m ((c.tc : Thread _ _).loc Cert.SsdIdeal.main_arg0)) (m ((c.tc : Thread _ _).loc Cert.SsdIdeal.main_arg2))
      (m ((c.tc : Thread _ _).loc Cert.SsdIdeal.main_arg3)) (m ((c.tc : Thread _ _).loc Cert.SsdIdeal.main_arg4)),
   (θ_run _ _ _).mono (fun r h c => ⟨(h c).1.trans (Cert.SsdProduct.final_rows m c), (h c).2.1.trans (Cert.SsdProduct.final_states m c), (h c).2.2⟩)
     (Cert.SsdIdeal.Value.run_blocks m ρ),
   (θ_run _ _ _).mono (fun r h c => ⟨(h c).1.trans ((Cert.SsdProduct.ref_rows m' c).trans (by
      obtain ⟨h0, h1, h2, h3, h4, h5, h6⟩ := hag c
      rw [h0, h1, h2, h3, h4, h5, h6])), (h c).2.1.trans ((Cert.SsdProduct.ref_states m' c).trans (by
      obtain ⟨h0, h1, h2, h3, h4, h5, h6⟩ := hag c
      rw [h0, h2, h3, h4])), (h c).2.2⟩)
     (Cert.SsdRefIdeal.Value.run (F := Ideal) m' ρ')⟩

end Cert.Proof.SsdClaims
-- ==== Proof.SsdSampleSpec.lean ====
/- The recurrence of one sequence of the sample batch on the extended reals. -/
module
public import proofs.«01_k».proof.Proof.SsdSpec
@[expose] public section
noncomputable section
open Idealize.ShloMosaic
namespace Cert.SsdSampleValue
open Cert.SsdProduct (splus head chan scol grp lane gated normed sum_bot decay_nonpos splus_nonneg exp_nonneg')

/-! A sequence of the sample batch is one chunk: four tokens, which the kernel pads to eight rows whose step sizes
it sets to zero. The mathematics is stated for any number of rows, and the padded rows are shown to add nothing. -/

/-- The decay up to row `t`: the sum of the step sizes times the negated rate. -/
def decay {N : ℕ} (d : Fin N → EReal) (a : EReal) (t : Fin N) : EReal := ∑ s : Fin N, if s ≤ t then d s * -(Ideal.exp a) else 0

/-- The state after the chunk whose last row is `z`, from the state before it. -/
def next {N : ℕ} (z : Fin N) (dt gc : Fin N → Fin 32 → EReal) (x : Fin N → Fin 2048 → EReal) (b : Fin N → Fin 1024 → EReal)
    (h : Fin 8 → Fin 256 → Fin 128 → EReal) (g : Fin 8) (w : Fin 256) (n : Fin 128) : EReal :=
  Ideal.exp (gc z (head g w)) * h g w n
    + ∑ s : Fin N, x s (chan g w) * dt s (head g w) * Ideal.exp (gc z (head g w) - gc s (head g w)) * b s (scol g n)

/-- What row `t` reads: from the rows of its chunk, and from the state before the chunk. -/
def reads {N : ℕ} (dt gc : Fin N → Fin 32 → EReal) (x : Fin N → Fin 2048 → EReal) (b cc : Fin N → Fin 1024 → EReal)
    (h : Fin 8 → Fin 256 → Fin 128 → EReal) (t : Fin N) (g : Fin 8) (w : Fin 256) : EReal :=
  (∑ s : Fin N, x s (chan g w) * dt s (head g w)
      * ((∑ n : Fin 128, cc t (scol g n) * b s (scol g n))
          * Ideal.exp (if s ≤ t then gc t (head g w) - gc s (head g w) else ⊥)))
    + (∑ n : Fin 128, h g w n * cc t (scol g n)) * Ideal.exp (gc t (head g w))

/-- A token's row among the eight. -/
def lo (s : Fin 4) : Fin 8 := ⟨s.val, by omega⟩
/-- A padded row among the eight. -/
def hi (s : Fin 4) : Fin 8 := ⟨4 + s.val, by omega⟩

/-- A sum over eight rows whose padded rows add nothing is the sum over the tokens. -/
theorem sum_tokens (f : Fin 8 → EReal) (h : ∀ s, f (hi s) = 0) : ∑ s, f s = ∑ s : Fin 4, f (lo s) := by
  have e : (∑ s, f s) = (∑ s : Fin 4, f (lo s)) + ∑ s : Fin 4, f (hi s) := Fin.sum_univ_add (a := 4) (b := 4) f
  rw [e, Finset.sum_eq_zero fun s _ => h s, add_zero]

/-- Step sizes that are zero at the padded rows. -/
def padded (d : Fin 4 → EReal) (s : Fin 8) : EReal := if h : s.val < 4 then d ⟨s.val, h⟩ else 0
/-- At a token's row they are the token's. -/
theorem padded_lo (d : Fin 4 → EReal) (s : Fin 4) : padded d (lo s) = d s := dif_pos s.isLt
/-- At a padded row they are zero. -/
theorem padded_hi (d : Fin 4 → EReal) (s : Fin 4) : padded d (hi s) = 0 := dif_neg (by show ¬ 4 + s.val < 4; omega)

/-- The decay at a token's row is the decay of the tokens. -/
theorem decay_lo (d : Fin 4 → EReal) (a : EReal) (t : Fin 4) : decay (padded d) a (lo t) = decay d a t := by
  refine (sum_tokens _ fun s => ?_).trans (Finset.sum_congr rfl fun s _ => ?_)
  · rw [padded_hi, zero_mul, ite_self]
  · rw [padded_lo]; rfl

/-- The decay at the last padded row is that of the last token. -/
theorem decay_last (d : Fin 4 → EReal) (a : EReal) : decay (padded d) a 7 = decay d a 3 := by
  refine (sum_tokens _ fun s => ?_).trans (Finset.sum_congr rfl fun s _ => ?_)
  · rw [padded_hi, zero_mul, ite_self]
  · rw [padded_lo, if_pos (show lo s ≤ 7 by show s.val ≤ 7; omega), if_pos (show s ≤ 3 by show s.val ≤ 3; omega)]

/-- The state after the padded rows is the state after the tokens. -/
theorem next_tokens (dt : Fin 4 → Fin 32 → EReal) (al : Fin 32 → EReal) (x : Fin 8 → Fin 2048 → EReal) (b : Fin 8 → Fin 1024 → EReal)
    (h : Fin 8 → Fin 256 → Fin 128 → EReal) (g : Fin 8) (w : Fin 256) (n : Fin 128) :
    next 7 (fun s q => padded (fun s => dt s q) s) (fun t q => decay (padded fun s => dt s q) (al q) t) x b h g w n
      = next 3 dt (fun t q => decay (fun s => dt s q) (al q) t) (fun s => x (lo s)) (fun s => b (lo s)) h g w n := by
  unfold next
  beta_reduce
  rw [decay_last]
  refine congrArg (HAdd.hAdd _) ((sum_tokens _ fun s => ?_).trans (Finset.sum_congr rfl fun s _ => ?_))
  · rw [padded_hi, mul_zero, zero_mul, zero_mul]
  · rw [padded_lo, decay_lo]

/-- A token's row reads from the tokens only. -/
theorem reads_tokens (dt : Fin 4 → Fin 32 → EReal) (al : Fin 32 → EReal) (x : Fin 8 → Fin 2048 → EReal) (b cc : Fin 8 → Fin 1024 → EReal)
    (h : Fin 8 → Fin 256 → Fin 128 → EReal) (t : Fin 4) (g : Fin 8) (w : Fin 256) :
    reads (fun s q => padded (fun s => dt s q) s) (fun t q => decay (padded fun s => dt s q) (al q) t) x b cc h (lo t) g w
      = reads dt (fun t q => decay (fun s => dt s q) (al q) t) (fun s => x (lo s)) (fun s => b (lo s)) (fun s => cc (lo s)) h t g w := by
  unfold reads
  beta_reduce
  rw [decay_lo]
  refine congrArg (fun z => z + _) ((sum_tokens _ fun s => ?_).trans (Finset.sum_congr rfl fun s _ => ?_))
  · rw [padded_hi, mul_zero, zero_mul]
  · rw [padded_lo, decay_lo]; rfl

/-- The kernel sums a decay in three parts: the value, what its first rounding lost, and what the second lost. Where no
summand is `⊤` the last two add nothing. -/
theorem three_parts (f : Fin 8 → EReal) (p : Fin 8 → Prop) [DecidablePred p] (hf : ∀ s, f s ≤ 0) :
    (∑ s, if p s then f s else 0) + (∑ s, if p s then f s - f s else 0)
        + (∑ s, if p s then (f s - f s) - (f s - f s) else 0) = ∑ s, if p s then f s else 0 := by
  by_cases hb : ∃ s, p s ∧ f s = ⊥
  · obtain ⟨s, hp, hs⟩ := hb
    have e : (∑ s, if p s then f s else 0) = (⊥ : EReal) := sum_bot _ _ s (Finset.mem_univ s) (by rw [if_pos hp, hs])
    rw [e, EReal.bot_add, EReal.bot_add]
  · have hz : ∀ s, p s → f s - f s = 0 := fun s hp =>
      EReal.sub_self (fun h => by have := hf s; rw [h] at this; exact absurd this (by simp)) (fun h => hb ⟨s, hp, h⟩)
    rw [Finset.sum_eq_zero (f := fun s => if p s then f s - f s else 0) fun s _ => by
        by_cases h : p s
        · rw [if_pos h, hz s h]
        · rw [if_neg h],
      Finset.sum_eq_zero (f := fun s => if p s then (f s - f s) - (f s - f s) else 0) fun s _ => by
        by_cases h : p s
        · rw [if_pos h, hz s h, sub_zero]
        · rw [if_neg h], add_zero, add_zero]

/-- The step sizes are not negative, so no summand of a decay is positive. -/
theorem padded_nonneg (v : Fin 4 → EReal) (s : Fin 8) : 0 ≤ padded (fun s => splus (v s)) s := by
  unfold padded
  split
  · exact splus_nonneg _
  · exact le_refl _
end Cert.SsdSampleValue
-- ==== Proof.SsdSampleState.lean ====
/- The kernel's two blocks at one sequence of the sample batch: the state and the rows, group by group. -/
module
public import proofs.«01_k».proof.Proof.Gen.SsdSampleIdeal.Frame
public import proofs.«01_k».proof.Proof.SsdSampleSpec
public import proofs.«01_k».proof.Proof.SsdOut
public import Idealize.ShloMosaic.Lib.Pipeline.ReadBack
@[expose] public section
set_option maxRecDepth 16384
noncomputable section
open Idealize.ShloMosaic Idealize.ShloMosaic.TcCoe
namespace Cert.SsdSampleValue
open Cert.SsdProduct (splus head chan scol grp lane gated normed hcol pick lane_test group_of first_group canon_last chan_at first_chan)
open Cert.SsdSampleIdeal Cert.SsdSampleIdeal.Gen
variable (m : (ℓ : Loc nD τ sig) → Buf (Elt Ideal) ℓ)

/-- The step sizes and the decay, read at the heads' lanes. -/
def heads (v : FVec Ideal S8x128 .f32) (s : Fin 8) (q : Fin 32) : EReal := v (ix2 s (hcol q))
/-- A block of channels, as a function of row and channel. -/
def wide (v : FVec Ideal S8x2048 .f32) (s : Fin 8) (l : Fin 2048) : EReal := v (ix2 s l)
/-- A block of `B` or `C` columns, as a function of row and column. -/
def narrow (v : FVec Ideal S8x1024 .f32) (s : Fin 8) (l : Fin 1024) : EReal := v (ix2 s l)

/-- The kernel's decay block, from the narrow projections and the parameter rows. -/
def decays (v p : FVec Ideal S8x128 .f32) : FVec Ideal S8x128 .f32 :=
  k0_pay13 (F := Ideal) (k0_pay7 (F := Ideal)) (k0_pay10 v p) (k0_pay11 v p) (k0_pay12 v p)

/-- A sum and a decayed state of the kernel's form are the next state. -/
theorem next_of (dt gc : FVec Ideal S8x128 .f32) (X : FVec Ideal S8x2048 .f32) (B : FVec Ideal S8x1024 .f32) (h : Fin 8 → Fin 256 → Fin 128 → EReal)
    (g : Fin 8) (w : Fin 256) (n : Fin 128) {a hv : EReal} {x d e b : Fin 8 → EReal}
    (ha : a = Ideal.exp (heads gc 7 (head g w))) (hh : hv = h g w n)
    (hx : ∀ s, x s = X (ix2 s (chan g w))) (hd : ∀ s, d s = heads dt s (head g w))
    (he : ∀ s, e s = Ideal.exp (heads gc 7 (head g w) - heads gc s (head g w))) (hb : ∀ s, b s = B (ix2 s (scol g n))) :
    a * hv + ∑ s, x s * d s * e s * b s = next 7 (heads dt) (heads gc) (wide X) (narrow B) h g w n := by
  rw [ha, hh]
  exact Ideal.add_congr rfl (Finset.sum_congr rfl fun s _ => by rw [hx, hd, he, hb]; rfl)

/-- A state with a unit axis before it, read at an index. -/
theorem cube_at (v : FVec Ideal S8x256x128 .f32) (g : Fin 8) (w : Fin 256) (n : Fin 128) :
    k0_pay2 (F := Ideal) v (ix4 0 g w n) = v (ix3 g w n) := by
  pointwise [k0_pay2]

set_option maxHeartbeats 4000000 in
/-- The state a sequence ends with. -/
theorem state_at (c : Dev nD) (t : Fin cfg0.N) (g : Fin 8) (w : Fin 256) (n : Fin 128) :
    (outsAt0 m c t).2 (ix4 0 g w n) = next 7 (heads (k0_pay5 (F := Ideal) (iblk m c 4 t) (iblk m c 6 t))) (heads (decays (iblk m c 4 t) (iblk m c 6 t)))
      (wide (iblk m c 0 t)) (narrow (iblk m c 1 t)) (fun g w n => iblk m c 5 t (ix4 0 g w n)) g w n := by
  unfold outsAt0
  frame_open
  simp (disch := decide) only [↓ View.readCov_skip, ↓ View.readCov_cons_toLoadRect, ↓ View.readCov_fill]
  frame_out
  refine (cube_at _ g w n).trans ?_
  refine (congrFun (View.readCov_eq_canon' _ _ _) _).trans ?_
  have e : (Rect.unit ![0, 0, 0] ![8, 256, 128] inb_S8x256x128_S8x256x128_0_0_0).toLoadRect.idx (ix3 g w n) = ix3 g w n := by
    funext q
    fin_cases q
    · exact Fin.ext (show 0 + 1 * g.val = g.val by omega)
    · exact Fin.ext (show 0 + 1 * w.val = w.val by omega)
    · exact Fin.ext (show 0 + 1 * n.val = n.val by omega)
  refine (congrArg (View.canon _) e).trans ?_
  clear e
  refine (canon_last [_, _, _, _, _, _, _, _] _ _ (View.cover_of_tiled_head _ _ _ rfl _)).trans ?_
  simp only [k0_pay25, k0_pay26]
  unfold decays
  generalize hq : iblk m c 5 t = h5
  generalize k0_pay5 (F := Ideal) (iblk m c 4 t) (iblk m c 6 t) = dt
  generalize k0_pay13 (F := Ideal) (k0_pay7 (F := Ideal)) (k0_pay10 (iblk m c 4 t) (iblk m c 6 t)) (k0_pay11 (iblk m c 4 t) (iblk m c 6 t)) (k0_pay12 (iblk m c 4 t) (iblk m c 6 t)) = gc
  generalize iblk m c 0 t = X
  generalize iblk m c 1 t = B
  clear hq
  canon_tiles x h
  all_goals
    replace h0 : g.val = _ := h0
    replace h1 : w.val = _ := h1
    replace h2 : n.val = _ := h2
    obtain rfl : w = x 1 := Fin.ext h1
    obtain rfl : n = x 2 := Fin.ext h2
    first
      | obtain rfl := group_of (by decide) h0 x0_lt
      | obtain rfl := first_group h0 x0_lt
    open_payloads
    pointwise
    refine next_of dt gc X B (fun g w n => h5 (ix4 0 g w n)) _ _ _ (Eq.symm (pick (fun q => Ideal.exp (heads gc 7 q)) _ (x 1) _)) ?_
      (fun s => congrArg (fun z => X (ix2 s z)) (Fin.ext (by simp [chan])))
      (fun s => Eq.symm (pick (fun q => heads dt s q) _ (x 1) _))
      (fun s => Eq.symm (pick (fun q => Ideal.exp (heads gc 7 q - heads gc s q)) _ (x 1) _))
      (fun s => congrArg (fun z => B (ix2 s z)) (Fin.ext (by simp [scol])))
    rfl
end Cert.SsdSampleValue
-- ==== Proof.SsdSampleOut.lean ====
/- The kernel's rows at one sequence of the sample batch: gated and normalised, group by group. -/
module
public import proofs.«01_k».proof.Proof.SsdSampleState
@[expose] public section
set_option maxRecDepth 16384
noncomputable section
open Idealize.ShloMosaic Idealize.ShloMosaic.TcCoe
namespace Cert.SsdSampleValue
open Cert.SsdProduct (splus head chan scol grp lane gated normed hcol pick lane_test chan_at first_chan)
open Cert.SsdSampleIdeal Cert.SsdSampleIdeal.Gen
variable (m : (ℓ : Loc nD τ sig) → Buf (Elt Ideal) ℓ)

/-- The kernel's last step on a block of rows: the mean-square normalisation and the gain. -/
theorem norm_at (Y : FVec Ideal S8x2048 .f32) (ga : FVec Ideal S1x2048 .f32) (t : Fin 8) (l : Fin 2048) :
    k0_pay1 (F := Ideal) (k0_pay292 (F := Ideal) Y) ga (ix2 t l) = normed (fun j => Y (ix2 t j)) (fun j => ga (ix2 0 j)) l := by
  open_payloads
  pointwise
  rfl

/-- The kernel's test that row `s` is not after row `t`. -/
theorem row_test : ∀ t s : Fin 8, IntOp.cmpi CmpIPredicate.sge (BitVec.ofNat 32 t.val) (BitVec.ofNat 32 s.val) = if s ≤ t then 1#1 else 0#1 := by
  decide +kernel

/-- The masked decay between two rows of a chunk, the mask's constant read as `⊥`. -/
theorem masked (F : Fin 8 → EReal) (t s : Fin 8) :
    Ideal.exp (if s ≤ t then F t - F s else ⊥)
      = Ideal.exp (Scalar.select (IntOp.cmpi CmpIPredicate.sge (BitVec.ofNat 32 t.val) (BitVec.ofNat 32 s.val)) (F t - F s) (Named.named (F := Ideal) κ "mask" (φ := .f32) 0xF149F2CA#32)) := by
  rw [row_test, IdealRules.named_const.ideal_named_scalar _ _ _ _ rfl]
  by_cases h : s ≤ t <;> simp [h, Scalar.select]

/-- A sum over the four heads of a group, each masked to its own lanes, is the lane's own head's. -/
theorem own_head (l : Fin 256) (y : EReal) {T0 T1 T2 T3 : Fin 8 → EReal} (U : Fin 8 → EReal)
    (h0 : l.val / 64 = 0 → ∀ s, T0 s = U s) (h1 : l.val / 64 = 1 → ∀ s, T1 s = U s)
    (h2 : l.val / 64 = 2 → ∀ s, T2 s = U s) (h3 : l.val / 64 = 3 → ∀ s, T3 s = U s) :
    (((y + ∑ s, Scalar.select (IntOp.cmpi CmpIPredicate.eq (IntOp.shrsi ArithUnit.vector (BitVec.ofNat 32 l.val) 6#32) 0#32) (T0 s) 0)
        + ∑ s, Scalar.select (IntOp.cmpi CmpIPredicate.eq (IntOp.shrsi ArithUnit.vector (BitVec.ofNat 32 l.val) 6#32) 1#32) (T1 s) 0)
        + ∑ s, Scalar.select (IntOp.cmpi CmpIPredicate.eq (IntOp.shrsi ArithUnit.vector (BitVec.ofNat 32 l.val) 6#32) 2#32) (T2 s) 0)
        + ∑ s, Scalar.select (IntOp.cmpi CmpIPredicate.eq (IntOp.shrsi ArithUnit.vector (BitVec.ofNat 32 l.val) 6#32) 3#32) (T3 s) 0
      = y + ∑ s, U s := by
  have e3 : IntOp.cmpi CmpIPredicate.eq (IntOp.shrsi ArithUnit.vector (BitVec.ofNat 32 l.val) 6#32) 3#32 = if l.val / 64 = 3 then 1#1 else 0#1 := lane_test l 3
  have e2 : IntOp.cmpi CmpIPredicate.eq (IntOp.shrsi ArithUnit.vector (BitVec.ofNat 32 l.val) 6#32) 2#32 = if l.val / 64 = 2 then 1#1 else 0#1 := lane_test l 2
  have e1 : IntOp.cmpi CmpIPredicate.eq (IntOp.shrsi ArithUnit.vector (BitVec.ofNat 32 l.val) 6#32) 1#32 = if l.val / 64 = 1 then 1#1 else 0#1 := lane_test l 1
  have e0 : IntOp.cmpi CmpIPredicate.eq (IntOp.shrsi ArithUnit.vector (BitVec.ofNat 32 l.val) 6#32) 0#32 = if l.val / 64 = 0 then 1#1 else 0#1 := lane_test l 0
  rw [e3, e2, e1, e0]
  rcases (by omega : l.val / 64 = 0 ∨ l.val / 64 = 1 ∨ l.val / 64 = 2 ∨ l.val / 64 = 3) with h | h | h | h
  · simp [h, Scalar.select, h0 h]
  · simp [h, Scalar.select, h1 h]
  · simp [h, Scalar.select, h2 h]
  · simp [h, Scalar.select, h3 h]

/-- Row `t` of group `g` in the kernel's form is the gated row. -/
theorem gated_of (dt gc : FVec Ideal S8x128 .f32) (X : FVec Ideal S8x2048 .f32) (B C : FVec Ideal S8x1024 .f32)
    (h : Fin 8 → Fin 256 → Fin 128 → EReal) (t : Fin 8) (g : Fin 8) (w : Fin 256) {d xj z e p x' z' : EReal}
    {cn hn : Fin 128 → EReal} {bn : Fin 8 → Fin 128 → EReal} {xs D E0 E1 E2 E3 : Fin 8 → EReal}
    (hc : ∀ n, cn n = narrow C t (scol g n)) (hh : ∀ n, hn n = h g w n) (he : e = Ideal.exp (heads gc t (head g w)))
    (hp : p = d) (hx : x' = xj) (hz : z' = z) (hb : ∀ s n, bn s n = narrow B s (scol g n)) (hxs : ∀ s, xs s = wide X s (chan g w))
    (hD : ∀ s, D s = heads dt s (head g w))
    (h0 : ∀ s, E0 s = Ideal.exp (if s ≤ t then heads gc t ⟨4 * g.val + 0, by omega⟩ - heads gc s ⟨4 * g.val + 0, by omega⟩ else ⊥))
    (h1 : ∀ s, E1 s = Ideal.exp (if s ≤ t then heads gc t ⟨4 * g.val + 1, by omega⟩ - heads gc s ⟨4 * g.val + 1, by omega⟩ else ⊥))
    (h2 : ∀ s, E2 s = Ideal.exp (if s ≤ t then heads gc t ⟨4 * g.val + 2, by omega⟩ - heads gc s ⟨4 * g.val + 2, by omega⟩ else ⊥))
    (h3 : ∀ s, E3 s = Ideal.exp (if s ≤ t then heads gc t ⟨4 * g.val + 3, by omega⟩ - heads gc s ⟨4 * g.val + 3, by omega⟩ else ⊥)) :
    ((((((∑ n, cn n * hn n) * e + p * x')
        + ∑ s, Scalar.select (IntOp.cmpi CmpIPredicate.eq (IntOp.shrsi ArithUnit.vector (BitVec.ofNat 32 w.val) 6#32) 0#32) ((∑ n, cn n * bn s n) * E0 s * (xs s * D s)) 0)
        + ∑ s, Scalar.select (IntOp.cmpi CmpIPredicate.eq (IntOp.shrsi ArithUnit.vector (BitVec.ofNat 32 w.val) 6#32) 1#32) ((∑ n, cn n * bn s n) * E1 s * (xs s * D s)) 0)
        + ∑ s, Scalar.select (IntOp.cmpi CmpIPredicate.eq (IntOp.shrsi ArithUnit.vector (BitVec.ofNat 32 w.val) 6#32) 2#32) ((∑ n, cn n * bn s n) * E2 s * (xs s * D s)) 0)
        + ∑ s, Scalar.select (IntOp.cmpi CmpIPredicate.eq (IntOp.shrsi ArithUnit.vector (BitVec.ofNat 32 w.val) 6#32) 3#32) ((∑ n, cn n * bn s n) * E3 s * (xs s * D s)) 0)
      * (z' * Ideal.div 1 (1 + Ideal.exp (0 - z')))
      = gated (reads (heads dt) (heads gc) (wide X) (narrow B) (narrow C) h t g w) d xj z := by
  subst hp hx hz
  have hq : ∀ (k : ℕ) (hk : 4 * g.val + k < 32), w.val / 64 = k → (⟨4 * g.val + k, hk⟩ : Fin 32) = head g w :=
    fun k hk hw => Fin.ext (by simp [head, hw])
  have key := own_head w ((∑ n, cn n * hn n) * e + p * x')
    (T0 := fun s => (∑ n, cn n * bn s n) * E0 s * (xs s * D s)) (T1 := fun s => (∑ n, cn n * bn s n) * E1 s * (xs s * D s))
    (T2 := fun s => (∑ n, cn n * bn s n) * E2 s * (xs s * D s)) (T3 := fun s => (∑ n, cn n * bn s n) * E3 s * (xs s * D s))
    (fun s => wide X s (chan g w) * heads dt s (head g w)
      * ((∑ n : Fin 128, narrow C t (scol g n) * narrow B s (scol g n))
          * Ideal.exp (if s ≤ t then heads gc t (head g w) - heads gc s (head g w) else ⊥)))
    (fun hw s => by simp only [h0, hq 0 _ hw, hc, hb, hxs, hD]; exact mul_comm _ _)
    (fun hw s => by simp only [h1, hq 1 _ hw, hc, hb, hxs, hD]; exact mul_comm _ _)
    (fun hw s => by simp only [h2, hq 2 _ hw, hc, hb, hxs, hD]; exact mul_comm _ _)
    (fun hw s => by simp only [h3, hq 3 _ hw, hc, hb, hxs, hD]; exact mul_comm _ _)
  refine Ideal.mul_congr (key.trans ?_) (by rw [zero_sub])
  unfold reads
  rw [he, show (∑ n, cn n * hn n) = ∑ n, h g w n * narrow C t (scol g n) from
    Finset.sum_congr rfl fun n _ => by rw [hc, hh, mul_comm]]
  rw [add_comm, ← add_assoc]

set_option maxHeartbeats 4000000 in
/-- The rows stored are the normalised gated rows. -/
theorem rows_at (c : Dev nD) (t : Fin cfg0.N) (a : Fin 8) (l : Fin 2048) :
    (outsAt0 m c t).1 (ix2 a l) = normed (fun j => gated (reads (heads (k0_pay5 (F := Ideal) (iblk m c 4 t) (iblk m c 6 t)))
      (heads (decays (iblk m c 4 t) (iblk m c 6 t))) (wide (iblk m c 0 t)) (narrow (iblk m c 1 t)) (narrow (iblk m c 2 t)) (fun g w n => iblk m c 5 t (ix4 0 g w n)) a (grp j) (lane j))
      (iblk m c 6 t (ix2 2 (hcol (head (grp j) (lane j))))) (iblk m c 0 t (ix2 a j)) (iblk m c 3 t (ix2 a j))) (fun j => iblk m c 7 t (ix2 0 j)) l := by
  unfold outsAt0
  frame_open
  simp (disch := decide) only [↓ View.readCov_skip, ↓ View.readCov_cons_toLoadRect, ↓ View.readCov_fill]
  frame_out
  simp only [k0_pay25, k0_pay26, k0_pay14, k0_pay15, k0_pay29]
  unfold decays
  generalize iblk m c 5 t = hp
  generalize k0_pay5 (F := Ideal) (iblk m c 4 t) (iblk m c 6 t) = dt
  generalize k0_pay13 (F := Ideal) (k0_pay7 (F := Ideal)) (k0_pay10 (iblk m c 4 t) (iblk m c 6 t)) (k0_pay11 (iblk m c 4 t) (iblk m c 6 t)) (k0_pay12 (iblk m c 4 t) (iblk m c 6 t)) = gc
  generalize iblk m c 0 t = X
  generalize iblk m c 1 t = B
  generalize iblk m c 2 t = C
  generalize iblk m c 3 t = Z
  generalize iblk m c 6 t = P
  generalize iblk m c 7 t = G
  refine (norm_at _ _ _ _).trans ?_
  refine congrArg (fun f => normed f (fun j => G (ix2 0 j)) l) (funext fun j => ?_)
  refine (congrFun (View.readCov_eq_canon' _ _ _) _).trans ?_
  have e : (Rect.unit ![0, 0] ![8, 2048] inb_S8x2048_S8x2048_0_0).toLoadRect.idx (ix2 a j) = ix2 a j := by
    funext q
    fin_cases q
    · exact Fin.ext (show 0 + 1 * a.val = a.val by omega)
    · exact Fin.ext (show 0 + 1 * j.val = j.val by omega)
  refine (congrArg (View.canon _) e).trans ?_
  clear e
  canon_tiles x h
  all_goals
    obtain rfl : a = x 0 := Fin.ext h0
    replace h1 : j.val = _ := h1
    first
      | rw [(chan_at (by decide) (by decide) h1 x1_lt).1, (chan_at (by decide) (by decide) h1 x1_lt).2]
      | rw [(first_chan h1 x1_lt).1, (first_chan h1 x1_lt).2]
    open_payloads
    pointwise
    refine gated_of dt gc X B C (fun g w n => hp (ix4 0 g w n)) (x 0) _ (x 1)
      (fun n => congrArg (fun z => C (ix2 (x 0) z)) (Fin.ext (by simp [scol]))) ?_
      (Eq.symm (pick (fun q => Ideal.exp (heads gc (x 0) q)) _ (x 1) _)) (Eq.symm (pick (fun q => P (ix2 2 (hcol q))) _ (x 1) _))
      (congrArg (fun z => X (ix2 (x 0) z)) (Fin.ext h1.symm)) (congrArg (fun z => Z (ix2 (x 0) z)) (Fin.ext h1.symm))
      (fun s n => congrArg (fun z => B (ix2 s z)) (Fin.ext (by simp [scol]))) (fun s => congrArg (fun z => X (ix2 s z)) (Fin.ext (by simp [chan])))
      (fun s => Eq.symm (pick (fun q => heads dt s q) _ (x 1) _))
      (fun s => Eq.symm (masked (fun s => heads gc s _) (x 0) s)) (fun s => Eq.symm (masked (fun s => heads gc s _) (x 0) s))
      (fun s => Eq.symm (masked (fun s => heads gc s _) (x 0) s)) (fun s => Eq.symm (masked (fun s => heads gc s _) (x 0) s))
    exact fun n => rfl

end Cert.SsdSampleValue
-- ==== Proof.SsdSampleBlocks.lean ====
/- What the kernel's blocks hold at one sequence of the sample batch, read from the layer's arguments. -/
module
public import proofs.«01_k».proof.Proof.SsdSampleOut
public import proofs.«01_k».proof.Proof.SsdBlocks
@[expose] public section
set_option maxRecDepth 16384
noncomputable section
open Idealize.ShloMosaic Idealize.ShloMosaic.TcCoe Idealize.ShloMosaic.Tactic Idealize.ShloMosaic.StableHlo Idealize.SL.Sem
open Idealize.ShloMosaic.Pipeline (Dat)
namespace Cert.SsdSampleValue
open Cert.SsdProduct (splus head chan scol grp lane gated normed hcol)
open Cert.SsdSampleIdeal Cert.SsdSampleIdeal.Gen

/-! The arguments as the layer's mathematics takes them, for sequence `b` of the sample batch, which lies in eight rows. -/

/-- The convolved channels. -/
def XC (a : FVec Ideal S1024x4096 .f32) (b : Fin 128) (s : Fin 8) (l : Fin 2048) : EReal := a (ix2 (⟨8 * b.val + s.val, by omega⟩ : Fin 1024) (⟨l.val, by omega⟩ : Fin 4096))
/-- The columns of `B`. -/
def BC (a : FVec Ideal S1024x4096 .f32) (b : Fin 128) (s : Fin 8) (l : Fin 1024) : EReal := a (ix2 (⟨8 * b.val + s.val, by omega⟩ : Fin 1024) (⟨2048 + l.val, by omega⟩ : Fin 4096))
/-- The columns of `C`. -/
def CC (a : FVec Ideal S1024x4096 .f32) (b : Fin 128) (s : Fin 8) (l : Fin 1024) : EReal := a (ix2 (⟨8 * b.val + s.val, by omega⟩ : Fin 1024) (⟨3072 + l.val, by omega⟩ : Fin 4096))
/-- The gate rows. -/
def ZC (a : FVec Ideal S9216x6144 .f32) (b : Fin 128) (s : Fin 8) (l : Fin 2048) : EReal := a (ix2 (⟨8192 + 8 * b.val + s.val, by omega⟩ : Fin 9216) (⟨l.val, by omega⟩ : Fin 6144))
/-- The step sizes of the four tokens. -/
def DC (a : FVec Ideal S9216x128 .f32) (e : FVec Ideal S1x32 .f32) (b : Fin 128) (s : Fin 4) (q : Fin 32) : EReal :=
  splus (a (ix2 (⟨8192 + 8 * b.val + s.val, by omega⟩ : Fin 9216) (hcol q)) + e (ix2 (0 : Fin 1) q))
/-- The state a sequence starts from. -/
def HC (a : FVec Ideal S1x128x32x64x128 .f32) (b : Fin 128) (g : Fin 8) (w : Fin 256) (n : Fin 128) : EReal :=
  a (ix5 (0 : Fin 1) b (head g w) (⟨w.val % 64, by omega⟩ : Fin 64) n)

/-- Row `t` of a sequence, its step sizes zero at the padded rows: what the kernel stores. -/
def row8 (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) (b : Fin 128) (t : Fin 8) (l : Fin 2048) : EReal :=
  normed (fun j => gated (reads (fun s q => padded (fun s => DC a2 a5 b s q) s) (fun t q => decay (padded fun s => DC a2 a5 b s q) (a4 (ix2 (0 : Fin 1) q)) t)
      (XC a0 b) (BC a0 b) (CC a0 b) (HC a3 b) t (grp j) (lane j)) (a6 (ix2 (0 : Fin 1) (head (grp j) (lane j)))) (XC a0 b t j) (ZC a1 b t j)) (fun j => a7 (ix2 (0 : Fin 1) j)) l

/-- Row `t` of a sequence, from its four tokens. -/
def row4 (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) (b : Fin 128) (t : Fin 4) (l : Fin 2048) : EReal :=
  normed (fun j => gated (reads (DC a2 a5 b) (fun t q => decay (fun s => DC a2 a5 b s q) (a4 (ix2 (0 : Fin 1) q)) t)
      (fun s => XC a0 b (lo s)) (fun s => BC a0 b (lo s)) (fun s => CC a0 b (lo s)) (HC a3 b) t (grp j) (lane j)) (a6 (ix2 (0 : Fin 1) (head (grp j) (lane j))))
      (XC a0 b (lo t) j) (ZC a1 b (lo t) j)) (fun j => a7 (ix2 (0 : Fin 1) j)) l

/-- A token's row among the eight is its row among the four. -/
theorem row8_lo (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) (b : Fin 128) (t : Fin 4) (l : Fin 2048) :
    row8 a0 a1 a2 a3 a4 a5 a6 a7 b (lo t) l = row4 a0 a1 a2 a3 a4 a5 a6 a7 b t l := by
  unfold row8 row4
  refine congrArg (fun f => normed f _ l) (funext fun j => ?_)
  exact congrArg (fun y => gated y _ _ _) (reads_tokens (DC a2 a5 b) (fun q => a4 (ix2 (0 : Fin 1) q)) (XC a0 b) (BC a0 b) (CC a0 b) (HC a3 b) t (grp j) (lane j))

/-- The state a sequence ends with, from its four tokens. -/
def state4 (a0 : FVec Ideal S1024x4096 .f32) (a2 : FVec Ideal S9216x128 .f32) (a3 : FVec Ideal S1x128x32x64x128 .f32) (a4 a5 : FVec Ideal S1x32 .f32)
    (b : Fin 128) (g : Fin 8) (w : Fin 256) (n : Fin 128) : EReal :=
  next 3 (DC a2 a5 b) (fun t q => decay (fun s => DC a2 a5 b s q) (a4 (ix2 (0 : Fin 1) q)) t) (fun s => XC a0 b (lo s)) (fun s => BC a0 b (lo s)) (HC a3 b) g w n

/-- The kernel's test that a row is a token's. -/
theorem token_test : ∀ s : Fin 8, IntOp.cmpi CmpIPredicate.slt (BitVec.ofNat 32 s.val) 4#32 = if s.val < 4 then 1#1 else 0#1 := by
  decide +kernel

/-- The kernel's step sizes at the heads' lanes. -/
theorem dt_at (v p : FVec Ideal S8x128 .f32) (s : Fin 8) (q : Fin 32) :
    heads (k0_pay5 (F := Ideal) v p) s q = padded (fun s => splus (v (ix2 (lo s) (hcol q)) + p (ix2 1 (hcol q)))) s := by
  unfold heads
  pointwise [k0_pay5, k0_pay4]
  rw [token_test, zero_sub]
  unfold padded
  by_cases h : s.val < 4
  · rw [if_pos h, dif_pos h]
    rfl
  · rw [if_neg h, dif_neg h]
    rfl

/-- The kernel's decay at the heads' lanes: its three-part running sum is the sum. -/
theorem gc_at (v p : FVec Ideal S8x128 .f32) (t : Fin 8) (q : Fin 32) :
    heads (decays v p) t q = decay (padded fun s => splus (v (ix2 (lo s) (hcol q)) + p (ix2 1 (hcol q)))) (p (ix2 0 (hcol q))) t := by
  have hd : ∀ s, k0_pay5 (F := Ideal) v p (ix2 s (hcol q)) = padded (fun s => splus (v (ix2 (lo s) (hcol q)) + p (ix2 1 (hcol q)))) s := fun s => dt_at v p s q
  unfold heads decay decays
  pointwise [k0_pay13, k0_pay12, k0_pay11, k0_pay10, k0_pay9, k0_pay8, k0_pay7, k0_pay6, k0_pay4]
  simp only [hd, row_test, Cert.SsdProduct.choose]
  refine (three_parts (fun s => padded (fun s => splus (v (ix2 (lo s) (hcol q)) + p (ix2 1 (hcol q)))) s * (0 - Ideal.exp (p (ix2 0 (hcol q))))) (fun s => s ≤ t)
    (fun s => Cert.SsdProduct.decay_nonpos (padded_nonneg _ s) (Cert.SsdProduct.exp_nonneg' _))).trans ?_
  simp only [zero_sub]

variable (m : (ℓ : Loc nD τ sig) → Buf (Elt Ideal) ℓ)

/-- Where each window's block lies at grid point `t`. -/
theorem idx : ∀ t : Fin cfg0.N, win0_0.index t = ![t.val, 0] ∧ win0_1.index t = ![t.val, 2] ∧ win0_2.index t = ![t.val, 3]
    ∧ win0_3.index t = ![1024 + t.val, 0] ∧ win0_4.index t = ![1024 + t.val, 0] ∧ win0_5.index t = ![t.val, 0, 0, 0] ∧ win0_6.index t = ![0, 0]
    ∧ win0_7.index t = ![0, 0] ∧ win0_8.index t = ![t.val, 0] ∧ win0_9.index t = ![t.val, 0, 0, 0] :=
  (by decide +kernel : ∀ t : Fin grid0.N, _)

/-- The parameter rows the kernel is given: rates, biases and skips written into a block of zeros. -/
theorem entry6 (c : Dev nD) : V m c main_v15 = (Host.scatter scatter_S8x128_S2_S32_0_0_01_0 (fun _ b => b)
    (Host.scatter scatter_S8x128_S2_S32_0_0_01_0 (fun _ b => b)
      (Host.scatter scatter_S8x128_S2_S32_0_0_01_0 (fun _ b => b) (broadcastInDim S8x128 ![] bcast_S_S8x128 (constant (F := Ideal) S_ .f32 0x00000000#32))
        (Cert.SsdProduct.rowIdx 0#32) (shapeCast S32 (m ((c : Thread nD τ).loc main_arg4)) shapeCasts_S1x32_S32))
      (Cert.SsdProduct.rowIdx 1#32) (shapeCast S32 (m ((c : Thread nD τ).loc main_arg5)) shapeCasts_S1x32_S32))
    (Cert.SsdProduct.rowIdx 2#32) (shapeCast S32 (m ((c : Thread nD τ).loc main_arg6)) shapeCasts_S1x32_S32) : FVec Ideal S8x128 .f32) := by
  show StableHlo.after (List.flatten [hostOps0]) (fun b => m (c, b)) (Proc.devRef .tc main_v15) = _
  simp only [List.flatten_cons, List.flatten_nil, List.append_nil]
  after_results; try rfl

/-- The state the kernel starts from. -/
theorem entry5 (c : Dev nD) : V m c main_v17 = shapeCast S128x8x256x128 (shapeCast S128x32x64x128 (m ((c : Thread nD τ).loc main_arg3)) shapeCasts_S1x128x32x64x128_S128x32x64x128) shapeCasts_S128x32x64x128_S128x8x256x128 := by
  show StableHlo.after (List.flatten [hostOps0]) (fun b => m (c, b)) (Proc.devRef .tc main_v17) = _
  simp only [List.flatten_cons, List.flatten_nil, List.append_nil]
  after_results; try rfl

/-- The gain the kernel is given. -/
theorem entry7 (c : Dev nD) : V m c main_v19 = shapeCast S1x2048 (shapeCast S2048 (m ((c : Thread nD τ).loc main_arg7)) shapeCasts_S1x2048_S2048) shapeCasts_S2048_S1x2048 := by
  show StableHlo.after (List.flatten [hostOps0]) (fun b => m (c, b)) (Proc.devRef .tc main_v19) = _
  simp only [List.flatten_cons, List.flatten_nil, List.append_nil]
  after_results; try rfl

/-- The starting state, its heads grouped, at an index. -/
theorem start_at (v : FVec Ideal S1x128x32x64x128 .f32) (b : Fin 128) (g : Fin 8) (w : Fin 256) (n : Fin 128) :
    shapeCast S128x8x256x128 (shapeCast S128x32x64x128 v shapeCasts_S1x128x32x64x128_S128x32x64x128) shapeCasts_S128x32x64x128_S128x8x256x128 (ix4 b g w n) = HC v b g w n := by
  pointwise
  unfold HC head
  exact congrArg₂ (fun x y => v (ix5 (0 : Fin 1) b x y n)) (Fin.ext (by simp; omega)) (Fin.ext (by simp; try omega))

section
variable (c : Dev nD) (t : Fin cfg0.N) (b : Fin 128) (hb : t.val = b.val)
include hb

/-- A point's channels are its sequence's. -/
theorem blk0 (s : Fin 8) (l : Fin 2048) : iblk m c 0 t (ix2 s l) = XC (m ((c : Thread nD τ).loc main_arg0)) b s l := by
  have h : iblk m c 0 t (ix2 s l) = V m c main_arg0 (ix2 (⟨8 * b.val + s.val, by omega⟩ : Fin 1024) (⟨l.val, by omega⟩ : Fin 4096)) := by blk_ext [iblk, idx t, hb]
  exact h.trans (congrFun (V_main_arg0 m c) _)
/-- A point's `B` columns are its sequence's. -/
theorem blk1 (s : Fin 8) (l : Fin 1024) : iblk m c 1 t (ix2 s l) = BC (m ((c : Thread nD τ).loc main_arg0)) b s l := by
  have h : iblk m c 1 t (ix2 s l) = V m c main_arg0 (ix2 (⟨8 * b.val + s.val, by omega⟩ : Fin 1024) (⟨2048 + l.val, by omega⟩ : Fin 4096)) := by blk_ext [iblk, idx t, hb]
  exact h.trans (congrFun (V_main_arg0 m c) _)
/-- A point's `C` columns are its sequence's. -/
theorem blk2 (s : Fin 8) (l : Fin 1024) : iblk m c 2 t (ix2 s l) = CC (m ((c : Thread nD τ).loc main_arg0)) b s l := by
  have h : iblk m c 2 t (ix2 s l) = V m c main_arg0 (ix2 (⟨8 * b.val + s.val, by omega⟩ : Fin 1024) (⟨3072 + l.val, by omega⟩ : Fin 4096)) := by blk_ext [iblk, idx t, hb]
  exact h.trans (congrFun (V_main_arg0 m c) _)
/-- A point's gate rows are its sequence's. -/
theorem blk3 (s : Fin 8) (l : Fin 2048) : iblk m c 3 t (ix2 s l) = ZC (m ((c : Thread nD τ).loc main_arg1)) b s l := by
  have h : iblk m c 3 t (ix2 s l) = V m c main_arg1 (ix2 (⟨8192 + 8 * b.val + s.val, by omega⟩ : Fin 9216) (⟨l.val, by omega⟩ : Fin 6144)) := by blk_ext [iblk, idx t, hb]
  exact h.trans (congrFun (V_main_arg1 m c) _)
/-- A point's narrow projections are its sequence's. -/
theorem blk4 (s : Fin 8) (l : Fin 128) : iblk m c 4 t (ix2 s l) = m ((c : Thread nD τ).loc main_arg2) (ix2 (⟨8192 + 8 * b.val + s.val, by omega⟩ : Fin 9216) l) := by
  have h : iblk m c 4 t (ix2 s l) = V m c main_arg2 (ix2 (⟨8192 + 8 * b.val + s.val, by omega⟩ : Fin 9216) l) := by blk_ext [iblk, idx t, hb]
  exact h.trans (congrFun (V_main_arg2 m c) _)
/-- A point's starting state is its sequence's. -/
theorem blk5 (g : Fin 8) (w : Fin 256) (n : Fin 128) : iblk m c 5 t (ix4 0 g w n) = HC (m ((c : Thread nD τ).loc main_arg3)) b g w n := by
  have h : iblk m c 5 t (ix4 0 g w n) = V m c main_v17 (ix4 b g w n) := by blk_ext [iblk, idx t, hb]
  exact h.trans ((congrFun (entry5 m c) _).trans (start_at _ b g w n))
end

/-- A step's block of the gain, read from the argument. -/
theorem blk7 (c : Dev nD) (t : Fin cfg0.N) (l : Fin 2048) : iblk m c 7 t (ix2 0 l) = m ((c : Thread nD τ).loc main_arg7) (ix2 (0 : Fin 1) l) := by
  have h : iblk m c 7 t (ix2 0 l) = V m c main_v19 (ix2 0 l) := by blk_ext [iblk, idx t]
  exact h.trans ((congrFun (entry7 m c) _).trans (Cert.SsdProduct.gain_at _ l))

/-- A step's block of the parameter rows is the whole of them. -/
theorem blk6 (c : Dev nD) (t : Fin cfg0.N) (r : Fin 8) (l : Fin 128) : iblk m c 6 t (ix2 r l) = V m c main_v15 (ix2 r l) := by
  blk_ext [iblk, idx t]

/-- Row 0 of the parameters holds the rates. -/
theorem rate_at (c : Dev nD) (t : Fin cfg0.N) (q : Fin 32) : iblk m c 6 t (ix2 0 (hcol q)) = m ((c : Thread nD τ).loc main_arg4) (ix2 (0 : Fin 1) q) := by
  refine (blk6 m c t _ _).trans ((congrFun (entry6 m c) _).trans ?_)
  exact (Cert.SsdProduct.set_row 2 0 _ _ q).trans ((Cert.SsdProduct.set_row 1 0 _ _ q).trans ((Cert.SsdProduct.set_row 0 0 _ _ q).trans (Cert.SsdProduct.cast_at _ q)))
/-- Row 1 of the parameters holds the biases. -/
theorem bias_at (c : Dev nD) (t : Fin cfg0.N) (q : Fin 32) : iblk m c 6 t (ix2 1 (hcol q)) = m ((c : Thread nD τ).loc main_arg5) (ix2 (0 : Fin 1) q) := by
  refine (blk6 m c t _ _).trans ((congrFun (entry6 m c) _).trans ?_)
  exact (Cert.SsdProduct.set_row 2 1 _ _ q).trans ((Cert.SsdProduct.set_row 1 1 _ _ q).trans (Cert.SsdProduct.cast_at _ q))
/-- Row 2 of the parameters holds the skip weights. -/
theorem skip_at (c : Dev nD) (t : Fin cfg0.N) (q : Fin 32) : iblk m c 6 t (ix2 2 (hcol q)) = m ((c : Thread nD τ).loc main_arg6) (ix2 (0 : Fin 1) q) := by
  refine (blk6 m c t _ _).trans ((congrFun (entry6 m c) _).trans ?_)
  exact (Cert.SsdProduct.set_row 2 2 _ _ q).trans (Cert.SsdProduct.cast_at _ q)
end Cert.SsdSampleValue
-- ==== Proof.SsdSampleKernel.lean ====
/- The kernel's two results on the sample batch: the rows of the four tokens and the states, sequence by sequence. -/
module
public import proofs.«01_k».proof.Proof.SsdSampleBlocks
public import Idealize.ShloMosaic.Lib.Pipeline.ValueKit
@[expose] public section
set_option maxRecDepth 16384
noncomputable section
open Idealize.ShloMosaic Idealize.ShloMosaic.TcCoe Idealize.ShloMosaic.Tactic Idealize.ShloMosaic.StableHlo Idealize.SL.Sem
open Idealize.ShloMosaic.Pipeline (Dat)
namespace Cert.SsdSampleValue
open Cert.SsdProduct (splus head chan scol grp lane gated normed hcol)
open Cert.SsdSampleIdeal Cert.SsdSampleIdeal.Gen

/-- Every stored row, the padded rows included, as an array. -/
def ROWS8 (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) : FVec Ideal S1024x2048 .bf16 := fun i =>
  row8 a0 a1 a2 a3 a4 a5 a6 a7 ⟨(i 0).val / 8, by have : (i 0).val < 1024 := (i 0).isLt; omega⟩ ⟨(i 0).val % 8, by omega⟩ (i 1)

/-- The tokens' rows as an array: the first result. -/
def ROWS (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) : FVec Ideal S128x4x2048 .bf16 := fun i =>
  row4 a0 a1 a2 a3 a4 a5 a6 a7 (i 0) (i 1) (i 2)

/-- The states as an array: the second result. -/
def STATES (a0 : FVec Ideal S1024x4096 .f32) (a2 : FVec Ideal S9216x128 .f32) (a3 : FVec Ideal S1x128x32x64x128 .f32) (a4 a5 : FVec Ideal S1x32 .f32) :
    FVec Ideal S128x8x256x128 .f32 := fun i => state4 a0 a2 a3 a4 a5 (i 0) (i 1) (i 2) (i 3)

/-- The rows of the tokens, as the host lines after the region take them. -/
def TOKENS (Y : FVec Ideal S1024x2048 .bf16) : FVec Ideal S128x4x2048 .bf16 :=
  extractStridedSlice S128x4x2048 ![0, 0, 0] (shapeCast S128x8x2048 Y shapeCasts_S1024x2048_S128x8x2048) slices_S128x8x2048_S128x4x2048_0_0_0

/-- The rows of the tokens, at an index. -/
theorem tokens_at (Y : FVec Ideal S1024x2048 .bf16) (b : Fin 128) (t : Fin 4) (l : Fin 2048) :
    TOKENS Y (ix3 b t l) = Y (ix2 (⟨b.val * 8 + t.val, by omega⟩ : Fin 1024) l) := by
  pointwise [TOKENS]

/-- The tokens' rows among all the stored rows. -/
theorem tokens_eq (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32) : TOKENS (ROWS8 a0 a1 a2 a3 a4 a5 a6 a7) = ROWS a0 a1 a2 a3 a4 a5 a6 a7 := by
  funext i
  rw [eq_ix3 i]
  refine (tokens_at _ (i 0) (i 1) (i 2)).trans (Eq.trans ?_ (row8_lo a0 a1 a2 a3 a4 a5 a6 a7 (i 0) (i 1) (i 2)))
  have h1 : (i 1).val < 4 := (i 1).isLt
  refine congrArg₂ (fun b t => row8 a0 a1 a2 a3 a4 a5 a6 a7 b t (i 2)) (Fin.ext ?_) (Fin.ext ?_)
  · show ((i 0).val * 8 + (i 1).val) / 8 = (i 0).val; omega
  · show ((i 0).val * 8 + (i 1).val) % 8 = (i 1).val; omega

variable (m : (ℓ : Loc nD τ sig) → Buf (Elt Ideal) ℓ)

section
variable (c : Dev nD) (t : Fin cfg0.N) (b : Fin 128) (hb : t.val = b.val)
include hb

/-- A point's step sizes are its sequence's, zero at the padded rows. -/
theorem dts : heads (k0_pay5 (F := Ideal) (iblk m c 4 t) (iblk m c 6 t))
    = fun s q => padded (fun s => DC (m ((c : Thread nD τ).loc main_arg2)) (m ((c : Thread nD τ).loc main_arg5)) b s q) s :=
  funext fun s => funext fun q => (dt_at _ _ s q).trans (congrArg (fun d => padded d s) (funext fun s' => congrArg splus
    (Ideal.add_congr (blk4 m c t b hb (lo s') (hcol q)) (bias_at m c t q))))

/-- A point's decays are its sequence's. -/
theorem gcs : heads (decays (iblk m c 4 t) (iblk m c 6 t))
    = fun t q => decay (padded fun s => DC (m ((c : Thread nD τ).loc main_arg2)) (m ((c : Thread nD τ).loc main_arg5)) b s q) (m ((c : Thread nD τ).loc main_arg4) (ix2 (0 : Fin 1) q)) t :=
  funext fun s => funext fun q => (gc_at _ _ s q).trans (congrArg₂ (fun d a => decay (padded d) a s) (funext fun s' => congrArg splus
    (Ideal.add_congr (blk4 m c t b hb (lo s') (hcol q)) (bias_at m c t q))) (rate_at m c t q))

/-- A point's channels are its sequence's. -/
theorem xcs : wide (iblk m c 0 t) = XC (m ((c : Thread nD τ).loc main_arg0)) b := funext fun s => funext fun l => blk0 m c t b hb s l
/-- A point's `B` columns are its sequence's. -/
theorem bcs : narrow (iblk m c 1 t) = BC (m ((c : Thread nD τ).loc main_arg0)) b := funext fun s => funext fun l => blk1 m c t b hb s l
/-- A point's `C` columns are its sequence's. -/
theorem ccs : narrow (iblk m c 2 t) = CC (m ((c : Thread nD τ).loc main_arg0)) b := funext fun s => funext fun l => blk2 m c t b hb s l
/-- A point's starting state is its sequence's. -/
theorem hcs : (fun (g : Fin 8) (w : Fin 256) (n : Fin 128) => (iblk m c 5 t (ix4 0 g w n) : EReal)) = HC (m ((c : Thread nD τ).loc main_arg3)) b :=
  funext fun g => funext fun w => funext fun n => blk5 m c t b hb g w n

/-- What a point writes to the second result. -/
theorem state_point (g : Fin 8) (w : Fin 256) (n : Fin 128) : (outsAt0 m c t).2 (ix4 0 g w n)
    = state4 (m ((c : Thread nD τ).loc main_arg0)) (m ((c : Thread nD τ).loc main_arg2)) (m ((c : Thread nD τ).loc main_arg3)) (m ((c : Thread nD τ).loc main_arg4)) (m ((c : Thread nD τ).loc main_arg5)) b g w n := by
  refine (state_at m c t g w n).trans ?_
  rw [dts m c t b hb, gcs m c t b hb, xcs m c t b hb, bcs m c t b hb, hcs m c t b hb]
  exact next_tokens (DC _ _ b) (fun q => m ((c : Thread nD τ).loc main_arg4) (ix2 (0 : Fin 1) q)) _ _ _ g w n

/-- What a point writes to the first result. -/
theorem rows_point (a : Fin 8) (l : Fin 2048) : (outsAt0 m c t).1 (ix2 a l)
    = row8 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) b a l := by
  refine (rows_at m c t a l).trans ?_
  rw [dts m c t b hb, gcs m c t b hb, xcs m c t b hb, bcs m c t b hb, ccs m c t b hb, hcs m c t b hb]
  refine congrArg₂ (fun f g => normed f g l) (funext fun j => ?_) (funext fun j => blk7 m c t j)
  rw [skip_at m c t (head (grp j) (lane j)), blk0 m c t b hb a j, blk3 m c t b hb a j]
end

set_option maxHeartbeats 4000000 in
/-- The first result array after the region. -/
theorem final_rows (c : Dev nD) : (dats m 0 c).arrAt 8 (cfgs 0).N
    = ROWS8 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have htN : t.val < 128 := t.isLt
  have hy0 : (y 0).val < 8 := (y 0).isLt
  have hy1 : (y 1).val < 2048 := (y 1).isLt
  have h8 : (dats m 0 c).after 8 t y = (outsAt0 m c t).1 y := congrFun (after0_8 m c t) y
  refine h8.trans ?_
  rw [eq_ix2 y]
  refine (rows_point m c t ⟨t.val, htN⟩ rfl (y 0) (y 1)).trans ?_
  have e0 : (((cfg0.win 8).blk t).view.emb y 0).val = t.val * 8 + (y 0).val := by blk_simp [idx t]
  have e1 : (((cfg0.win 8).blk t).view.emb y 1).val = (y 1).val := by blk_simp [idx t]
  rw [← eq_ix2 y]
  show _ = ROWS8 _ _ _ _ _ _ _ _ (((cfg0.win 8).blk t).view.emb y)
  unfold ROWS8
  congr 1
  · exact Fin.ext (by show t.val = (((cfg0.win 8).blk t).view.emb y 0).val / 8; omega)
  · exact Fin.ext (by show (y 0).val = (((cfg0.win 8).blk t).view.emb y 0).val % 8; omega)
  · exact Fin.ext (by show (y 1).val = (((cfg0.win 8).blk t).view.emb y 1).val; omega)

set_option maxHeartbeats 4000000 in
/-- The second result array after the region. -/
theorem final_states (c : Dev nD) : (dats m 0 c).arrAt 9 (cfgs 0).N
    = STATES (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  have htN : t.val < 128 := t.isLt
  have h9 : (dats m 0 c).after 9 t y = (outsAt0 m c t).2 y := congrFun (after0_9 m c t) y
  refine h9.trans ?_
  have ey : y = ix4 (0 : Fin 1) (y 1) (y 2) (y 3) := by
    conv_lhs => rw [eq_ix4 y]
    exact congrArg (fun z => ix4 z (y 1) (y 2) (y 3)) (Subsingleton.elim _ _)
  rw [ey]
  refine (state_point m c t ⟨t.val, htN⟩ rfl (y 1) (y 2) (y 3)).trans ?_
  rw [← ey]
  have hy0 : (y 0).val < 1 := (y 0).isLt
  have e0 : (((cfg0.win 9).blk t).view.emb y 0).val = t.val + (y 0).val := by blk_simp [idx t]
  have e1 : (((cfg0.win 9).blk t).view.emb y 1).val = (y 1).val := by blk_simp [idx t]
  have e2 : (((cfg0.win 9).blk t).view.emb y 2).val = (y 2).val := by blk_simp [idx t]
  have e3 : (((cfg0.win 9).blk t).view.emb y 3).val = (y 3).val := by blk_simp [idx t]
  show _ = STATES _ _ _ _ _ (((cfg0.win 9).blk t).view.emb y)
  unfold STATES
  congr 1
  · exact Fin.ext (by show t.val = (((cfg0.win 9).blk t).view.emb y 0).val; omega)
  · exact Fin.ext (by show (y 1).val = (((cfg0.win 9).blk t).view.emb y 1).val; omega)
  · exact Fin.ext (by show (y 2).val = (((cfg0.win 9).blk t).view.emb y 2).val; omega)
  · exact Fin.ext (by show (y 3).val = (((cfg0.win 9).blk t).view.emb y 3).val; omega)

/-- The first result after the host lines that follow the region. -/
theorem tail_rows (c : Dev nD) : Pipeline.afterTail₀ cfgs (dats m) 0 (V0 m) [hostOps1] c main_v22 = TOKENS ((dats m 0 c).arrAt 8 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v20_0) = (dats m 0 c).arrAt 8 (cfgs 0).N :=
    (dats m 0 c).withArrays_arrAt (by decide) (V0 m c) (A_eq m c) 8
  after_results
  rw [h]; rfl

/-- The run, with both results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v22) = ROWS (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c : Thread nD τ).loc main_v20_1) = STATES (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run _ _ _).mono (fun r h c =>
      ⟨((h.1 c).2 main_v22 (Pipeline.mem_restRefs_of main_v22 (by decide) (by decide))).trans ((tail_rows m c).trans ((congrArg TOKENS (final_rows m c)).trans (tokens_eq _ _ _ _ _ _ _ _))),
       ((h.1 c).1 9).trans (final_states m c),
       h.2 c⟩)
    (θ_run_and (run_main m ρ) (unchanged m ρ))
end Cert.SsdSampleValue
-- ==== Proof.SsdSampleRef.lean ====
/- The reference on the sample batch, read at an index. -/
module
public import proofs.«01_k».proof.Proof.Gen.SsdSampleRefIdeal.Run
public import proofs.«01_k».proof.Proof.SsdSampleKernel
public import proofs.«01_k».proof.Proof.SsdEntry
@[expose] public section
set_option maxRecDepth 16384
noncomputable section
open Idealize.ShloMosaic Idealize.ShloMosaic.TcCoe Idealize.ShloMosaic.Tactic Idealize.ShloMosaic.StableHlo Idealize.SL.Sem
namespace Cert.SsdSampleValue
open Cert.SsdProduct (splus head chan scol grp lane gated normed hcol wof hof head_wof)
open Cert.SsdSampleRefIdeal Cert.SsdSampleRefIdeal.Gen Cert.SsdSampleRefIdeal.Value

/-- The tokens' convolved columns. -/
def refTokens (a : FVec Ideal S1024x4096 .f32) : FVec Ideal S128x4x4096 .f32 :=
  extractStridedSlice S128x4x4096 ![0, 0, 0] (shapeCast S128x8x4096 a shapeCasts_S1024x4096_S128x8x4096) slices_S128x8x4096_S128x4x4096_0_0_0
/-- The channels by head. -/
def refX (a : FVec Ideal S1024x4096 .f32) : FVec Ideal S128x4x8x4x64 .f32 :=
  shapeCast S128x4x8x4x64 (extractStridedSlice S128x4x2048 ![0, 0, 0] (refTokens a) slices_S128x4x4096_S128x4x2048_0_0_0) shapeCasts_S128x4x2048_S128x4x8x4x64
/-- The columns of `B` by group. -/
def refB (a : FVec Ideal S1024x4096 .f32) : FVec Ideal S128x4x8x128 .f32 :=
  shapeCast S128x4x8x128 (extractStridedSlice S128x4x1024 ![0, 0, 2048] (refTokens a) slices_S128x4x4096_S128x4x1024_0_0_2048) shapeCasts_S128x4x1024_S128x4x8x128
/-- The columns of `C` by group. -/
def refC (a : FVec Ideal S1024x4096 .f32) : FVec Ideal S128x4x8x128 .f32 :=
  shapeCast S128x4x8x128 (extractStridedSlice S128x4x1024 ![0, 0, 3072] (refTokens a) slices_S128x4x4096_S128x4x1024_0_0_3072) shapeCasts_S128x4x1024_S128x4x8x128
/-- The gate rows of the tokens. -/
def refZ (a : FVec Ideal S9216x6144 .f32) : FVec Ideal S128x4x2048 .f32 :=
  extractStridedSlice S128x4x2048 ![0, 0, 0] (shapeCast S128x8x2048 (extractStridedSlice S1024x2048 ![8192, 0] a slices_S9216x6144_S1024x2048_8192_0) shapeCasts_S1024x2048_S128x8x2048) slices_S128x8x2048_S128x4x2048_0_0_0
/-- The step sizes before the softplus. -/
def refSteps (a : FVec Ideal S9216x128 .f32) (e : FVec Ideal S1x32 .f32) : FVec Ideal S128x4x32 .f32 :=
  addf (extractStridedSlice S128x4x32 ![0, 0, 0] (shapeCast S128x8x32 (extractStridedSlice S1024x32 ![8192, 32] a slices_S9216x128_S1024x32_8192_32) shapeCasts_S1024x32_S128x8x32) slices_S128x8x32_S128x4x32_0_0_0)
    (broadcastInDim S128x4x32 ![0, 1, 2] bcast_S1x1x32_S128x4x32_0_1_2 (broadcastInDim S1x1x32 ![2] bcast_S32_S1x1x32_2 (shapeCast S32 e shapeCasts_S1x32_S32)))
/-- The softplus on an array, as the reference writes it. -/
def refSoft (v : FVec Ideal S128x4x32 .f32) : FVec Ideal S128x4x32 .f32 :=
  select (cmpf .une (subf v (broadcastInDim S128x4x32 ![] bcast_S_S128x4x32 (constant S_ .f32 0#32))) (subf v (broadcastInDim S128x4x32 ![] bcast_S_S128x4x32 (constant S_ .f32 0#32))))
    (addf v (broadcastInDim S128x4x32 ![] bcast_S_S128x4x32 (constant S_ .f32 0#32)))
    (addf (maximumf v (broadcastInDim S128x4x32 ![] bcast_S_S128x4x32 (constant S_ .f32 0#32)))
      (Host.log1p (Host.exp (Host.negf (Host.absf (subf v (broadcastInDim S128x4x32 ![] bcast_S_S128x4x32 (constant S_ .f32 0#32))))))))
/-- The step sizes by head. -/
def refD (a : FVec Ideal S9216x128 .f32) (e : FVec Ideal S1x32 .f32) : FVec Ideal S128x4x8x4 .f32 := shapeCast S128x4x8x4 (refSoft (refSteps a e)) shapeCasts_S128x4x32_S128x4x8x4
/-- The negated rates. -/
def refA (a : FVec Ideal S1x32 .f32) : FVec Ideal S8x4 .f32 := Host.negf (shapeCast S8x4 (Host.exp (shapeCast S32 a shapeCasts_S1x32_S32)) shapeCasts_S32_S8x4)
/-- The running sum down the four rows. -/
def refSum (x : FVec Ideal S128x4x8x4 .f32) : FVec Ideal S128x4x8x4 .f32 :=
  Host.reduceWindowAdd (F := Ideal) ![1, 4, 1, 1] ![1, 1, 1, 1] ![0, 3, 0, 0] ![0, 0, 0, 0] x (broadcastInDim S_ ![] bcast_S_S_ (constant S_ .f32 0x00000000#32))
    reduceWindows_S128x4x8x4_S128x4x8x4_w1s1p0_0_w4s1p3_0_w1s1p0_0_w1s1p0_0 h_S_
/-- The decays. -/
def refG (D : FVec Ideal S128x4x8x4 .f32) (A : FVec Ideal S8x4 .f32) : FVec Ideal S128x4x8x4 .f32 :=
  refSum (mulf D (broadcastInDim S128x4x8x4 ![0, 1, 2, 3] bcast_S1x1x8x4_S128x4x8x4_0_1_2_3 (broadcastInDim S1x1x8x4 ![2, 3] bcast_S8x4_S1x1x8x4_2_3 A)))
/-- The state a sequence starts from, by head. -/
def refH (a : FVec Ideal S1x128x32x64x128 .f32) : FVec Ideal S128x8x4x64x128 .f32 :=
  shapeCast S128x8x4x64x128 (shapeCast S128x32x64x128 a shapeCasts_S1x128x32x64x128_S128x32x64x128) shapeCasts_S128x32x64x128_S128x8x4x64x128
/-- The test that a row is not after another. -/
def refM : IVec S4x4 1 :=
  cmpi .sge (broadcastInDim S4x4 ![0, 1] bcast_S4x1_S4x4_0_1 (broadcastInDim S4x1 ![0] bcast_S4_S4x1_0 (iotaInDim S4 32 0)))
    (broadcastInDim S4x4 ![0, 1] bcast_S1x4_S4x4_0_1 (broadcastInDim S1x4 ![1] bcast_S4_S1x4_1 (iotaInDim S4 32 0)))
/-- The channels scaled by the step sizes. -/
def refXD (X : FVec Ideal S128x4x8x4x64 .f32) (D : FVec Ideal S128x4x8x4 .f32) : FVec Ideal S128x4x8x4x64 .f32 :=
  mulf X (broadcastInDim S128x4x8x4x64 ![0, 1, 2, 3, 4] bcast_S128x4x8x4x1_S128x4x8x4x64_0_1_2_3_4 (broadcastInDim S128x4x8x4x1 ![0, 1, 2, 3] bcast_S128x4x8x4_S128x4x8x4x1_0_1_2_3 D))
/-- The state after the four rows. -/
def refState (G : FVec Ideal S128x4x8x4 .f32) (XD : FVec Ideal S128x4x8x4x64 .f32) (B : FVec Ideal S128x4x8x128 .f32) (H : FVec Ideal S128x8x4x64x128 .f32) : FVec Ideal S128x8x4x64x128 .f32 :=
  addf (mulf (broadcastInDim S128x8x4x64x128 ![0, 1, 2, 3, 4] bcast_S128x8x4x1x1_S128x8x4x64x128_0_1_2_3_4 (broadcastInDim S128x8x4x1x1 ![0, 1, 2] bcast_S128x8x4_S128x8x4x1x1_0_1_2
      (Host.exp (shapeCast S128x8x4 (extractStridedSlice S128x1x8x4 ![0, 3, 0, 0] G slices_S128x4x8x4_S128x1x8x4_0_3_0_0) shapeCasts_S128x1x8x4_S128x8x4)))) H)
    (Host.dotGeneral dot_S128x4x8x4x64_S128x4x8x128_S128x8x4x64x128_1_1_34_3_02_02 none (mulf XD (broadcastInDim S128x4x8x4x64 ![0, 1, 2, 3, 4] bcast_S128x4x8x4x1_S128x4x8x4x64_0_1_2_3_4
      (broadcastInDim S128x4x8x4x1 ![0, 1, 2, 3] bcast_S128x4x8x4_S128x4x8x4x1_0_1_2_3 (Host.exp (subf (broadcastInDim S128x4x8x4 ![0, 1, 2, 3] bcast_S128x1x8x4_S128x4x8x4_0_1_2_3
        (extractStridedSlice S128x1x8x4 ![0, 3, 0, 0] G slices_S128x4x8x4_S128x1x8x4_0_3_0_0)) G))))) B)
/-- What the rows read. -/
def refReads (G : FVec Ideal S128x4x8x4 .f32) (XD : FVec Ideal S128x4x8x4x64 .f32) (B C : FVec Ideal S128x4x8x128 .f32) (H : FVec Ideal S128x8x4x64x128 .f32) (M : IVec S4x4 1) : FVec Ideal S128x4x8x4x64 .f32 :=
  addf (transpose S128x4x8x4x64 [0, 4, 1, 2, 3] (Host.dotGeneral dot_S128x4x8x4x64_S128x8x4x4x4_S128x8x4x64x4_1_4_4_3_023_012 none XD
    (mulf (broadcastInDim S128x8x4x4x4 ![0, 1, 2, 3, 4] bcast_S128x8x1x4x4_S128x8x4x4x4_0_1_2_3_4 (broadcastInDim S128x8x1x4x4 ![0, 1, 3, 4] bcast_S128x8x4x4_S128x8x1x4x4_0_1_3_4 (Host.dotGeneral dot_S128x4x8x128_S128x4x8x128_S128x8x4x4_3_3_1_1_02_02 none C B)))
      (Host.exp (select (broadcastInDim S128x8x4x4x4 ![3, 4] bcast_S4x4_S128x8x4x4x4_3_4 M)
        (subf (broadcastInDim S128x8x4x4x4 ![0, 1, 2, 3, 4] bcast_S128x8x4x4x1_S128x8x4x4x4_0_1_2_3_4 (broadcastInDim S128x8x4x4x1 ![0, 1, 2, 3] bcast_S128x8x4x4_S128x8x4x4x1_0_1_2_3 (transpose S128x8x4x4 [0, 2, 3, 1] G transposes_S128x4x8x4_S128x8x4x4_0_2_3_1)))
          (broadcastInDim S128x8x4x4x4 ![0, 1, 2, 3, 4] bcast_S128x8x4x1x4_S128x8x4x4x4_0_1_2_3_4 (broadcastInDim S128x8x4x1x4 ![0, 1, 2, 4] bcast_S128x8x4x4_S128x8x4x1x4_0_1_2_4 (transpose S128x8x4x4 [0, 2, 3, 1] G transposes_S128x4x8x4_S128x8x4x4_0_2_3_1))))
        (broadcastInDim S128x8x4x4x4 ![] bcast_S_S128x8x4x4x4 (constant S_ .f32 0xFF800000#32)))))) transposes_S128x8x4x64x4_S128x4x8x4x64_0_4_1_2_3)
    (mulf (transpose S128x4x8x4x64 [0, 4, 1, 2, 3] (Host.dotGeneral dot_S128x8x4x64x128_S128x4x8x128_S128x8x4x64x4_4_3_23_1_01_02 none H C) transposes_S128x8x4x64x4_S128x4x8x4x64_0_4_1_2_3)
      (broadcastInDim S128x4x8x4x64 ![0, 1, 2, 3, 4] bcast_S128x4x8x4x1_S128x4x8x4x64_0_1_2_3_4 (broadcastInDim S128x4x8x4x1 ![0, 1, 2, 3] bcast_S128x4x8x4_S128x4x8x4x1_0_1_2_3 (Host.exp G))))
/-- The gated rows, as the reference writes them. -/
def refGates (Y X : FVec Ideal S128x4x8x4x64 .f32) (Z : FVec Ideal S128x4x2048 .f32) (a6 : FVec Ideal S1x32 .f32) : FVec Ideal S128x4x2048 .f32 :=
  mulf (shapeCast S128x4x2048 (addf Y (mulf (broadcastInDim S128x4x8x4x64 ![0, 1, 2, 3, 4] bcast_S1x1x8x4x1_S128x4x8x4x64_0_1_2_3_4 (broadcastInDim S1x1x8x4x1 ![2, 3, 4] bcast_S8x4x1_S1x1x8x4x1_2_3_4
        (broadcastInDim S8x4x1 ![0, 1] bcast_S8x4_S8x4x1_0_1 (shapeCast S8x4 (shapeCast S32 a6 shapeCasts_S1x32_S32) shapeCasts_S32_S8x4)))) X)) shapeCasts_S128x4x8x4x64_S128x4x2048)
    (mulf Z (Host.divf (broadcastInDim S128x4x2048 ![] bcast_S_S128x4x2048 (constant S_ .f32 0x3F800000#32)) (addf (broadcastInDim S128x4x2048 ![] bcast_S_S128x4x2048 (constant S_ .f32 0x3F800000#32))
        (Host.exp (Host.negf Z)))))
/-- The normalisation, as the reference writes it. -/
def refNorm (G : FVec Ideal S128x4x2048 .f32) (a7 : FVec Ideal S1x2048 .f32) : FVec Ideal S128x4x2048 .bf16 :=
  truncf .bf16 (mulf (mulf G (broadcastInDim S128x4x2048 ![0, 1, 2] bcast_S128x4x1_S128x4x2048_0_1_2 (Host.rsqrt (addf
      (Host.divf (broadcastInDim S128x4x1 ![0, 1] bcast_S128x4_S128x4x1_0_1 (Host.reduceAdd (mulf G G) (constant S_ .f32 0x00000000#32) reducesTo_S128x4x2048_S128x4_d2 h_S_))
        (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2 (shapeCast S2048 a7 shapeCasts_S1x2048_S2048)))) bitsLt_bf16_f32

/-- The channels at an index. -/
theorem refX_at (a : FVec Ideal S1024x4096 .f32) (b : Fin 128) (s : Fin 4) (g : Fin 8) (r : Fin 4) (p : Fin 64) : refX a (ix5 b s g r p) = XC a b (lo s) (chan g (wof r p)) := by
  pointwise [refX, refTokens]
  unfold XC lo chan wof
  exact congrArg₂ (fun x y => a (ix2 x y)) (Fin.ext (by show b.val * 8 + s.val = 8 * b.val + s.val; omega))
    (Fin.ext (by show g.val * 256 + r.val * 64 + p.val = 256 * g.val + (64 * r.val + p.val); omega))
/-- The columns of `B` at an index. -/
theorem refB_at (a : FVec Ideal S1024x4096 .f32) (b : Fin 128) (s : Fin 4) (g : Fin 8) (n : Fin 128) : refB a (ix4 b s g n) = BC a b (lo s) (scol g n) := by
  pointwise [refB, refTokens]
  unfold BC lo scol
  exact congrArg₂ (fun x y => a (ix2 x y)) (Fin.ext (by show b.val * 8 + s.val = 8 * b.val + s.val; omega))
    (Fin.ext (by show 2048 + (g.val * 128 + n.val) = 2048 + (128 * g.val + n.val); omega))
/-- The columns of `C` at an index. -/
theorem refC_at (a : FVec Ideal S1024x4096 .f32) (b : Fin 128) (s : Fin 4) (g : Fin 8) (n : Fin 128) : refC a (ix4 b s g n) = CC a b (lo s) (scol g n) := by
  pointwise [refC, refTokens]
  unfold CC lo scol
  exact congrArg₂ (fun x y => a (ix2 x y)) (Fin.ext (by show b.val * 8 + s.val = 8 * b.val + s.val; omega))
    (Fin.ext (by show 3072 + (g.val * 128 + n.val) = 3072 + (128 * g.val + n.val); omega))
/-- The gate rows at an index. -/
theorem refZ_at (a : FVec Ideal S9216x6144 .f32) (b : Fin 128) (s : Fin 4) (l : Fin 2048) : refZ a (ix3 b s l) = ZC a b (lo s) l := by
  pointwise [refZ]
  unfold ZC lo
  exact congrArg (fun x => a (ix2 x (⟨l.val, by omega⟩ : Fin 6144))) (Fin.ext (by show 8192 + (b.val * 8 + s.val) = 8192 + 8 * b.val + s.val; omega))
/-- The step sizes before the softplus at an index. -/
theorem refSteps_at (a : FVec Ideal S9216x128 .f32) (e : FVec Ideal S1x32 .f32) (b : Fin 128) (s : Fin 4) (q : Fin 32) :
    refSteps a e (ix3 b s q) = a (ix2 (⟨8192 + 8 * b.val + s.val, by omega⟩ : Fin 9216) (hcol q)) + e (ix2 (0 : Fin 1) q) := by
  pointwise [refSteps]
  exact congrArg (fun x => a (ix2 x (hcol q)) + e (ix2 (0 : Fin 1) q)) (Fin.ext (by show 8192 + (b.val * 8 + s.val) = 8192 + 8 * b.val + s.val; omega))
/-- The reference's softplus at an index. -/
theorem refSoft_at (v : FVec Ideal S128x4x32 .f32) (b : Fin 128) (s : Fin 4) (q : Fin 32) : refSoft v (ix3 b s q) = splus (v (ix3 b s q)) := by
  pointwise [refSoft]
  rw [if_neg (fun q => q rfl)]
  rfl
/-- The step sizes at an index. -/
theorem refD_at (a : FVec Ideal S9216x128 .f32) (e : FVec Ideal S1x32 .f32) (b : Fin 128) (s : Fin 4) (g : Fin 8) (r : Fin 4) : refD a e (ix4 b s g r) = DC a e b s (hof g r) := by
  have h : ∀ v : FVec Ideal S128x4x32 .f32, shapeCast S128x4x8x4 v shapeCasts_S128x4x32_S128x4x8x4 (ix4 b s g r) = v (ix3 b s (hof g r)) := fun v => by
    pointwise
    exact congrArg (fun x => v (ix3 b s x)) (Fin.ext (by show g.val * 4 + r.val = 4 * g.val + r.val; omega))
  exact (h _).trans ((refSoft_at _ b s _).trans (congrArg splus (refSteps_at a e b s _)))
/-- The negated rates at an index. -/
theorem refA_at (a : FVec Ideal S1x32 .f32) (g : Fin 8) (r : Fin 4) : refA a (ix2 g r) = -(Ideal.exp (a (ix2 (0 : Fin 1) (hof g r)))) := by
  pointwise [refA]
  unfold hof
  exact congrArg (fun x => -(Ideal.exp (a (ix2 (0 : Fin 1) x)))) (Fin.ext (by show g.val * 4 + r.val = 4 * g.val + r.val; omega))
/-- The starting state at an index. -/
theorem refH_at (a : FVec Ideal S1x128x32x64x128 .f32) (b : Fin 128) (g : Fin 8) (r : Fin 4) (p : Fin 64) (n : Fin 128) : refH a (ix5 b g r p n) = HC a b g (wof r p) n := by
  pointwise [refH]
  unfold HC
  rw [head_wof]
  unfold hof wof
  exact congrArg₂ (fun x y => a (ix5 (0 : Fin 1) b x y n)) (Fin.ext (by show g.val * 4 + r.val = 4 * g.val + r.val; omega)) (Fin.ext (by show p.val = (64 * r.val + p.val) % 64; omega))
/-- The test of rows at an index. -/
theorem refM_at (t s : Fin 4) : refM (ix2 t s) = if s ≤ t then 1#1 else 0#1 := by
  pointwise [refM]
  exact (by decide +kernel : ∀ t s : Fin 4, IntOp.cmpi CmpIPredicate.sge (BitVec.ofNat 32 t.val) (BitVec.ofNat 32 s.val) = if s ≤ t then 1#1 else 0#1) t s

/-- The window a running sum reads, its places in order. -/
theorem places : ∀ n : Fin (⟨4, ![1, 4, 1, 1]⟩ : Shape).numel, (((⟨4, ![1, 4, 1, 1]⟩ : Shape).rowMajor.symm n) 0).val = 0
    ∧ (((⟨4, ![1, 4, 1, 1]⟩ : Shape).rowMajor.symm n) 1).val = n.val ∧ (((⟨4, ![1, 4, 1, 1]⟩ : Shape).rowMajor.symm n) 2).val = 0
    ∧ (((⟨4, ![1, 4, 1, 1]⟩ : Shape).rowMajor.symm n) 3).val = 0 := by decide +kernel

/-- The sum over a window's places inside the array is the sum over the rows up to its last. -/
theorem window_sum (f : Fin 4 → EReal) (t : Fin 4) :
    (∑ n : Fin 4, if h : 3 ≤ t.val + n.val ∧ t.val + n.val - 3 < 4 then f ⟨t.val + n.val - 3, h.2⟩ else 0) = ∑ s, if s ≤ t then f s else 0 := by
  fin_cases t <;> simp [Fin.sum_univ_four, Fin.le_def]

/-- The running sum down the rows. -/
theorem refSum_at (x : FVec Ideal S128x4x8x4 .f32) (b : Fin 128) (t : Fin 4) (g : Fin 8) (r : Fin 4) :
    refSum x (ix4 b t g r) = ∑ s : Fin 4, if s ≤ t then x (ix4 b s g r) else 0 := by
  have hz : broadcastInDim S_ ![] bcast_S_S_ (constant (F := Ideal) S_ .f32 0x00000000#32) (Shape.Idx.first h_S_) = (0 : EReal) := by
    pointwise
  refine Eq.trans ?_ (window_sum (fun s => x (ix4 b s g r)) t)
  unfold refSum Host.reduceWindowAdd
  rw [Ideal.hostReduceWindowAdd_def, hz]
  unfold Ideal.hostReduceWindowAdd Host.reduceWindow
  refine (Cert.SsdProduct.fold_sum _).trans ?_
  refine Finset.sum_congr rfl fun n _ => ?_
  obtain ⟨p0, p1, p2, p3⟩ := places n
  have hb := b.isLt; have ht := t.isLt; have hg := g.isLt; have hr := r.isLt
  have hn : n.val < 4 := n.isLt
  by_cases h : 3 ≤ t.val + n.val ∧ t.val + n.val - 3 < 4
  · rw [dif_pos h, dif_pos]
    · refine congrArg x (funext fun a => ?_)
      fin_cases a
      · exact Fin.ext (by show b.val * 1 + ((⟨4, ![1, 4, 1, 1]⟩ : Shape).rowMajor.symm n 0).val - 0 = b.val; omega)
      · exact Fin.ext (by show t.val * 1 + ((⟨4, ![1, 4, 1, 1]⟩ : Shape).rowMajor.symm n 1).val - 3 = t.val + n.val - 3; omega)
      · exact Fin.ext (by show g.val * 1 + ((⟨4, ![1, 4, 1, 1]⟩ : Shape).rowMajor.symm n 2).val - 0 = g.val; omega)
      · exact Fin.ext (by show r.val * 1 + ((⟨4, ![1, 4, 1, 1]⟩ : Shape).rowMajor.symm n 3).val - 0 = r.val; omega)
    · intro a
      fin_cases a
      · show 0 ≤ b.val * 1 + ((⟨4, ![1, 4, 1, 1]⟩ : Shape).rowMajor.symm n 0).val ∧ b.val * 1 + ((⟨4, ![1, 4, 1, 1]⟩ : Shape).rowMajor.symm n 0).val - 0 < 128; omega
      · show 3 ≤ t.val * 1 + ((⟨4, ![1, 4, 1, 1]⟩ : Shape).rowMajor.symm n 1).val ∧ t.val * 1 + ((⟨4, ![1, 4, 1, 1]⟩ : Shape).rowMajor.symm n 1).val - 3 < 4; omega
      · show 0 ≤ g.val * 1 + ((⟨4, ![1, 4, 1, 1]⟩ : Shape).rowMajor.symm n 2).val ∧ g.val * 1 + ((⟨4, ![1, 4, 1, 1]⟩ : Shape).rowMajor.symm n 2).val - 0 < 8; omega
      · show 0 ≤ r.val * 1 + ((⟨4, ![1, 4, 1, 1]⟩ : Shape).rowMajor.symm n 3).val ∧ r.val * 1 + ((⟨4, ![1, 4, 1, 1]⟩ : Shape).rowMajor.symm n 3).val - 0 < 4; omega
  · rw [dif_neg h, dif_neg]
    intro q
    have q1 : 3 ≤ t.val * 1 + ((⟨4, ![1, 4, 1, 1]⟩ : Shape).rowMajor.symm n 1).val ∧ t.val * 1 + ((⟨4, ![1, 4, 1, 1]⟩ : Shape).rowMajor.symm n 1).val - 3 < 4 := q (1 : Fin 4)
    omega

/-- The products summed by the decay, at an index. -/
theorem scaled_at (D : FVec Ideal S128x4x8x4 .f32) (A : FVec Ideal S8x4 .f32) (b : Fin 128) (t : Fin 4) (g : Fin 8) (r : Fin 4) :
    mulf D (broadcastInDim S128x4x8x4 ![0, 1, 2, 3] bcast_S1x1x8x4_S128x4x8x4_0_1_2_3 (broadcastInDim S1x1x8x4 ![2, 3] bcast_S8x4_S1x1x8x4_2_3 A)) (ix4 b t g r) = D (ix4 b t g r) * A (ix2 g r) := by
  pointwise

/-- The decays at an index. -/
theorem refG_at (a2 : FVec Ideal S9216x128 .f32) (a4 a5 : FVec Ideal S1x32 .f32) (b : Fin 128) (t : Fin 4) (g : Fin 8) (r : Fin 4) :
    refG (refD a2 a5) (refA a4) (ix4 b t g r) = decay (fun s => DC a2 a5 b s (hof g r)) (a4 (ix2 (0 : Fin 1) (hof g r))) t := by
  refine (refSum_at _ b t g r).trans (Finset.sum_congr rfl fun s _ => ?_)
  rw [scaled_at, refD_at, refA_at]

/-- The scaled channels at an index. -/
theorem refXD_at (X : FVec Ideal S128x4x8x4x64 .f32) (D : FVec Ideal S128x4x8x4 .f32) (b : Fin 128) (s : Fin 4) (g : Fin 8) (r : Fin 4) (p : Fin 64) :
    refXD X D (ix5 b s g r p) = X (ix5 b s g r p) * D (ix4 b s g r) := by
  pointwise [refXD]

/-- The state at an index. -/
theorem refState_at (G : FVec Ideal S128x4x8x4 .f32) (XD : FVec Ideal S128x4x8x4x64 .f32) (B : FVec Ideal S128x4x8x128 .f32) (H : FVec Ideal S128x8x4x64x128 .f32)
    (b : Fin 128) (g : Fin 8) (r : Fin 4) (p : Fin 64) (n : Fin 128) :
    refState G XD B H (ix5 b g r p n) = Ideal.exp (G (ix4 b 3 g r)) * H (ix5 b g r p n)
      + ∑ s : Fin 4, XD (ix5 b s g r p) * Ideal.exp (G (ix4 b 3 g r) - G (ix4 b s g r)) * B (ix4 b s g n) := by
  pointwise [refState]

/-- What a row reads, at an index. -/
theorem refReads_at (G : FVec Ideal S128x4x8x4 .f32) (XD : FVec Ideal S128x4x8x4x64 .f32) (B C : FVec Ideal S128x4x8x128 .f32) (H : FVec Ideal S128x8x4x64x128 .f32) (M : IVec S4x4 1)
    (b : Fin 128) (t : Fin 4) (g : Fin 8) (r : Fin 4) (p : Fin 64) :
    refReads G XD B C H M (ix5 b t g r p)
      = (∑ s : Fin 4, XD (ix5 b s g r p) * ((∑ n : Fin 128, C (ix4 b t g n) * B (ix4 b s g n)) * Ideal.exp (Scalar.select (M (ix2 t s)) (G (ix4 b t g r) - G (ix4 b s g r)) (⊥ : EReal))))
        + (∑ n : Fin 128, H (ix5 b g r p n) * C (ix4 b t g n)) * Ideal.exp (G (ix4 b t g r)) := by
  pointwise [refReads]
  rw [show Ideal.ofBits FTy.f32 4286578688#32 = (⊥ : EReal) from Cert.SsdProduct.minus_inf]

/-- A gated row at an index. -/
theorem refGates_at (Y X : FVec Ideal S128x4x8x4x64 .f32) (Z : FVec Ideal S128x4x2048 .f32) (a6 : FVec Ideal S1x32 .f32) (b : Fin 128) (t : Fin 4) (l : Fin 2048) :
    refGates Y X Z a6 (ix3 b t l)
      = gated (Y (ix5 b t (grp l) (⟨lane l / 64, by have := (lane l).isLt; omega⟩ : Fin 4) (⟨l.val % 64, by omega⟩ : Fin 64))) (a6 (ix2 (0 : Fin 1) (head (grp l) (lane l))))
          (X (ix5 b t (grp l) (⟨lane l / 64, by have := (lane l).isLt; omega⟩ : Fin 4) (⟨l.val % 64, by omega⟩ : Fin 64))) (Z (ix3 b t l)) := by
  pointwise [refGates]
  have er : (⟨l.val / 64 % 4, by omega⟩ : Fin 4) = ⟨l.val % 256 / 64, by omega⟩ := Fin.ext (by show l.val / 64 % 4 = l.val % 256 / 64; omega)
  exact Ideal.mul_congr
    (Ideal.add_congr
      (congrArg (fun z : Fin 4 => Y (ix5 b t (grp l) z (⟨l.val % 64, by omega⟩ : Fin 64))) er)
      (Ideal.mul_congr
        (congrArg (fun z : Fin 32 => a6 (ix2 (0 : Fin 1) z)) (Fin.ext (by show l.val / 256 * 4 + l.val / 64 % 4 = 4 * (l.val / 256) + l.val % 256 / 64; omega)))
        (congrArg (fun z : Fin 4 => X (ix5 b t (grp l) z (⟨l.val % 64, by omega⟩ : Fin 64))) er)))
    rfl

/-- The normalisation at an index. -/
theorem refNorm_at (G : FVec Ideal S128x4x2048 .f32) (a7 : FVec Ideal S1x2048 .f32) (b : Fin 128) (t : Fin 4) (l : Fin 2048) :
    refNorm G a7 (ix3 b t l) = normed (fun j => G (ix3 b t j)) (fun j => a7 (ix2 (0 : Fin 1) j)) l := by
  pointwise [refNorm]
  rfl

section
variable (a0 : FVec Ideal S1024x4096 .f32) (a1 : FVec Ideal S9216x6144 .f32) (a2 : FVec Ideal S9216x128 .f32) (a3 : FVec Ideal S1x128x32x64x128 .f32)
    (a4 a5 a6 : FVec Ideal S1x32 .f32) (a7 : FVec Ideal S1x2048 .f32)

/-- The reference's states are the kernel's. -/
theorem states_eq : shapeCast S128x8x256x128 (refState (refG (refD a2 a5) (refA a4)) (refXD (refX a0) (refD a2 a5)) (refB a0) (refH a3)) shapeCasts_S128x8x4x64x128_S128x8x256x128
    = STATES a0 a2 a3 a4 a5 := by
  have e : ∀ (H : FVec Ideal S128x8x4x64x128 .f32) (b : Fin 128) (g : Fin 8) (w : Fin 256) (n : Fin 128),
      shapeCast S128x8x256x128 H shapeCasts_S128x8x4x64x128_S128x8x256x128 (ix4 b g w n) = H (ix5 b g (⟨w.val / 64, by omega⟩ : Fin 4) (⟨w.val % 64, by omega⟩ : Fin 64) n) := fun H b g w n => by
    pointwise
  have k : ∀ (b : Fin 128) (g : Fin 8) (r : Fin 4) (p : Fin 64) (n : Fin 128),
      refState (refG (refD a2 a5) (refA a4)) (refXD (refX a0) (refD a2 a5)) (refB a0) (refH a3) (ix5 b g r p n) = state4 a0 a2 a3 a4 a5 b g (wof r p) n := fun b g r p n => by
    rw [refState_at]
    unfold state4 next
    simp only [refXD_at, refX_at, refD_at, refG_at, refB_at, refH_at, head_wof]
  funext i
  obtain ⟨b, g, w, n, rfl⟩ : ∃ (b : Fin 128) (g : Fin 8) (w : Fin 256) (n : Fin 128), i = ix4 b g w n := ⟨i 0, i 1, i 2, i 3, by funext a; fin_cases a <;> rfl⟩
  refine (e _ b g w n).trans ((k b g _ _ n).trans ?_)
  exact congrArg (fun z => state4 a0 a2 a3 a4 a5 b g z n) (Fin.ext (by show 64 * (w.val / 64) + w.val % 64 = w.val; omega))

/-- What a row reads in the reference is what it reads in the kernel. -/
theorem reads_eq (b : Fin 128) (t : Fin 4) (g : Fin 8) (r : Fin 4) (p : Fin 64) :
    refReads (refG (refD a2 a5) (refA a4)) (refXD (refX a0) (refD a2 a5)) (refB a0) (refC a0) (refH a3) refM (ix5 b t g r p)
      = reads (DC a2 a5 b) (fun t q => decay (fun s => DC a2 a5 b s q) (a4 (ix2 (0 : Fin 1) q)) t)
          (fun s => XC a0 b (lo s)) (fun s => BC a0 b (lo s)) (fun s => CC a0 b (lo s)) (HC a3 b) t g (wof r p) := by
  rw [refReads_at]
  unfold reads
  simp only [refXD_at, refX_at, refD_at, refG_at, refB_at, refC_at, refH_at, refM_at, head_wof, Cert.SsdProduct.choose]

/-- The reference's rows are the kernel's. -/
theorem rows_eq : refNorm (refGates (refReads (refG (refD a2 a5) (refA a4)) (refXD (refX a0) (refD a2 a5)) (refB a0) (refC a0) (refH a3) refM) (refX a0) (refZ a1) a6) a7
    = ROWS a0 a1 a2 a3 a4 a5 a6 a7 := by
  funext i
  obtain ⟨b, t, l, rfl⟩ : ∃ (b : Fin 128) (t : Fin 4) (l : Fin 2048), i = ix3 b t l := ⟨i 0, i 1, i 2, by funext a; fin_cases a <;> rfl⟩
  refine (refNorm_at _ _ b t l).trans ?_
  show normed _ _ l = row4 a0 a1 a2 a3 a4 a5 a6 a7 b t l
  unfold row4
  refine congrArg (fun f => normed f (fun j => a7 (ix2 (0 : Fin 1) j)) l) (funext fun j => ?_)
  refine (refGates_at _ _ _ _ b t j).trans ?_
  rw [reads_eq, refX_at, refZ_at]
  have ew : wof (⟨lane j / 64, by have := (lane j).isLt; omega⟩ : Fin 4) (⟨j.val % 64, by omega⟩ : Fin 64) = lane j := Fin.ext (by show 64 * (j.val % 256 / 64) + j.val % 64 = j.val % 256; omega)
  have ec : chan (grp j) (lane j) = j := Fin.ext (by show 256 * (j.val / 256) + j.val % 256 = j.val; omega)
  rw [ew, ec]
end

section
variable (m : (ℓ : Loc nD τ sig) → Buf (Elt Ideal) ℓ) (c : Dev nD)

set_option maxHeartbeats 4000000 in
/-- The reference's first result. -/
theorem ref_rows : res_main_v99 m c
    = ROWS (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine Eq.trans ?_ (rows_eq _ _ _ _ _ _ _ _)
  unfold res_main_v99
  rfl

set_option maxHeartbeats 4000000 in
/-- The reference's second result. -/
theorem ref_states : res_main_v100 m c
    = STATES (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  refine Eq.trans ?_ (states_eq _ _ _ _ _)
  unfold res_main_v100
  rfl
end
end Cert.SsdSampleValue
-- ==== Proof.SsdSample.lean ====
/- The state-space recurrence on the sample batch: the kernel and the reference end with equal rows and equal states. -/
module
public import proofs.«01_k».proof.Proof.SsdSampleRef
public import proofs.«01_k».proof.Defs
public import Idealize.ShloMosaic.Adequacy
public import Idealize.ShloMosaic.Init
public import Idealize.ShloMosaic.Lib.Claim
public import Idealize.ShloMosaic.Lib.Quiescent
@[expose] public section
noncomputable section
open Idealize.ShloMosaic Idealize.ShloMosaic.TcCoe Idealize.SL.Sem

namespace Cert.Proof.SsdSampleClaims

/-- The sample batch's reference runs and leaves every semaphore at zero. -/
theorem frame_ref : Cert.quiescent_SsdSampleRefIdeal := fun m ρ _ =>
  (θ_run Cert.SsdSampleRefIdeal.defs _ _).mono (fun r h => ⟨fun c => (h c).2.2,
      Idealize.ShloMosaic.sem_eq_zero_of_no_sems (by decide) r.2⟩)
    (Cert.SsdSampleRefIdeal.Value.run (F := Ideal) m ρ)

/-- The kernel and the reference end with equal rows and equal states. -/
theorem algebraic : Cert.algebraic_SsdSampleIdeal_SsdSampleRefIdeal := fun m ρ m' ρ' _ hag =>
  ⟨_, _, Cert.SsdSampleValue.run m ρ,
   (θ_run _ _ _).mono (fun r h c => ⟨(h c).1.trans ((Cert.SsdSampleValue.ref_rows m' c).trans (by
      obtain ⟨h0, h1, h2, h3, h4, h5, h6, h7⟩ := hag c
      rw [h0, h1, h2, h3, h4, h5, h6, h7])), (h c).2.1.trans ((Cert.SsdSampleValue.ref_states m' c).trans (by
      obtain ⟨h0, h1, h2, h3, h4, h5, h6, h7⟩ := hag c
      rw [h0, h2, h3, h4, h5])), (h c).2.2⟩)
     (Cert.SsdSampleRefIdeal.Value.run (F := Ideal) m' ρ')⟩

end Cert.Proof.SsdSampleClaims
-- ==== Proof.SegA.lean ====
/- The input projection's DeltaNet columns: the tiled product is the plain product with those columns. -/
module

public import proofs.«01_k».proof.Defs
public import proofs.«01_k».proof.Proof.Gen.SegA.Frame
public import proofs.«01_k».proof.Proof.Gen.SegAIdeal.Value
public import proofs.«01_k».proof.Proof.Gen.SegARefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SegAProduct

section
open Cert.SegARefIdeal Cert.SegARefIdeal.Gen

/-- What the reference computes, over its arguments. -/
def REF (X : FVec Ideal S9216x4096 .bf16) (W : FVec Ideal S1x4096x22592 .f32) : FVec Ideal S9216x8192 .f32 :=
  Host.dotGeneral dot_S9216x4096_S4096x8192_S9216x8192_1_0_0_1_n_n none (extf .f32 X bitsLt_bf16_f32)
    (extractStridedSlice S4096x8192 ![0, 0] (shapeCast S4096x22592 W shapeCasts_S1x4096x22592_S4096x22592) slices_S4096x22592_S4096x8192_0_0)

/-- The reference's result at an index: a sum of products over the contraction. -/
theorem ref_at (X : FVec Ideal S9216x4096 .bf16) (W : FVec Ideal S1x4096x22592 .f32) (r : Fin 9216) (q : Fin 8192) :
    REF X W (ix2 r q) = ∑ k : Fin 4096, X (ix2 r k) * W (ix3 (0 : Fin 1) k (⟨q.val, by omega⟩ : Fin 22592)) := by
  pointwise [REF]

end

open Cert.SegAIdeal Cert.SegAIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights as the region finds them: the argument's columns, cast. -/
theorem entry1 (c : Dev nD) : V m c main_v2 = truncf (F := Ideal) .bf16 (extractStridedSlice S4096x8192 ![0, 0] (shapeCast S4096x22592 (m ((c : Thread nD τ).loc main_arg1)) shapeCasts_S1x4096x22592_S4096x22592) slices_S4096x22592_S4096x8192_0_0) bitsLt_bf16_f32 := by
  unfold V; after_results; try rfl

/-- Those weights at an index. -/
theorem weights_at (W : FVec Ideal S1x4096x22592 .f32) (k : Fin 4096) (q : Fin 8192) :
    truncf (F := Ideal) .bf16 (extractStridedSlice S4096x8192 ![0, 0] (shapeCast S4096x22592 W shapeCasts_S1x4096x22592_S4096x22592) slices_S4096x22592_S4096x8192_0_0) bitsLt_bf16_f32 (ix2 k q) = W (ix3 (0 : Fin 1) k (⟨q.val, by omega⟩ : Fin 22592)) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 8192) (hq : q.val = t.val / 18 * 1024 + b.val) :
    iblk m c 1 t (ix2 k b) = m ((c : Thread nD τ).loc main_arg1) (ix3 (0 : Fin 1) k (⟨q.val, by omega⟩ : Fin 22592)) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x8192.Idx)
    (h0 : (i 0).val = t.val % 18 * 512 + (y 0).val) (h1 : (i 1).val = t.val / 18 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.SegAProduct

namespace Cert.Proof.SegAClaims

/-- The host reference runs and leaves every semaphore at zero. -/
theorem frame_ref : Cert.quiescent_SegARefIdeal := fun m ρ _ =>
  (θ_run Cert.SegARefIdeal.defs _ _).mono (fun r h => ⟨fun c => (h c).2,
      Idealize.ShloMosaic.sem_eq_zero_of_no_sems (by decide) r.2⟩)
    (Cert.SegARefIdeal.Value.run (F := Ideal) m ρ)

/-- The kernel and the reference end with equal results. -/
theorem algebraic : Cert.algebraic_SegAIdeal_SegARefIdeal := fun m ρ m' ρ' _ hag =>
  ⟨fun c => Cert.SegAProduct.REF (m ((c.tc : Thread _ _).loc Cert.SegAIdeal.main_arg0)) (m ((c.tc : Thread _ _).loc Cert.SegAIdeal.main_arg1)),
   (θ_run _ _ _).mono (fun r h c => ⟨(h c).1.trans (Cert.SegAProduct.final m c), (h c).2⟩)
     (Cert.SegAIdeal.Value.run_blocks m ρ),
   (θ_run _ _ _).mono (fun r h c => ⟨(h c).1.trans (by
      rw [(hag c).1, (hag c).2]; rfl), (h c).2⟩)
     (Cert.SegARefIdeal.Value.run (F := Ideal) m' ρ')⟩

end Cert.Proof.SegAClaims

end
-- ==== Proof.SegB.lean ====
/- The input projection's state-space columns: the tiled product is the plain product with those columns. -/
module

public import proofs.«01_k».proof.Defs
public import proofs.«01_k».proof.Proof.Gen.SegB.Frame
public import proofs.«01_k».proof.Proof.Gen.SegBIdeal.Value
public import proofs.«01_k».proof.Proof.Gen.SegBRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SegBProduct

section
open Cert.SegBRefIdeal Cert.SegBRefIdeal.Gen

/-- What the reference computes, over its arguments. -/
def REF (X : FVec Ideal S9216x4096 .bf16) (W : FVec Ideal S1x4096x22592 .f32) : FVec Ideal S9216x6144 .f32 :=
  Host.dotGeneral dot_S9216x4096_S4096x6144_S9216x6144_1_0_0_1_n_n none (extf .f32 X bitsLt_bf16_f32)
    (extractStridedSlice S4096x6144 ![0, 8224] (shapeCast S4096x22592 W shapeCasts_S1x4096x22592_S4096x22592) slices_S4096x22592_S4096x6144_0_8224)

/-- The reference's result at an index: a sum of products over the contraction. -/
theorem ref_at (X : FVec Ideal S9216x4096 .bf16) (W : FVec Ideal S1x4096x22592 .f32) (r : Fin 9216) (q : Fin 6144) :
    REF X W (ix2 r q) = ∑ k : Fin 4096, X (ix2 r k) * W (ix3 (0 : Fin 1) k (⟨8224 + q.val, by omega⟩ : Fin 22592)) := by
  pointwise [REF]

end

open Cert.SegBIdeal Cert.SegBIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights as the region finds them: the argument's columns, cast. -/
theorem entry1 (c : Dev nD) : V m c main_v2 = truncf (F := Ideal) .bf16 (extractStridedSlice S4096x6144 ![0, 8224] (shapeCast S4096x22592 (m ((c : Thread nD τ).loc main_arg1)) shapeCasts_S1x4096x22592_S4096x22592) slices_S4096x22592_S4096x6144_0_8224) bitsLt_bf16_f32 := by
  unfold V; after_results; try rfl

/-- Those weights at an index. -/
theorem weights_at (W : FVec Ideal S1x4096x22592 .f32) (k : Fin 4096) (q : Fin 6144) :
    truncf (F := Ideal) .bf16 (extractStridedSlice S4096x6144 ![0, 8224] (shapeCast S4096x22592 W shapeCasts_S1x4096x22592_S4096x22592) slices_S4096x22592_S4096x6144_0_8224) bitsLt_bf16_f32 (ix2 k q) = W (ix3 (0 : Fin 1) k (⟨8224 + q.val, by omega⟩ : Fin 22592)) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 6144) (hq : q.val = t.val / 18 * 1024 + b.val) :
    iblk m c 1 t (ix2 k b) = m ((c : Thread nD τ).loc main_arg1) (ix3 (0 : Fin 1) k (⟨8224 + q.val, by omega⟩ : Fin 22592)) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x6144.Idx)
    (h0 : (i 0).val = t.val % 18 * 512 + (y 0).val) (h1 : (i 1).val = t.val / 18 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.SegBProduct

namespace Cert.Proof.SegBClaims

/-- The host reference runs and leaves every semaphore at zero. -/
theorem frame_ref : Cert.quiescent_SegBRefIdeal := fun m ρ _ =>
  (θ_run Cert.SegBRefIdeal.defs _ _).mono (fun r h => ⟨fun c => (h c).2,
      Idealize.ShloMosaic.sem_eq_zero_of_no_sems (by decide) r.2⟩)
    (Cert.SegBRefIdeal.Value.run (F := Ideal) m ρ)

/-- The kernel and the reference end with equal results. -/
theorem algebraic : Cert.algebraic_SegBIdeal_SegBRefIdeal := fun m ρ m' ρ' _ hag =>
  ⟨fun c => Cert.SegBProduct.REF (m ((c.tc : Thread _ _).loc Cert.SegBIdeal.main_arg0)) (m ((c.tc : Thread _ _).loc Cert.SegBIdeal.main_arg1)),
   (θ_run _ _ _).mono (fun r h c => ⟨(h c).1.trans (Cert.SegBProduct.final m c), (h c).2⟩)
     (Cert.SegBIdeal.Value.run_blocks m ρ),
   (θ_run _ _ _).mono (fun r h c => ⟨(h c).1.trans (by
      rw [(hag c).1, (hag c).2]; rfl), (h c).2⟩)
     (Cert.SegBRefIdeal.Value.run (F := Ideal) m' ρ')⟩

end Cert.Proof.SegBClaims

end
-- ==== Proof.SegC.lean ====
/- The input projection's gate columns: the tiled product is the plain product with those columns. -/
module

public import proofs.«01_k».proof.Defs
public import proofs.«01_k».proof.Proof.Gen.SegC.Frame
public import proofs.«01_k».proof.Proof.Gen.SegCIdeal.Value
public import proofs.«01_k».proof.Proof.Gen.SegCRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SegCProduct

section
open Cert.SegCRefIdeal Cert.SegCRefIdeal.Gen

/-- What the reference computes, over its arguments. -/
def REF (X : FVec Ideal S9216x4096 .bf16) (W : FVec Ideal S1x4096x22592 .f32) : FVec Ideal S9216x8192 .f32 :=
  Host.dotGeneral dot_S9216x4096_S4096x8192_S9216x8192_1_0_0_1_n_n none (extf .f32 X bitsLt_bf16_f32)
    (extractStridedSlice S4096x8192 ![0, 14400] (shapeCast S4096x22592 W shapeCasts_S1x4096x22592_S4096x22592) slices_S4096x22592_S4096x8192_0_14400)

/-- The reference's result at an index: a sum of products over the contraction. -/
theorem ref_at (X : FVec Ideal S9216x4096 .bf16) (W : FVec Ideal S1x4096x22592 .f32) (r : Fin 9216) (q : Fin 8192) :
    REF X W (ix2 r q) = ∑ k : Fin 4096, X (ix2 r k) * W (ix3 (0 : Fin 1) k (⟨14400 + q.val, by omega⟩ : Fin 22592)) := by
  pointwise [REF]

end

open Cert.SegCIdeal Cert.SegCIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights as the region finds them: the argument's columns, cast. -/
theorem entry1 (c : Dev nD) : V m c main_v2 = truncf (F := Ideal) .bf16 (extractStridedSlice S4096x8192 ![0, 14400] (shapeCast S4096x22592 (m ((c : Thread nD τ).loc main_arg1)) shapeCasts_S1x4096x22592_S4096x22592) slices_S4096x22592_S4096x8192_0_14400) bitsLt_bf16_f32 := by
  unfold V; after_results; try rfl

/-- Those weights at an index. -/
theorem weights_at (W : FVec Ideal S1x4096x22592 .f32) (k : Fin 4096) (q : Fin 8192) :
    truncf (F := Ideal) .bf16 (extractStridedSlice S4096x8192 ![0, 14400] (shapeCast S4096x22592 W shapeCasts_S1x4096x22592_S4096x22592) slices_S4096x22592_S4096x8192_0_14400) bitsLt_bf16_f32 (ix2 k q) = W (ix3 (0 : Fin 1) k (⟨14400 + q.val, by omega⟩ : Fin 22592)) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 8192) (hq : q.val = t.val / 18 * 1024 + b.val) :
    iblk m c 1 t (ix2 k b) = m ((c : Thread nD τ).loc main_arg1) (ix3 (0 : Fin 1) k (⟨14400 + q.val, by omega⟩ : Fin 22592)) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x8192.Idx)
    (h0 : (i 0).val = t.val % 18 * 512 + (y 0).val) (h1 : (i 1).val = t.val / 18 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.SegCProduct

namespace Cert.Proof.SegCClaims

/-- The host reference runs and leaves every semaphore at zero. -/
theorem frame_ref : Cert.quiescent_SegCRefIdeal := fun m ρ _ =>
  (θ_run Cert.SegCRefIdeal.defs _ _).mono (fun r h => ⟨fun c => (h c).2,
      Idealize.ShloMosaic.sem_eq_zero_of_no_sems (by decide) r.2⟩)
    (Cert.SegCRefIdeal.Value.run (F := Ideal) m ρ)

/-- The kernel and the reference end with equal results. -/
theorem algebraic : Cert.algebraic_SegCIdeal_SegCRefIdeal := fun m ρ m' ρ' _ hag =>
  ⟨fun c => Cert.SegCProduct.REF (m ((c.tc : Thread _ _).loc Cert.SegCIdeal.main_arg0)) (m ((c.tc : Thread _ _).loc Cert.SegCIdeal.main_arg1)),
   (θ_run _ _ _).mono (fun r h c => ⟨(h c).1.trans (Cert.SegCProduct.final m c), (h c).2⟩)
     (Cert.SegCIdeal.Value.run_blocks m ρ),
   (θ_run _ _ _).mono (fun r h c => ⟨(h c).1.trans (by
      rw [(hag c).1, (hag c).2]; rfl), (h c).2⟩)
     (Cert.SegCRefIdeal.Value.run (F := Ideal) m' ρ')⟩

end Cert.Proof.SegCClaims

end
-- ==== Proof.SegD.lean ====
/- The input projection's narrow columns (the rates), padded with zeros: the tiled product is the plain one. -/
module

public import proofs.«01_k».proof.Defs
public import proofs.«01_k».proof.Proof.Gen.SegD.Frame
public import proofs.«01_k».proof.Proof.Gen.SegDIdeal.Value
public import proofs.«01_k».proof.Proof.Gen.SegDRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SegDProduct

section
open Cert.SegDRefIdeal Cert.SegDRefIdeal.Gen

/-- What the reference computes, over its arguments: two narrow products side by side, then columns of zeros. -/
def REF (X : FVec Ideal S9216x4096 .bf16) (W : FVec Ideal S1x4096x22592 .f32) : FVec Ideal S9216x128 .f32 :=
  concatenate S9216x128 1 [⟨S9216x64, concatenate S9216x64 1
      [⟨S9216x32, Host.dotGeneral dot_S9216x4096_S4096x32_S9216x32_1_0_0_1_n_n none (extf .f32 X bitsLt_bf16_f32)
          (extractStridedSlice S4096x32 ![0, 8192] (shapeCast S4096x22592 W shapeCasts_S1x4096x22592_S4096x22592) slices_S4096x22592_S4096x32_0_8192)⟩,
       ⟨S9216x32, Host.dotGeneral dot_S9216x4096_S4096x32_S9216x32_1_0_0_1_n_n none (extf .f32 X bitsLt_bf16_f32)
          (extractStridedSlice S4096x32 ![0, 14368] (shapeCast S4096x22592 W shapeCasts_S1x4096x22592_S4096x22592) slices_S4096x22592_S4096x32_0_14368)⟩]
      concatenates_S9216x32_S9216x32_S9216x64_d1⟩,
    ⟨S9216x64, broadcastInDim S9216x64 ![] bcast_S_S9216x64 (constant S_ .f32 0x00000000#32)⟩] concatenates_S9216x64_S9216x64_S9216x128_d1

/-- The weight column that result column `q` contracts with: zero past the two pieces. -/
def WCOL (W : FVec Ideal S1x4096x22592 .f32) (k : Fin 4096) (q : Fin 128) : EReal :=
  if h : q.val < 32 then W (ix3 (0 : Fin 1) k (⟨8192 + q.val, by omega⟩ : Fin 22592))
  else if h' : q.val < 64 then W (ix3 (0 : Fin 1) k (⟨14368 + (q.val - 32), by omega⟩ : Fin 22592)) else 0

/-- The reference's result at an index: a sum of products with that weight column. -/
theorem ref_at (X : FVec Ideal S9216x4096 .bf16) (W : FVec Ideal S1x4096x22592 .f32) (r : Fin 9216) (q : Fin 128) :
    REF X W (ix2 r q) = ∑ k : Fin 4096, X (ix2 r k) * WCOL W k q := by
  pointwise [REF]
  by_cases h : q.val < 32
  · simp only [WCOL, dif_pos h, dif_pos (show q.val < 64 by omega)]
  · by_cases h' : q.val < 64
    · simp only [WCOL, dif_neg h, dif_pos h']
    · simp only [WCOL, dif_neg h, dif_neg h', mul_zero, Finset.sum_const_zero]

end

open Cert.SegDIdeal Cert.SegDIdeal.Gen

/-- The weights at an index. -/
theorem weights_at (W : FVec Ideal S1x4096x22592 .f32) (k : Fin 4096) (q : Fin 128) :
    truncf (F := Ideal) .bf16 (concatenate S4096x128 1
      [⟨S4096x32, extractStridedSlice S4096x32 ![0, 8192] (shapeCast S4096x22592 W shapeCasts_S1x4096x22592_S4096x22592) slices_S4096x22592_S4096x32_0_8192⟩,
       ⟨S4096x32, extractStridedSlice S4096x32 ![0, 14368] (shapeCast S4096x22592 W shapeCasts_S1x4096x22592_S4096x22592) slices_S4096x22592_S4096x32_0_14368⟩,
       ⟨S4096x64, broadcastInDim S4096x64 ![] bcast_S_S4096x64 (constant S_ .f32 0x00000000#32)⟩]
      concatenates_S4096x32_S4096x32_S4096x64_S4096x128_d1) bitsLt_bf16_f32 (ix2 k q) = WCOL W k q := by
  pointwise
  by_cases h : q.val < 32
  · simp only [WCOL, dif_pos h]
  · by_cases h' : q.val < 64
    · simp only [WCOL, dif_neg h, dif_pos h', dif_pos (show q.val - 32 < 32 by omega)]
    · simp only [WCOL, dif_neg h, dif_neg h', dif_neg (show ¬ q.val - 32 < 32 by omega)]

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The weights as the region finds them: two pieces of the argument's columns and zeros, cast. -/
theorem entry1 (c : Dev nD) : V m c main_v5 = truncf (F := Ideal) .bf16 (concatenate S4096x128 1
      [⟨S4096x32, extractStridedSlice S4096x32 ![0, 8192] (shapeCast S4096x22592 (m ((c : Thread nD τ).loc main_arg1)) shapeCasts_S1x4096x22592_S4096x22592) slices_S4096x22592_S4096x32_0_8192⟩,
       ⟨S4096x32, extractStridedSlice S4096x32 ![0, 14368] (shapeCast S4096x22592 (m ((c : Thread nD τ).loc main_arg1)) shapeCasts_S1x4096x22592_S4096x22592) slices_S4096x22592_S4096x32_0_14368⟩,
       ⟨S4096x64, broadcastInDim S4096x64 ![] bcast_S_S4096x64 (constant S_ .f32 0x00000000#32)⟩]
      concatenates_S4096x32_S4096x32_S4096x64_S4096x128_d1) bitsLt_bf16_f32 := by
  unfold V; after_results; try rfl

/-- A block of the rows, read at an index, is an element of the argument. -/
theorem blk0 (c : Dev nD) (t : Fin cfg0.N) (a : Fin 512) (k : Fin 4096) (r : Fin 9216) (hr : r.val = t.val * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- The block of the weights, read at an index. -/
theorem blk1 (c : Dev nD) (t : Fin cfg0.N) (k : Fin 4096) (b q : Fin 128) (hq : q.val = b.val) :
    iblk m c 1 t (ix2 k b) = WCOL (m ((c : Thread nD τ).loc main_arg1)) k q := by
  have h : iblk m c 1 t (ix2 k b) = V m c main_v5 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x128 .bf16) (a : Fin 512) (b : Fin 128) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x128.Idx) (i : S9216x128.Idx)
    (h0 : (i 0).val = t.val * 512 + (y 0).val) (h1 : (i 1).val = (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.SegDProduct

namespace Cert.Proof.SegDClaims

/-- The host reference runs and leaves every semaphore at zero. -/
theorem frame_ref : Cert.quiescent_SegDRefIdeal := fun m ρ _ =>
  (θ_run Cert.SegDRefIdeal.defs _ _).mono (fun r h => ⟨fun c => (h c).2,
      Idealize.ShloMosaic.sem_eq_zero_of_no_sems (by decide) r.2⟩)
    (Cert.SegDRefIdeal.Value.run (F := Ideal) m ρ)

/-- The kernel and the reference end with equal results. -/
theorem algebraic : Cert.algebraic_SegDIdeal_SegDRefIdeal := fun m ρ m' ρ' _ hag =>
  ⟨fun c => Cert.SegDProduct.REF (m ((c.tc : Thread _ _).loc Cert.SegDIdeal.main_arg0)) (m ((c.tc : Thread _ _).loc Cert.SegDIdeal.main_arg1)),
   (θ_run _ _ _).mono (fun r h c => ⟨(h c).1.trans (Cert.SegDProduct.final m c), (h c).2⟩)
     (Cert.SegDIdeal.Value.run_blocks m ρ),
   (θ_run _ _ _).mono (fun r h c => ⟨(h c).1.trans (by
      rw [(hag c).1, (hag c).2]; rfl), (h c).2⟩)
     (Cert.SegDRefIdeal.Value.run (F := Ideal) m' ρ')⟩

end Cert.Proof.SegDClaims

end
-- ==== Proof.Merge.lean ====
/- The two branches' output projections, gated and summed: the tiled computation is the plain one. -/
module

public import proofs.«01_k».proof.Defs
public import proofs.«01_k».proof.Proof.Gen.Merge.Frame
public import proofs.«01_k».proof.Proof.Gen.MergeIdeal.Value
public import proofs.«01_k».proof.Proof.Gen.MergeRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeProduct

section
open Cert.MergeRefIdeal Cert.MergeRefIdeal.Gen

/-- The logistic function of a matrix, as the reference computes it. -/
def gate (g : FVec Ideal S9216x4096 .f32) : FVec Ideal S9216x4096 .f32 :=
  Host.divf (broadcastInDim S9216x4096 ![] bcast_S_S9216x4096 (constant S_ .f32 0x3F800000#32))
    (addf (broadcastInDim S9216x4096 ![] bcast_S_S9216x4096 (constant S_ .f32 0x3F800000#32)) (Host.exp (Host.negf g)))

/-- One branch's output projection, as the reference computes it. -/
def proj (A : FVec Ideal S9216x2048 .bf16) (W : FVec Ideal S1x2048x4096 .f32) : FVec Ideal S9216x4096 .f32 :=
  Host.dotGeneral dot_S9216x2048_S2048x4096_S9216x4096_1_0_0_1_n_n none (extf .f32 A bitsLt_bf16_f32)
    (shapeCast S2048x4096 W shapeCasts_S1x2048x4096_S2048x4096)

/-- What the reference computes, over its arguments: the gated sum of the two projections. -/
def REF (A : FVec Ideal S9216x2048 .bf16) (W : FVec Ideal S1x2048x4096 .f32) (A' : FVec Ideal S9216x2048 .bf16)
    (W' : FVec Ideal S1x2048x4096 .f32) (G : FVec Ideal S9216x8192 .f32) : FVec Ideal S9216x4096 .bf16 :=
  truncf .bf16 (addf (mulf (gate (extractStridedSlice S9216x4096 ![0, 0] G slices_S9216x8192_S9216x4096_0_0)) (proj A W))
    (mulf (gate (extractStridedSlice S9216x4096 ![0, 4096] G slices_S9216x8192_S9216x4096_0_4096)) (proj A' W'))) bitsLt_bf16_f32

/-- The reference's result at an index. -/
theorem ref_at (A : FVec Ideal S9216x2048 .bf16) (W : FVec Ideal S1x2048x4096 .f32) (A' : FVec Ideal S9216x2048 .bf16)
    (W' : FVec Ideal S1x2048x4096 .f32) (G : FVec Ideal S9216x8192 .f32) (r : Fin 9216) (q : Fin 4096) :
    REF A W A' W' G (ix2 r q)
      = Ideal.div 1 (1 + Ideal.exp (0 - G (ix2 r (⟨q.val, by omega⟩ : Fin 8192)))) * (∑ k : Fin 2048, A (ix2 r k) * W (ix3 (0 : Fin 1) k q))
        + Ideal.div 1 (1 + Ideal.exp (0 - G (ix2 r (⟨4096 + q.val, by omega⟩ : Fin 8192)))) * (∑ k : Fin 2048, A' (ix2 r k) * W' (ix3 (0 : Fin 1) k q)) := by
  pointwise [REF, gate, proj]
  simp only [zero_sub]

end

open Cert.MergeIdeal Cert.MergeIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, 0]
    ∧ win0_3.index t = ![0, t.val / 18] ∧ win0_4.index t = ![t.val % 18, t.val / 18] ∧ win0_5.index t = ![t.val % 18, t.val / 18 + 4]
    ∧ win0_6.index t = ![t.val % 18, t.val / 18] :=
  (by decide +kernel : ∀ t : Fin grid0.N, _)

/-- The first branch's weights as the region finds them: the argument, cast. -/
theorem entry1 (c : Dev nD) : V m c main_v1
    = truncf (F := Ideal) .bf16 (shapeCast S2048x4096 (m ((c : Thread nD τ).loc main_arg1)) shapeCasts_S1x2048x4096_S2048x4096) bitsLt_bf16_f32 := by
  unfold V; after_results; try rfl

/-- The second branch's weights as the region finds them: the argument, cast. -/
theorem entry3 (c : Dev nD) : V m c main_v3
    = truncf (F := Ideal) .bf16 (shapeCast S2048x4096 (m ((c : Thread nD τ).loc main_arg3)) shapeCasts_S1x2048x4096_S2048x4096) bitsLt_bf16_f32 := by
  unfold V; after_results; try rfl

/-- Those weights at an index. -/
theorem weights_at (W : FVec Ideal S1x2048x4096 .f32) (k : Fin 2048) (q : Fin 4096) :
    truncf (F := Ideal) .bf16 (shapeCast S2048x4096 W shapeCasts_S1x2048x4096_S2048x4096) bitsLt_bf16_f32 (ix2 k q)
      = W (ix3 (0 : Fin 1) k q) := by
  pointwise

/-- A block of the first branch's rows, read at an index, is an element of the argument. -/
theorem blk0 (c : Dev nD) (t : Fin cfg0.N) (a : Fin 512) (k : Fin 2048) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the second branch's rows, read at an index, is an element of the argument. -/
theorem blk2 (c : Dev nD) (t : Fin cfg0.N) (a : Fin 512) (k : Fin 2048) (r : Fin 9216) (hr : r.val = t.val % 18 * 512 + a.val) :
    iblk m c 2 t (ix2 a k) = m ((c : Thread nD τ).loc main_arg2) (ix2 r k) := by
  have h : iblk m c 2 t (ix2 a k) = V m c main_arg2 (ix2 r k) := by blk_ext [iblk, idx t, hr]
  exact h.trans (congrFun (V_main_arg2 m c) _)

/-- A block of the first branch's weights, read at an index, is an element of the argument. -/
theorem blk1 (c : Dev nD) (t : Fin cfg0.N) (k : Fin 2048) (b : Fin 1024) (q : Fin 4096) (hq : q.val = t.val / 18 * 1024 + b.val) :
    iblk m c 1 t (ix2 k b) = m ((c : Thread nD τ).loc main_arg1) (ix3 (0 : Fin 1) k q) := by
  have h : iblk m c 1 t (ix2 k b) = V m c main_v1 (ix2 k q) := by blk_ext [iblk, idx t, hq]
  exact h.trans ((congrFun (entry1 m c) _).trans (weights_at _ k q))

/-- A block of the second branch's weights, read at an index, is an element of the argument. -/
theorem blk3 (c : Dev nD) (t : Fin cfg0.N) (k : Fin 2048) (b : Fin 1024) (q : Fin 4096) (hq : q.val = t.val / 18 * 1024 + b.val) :
    iblk m c 3 t (ix2 k b) = m ((c : Thread nD τ).loc main_arg3) (ix3 (0 : Fin 1) k q) := by
  have h : iblk m c 3 t (ix2 k b) = V m c main_v3 (ix2 k q) := by blk_ext [iblk, idx t, hq]
  exact h.trans ((congrFun (entry3 m c) _).trans (weights_at _ k q))

/-- A block of the first branch's gates, read at an index, is an element of the argument. -/
theorem blk4 (c : Dev nD) (t : Fin cfg0.N) (a : Fin 512) (b : Fin 1024) (r : Fin 9216) (q : Fin 8192)
    (hr : r.val = t.val % 18 * 512 + a.val) (hq : q.val = t.val / 18 * 1024 + b.val) :
    iblk m c 4 t (ix2 a b) = m ((c : Thread nD τ).loc main_arg4) (ix2 r q) := by
  have h : iblk m c 4 t (ix2 a b) = V m c main_arg4 (ix2 r q) := by blk_ext [iblk, idx t, hr, hq]
  exact h.trans (congrFun (V_main_arg4 m c) _)

/-- A block of the second branch's gates, read at an index, is an element of the argument, 4096 columns on. -/
theorem blk5 (c : Dev nD) (t : Fin cfg0.N) (a : Fin 512) (b : Fin 1024) (r : Fin 9216) (q : Fin 8192)
    (hr : r.val = t.val % 18 * 512 + a.val) (hq : q.val = (t.val / 18 + 4) * 1024 + b.val) :
    iblk m c 5 t (ix2 a b) = m ((c : Thread nD τ).loc main_arg4) (ix2 r q) := by
  have h : iblk m c 5 t (ix2 a b) = V m c main_arg4 (ix2 r q) := by blk_ext [iblk, idx t, hr, hq]
  exact h.trans (congrFun (V_main_arg4 m c) _)

/-- The body's payload at an index: the gated sum of two sums of products. -/
theorem pay_at (x : FVec Ideal S512x2048 .bf16) (w : FVec Ideal S2048x1024 .bf16) (x' : FVec Ideal S512x2048 .bf16)
    (w' : FVec Ideal S2048x1024 .bf16) (g g' : FVec Ideal S512x1024 .f32) (a : Fin 512) (b : Fin 1024) :
    k0_pay1 (F := Ideal) x w x' w' g g' (ix2 a b)
      = Ideal.div 1 (1 + Ideal.exp (0 - g (ix2 a b))) * (∑ k : Fin 2048, x (ix2 a k) * w (ix2 k b))
        + Ideal.div 1 (1 + Ideal.exp (0 - g' (ix2 a b))) * (∑ k : Fin 2048, x' (ix2 a k) * w' (ix2 k b)) := by
  pointwise [k0_pay1]

/-- What the body stores at a block index is the reference's result at the array index it lands on. -/
theorem point (c : Dev nD) (t : Fin cfg0.N) (y : S512x1024.Idx) (i : S9216x4096.Idx)
    (h0 : (i 0).val = t.val % 18 * 512 + (y 0).val) (h1 : (i 1).val = t.val / 18 * 1024 + (y 1).val) :
    k0_pay1 (F := Ideal) (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) i := by
  rw [eq_ix2 y, eq_ix2 i]
  refine (pay_at _ _ _ _ _ _ (y 0) (y 1)).trans (Eq.trans ?_ (ref_at _ _ _ _ _ (i 0) (i 1)).symm)
  refine Ideal.add_congr (Ideal.mul_congr ?_ (Finset.sum_congr rfl fun k _ => Ideal.mul_congr (blk0 m c t _ k _ h0) (blk1 m c t k _ _ h1)))
    (Ideal.mul_congr ?_ (Finset.sum_congr rfl fun k _ => Ideal.mul_congr (blk2 m c t _ k _ h0) (blk3 m c t k _ _ h1)))
  · exact congrArg (fun z => Ideal.div 1 (1 + Ideal.exp (0 - z))) (blk4 m c t (y 0) (y 1) (i 0) _ h0 h1)
  · exact congrArg (fun z => Ideal.div 1 (1 + Ideal.exp (0 - z))) (blk5 m c t (y 0) (y 1) (i 0) _ h0 (by show 4096 + (i 1).val = _; omega))

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y _ (by blk_simp [idx t]) (by blk_simp [idx t])

end Cert.MergeProduct

namespace Cert.Proof.MergeClaims

/-- The host reference runs and leaves every semaphore at zero. -/
theorem frame_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The kernel and the reference end with equal results. -/
theorem algebraic : Cert.algebraic_MergeIdeal_MergeRefIdeal := fun m ρ m' ρ' _ hag =>
  ⟨fun c => Cert.MergeProduct.REF (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)),
   (θ_run _ _ _).mono (fun r h c => ⟨(h c).1.trans (Cert.MergeProduct.final m c), (h c).2⟩)
     (Cert.MergeIdeal.Value.run_blocks m ρ),
   (θ_run _ _ _).mono (fun r h c => ⟨(h c).1.trans (by
      rw [(hag c).1, (hag c).2.1, (hag c).2.2.1, (hag c).2.2.2.1, (hag c).2.2.2.2]; rfl), (h c).2⟩)
     (Cert.MergeRefIdeal.Value.run (F := Ideal) m' ρ')⟩

end Cert.Proof.MergeClaims

end
-- ==== Proof.OutProj.lean ====
/- The output projection with its residual: the tiled product is the plain one. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjProduct

section
open Cert.OutProjRefIdeal Cert.OutProjRefIdeal.Gen

/-- What the reference computes, over its arguments. -/
def REF (X : FVec Ideal S9216x4096 .bf16) (W : FVec Ideal S1x4096x4096 .f32) (Z : FVec Ideal S9216x4096 .f32) : FVec Ideal S9216x4096 .f32 :=
  addf Z (Host.dotGeneral dot_S9216x4096_S4096x4096_S9216x4096_1_0_0_1_n_n none (extf .f32 X bitsLt_bf16_f32)
    (shapeCast S4096x4096 W shapeCasts_S1x4096x4096_S4096x4096))

/-- The reference's result at an index: the residual and a sum of products over the contraction. -/
theorem ref_at (X : FVec Ideal S9216x4096 .bf16) (W : FVec Ideal S1x4096x4096 .f32) (Z : FVec Ideal S9216x4096 .f32) (r : Fin 9216) (q : Fin 4096) :
    REF X W Z (ix2 r q) = Z (ix2 r q) + ∑ k : Fin 4096, X (ix2 r k) * W (ix3 (0 : Fin 1) k q) := by
  pointwise [REF]

end

open Cert.OutProjIdeal Cert.OutProjIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] ∧ win0_3.index t = ![t.val % 18, t.val / 18] :=
  (by decide +kernel : ∀ t : Fin grid0.N, _)

/-- The weights as the region finds them: the argument's columns, cast. -/
theorem entry1 (c : Dev nD) : V m c main_v1 = truncf (F := Ideal) .bf16 (shapeCast S4096x4096 (m ((c : Thread nD τ).loc main_arg1)) shapeCasts_S1x4096x4096_S4096x4096) bitsLt_bf16_f32 := by
  unfold V; after_results; try rfl

/-- Those weights at an index. -/
theorem weights_at (W : FVec Ideal S1x4096x4096 .f32) (k : Fin 4096) (q : Fin 4096) :
    truncf (F := Ideal) .bf16 (shapeCast S4096x4096 W shapeCasts_S1x4096x4096_S4096x4096) bitsLt_bf16_f32 (ix2 k q) = W (ix3 (0 : Fin 1) k q) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 4096) (hq : q.val = t.val / 18 * 1024 + b.val) :
    iblk m c 1 t (ix2 k b) = m ((c : Thread nD τ).loc main_arg1) (ix3 (0 : Fin 1) k q) := by
  have h : iblk m c 1 t (ix2 k b) = V m c main_v1 (ix2 k q) := by blk_ext [iblk, idx t, hq]
  exact h.trans ((congrFun (entry1 m c) _).trans (weights_at _ k q))

/-- A block of the residual, read at an index, is an element of the argument. -/
theorem blk2 (c : Dev nD) (t : Fin cfg0.N) (a : Fin 512) (b : Fin 1024) (r : Fin 9216) (q : Fin 4096)
    (hr : r.val = t.val % 18 * 512 + a.val) (hq : q.val = t.val / 18 * 1024 + b.val) :
    iblk m c 2 t (ix2 a b) = m ((c : Thread nD τ).loc main_arg2) (ix2 r q) := by
  have h : iblk m c 2 t (ix2 a b) = V m c main_arg2 (ix2 r q) := by blk_ext [iblk, idx t, hr, hq]
  exact h.trans (congrFun (V_main_arg2 m c) _)

/-- The body's payload at an index: a sum of products over the contraction. -/
theorem pay_at (x : FVec Ideal S512x4096 .bf16) (w : FVec Ideal S4096x1024 .bf16) (z : FVec Ideal S512x1024 .f32) (a : Fin 512) (b : Fin 1024) :
    k0_pay1 (F := Ideal) x w z (ix2 a b) = z (ix2 a b) + ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x4096.Idx)
    (h0 : (i 0).val = t.val % 18 * 512 + (y 0).val) (h1 : (i 1).val = t.val / 18 * 1024 + (y 1).val) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2)) i := by
  rw [eq_ix2 y, eq_ix2 i]
  refine (pay_at _ _ _ (y 0) (y 1)).trans (Eq.trans ?_ (ref_at _ _ _ (i 0) (i 1)).symm)
  exact Ideal.add_congr (blk2 m c t _ _ _ _ h0 h1) (Finset.sum_congr rfl fun k _ => Ideal.mul_congr (blk0 m c t _ k _ h0) (blk1 m c t k _ _ h1))

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y _ (by blk_simp [idx t]) (by blk_simp [idx t])

end Cert.OutProjProduct

namespace Cert.Proof.OutProjClaims

/-- The host reference runs and leaves every semaphore at zero. -/
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- The kernel and the reference end with equal results. -/
theorem algebraic : Cert.algebraic_OutProjIdeal_OutProjRefIdeal := fun m ρ m' ρ' _ hag =>
  ⟨fun c => Cert.OutProjProduct.REF (m ((c.tc : Thread _ _).loc Cert.OutProjIdeal.main_arg0)) (m ((c.tc : Thread _ _).loc Cert.OutProjIdeal.main_arg1)) (m ((c.tc : Thread _ _).loc Cert.OutProjIdeal.main_arg2)),
   (θ_run _ _ _).mono (fun r h c => ⟨(h c).1.trans (Cert.OutProjProduct.final m c), (h c).2⟩)
     (Cert.OutProjIdeal.Value.run_blocks m ρ),
   (θ_run _ _ _).mono (fun r h c => ⟨(h c).1.trans (by
      rw [(hag c).1, (hag c).2.1, (hag c).2.2]; rfl), (h c).2⟩)
     (Cert.OutProjRefIdeal.Value.run (F := Ideal) m' ρ')⟩

end Cert.Proof.OutProjClaims

end
-- ==== Proof.CrossOut.lean ====
/- The cross-attention's output projection with its residual: the tiled product is the plain one. -/
module

public import proofs.«01_k».proof.Defs
public import proofs.«01_k».proof.Proof.Gen.CrossOut.Frame
public import proofs.«01_k».proof.Proof.Gen.CrossOutIdeal.Value
public import proofs.«01_k».proof.Proof.Gen.CrossOutRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CrossOutProduct

section
open Cert.CrossOutRefIdeal Cert.CrossOutRefIdeal.Gen

/-- What the reference computes, over its arguments. -/
def REF (X : FVec Ideal S9216x1024 .bf16) (W : FVec Ideal S1x1024x4096 .f32) (Z : FVec Ideal S9216x4096 .f32) : FVec Ideal S9216x4096 .f32 :=
  addf Z (Host.dotGeneral dot_S9216x1024_S1024x4096_S9216x4096_1_0_0_1_n_n none (extf .f32 X bitsLt_bf16_f32)
    (shapeCast S1024x4096 W shapeCasts_S1x1024x4096_S1024x4096))

/-- The reference's result at an index: the residual and a sum of products over the contraction. -/
theorem ref_at (X : FVec Ideal S9216x1024 .bf16) (W : FVec Ideal S1x1024x4096 .f32) (Z : FVec Ideal S9216x4096 .f32) (r : Fin 9216) (q : Fin 4096) :
    REF X W Z (ix2 r q) = Z (ix2 r q) + ∑ k : Fin 1024, X (ix2 r k) * W (ix3 (0 : Fin 1) k q) := by
  pointwise [REF]

end

open Cert.CrossOutIdeal Cert.CrossOutIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] ∧ win0_3.index t = ![t.val % 18, t.val / 18] :=
  (by decide +kernel : ∀ t : Fin grid0.N, _)

/-- The weights as the region finds them: the argument's columns, cast. -/
theorem entry1 (c : Dev nD) : V m c main_v1 = truncf (F := Ideal) .bf16 (shapeCast S1024x4096 (m ((c : Thread nD τ).loc main_arg1)) shapeCasts_S1x1024x4096_S1024x4096) bitsLt_bf16_f32 := by
  unfold V; after_results; try rfl

/-- Those weights at an index. -/
theorem weights_at (W : FVec Ideal S1x1024x4096 .f32) (k : Fin 1024) (q : Fin 4096) :
    truncf (F := Ideal) .bf16 (shapeCast S1024x4096 W shapeCasts_S1x1024x4096_S1024x4096) bitsLt_bf16_f32 (ix2 k q) = W (ix3 (0 : Fin 1) k q) := by
  pointwise

/-- A block of the rows, read at an index, is an element of the argument. -/
theorem blk0 (c : Dev nD) (t : Fin cfg0.N) (a : Fin 512) (k : Fin 1024) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 1024) (b : Fin 1024) (q : Fin 4096) (hq : q.val = t.val / 18 * 1024 + b.val) :
    iblk m c 1 t (ix2 k b) = m ((c : Thread nD τ).loc main_arg1) (ix3 (0 : Fin 1) k q) := by
  have h : iblk m c 1 t (ix2 k b) = V m c main_v1 (ix2 k q) := by blk_ext [iblk, idx t, hq]
  exact h.trans ((congrFun (entry1 m c) _).trans (weights_at _ k q))

/-- A block of the residual, read at an index, is an element of the argument. -/
theorem blk2 (c : Dev nD) (t : Fin cfg0.N) (a : Fin 512) (b : Fin 1024) (r : Fin 9216) (q : Fin 4096)
    (hr : r.val = t.val % 18 * 512 + a.val) (hq : q.val = t.val / 18 * 1024 + b.val) :
    iblk m c 2 t (ix2 a b) = m ((c : Thread nD τ).loc main_arg2) (ix2 r q) := by
  have h : iblk m c 2 t (ix2 a b) = V m c main_arg2 (ix2 r q) := by blk_ext [iblk, idx t, hr, hq]
  exact h.trans (congrFun (V_main_arg2 m c) _)

/-- The body's payload at an index: a sum of products over the contraction. -/
theorem pay_at (x : FVec Ideal S512x1024 .bf16) (w : FVec Ideal S1024x1024 .bf16) (z : FVec Ideal S512x1024 .f32) (a : Fin 512) (b : Fin 1024) :
    k0_pay1 (F := Ideal) x w z (ix2 a b) = z (ix2 a b) + ∑ k : Fin 1024, x (ix2 a k) * w (ix2 k b) := by
  pointwise [k0_pay1]

/-- What the body stores at a block index is the reference's result at the array index it lands on. -/
theorem point (c : Dev nD) (t : Fin cfg0.N) (y : S512x1024.Idx) (i : S9216x4096.Idx)
    (h0 : (i 0).val = t.val % 18 * 512 + (y 0).val) (h1 : (i 1).val = t.val / 18 * 1024 + (y 1).val) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2)) i := by
  rw [eq_ix2 y, eq_ix2 i]
  refine (pay_at _ _ _ (y 0) (y 1)).trans (Eq.trans ?_ (ref_at _ _ _ (i 0) (i 1)).symm)
  exact Ideal.add_congr (blk2 m c t _ _ _ _ h0 h1) (Finset.sum_congr rfl fun k _ => Ideal.mul_congr (blk0 m c t _ k _ h0) (blk1 m c t k _ _ h1))

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y _ (by blk_simp [idx t]) (by blk_simp [idx t])

end Cert.CrossOutProduct

namespace Cert.Proof.CrossOutClaims

/-- The host reference runs and leaves every semaphore at zero. -/
theorem frame_ref : Cert.quiescent_CrossOutRefIdeal := fun m ρ _ =>
  (θ_run Cert.CrossOutRefIdeal.defs _ _).mono (fun r h => ⟨fun c => (h c).2,
      Idealize.ShloMosaic.sem_eq_zero_of_no_sems (by decide) r.2⟩)
    (Cert.CrossOutRefIdeal.Value.run (F := Ideal) m ρ)

/-- The kernel and the reference end with equal results. -/
theorem algebraic : Cert.algebraic_CrossOutIdeal_CrossOutRefIdeal := fun m ρ m' ρ' _ hag =>
  ⟨fun c => Cert.CrossOutProduct.REF (m ((c.tc : Thread _ _).loc Cert.CrossOutIdeal.main_arg0)) (m ((c.tc : Thread _ _).loc Cert.CrossOutIdeal.main_arg1)) (m ((c.tc : Thread _ _).loc Cert.CrossOutIdeal.main_arg2)),
   (θ_run _ _ _).mono (fun r h c => ⟨(h c).1.trans (Cert.CrossOutProduct.final m c), (h c).2⟩)
     (Cert.CrossOutIdeal.Value.run_blocks m ρ),
   (θ_run _ _ _).mono (fun r h c => ⟨(h c).1.trans (by
      rw [(hag c).1, (hag c).2.1, (hag c).2.2]; rfl), (h c).2⟩)
     (Cert.CrossOutRefIdeal.Value.run (F := Ideal) m' ρ')⟩

end Cert.Proof.CrossOutClaims

end
-- ==== Proof.CrossQuery.lean ====
/- The cross-attention's queries: the tiled product is the plain product. -/
module

public import proofs.«01_k».proof.Defs
public import proofs.«01_k».proof.Proof.Gen.CrossQuery.Frame
public import proofs.«01_k».proof.Proof.Gen.CrossQueryIdeal.Value
public import proofs.«01_k».proof.Proof.Gen.CrossQueryRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CrossQueryProduct

section
open Cert.CrossQueryRefIdeal Cert.CrossQueryRefIdeal.Gen

/-- What the reference computes, over its arguments. -/
def REF (X : FVec Ideal S9216x4096 .bf16) (W : FVec Ideal S1x4096x1024 .f32) : FVec Ideal S9216x1024 .f32 :=
  Host.dotGeneral dot_S9216x4096_S4096x1024_S9216x1024_1_0_0_1_n_n none (extf .f32 X bitsLt_bf16_f32)
    (shapeCast S4096x1024 W shapeCasts_S1x4096x1024_S4096x1024)

/-- The reference's result at an index: a sum of products over the contraction. -/
theorem ref_at (X : FVec Ideal S9216x4096 .bf16) (W : FVec Ideal S1x4096x1024 .f32) (r : Fin 9216) (q : Fin 1024) :
    REF X W (ix2 r q) = ∑ k : Fin 4096, X (ix2 r k) * W (ix3 (0 : Fin 1) k q) := by
  pointwise [REF]

end

open Cert.CrossQueryIdeal Cert.CrossQueryIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights as the region finds them: the argument's columns, cast. -/
theorem entry1 (c : Dev nD) : V m c main_v1 = truncf (F := Ideal) .bf16 (shapeCast S4096x1024 (m ((c : Thread nD τ).loc main_arg1)) shapeCasts_S1x4096x1024_S4096x1024) bitsLt_bf16_f32 := by
  unfold V; after_results; try rfl

/-- Those weights at an index. -/
theorem weights_at (W : FVec Ideal S1x4096x1024 .f32) (k : Fin 4096) (q : Fin 1024) :
    truncf (F := Ideal) .bf16 (shapeCast S4096x1024 W shapeCasts_S1x4096x1024_S4096x1024) bitsLt_bf16_f32 (ix2 k q) = W (ix3 (0 : Fin 1) k q) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 1024) (hq : q.val = t.val / 18 * 1024 + b.val) :
    iblk m c 1 t (ix2 k b) = m ((c : Thread nD τ).loc main_arg1) (ix3 (0 : Fin 1) k q) := by
  have h : iblk m c 1 t (ix2 k b) = V m c main_v1 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x1024.Idx)
    (h0 : (i 0).val = t.val % 18 * 512 + (y 0).val) (h1 : (i 1).val = t.val / 18 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.CrossQueryProduct

namespace Cert.Proof.CrossQueryClaims

/-- The host reference runs and leaves every semaphore at zero. -/
theorem frame_ref : Cert.quiescent_CrossQueryRefIdeal := fun m ρ _ =>
  (θ_run Cert.CrossQueryRefIdeal.defs _ _).mono (fun r h => ⟨fun c => (h c).2,
      Idealize.ShloMosaic.sem_eq_zero_of_no_sems (by decide) r.2⟩)
    (Cert.CrossQueryRefIdeal.Value.run (F := Ideal) m ρ)

/-- The kernel and the reference end with equal results. -/
theorem algebraic : Cert.algebraic_CrossQueryIdeal_CrossQueryRefIdeal := fun m ρ m' ρ' _ hag =>
  ⟨fun c => Cert.CrossQueryProduct.REF (m ((c.tc : Thread _ _).loc Cert.CrossQueryIdeal.main_arg0)) (m ((c.tc : Thread _ _).loc Cert.CrossQueryIdeal.main_arg1)),
   (θ_run _ _ _).mono (fun r h c => ⟨(h c).1.trans (Cert.CrossQueryProduct.final m c), (h c).2⟩)
     (Cert.CrossQueryIdeal.Value.run_blocks m ρ),
   (θ_run _ _ _).mono (fun r h c => ⟨(h c).1.trans (by
      rw [(hag c).1, (hag c).2]; rfl), (h c).2⟩)
     (Cert.CrossQueryRefIdeal.Value.run (F := Ideal) m' ρ')⟩

end Cert.Proof.CrossQueryClaims

end
-- ==== Proof.PeerQuery.lean ====
/- The expert router's queries: the tiled product is the plain product. -/
module

public import proofs.«01_k».proof.Defs
public import proofs.«01_k».proof.Proof.Gen.PeerQuery.Frame
public import proofs.«01_k».proof.Proof.Gen.PeerQueryIdeal.Value
public import proofs.«01_k».proof.Proof.Gen.PeerQueryRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PeerQueryProduct

section
open Cert.PeerQueryRefIdeal Cert.PeerQueryRefIdeal.Gen

/-- What the reference computes, over its arguments. -/
def REF (X : FVec Ideal S9216x4096 .bf16) (W : FVec Ideal S1x4096x2048 .f32) : FVec Ideal S9216x2048 .f32 :=
  Host.dotGeneral dot_S9216x4096_S4096x2048_S9216x2048_1_0_0_1_n_n none (extf .f32 X bitsLt_bf16_f32)
    (shapeCast S4096x2048 W shapeCasts_S1x4096x2048_S4096x2048)

/-- The reference's result at an index: a sum of products over the contraction. -/
theorem ref_at (X : FVec Ideal S9216x4096 .bf16) (W : FVec Ideal S1x4096x2048 .f32) (r : Fin 9216) (q : Fin 2048) :
    REF X W (ix2 r q) = ∑ k : Fin 4096, X (ix2 r k) * W (ix3 (0 : Fin 1) k q) := by
  pointwise [REF]

end

open Cert.PeerQueryIdeal Cert.PeerQueryIdeal.Gen

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights as the region finds them: the argument's columns, cast. -/
theorem entry1 (c : Dev nD) : V m c main_v1 = truncf (F := Ideal) .bf16 (shapeCast S4096x2048 (m ((c : Thread nD τ).loc main_arg1)) shapeCasts_S1x4096x2048_S4096x2048) bitsLt_bf16_f32 := by
  unfold V; after_results; try rfl

/-- Those weights at an index. -/
theorem weights_at (W : FVec Ideal S1x4096x2048 .f32) (k : Fin 4096) (q : Fin 2048) :
    truncf (F := Ideal) .bf16 (shapeCast S4096x2048 W shapeCasts_S1x4096x2048_S4096x2048) bitsLt_bf16_f32 (ix2 k q) = W (ix3 (0 : Fin 1) k q) := by
  pointwise

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 2048) (hq : q.val = t.val / 18 * 1024 + b.val) :
    iblk m c 1 t (ix2 k b) = m ((c : Thread nD τ).loc main_arg1) (ix3 (0 : Fin 1) k q) := by
  have h : iblk m c 1 t (ix2 k b) = V m c main_v1 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the reference's result at the array index it lands on. -/
theorem point (c : Dev nD) (t : Fin cfg0.N) (y : S512x1024.Idx) (i : S9216x2048.Idx)
    (h0 : (i 0).val = t.val % 18 * 512 + (y 0).val) (h1 : (i 1).val = t.val / 18 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.PeerQueryProduct

namespace Cert.Proof.PeerQueryClaims

/-- The host reference runs and leaves every semaphore at zero. -/
theorem frame_ref : Cert.quiescent_PeerQueryRefIdeal := fun m ρ _ =>
  (θ_run Cert.PeerQueryRefIdeal.defs _ _).mono (fun r h => ⟨fun c => (h c).2,
      Idealize.ShloMosaic.sem_eq_zero_of_no_sems (by decide) r.2⟩)
    (Cert.PeerQueryRefIdeal.Value.run (F := Ideal) m ρ)

/-- The kernel and the reference end with equal results. -/
theorem algebraic : Cert.algebraic_PeerQueryIdeal_PeerQueryRefIdeal := fun m ρ m' ρ' _ hag =>
  ⟨fun c => Cert.PeerQueryProduct.REF (m ((c.tc : Thread _ _).loc Cert.PeerQueryIdeal.main_arg0)) (m ((c.tc : Thread _ _).loc Cert.PeerQueryIdeal.main_arg1)),
   (θ_run _ _ _).mono (fun r h c => ⟨(h c).1.trans (Cert.PeerQueryProduct.final m c), (h c).2⟩)
     (Cert.PeerQueryIdeal.Value.run_blocks m ρ),
   (θ_run _ _ _).mono (fun r h c => ⟨(h c).1.trans (by
      rw [(hag c).1, (hag c).2]; rfl), (h c).2⟩)
     (Cert.PeerQueryRefIdeal.Value.run (F := Ideal) m' ρ')⟩

end Cert.Proof.PeerQueryClaims

end
-- ==== Proof.MemoryKeys.lean ====
/- The memory keys: the tiled product of the memory tokens with the key weights is the plain product. -/
module

public import proofs.«01_k».proof.Defs
public import proofs.«01_k».proof.Proof.Gen.MemoryKeys.Frame
public import proofs.«01_k».proof.Proof.Gen.MemoryKeysIdeal.Value
public import proofs.«01_k».proof.Proof.Gen.MemoryKeysRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MemoryKeysIdeal.Keys

open Cert.MemoryKeysIdeal Cert.MemoryKeysIdeal.Gen

variable (m : (ℓ : Loc nD τ sig) → Buf (Elt Ideal) ℓ)

/-- The product the reference computes, over its two arguments. -/
def REF (X : FVec Ideal S4x256x4096 .f32) (W : FVec Ideal S1x4096x1024 .f32) : FVec Ideal S1024x1024 .f32 :=
  shapeCast _ (Host.dotGeneral Cert.MemoryKeysRefIdeal.dot_S4x256x4096_S4096x1024_S4x256x1024_2_0_01_1_n_n none X
    (shapeCast Cert.MemoryKeysRefIdeal.S4096x1024 W Cert.MemoryKeysRefIdeal.Gen.shapeCasts_S1x4096x1024_S4096x1024)) Cert.MemoryKeysRefIdeal.Gen.shapeCasts_S4x256x1024_S1024x1024

/-- Where each window's block lies at grid point `t`. -/
theorem idx : ∀ t : Fin cfg0.N, win0_0.index t = ![t.val % 2, 0] ∧ win0_1.index t = ![0, t.val / 2] ∧ win0_2.index t = ![t.val % 2, t.val / 2] :=
  (by decide +kernel : ∀ t : Fin grid0.N, _)

/-- The memory tokens as the region finds them: their rows laid out one after the other. -/
theorem entry0 (c : Dev nD) : V m c main_v0 = shapeCast S1024x4096 (m ((c : Thread nD τ).loc main_arg0)) shapeCasts_S4x256x4096_S1024x4096 := by
  unfold V; after_results; try rfl

/-- The weights as the region finds them. -/
theorem entry1 (c : Dev nD) : V m c main_v2 = truncf (F := Ideal) .bf16 (shapeCast S4096x1024 (m ((c : Thread nD τ).loc main_arg1)) shapeCasts_S1x4096x1024_S4096x1024) bitsLt_bf16_f32 := by
  unfold V; after_results; try rfl

/-- The laid-out rows at an index. -/
theorem rows_at (X : FVec Ideal S4x256x4096 .f32) (r : Fin 1024) (k : Fin 4096) :
    shapeCast S1024x4096 X shapeCasts_S4x256x4096_S1024x4096 (ix2 r k) = X (ix3 (⟨r.val / 256, by omega⟩ : Fin 4) (⟨r.val % 256, by omega⟩ : Fin 256) k) := by
  pointwise

/-- The cast weights at an index. -/
theorem weights_at (W : FVec Ideal S1x4096x1024 .f32) (k : Fin 4096) (q : Fin 1024) :
    truncf (F := Ideal) .bf16 (shapeCast S4096x1024 W shapeCasts_S1x4096x1024_S4096x1024) bitsLt_bf16_f32 (ix2 k q) = W (ix3 (0 : Fin 1) k q) := by
  pointwise

/-- A block of the memory tokens, read at an index, is an element of the argument. -/
theorem blk0 (c : Dev nD) (t : Fin cfg0.N) (a : Fin 512) (k : Fin 4096) (r : Fin 1024) (hr : r.val = t.val % 2 * 512 + a.val) :
    iblk m c 0 t (ix2 a k) = m ((c : Thread nD τ).loc main_arg0) (ix3 (⟨r.val / 256, by omega⟩ : Fin 4) (⟨r.val % 256, by omega⟩ : Fin 256) k) := by
  have h : iblk m c 0 t (ix2 a k) = V m c main_v0 (ix2 r k) := by blk_ext [iblk, idx t, hr]
  exact h.trans ((congrFun (entry0 m c) _).trans (rows_at _ r k))

/-- A block of the weights, read at an index, is an element of the argument. -/
theorem blk1 (c : Dev nD) (t : Fin cfg0.N) (k : Fin 4096) (b : Fin 1024) (q : Fin 1024) (hq : q.val = t.val / 2 * 1024 + b.val) :
    iblk m c 1 t (ix2 k b) = m ((c : Thread nD τ).loc main_arg1) (ix3 (0 : Fin 1) k q) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .f32) (w : FVec Ideal S4096x1024 .bf16) (a : Fin 512) (b : Fin 1024) :
    k0_pay1 (F := Ideal) x w (ix2 a b) = ∑ k : Fin 4096, x (ix2 a k) * w (ix2 k b) := by
  pointwise [k0_pay1]

/-- The reference's product at an index: the same sum over the arguments' own coordinates. -/
theorem ref_at (X : FVec Ideal S4x256x4096 .f32) (W : FVec Ideal S1x4096x1024 .f32) (r q : Fin 1024) :
    REF X W (ix2 r q) = ∑ k : Fin 4096, X (ix3 (⟨r.val / 256, by omega⟩ : Fin 4) (⟨r.val % 256, by omega⟩ : Fin 256) k) * W (ix3 (0 : Fin 1) k q) := by
  pointwise [REF]

/-- What the body stores at a block index is the reference's product at the array index it lands on. -/
theorem point (c : Dev nD) (t : Fin cfg0.N) (y : S512x1024.Idx) (i : S1024x1024.Idx)
    (h0 : (i 0).val = t.val % 2 * 512 + (y 0).val) (h1 : (i 1).val = t.val / 2 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.MemoryKeysIdeal.Keys

namespace Cert.Proof.MemoryKeysClaims

/-- The host reference runs and leaves every semaphore at zero. -/
theorem frame_ref : Cert.quiescent_MemoryKeysRefIdeal := fun m ρ _ =>
  (θ_run Cert.MemoryKeysRefIdeal.defs _ _).mono (fun r h => ⟨fun c => (h c).2,
      Idealize.ShloMosaic.sem_eq_zero_of_no_sems (by decide) r.2⟩)
    (Cert.MemoryKeysRefIdeal.Value.run (F := Ideal) m ρ)

/-- The kernel and the reference end with equal results. -/
theorem algebraic : Cert.algebraic_MemoryKeysIdeal_MemoryKeysRefIdeal := fun m ρ m' ρ' _ hag =>
  ⟨fun c => Cert.MemoryKeysIdeal.Keys.REF (m ((c.tc : Thread _ _).loc Cert.MemoryKeysIdeal.main_arg0)) (m ((c.tc : Thread _ _).loc Cert.MemoryKeysIdeal.main_arg1)),
   (θ_run _ _ _).mono (fun r h c => ⟨(h c).1.trans (Cert.MemoryKeysIdeal.Keys.final m c), (h c).2⟩)
     (Cert.MemoryKeysIdeal.Value.run_blocks m ρ),
   (θ_run _ _ _).mono (fun r h c => ⟨(h c).1.trans (by
      rw [(hag c).1, (hag c).2]; rfl), (h c).2⟩)
     (Cert.MemoryKeysRefIdeal.Value.run (F := Ideal) m' ρ')⟩

end Cert.Proof.MemoryKeysClaims

end
-- ==== Proof.MemoryValues.lean ====
/- The memory values: the tiled product of the memory tokens with the value weights is the plain product. -/
module

public import proofs.«01_k».proof.Defs
public import proofs.«01_k».proof.Proof.Gen.MemoryValues.Frame
public import proofs.«01_k».proof.Proof.Gen.MemoryValuesIdeal.Value
public import proofs.«01_k».proof.Proof.Gen.MemoryValuesRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MemoryValuesIdeal.Vals

open Cert.MemoryValuesIdeal Cert.MemoryValuesIdeal.Gen

variable (m : (ℓ : Loc nD τ sig) → Buf (Elt Ideal) ℓ)

/-- The product the reference computes, over its two arguments. -/
def REF (X : FVec Ideal S4x256x4096 .f32) (W : FVec Ideal S1x4096x1024 .f32) : FVec Ideal S1024x1024 .f32 :=
  shapeCast _ (Host.dotGeneral Cert.MemoryValuesRefIdeal.dot_S4x256x4096_S4096x1024_S4x256x1024_2_0_01_1_n_n none X
    (shapeCast Cert.MemoryValuesRefIdeal.S4096x1024 W Cert.MemoryValuesRefIdeal.Gen.shapeCasts_S1x4096x1024_S4096x1024)) Cert.MemoryValuesRefIdeal.Gen.shapeCasts_S4x256x1024_S1024x1024

/-- Where each window's block lies at grid point `t`. -/
theorem idx : ∀ t : Fin cfg0.N, win0_0.index t = ![t.val % 2, 0] ∧ win0_1.index t = ![0, t.val / 2] ∧ win0_2.index t = ![t.val % 2, t.val / 2] :=
  (by decide +kernel : ∀ t : Fin grid0.N, _)

/-- The memory tokens as the region finds them: their rows laid out one after the other. -/
theorem entry0 (c : Dev nD) : V m c main_v0 = shapeCast S1024x4096 (m ((c : Thread nD τ).loc main_arg0)) shapeCasts_S4x256x4096_S1024x4096 := by
  unfold V; after_results; try rfl

/-- The weights as the region finds them. -/
theorem entry1 (c : Dev nD) : V m c main_v2 = truncf (F := Ideal) .bf16 (shapeCast S4096x1024 (m ((c : Thread nD τ).loc main_arg1)) shapeCasts_S1x4096x1024_S4096x1024) bitsLt_bf16_f32 := by
  unfold V; after_results; try rfl

/-- The laid-out rows at an index. -/
theorem rows_at (X : FVec Ideal S4x256x4096 .f32) (r : Fin 1024) (k : Fin 4096) :
    shapeCast S1024x4096 X shapeCasts_S4x256x4096_S1024x4096 (ix2 r k) = X (ix3 (⟨r.val / 256, by omega⟩ : Fin 4) (⟨r.val % 256, by omega⟩ : Fin 256) k) := by
  pointwise

/-- The cast weights at an index. -/
theorem weights_at (W : FVec Ideal S1x4096x1024 .f32) (k : Fin 4096) (q : Fin 1024) :
    truncf (F := Ideal) .bf16 (shapeCast S4096x1024 W shapeCasts_S1x4096x1024_S4096x1024) bitsLt_bf16_f32 (ix2 k q) = W (ix3 (0 : Fin 1) k q) := by
  pointwise

/-- A block of the memory tokens, read at an index, is an element of the argument. -/
theorem blk0 (c : Dev nD) (t : Fin cfg0.N) (a : Fin 512) (k : Fin 4096) (r : Fin 1024) (hr : r.val = t.val % 2 * 512 + a.val) :
    iblk m c 0 t (ix2 a k) = m ((c : Thread nD τ).loc main_arg0) (ix3 (⟨r.val / 256, by omega⟩ : Fin 4) (⟨r.val % 256, by omega⟩ : Fin 256) k) := by
  have h : iblk m c 0 t (ix2 a k) = V m c main_v0 (ix2 r k) := by blk_ext [iblk, idx t, hr]
  exact h.trans ((congrFun (entry0 m c) _).trans (rows_at _ r k))

/-- A block of the weights, read at an index, is an element of the argument. -/
theorem blk1 (c : Dev nD) (t : Fin cfg0.N) (k : Fin 4096) (b : Fin 1024) (q : Fin 1024) (hq : q.val = t.val / 2 * 1024 + b.val) :
    iblk m c 1 t (ix2 k b) = m ((c : Thread nD τ).loc main_arg1) (ix3 (0 : Fin 1) k q) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .f32) (w : FVec Ideal S4096x1024 .bf16) (a : Fin 512) (b : Fin 1024) :
    k0_pay1 (F := Ideal) x w (ix2 a b) = ∑ k : Fin 4096, x (ix2 a k) * w (ix2 k b) := by
  pointwise [k0_pay1]

/-- The reference's product at an index: the same sum over the arguments' own coordinates. -/
theorem ref_at (X : FVec Ideal S4x256x4096 .f32) (W : FVec Ideal S1x4096x1024 .f32) (r q : Fin 1024) :
    REF X W (ix2 r q) = ∑ k : Fin 4096, X (ix3 (⟨r.val / 256, by omega⟩ : Fin 4) (⟨r.val % 256, by omega⟩ : Fin 256) k) * W (ix3 (0 : Fin 1) k q) := by
  pointwise [REF]

/-- What the body stores at a block index is the reference's product at the array index it lands on. -/
theorem point (c : Dev nD) (t : Fin cfg0.N) (y : S512x1024.Idx) (i : S1024x1024.Idx)
    (h0 : (i 0).val = t.val % 2 * 512 + (y 0).val) (h1 : (i 1).val = t.val / 2 * 1024 + (y 1).val) :
    k0_pay1 (F := Ideal) (iblk m c 0 t) (iblk m c 1 t) y
      = REF (m ((c : Thread nD τ).loc main_arg0)) (m ((c : Thread nD τ).loc main_arg1)) i := by
  rw [eq_ix2 y, eq_ix2 i]
  refine (pay_at _ _ (y 0) (y 1)).trans (Eq.trans ?_ (ref_at _ _ (i 0) (i 1)).symm)
  exact Finset.sum_congr rfl fun k _ => Ideal.mul_congr (blk0 m c t _ k _ h0) (blk1 m c t k _ _ h1)

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

end Cert.MemoryValuesIdeal.Vals

namespace Cert.Proof.MemoryValuesClaims

/-- The host reference runs and leaves every semaphore at zero. -/
theorem frame_ref : Cert.quiescent_MemoryValuesRefIdeal := fun m ρ _ =>
  (θ_run Cert.MemoryValuesRefIdeal.defs _ _).mono (fun r h => ⟨fun c => (h c).2,
      Idealize.ShloMosaic.sem_eq_zero_of_no_sems (by decide) r.2⟩)
    (Cert.MemoryValuesRefIdeal.Value.run (F := Ideal) m ρ)

/-- The kernel and the reference end with equal results. -/
theorem algebraic : Cert.algebraic_MemoryValuesIdeal_MemoryValuesRefIdeal := fun m ρ m' ρ' _ hag =>
  ⟨fun c => Cert.MemoryValuesIdeal.Vals.REF (m ((c.tc : Thread _ _).loc Cert.MemoryValuesIdeal.main_arg0)) (m ((c.tc : Thread _ _).loc Cert.MemoryValuesIdeal.main_arg1)),
   (θ_run _ _ _).mono (fun r h c => ⟨(h c).1.trans (Cert.MemoryValuesIdeal.Vals.final m c), (h c).2⟩)
     (Cert.MemoryValuesIdeal.Value.run_blocks m ρ),
   (θ_run _ _ _).mono (fun r h c => ⟨(h c).1.trans (by
      rw [(hag c).1, (hag c).2]; rfl), (h c).2⟩)
     (Cert.MemoryValuesRefIdeal.Value.run (F := Ideal) m' ρ')⟩

end Cert.Proof.MemoryValuesClaims

end
-- ==== Proof.FinalNorm.lean ====
/- The layer's last residual with the final normalisation: the rows of the two results are the reference's. -/
module

public import proofs.«01_k».proof.Defs
public import proofs.«01_k».proof.Proof.Gen.FinalNorm.Frame
public import proofs.«01_k».proof.Proof.Gen.FinalNormIdeal.Frame
public import proofs.«01_k».proof.Proof.Gen.FinalNormRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.FinalNormValue

/-- One row normalised by its root mean square and scaled lane by lane. -/
def NORM (v g : Fin 4096 → EReal) (l : Fin 4096) : EReal :=
  v l * Ideal.rsqrt (Ideal.div (∑ j : Fin 4096, v j * v j) ((FloatOps.ofBits .f32 0x45800000#32 : Ideal .f32)) + (FloatOps.ofBits .f32 0x358637BD#32 : Ideal .f32)) * g l

section
open Cert.FinalNormRefIdeal Cert.FinalNormRefIdeal.Gen

/-- The prompt's rows of the sum. -/
def SUMP (X P : FVec Ideal S9216x4096 .f32) : FVec Ideal S4x2048x4096 .f32 :=
  shapeCast S4x2048x4096 (extractStridedSlice S8192x4096 ![0, 0] (addf X P) slices_S9216x4096_S8192x4096_0_0) shapeCasts_S8192x4096_S4x2048x4096

/-- The sample's rows of the sum. -/
def SUMS (X P : FVec Ideal S9216x4096 .f32) : FVec Ideal S128x4x4096 .f32 :=
  extractStridedSlice S128x4x4096 ![0, 0, 0] (shapeCast S128x8x4096 (extractStridedSlice S1024x4096 ![8192, 0] (addf X P) slices_S9216x4096_S1024x4096_8192_0) shapeCasts_S1024x4096_S128x8x4096) slices_S128x8x4096_S128x4x4096_0_0_0

/-- The reference's prompt rows from the summed rows. -/
def REFP (Z : FVec Ideal S4x2048x4096 .f32) (G : FVec Ideal S4096 .f32) : FVec Ideal S4x2048x4096 .f32 :=
  mulf (mulf Z (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf Z Z) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 G))

/-- The reference's sample rows from the summed rows. -/
def REFS (Z : FVec Ideal S128x4x4096 .f32) (G : FVec Ideal S4096 .f32) : FVec Ideal S128x4x4096 .f32 :=
  mulf (mulf Z (broadcastInDim S128x4x4096 ![0, 1, 2] bcast_S128x4x1_S128x4x4096_0_1_2 (Host.rsqrt (addf (Host.divf (broadcastInDim S128x4x1 ![0, 1] bcast_S128x4_S128x4x1_0_1 (Host.reduceAdd (mulf Z Z) (constant S_ .f32 0x00000000#32) reducesTo_S128x4x4096_S128x4_d2 h_S_)) (broadcastInDim S128x4x1 ![] bcast_S_S128x4x1 (constant S_ .f32 0x45800000#32))) (broadcastInDim S128x4x1 ![] bcast_S_S128x4x1 (constant S_ .f32 0x358637BD#32)))))) (broadcastInDim S128x4x4096 ![0, 1, 2] bcast_S1x1x4096_S128x4x4096_0_1_2 (broadcastInDim S1x1x4096 ![2] bcast_S4096_S1x1x4096_2 G))

/-- A prompt row of the sum at a lane. -/
theorem sump_at (X P : FVec Ideal S9216x4096 .f32) (b : Fin 4) (s : Fin 2048) (l : Fin 4096) :
    SUMP X P (ix3 b s l) = X (ix2 (⟨b.val * 2048 + s.val, by omega⟩ : Fin 9216) l) + P (ix2 (⟨b.val * 2048 + s.val, by omega⟩ : Fin 9216) l) := by
  pointwise [SUMP]

/-- A sample row of the sum at a lane. -/
theorem sums_at (X P : FVec Ideal S9216x4096 .f32) (b : Fin 128) (s : Fin 4) (l : Fin 4096) :
    SUMS X P (ix3 b s l) = X (ix2 (⟨8192 + (b.val * 8 + s.val), by omega⟩ : Fin 9216) l) + P (ix2 (⟨8192 + (b.val * 8 + s.val), by omega⟩ : Fin 9216) l) := by
  pointwise [SUMS]

/-- The reference's prompt rows, one lane at a time. -/
theorem refp_at (Z : FVec Ideal S4x2048x4096 .f32) (G : FVec Ideal S4096 .f32) (b : Fin 4) (s : Fin 2048) (l : Fin 4096) :
    REFP Z G (ix3 b s l) = NORM (fun j => Z (ix3 b s j)) (fun j => G (ix1 j)) l := by
  pointwise [REFP, NORM]

/-- The reference's sample rows, one lane at a time. -/
theorem refs_at (Z : FVec Ideal S128x4x4096 .f32) (G : FVec Ideal S4096 .f32) (b : Fin 128) (s : Fin 4) (l : Fin 4096) :
    REFS Z G (ix3 b s l) = NORM (fun j => Z (ix3 b s j)) (fun j => G (ix1 j)) l := by
  pointwise [REFS, NORM]

end

open Cert.FinalNormIdeal Cert.FinalNormIdeal.Gen

/-- The rows the region leaves. -/
def ROWS (X P : FVec Ideal S9216x4096 .f32) (G : FVec Ideal S4096 .f32) : FVec Ideal S9216x4096 .f32 :=
  fun i => NORM (fun j => X (ix2 (i 0) j) + P (ix2 (i 0) j)) (fun j => G (ix1 j)) (i 1)

/-- The prompt's rows, as the host lines after the region take them. -/
def OUTP (Y : FVec Ideal S9216x4096 .f32) : FVec Ideal S4x2048x4096 .f32 :=
  shapeCast S4x2048x4096 (extractStridedSlice S8192x4096 ![0, 0] Y slices_S9216x4096_S8192x4096_0_0) shapeCasts_S8192x4096_S4x2048x4096

/-- The sample's rows, as the host lines after the region take them. -/
def OUTS (Y : FVec Ideal S9216x4096 .f32) : FVec Ideal S128x4x4096 .f32 :=
  extractStridedSlice S128x4x4096 ![0, 0, 0] (shapeCast S128x8x4096 (extractStridedSlice S1024x4096 ![8192, 0] Y slices_S9216x4096_S1024x4096_8192_0) shapeCasts_S1024x4096_S128x8x4096) slices_S128x8x4096_S128x4x4096_0_0_0

/-- The prompt's rows at an index. -/
theorem outp_at (Y : FVec Ideal S9216x4096 .f32) (b : Fin 4) (s : Fin 2048) (l : Fin 4096) :
    OUTP Y (ix3 b s l) = Y (ix2 (⟨b.val * 2048 + s.val, by omega⟩ : Fin 9216) l) := by
  pointwise [OUTP]

/-- The sample's rows at an index. -/
theorem outs_at (Y : FVec Ideal S9216x4096 .f32) (b : Fin 128) (s : Fin 4) (l : Fin 4096) :
    OUTS Y (ix3 b s l) = Y (ix2 (⟨8192 + (b.val * 8 + s.val), by omega⟩ : Fin 9216) l) := by
  pointwise [OUTS]

/-- The two prompt results agree. -/
theorem prompt_eq (X P : FVec Ideal S9216x4096 .f32) (G : FVec Ideal S4096 .f32) : OUTP (ROWS X P G) = REFP (SUMP X P) G := by
  funext i
  rw [eq_ix3 i]
  refine (outp_at _ (i 0) (i 1) (i 2)).trans (Eq.trans ?_ (refp_at _ _ (i 0) (i 1) (i 2)).symm)
  exact congrArg (fun v => NORM v _ _) (funext fun j => (sump_at X P (i 0) (i 1) j).symm)

/-- The two sample results agree. -/
theorem sample_eq (X P : FVec Ideal S9216x4096 .f32) (G : FVec Ideal S4096 .f32) : OUTS (ROWS X P G) = REFS (SUMS X P) G := by
  funext i
  rw [eq_ix3 i]
  refine (outs_at _ (i 0) (i 1) (i 2)).trans (Eq.trans ?_ (refs_at _ _ (i 0) (i 1) (i 2)).symm)
  exact congrArg (fun v => NORM v _ _) (funext fun j => (sums_at X P (i 0) (i 1) j).symm)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The scale as one row. -/
def SCALE (G : FVec Ideal S4096 .f32) : FVec Ideal S1x4096 .f32 := shapeCast S1x4096 G shapeCasts_S4096_S1x4096

/-- The scale as the region finds it: the argument as one row. -/
theorem entry2 (c : Dev nD) : V m c main_v0 = SCALE (m ((c : Thread nD τ).loc main_arg2)) := by
  show StableHlo.after (List.flatten [hostOps0]) (fun b => m (c, b)) (Proc.devRef .tc main_v0) = _
  simp only [List.flatten_cons, List.flatten_nil, List.append_nil]
  after_results; try rfl

/-- The scale's one row at a lane. -/
theorem scale_at (G : FVec Ideal S4096 .f32) (l : Fin 4096) : SCALE G (ix2 (0 : Fin 1) l) = G (ix1 l) := by
  pointwise [SCALE]

/-- A block of the first summand, read at an index, is an element of the argument. -/
theorem blk0 (c : Dev nD) (t : Fin cfg0.N) (a : Fin 256) (k : Fin 4096) (r : Fin 9216) (hr : r.val = t.val * 256 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the second summand, read at an index, is an element of the argument. -/
theorem blk1 (c : Dev nD) (t : Fin cfg0.N) (a : Fin 256) (k : Fin 4096) (r : Fin 9216) (hr : r.val = t.val * 256 + a.val) :
    iblk m c 1 t (ix2 a k) = m ((c : Thread nD τ).loc main_arg1) (ix2 r k) := by
  have h : iblk m c 1 t (ix2 a k) = V m c main_arg1 (ix2 r k) := by blk_ext [iblk, idx t, hr]
  exact h.trans (congrFun (V_main_arg1 m c) _)

/-- The block of the scale, read at a lane. -/
theorem blk2 (c : Dev nD) (t : Fin cfg0.N) (k : Fin 4096) :
    iblk m c 2 t (ix2 (0 : Fin 1) k) = m ((c : Thread nD τ).loc main_arg2) (ix1 k) := by
  have h : iblk m c 2 t (ix2 (0 : Fin 1) k) = V m c main_v0 (ix2 (0 : Fin 1) k) := by blk_ext [iblk, idx t]
  exact h.trans ((congrFun (entry2 m c) _).trans (scale_at _ k))

/-- The body's payload, one lane at a time. -/
theorem pay_at (x y : FVec Ideal S256x4096 .f32) (g : FVec Ideal S1x4096 .f32) (a : Fin 256) (l : Fin 4096) :
    k0_pay1 (F := Ideal) x y g (ix2 a l) = NORM (fun j => x (ix2 a j) + y (ix2 a j)) (fun j => g (ix2 (0 : Fin 1) j)) l := by
  pointwise [k0_pay1, NORM]

/-- What the body stores at a block index is the row at the array index it lands on. -/
theorem point (c : Dev nD) (t : Fin cfg0.N) (y : S256x4096.Idx) (i : S9216x4096.Idx)
    (h0 : (i 0).val = t.val * 256 + (y 0).val) (h1 : (i 1).val = (y 1).val) :
    k0_pay1 (F := Ideal) (iblk m c 0 t) (iblk m c 1 t) (iblk m c 2 t) y
      = ROWS (m ((c : Thread nD τ).loc main_arg0)) (m ((c : Thread nD τ).loc main_arg1)) (m ((c : Thread nD τ).loc main_arg2)) i := by
  rw [eq_ix2 y]
  refine (pay_at _ _ _ (y 0) (y 1)).trans ?_
  have hl : (y 1 : Fin 4096) = i 1 := Fin.ext h1.symm
  rw [hl]
  unfold ROWS
  congr 1
  · funext j; exact Ideal.add_congr (blk0 m c t _ j _ h0) (blk1 m c t _ j _ h0)
  · funext j; exact blk2 m c t j

/-- The rows after the region. -/
theorem final (c : Dev nD) : (dats m 0 c).arrAt 3 (cfgs 0).N
    = ROWS (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y _ (by blk_simp [idx t]) (by blk_simp [idx t])

/-- The prompt's result after the host lines that follow the region. -/
theorem tail_prompt (c : Dev nD) : Pipeline.afterTail₀ cfgs (dats m) 0 (V0 m) [hostOps1] c main_v3 = OUTP ((dats m 0 c).arrAt 3 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v1) = (dats m 0 c).arrAt 3 (cfgs 0).N :=
    Pipeline.withArrays_arr (cfgs 0).spec (by decide) c (V0 m c) _ 3
  after_results
  rw [h]; rfl

/-- The sample's result after the host lines that follow the region. -/
theorem tail_sample (c : Dev nD) : Pipeline.afterTail₀ cfgs (dats m) 0 (V0 m) [hostOps1] c main_v6 = OUTS ((dats m 0 c).arrAt 3 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v1) = (dats m 0 c).arrAt 3 (cfgs 0).N :=
    Pipeline.withArrays_arr (cfgs 0).spec (by decide) c (V0 m c) _ 3
  after_results
  rw [h]; rfl

/-- The run, with both results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v3) = OUTP (ROWS (m ((c : Thread nD τ).loc main_arg0)) (m ((c : Thread nD τ).loc main_arg1)) (m ((c : Thread nD τ).loc main_arg2)))
      ∧ r.2.mem ((c : Thread nD τ).loc main_v6) = OUTS (ROWS (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
      ⟨((h.1 c).2 main_v3 (Pipeline.mem_restRefs_of main_v3 (by decide) (by decide))).trans ((tail_prompt m c).trans (congrArg OUTP (final m c))),
       ((h.1 c).2 main_v6 (Pipeline.mem_restRefs_of main_v6 (by decide) (by decide))).trans ((tail_sample m c).trans (congrArg OUTS (final m c))),
       h.2 c⟩)
    (θ_run_and (run_main m ρ) (unchanged m ρ))

end Cert.FinalNormValue

namespace Cert.Proof.FinalNormClaims

/-- The host reference runs and leaves every semaphore at zero. -/
theorem frame_ref : Cert.quiescent_FinalNormRefIdeal := fun m ρ _ =>
  (θ_run Cert.FinalNormRefIdeal.defs _ _).mono (fun r h => ⟨fun c => (h c).2.2,
      Idealize.ShloMosaic.sem_eq_zero_of_no_sems (by decide) r.2⟩)
    (Cert.FinalNormRefIdeal.Value.run (F := Ideal) m ρ)

/-- The kernel and the reference end with equal results. -/
theorem algebraic : Cert.algebraic_FinalNormIdeal_FinalNormRefIdeal := fun m ρ m' ρ' _ hag =>
  ⟨_, _, Cert.FinalNormValue.run m ρ,
   (θ_run _ _ _).mono (fun r h c => ⟨(h c).1.trans (by
      rw [(hag c).1, (hag c).2.1, (hag c).2.2]; exact (Cert.FinalNormValue.prompt_eq _ _ _).symm), (h c).2.1.trans (by
      rw [(hag c).1, (hag c).2.1, (hag c).2.2]; exact (Cert.FinalNormValue.sample_eq _ _ _).symm), (h c).2.2⟩)
     (Cert.FinalNormRefIdeal.Value.run (F := Ideal) m' ρ')⟩

end Cert.Proof.FinalNormClaims

end
-- ==== Proof.InputNorm.lean ====
/- The first normalisation: the prompt's and the sample's rows, normalised, are the reference's. -/
module

public import proofs.«01_k».proof.Defs
public import proofs.«01_k».proof.Proof.Gen.InputNorm.Frame
public import proofs.«01_k».proof.Proof.Gen.InputNormIdeal.Frame
public import proofs.«01_k».proof.Proof.Gen.InputNormRefIdeal.Run
public import proofs.«01_k».proof.Proof.FinalNorm
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.InputNormValue

open Cert.FinalNormValue (NORM)

section
open Cert.InputNormRefIdeal Cert.InputNormRefIdeal.Gen

/-- The reference's prompt rows from its rows. -/
def REFP (Z : FVec Ideal S4x2048x4096 .f32) (G : FVec Ideal S1x4096 .f32) : FVec Ideal S4x2048x4096 .bf16 :=
  truncf (F := Ideal) .bf16 (mulf (mulf Z (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf Z Z) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 G shapeCasts_S1x4096_S4096)))) bitsLt_bf16_f32

/-- The reference's sample rows from its rows. -/
def REFS (Z : FVec Ideal S128x4x4096 .f32) (G : FVec Ideal S1x4096 .f32) : FVec Ideal S128x4x4096 .bf16 :=
  truncf (F := Ideal) .bf16 (mulf (mulf Z (broadcastInDim S128x4x4096 ![0, 1, 2] bcast_S128x4x1_S128x4x4096_0_1_2 (Host.rsqrt (addf (Host.divf (broadcastInDim S128x4x1 ![0, 1] bcast_S128x4_S128x4x1_0_1 (Host.reduceAdd (mulf Z Z) (constant S_ .f32 0x00000000#32) reducesTo_S128x4x4096_S128x4_d2 h_S_)) (broadcastInDim S128x4x1 ![] bcast_S_S128x4x1 (constant S_ .f32 0x45800000#32))) (broadcastInDim S128x4x1 ![] bcast_S_S128x4x1 (constant S_ .f32 0x358637BD#32)))))) (broadcastInDim S128x4x4096 ![0, 1, 2] bcast_S1x1x4096_S128x4x4096_0_1_2 (broadcastInDim S1x1x4096 ![2] bcast_S4096_S1x1x4096_2 (shapeCast S4096 G shapeCasts_S1x4096_S4096)))) bitsLt_bf16_f32

/-- The reference's prompt rows, one lane at a time. -/
theorem refp_at (Z : FVec Ideal S4x2048x4096 .f32) (G : FVec Ideal S1x4096 .f32) (b : Fin 4) (s : Fin 2048) (l : Fin 4096) :
    REFP Z G (ix3 b s l) = NORM (fun j => Z (ix3 b s j)) (fun j => G (ix2 (0 : Fin 1) j)) l := by
  pointwise [REFP, NORM]

/-- The reference's sample rows, one lane at a time. -/
theorem refs_at (Z : FVec Ideal S128x4x4096 .f32) (G : FVec Ideal S1x4096 .f32) (b : Fin 128) (s : Fin 4) (l : Fin 4096) :
    REFS Z G (ix3 b s l) = NORM (fun j => Z (ix3 b s j)) (fun j => G (ix2 (0 : Fin 1) j)) l := by
  pointwise [REFS, NORM]

end

open Cert.InputNormIdeal Cert.InputNormIdeal.Gen

/-- The sample's sequences, each padded to eight rows. -/
def PAD (XS : FVec Ideal S128x4x4096 .f32) (z : FVec Ideal S_ .f32) : FVec Ideal S128x8x4096 .f32 :=
  pad S128x8x4096 ![0, 0, 0] ![0, 4, 0] ![0, 0, 0] XS z pads_S128x4x4096_S128x8x4096_000_040_000 h_S_

/-- The first four rows of a padded sequence are the sequence's. -/
theorem pad_at (XS : FVec Ideal S128x4x4096 .f32) (z : FVec Ideal S_ .f32) (b : Fin 128) (s : Fin 4) (l : Fin 4096) :
    PAD XS z (ix3 b (⟨s.val, by omega⟩ : Fin 8) l) = XS (ix3 b s l) := by
  pointwise [PAD]

/-- The prompt's rows, then the padded sample's. -/
def STACK (XP : FVec Ideal S4x2048x4096 .f32) (P : FVec Ideal S128x8x4096 .f32) : FVec Ideal S9216x4096 .f32 :=
  concatenate S9216x4096 0 [⟨S8192x4096, shapeCast S8192x4096 XP shapeCasts_S4x2048x4096_S8192x4096⟩,
    ⟨S1024x4096, shapeCast S1024x4096 P shapeCasts_S128x8x4096_S1024x4096⟩] concatenates_S8192x4096_S1024x4096_S9216x4096_d0

/-- The prompt's rows, then the sample's, each sequence padded to eight rows. -/
def CAT (XP : FVec Ideal S4x2048x4096 .f32) (XS : FVec Ideal S128x4x4096 .f32) (z : FVec Ideal S_ .f32) : FVec Ideal S9216x4096 .f32 :=
  STACK XP (PAD XS z)

/-- A row of the stacked rows lies in the prompt or in the padded sample. -/
theorem stack_at (XP : FVec Ideal S4x2048x4096 .f32) (P : FVec Ideal S128x8x4096 .f32) (r : Fin 9216) (l : Fin 4096) :
    STACK XP P (ix2 r l) = if h : r.val < 8192 then XP (ix3 (⟨r.val / 2048, by omega⟩ : Fin 4) (⟨r.val % 2048, by omega⟩ : Fin 2048) l)
      else P (ix3 (⟨(r.val - 8192) / 8, by omega⟩ : Fin 128) (⟨(r.val - 8192) % 8, by omega⟩ : Fin 8) l) := by
  pointwise [STACK]

/-- A prompt row of the stacked rows. -/
theorem cat_prompt (XP : FVec Ideal S4x2048x4096 .f32) (P : FVec Ideal S128x8x4096 .f32) (b : Fin 4) (s : Fin 2048) (l : Fin 4096) :
    STACK XP P (ix2 (⟨b.val * 2048 + s.val, by omega⟩ : Fin 9216) l) = XP (ix3 b s l) := by
  refine (stack_at XP P _ l).trans ?_
  have hr : b.val * 2048 + s.val < 8192 := by omega
  rw [dif_pos hr]
  exact congrArg₂ (fun x y => XP (ix3 x y l)) (Fin.ext (by show (b.val * 2048 + s.val) / 2048 = b.val; omega)) (Fin.ext (by show (b.val * 2048 + s.val) % 2048 = s.val; omega))

/-- A sample row of the stacked rows. -/
theorem stack_sample (XP : FVec Ideal S4x2048x4096 .f32) (P : FVec Ideal S128x8x4096 .f32) (b : Fin 128) (s : Fin 8) (l : Fin 4096) :
    STACK XP P (ix2 (⟨8192 + (b.val * 8 + s.val), by omega⟩ : Fin 9216) l) = P (ix3 b s l) := by
  refine (stack_at XP P _ l).trans ?_
  have hr : ¬ 8192 + (b.val * 8 + s.val) < 8192 := by omega
  rw [dif_neg hr]
  exact congrArg₂ (fun x y => P (ix3 x y l)) (Fin.ext (by show (8192 + (b.val * 8 + s.val) - 8192) / 8 = b.val; omega)) (Fin.ext (by show (8192 + (b.val * 8 + s.val) - 8192) % 8 = s.val; omega))

/-- A sample row of the stacked rows, from the unpadded sequences. -/
theorem cat_sample (XP : FVec Ideal S4x2048x4096 .f32) (XS : FVec Ideal S128x4x4096 .f32) (z : FVec Ideal S_ .f32) (b : Fin 128) (s : Fin 4) (l : Fin 4096) :
    CAT XP XS z (ix2 (⟨8192 + (b.val * 8 + s.val), by omega⟩ : Fin 9216) l) = XS (ix3 b s l) :=
  (stack_sample XP (PAD XS z) b (⟨s.val, by omega⟩ : Fin 8) l).trans (pad_at XS z b s l)

/-- The rows the region leaves, from the stacked rows. -/
def ROWS (X : FVec Ideal S9216x4096 .f32) (G : FVec Ideal S1x4096 .f32) : FVec Ideal S9216x4096 .bf16 :=
  fun i => NORM (fun j => X (ix2 (i 0) j)) (fun j => G (ix2 (0 : Fin 1) j)) (i 1)

/-- The prompt's rows, as the host lines after the region take them. -/
def OUTP (Y : FVec Ideal S9216x4096 .bf16) : FVec Ideal S4x2048x4096 .bf16 :=
  shapeCast S4x2048x4096 (extractStridedSlice S8192x4096 ![0, 0] Y slices_S9216x4096_S8192x4096_0_0) shapeCasts_S8192x4096_S4x2048x4096

/-- The sample's rows, as the host lines after the region take them. -/
def OUTS (Y : FVec Ideal S9216x4096 .bf16) : FVec Ideal S128x4x4096 .bf16 :=
  extractStridedSlice S128x4x4096 ![0, 0, 0] (shapeCast S128x8x4096 (extractStridedSlice S1024x4096 ![8192, 0] Y slices_S9216x4096_S1024x4096_8192_0) shapeCasts_S1024x4096_S128x8x4096) slices_S128x8x4096_S128x4x4096_0_0_0

/-- The prompt's rows at an index. -/
theorem outp_at (Y : FVec Ideal S9216x4096 .bf16) (b : Fin 4) (s : Fin 2048) (l : Fin 4096) :
    OUTP Y (ix3 b s l) = Y (ix2 (⟨b.val * 2048 + s.val, by omega⟩ : Fin 9216) l) := by
  pointwise [OUTP]

/-- The sample's rows at an index. -/
theorem outs_at (Y : FVec Ideal S9216x4096 .bf16) (b : Fin 128) (s : Fin 4) (l : Fin 4096) :
    OUTS Y (ix3 b s l) = Y (ix2 (⟨8192 + (b.val * 8 + s.val), by omega⟩ : Fin 9216) l) := by
  pointwise [OUTS]

/-- The two prompt results agree. -/
theorem prompt_eq (XP : FVec Ideal S4x2048x4096 .f32) (XS : FVec Ideal S128x4x4096 .f32) (z : FVec Ideal S_ .f32) (G : FVec Ideal S1x4096 .f32) :
    OUTP (ROWS (CAT XP XS z) G) = REFP XP G := by
  funext i
  rw [eq_ix3 i]
  refine (outp_at _ (i 0) (i 1) (i 2)).trans (Eq.trans ?_ (refp_at _ _ (i 0) (i 1) (i 2)).symm)
  exact congrArg (fun v => NORM v _ _) (funext fun j => cat_prompt XP (PAD XS z) (i 0) (i 1) j)

/-- The two sample results agree. -/
theorem sample_eq (XP : FVec Ideal S4x2048x4096 .f32) (XS : FVec Ideal S128x4x4096 .f32) (z : FVec Ideal S_ .f32) (G : FVec Ideal S1x4096 .f32) :
    OUTS (ROWS (CAT XP XS z) G) = REFS XS G := by
  funext i
  rw [eq_ix3 i]
  refine (outs_at _ (i 0) (i 1) (i 2)).trans (Eq.trans ?_ (refs_at _ _ (i 0) (i 1) (i 2)).symm)
  exact congrArg (fun v => NORM v _ _) (funext fun j => cat_sample XP XS z (i 0) (i 1) j)

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The scale as one row. -/
def SCALE (G : FVec Ideal S1x4096 .f32) : FVec Ideal S1x4096 .f32 := shapeCast S1x4096 (shapeCast S4096 G shapeCasts_S1x4096_S4096) shapeCasts_S4096_S1x4096

/-- The padding's value: the integer zero, converted. -/
def Z : FVec Ideal S_ .f32 := sitofp (F := Ideal) .f32 (constantI S_ 32 0#32)

/-- The stacked rows as the region finds them. -/
theorem entry0 (c : Dev nD) : V m c main_v3 = CAT (m ((c : Thread nD τ).loc main_arg0)) (m ((c : Thread nD τ).loc main_arg1)) Z := by
  show StableHlo.after (List.flatten [hostOps0, hostOps0_1, hostOps0_2]) (fun b => m (c, b)) (Proc.devRef .tc main_v3) = _
  simp only [List.flatten_cons, List.flatten_nil, List.append_nil, List.cons_append, List.nil_append]
  after_results; try rfl

/-- The scale as the region finds it. -/
theorem entry1 (c : Dev nD) : V m c main_v5 = SCALE (m ((c : Thread nD τ).loc main_arg2)) := by
  show StableHlo.after (List.flatten [hostOps0, hostOps0_1, hostOps0_2]) (fun b => m (c, b)) (Proc.devRef .tc main_v5) = _
  simp only [List.flatten_cons, List.flatten_nil, List.append_nil, List.cons_append, List.nil_append]
  after_results; try rfl

/-- The scale's one row at a lane. -/
theorem scale_at (G : FVec Ideal S1x4096 .f32) (l : Fin 4096) : SCALE G (ix2 (0 : Fin 1) l) = G (ix2 (0 : Fin 1) l) := by
  pointwise [SCALE]

/-- A block of the rows, read at an index, is an element of the stacked rows. -/
theorem blk0 (c : Dev nD) (t : Fin cfg0.N) (a : Fin 256) (k : Fin 4096) (r : Fin 9216) (hr : r.val = t.val * 256 + a.val) :
    iblk m c 0 t (ix2 a k) = CAT (m ((c : Thread nD τ).loc main_arg0)) (m ((c : Thread nD τ).loc main_arg1)) Z (ix2 r k) := by
  have h : iblk m c 0 t (ix2 a k) = V m c main_v3 (ix2 r k) := by blk_ext [iblk, idx t, hr]
  exact h.trans (congrFun (entry0 m c) _)

/-- The block of the scale, read at a lane. -/
theorem blk1 (c : Dev nD) (t : Fin cfg0.N) (k : Fin 4096) :
    iblk m c 1 t (ix2 (0 : Fin 1) k) = m ((c : Thread nD τ).loc main_arg2) (ix2 (0 : Fin 1) k) := by
  have h : iblk m c 1 t (ix2 (0 : Fin 1) k) = V m c main_v5 (ix2 (0 : Fin 1) k) := by blk_ext [iblk, idx t]
  exact h.trans ((congrFun (entry1 m c) _).trans (scale_at _ k))

/-- The body's payload, one lane at a time. -/
theorem pay_at (x : FVec Ideal S256x4096 .f32) (g : FVec Ideal S1x4096 .f32) (a : Fin 256) (l : Fin 4096) :
    k0_pay1 (F := Ideal) x g (ix2 a l) = NORM (fun j => x (ix2 a j)) (fun j => g (ix2 (0 : Fin 1) j)) l := by
  pointwise [k0_pay1, NORM]

/-- What the body stores at a block index is the row at the array index it lands on. -/
theorem point (c : Dev nD) (t : Fin cfg0.N) (y : S256x4096.Idx) (i : S9216x4096.Idx)
    (h0 : (i 0).val = t.val * 256 + (y 0).val) (h1 : (i 1).val = (y 1).val) :
    k0_pay1 (F := Ideal) (iblk m c 0 t) (iblk m c 1 t) y
      = ROWS (CAT (m ((c : Thread nD τ).loc main_arg0)) (m ((c : Thread nD τ).loc main_arg1)) Z) (m ((c : Thread nD τ).loc main_arg2)) i := by
  rw [eq_ix2 y]
  refine (pay_at _ _ (y 0) (y 1)).trans ?_
  have hl : (y 1 : Fin 4096) = i 1 := Fin.ext h1.symm
  rw [hl]
  unfold ROWS
  congr 1
  · funext j; exact blk0 m c t _ j _ h0
  · funext j; exact blk1 m c t j

/-- The rows after the region. -/
theorem final (c : Dev nD) : (dats m 0 c).arrAt 2 (cfgs 0).N
    = ROWS (CAT (m ((c : Thread nD τ).loc main_arg0)) (m ((c : Thread nD τ).loc main_arg1)) Z) (m ((c : Thread nD τ).loc main_arg2)) := by
  refine (dats m 0 c).arrAt_eq_of_covers 2 _ (by decide +kernel) fun t _ y => ?_
  blk_simp
  rw [after0_2]; frame_out
  exact point m c t y _ (by blk_simp [idx t]) (by blk_simp [idx t])

/-- The prompt's result after the host lines that follow the region. -/
theorem tail_prompt (c : Dev nD) : Pipeline.afterTail₀ cfgs (dats m) 0 (V0 m) [hostOps1] c main_v8 = OUTP ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v6) = (dats m 0 c).arrAt 2 (cfgs 0).N :=
    Pipeline.withArrays_arr (cfgs 0).spec (by decide) c (V0 m c) _ 2
  after_results
  rw [h]; rfl

/-- The sample's result after the host lines that follow the region. -/
theorem tail_sample (c : Dev nD) : Pipeline.afterTail₀ cfgs (dats m) 0 (V0 m) [hostOps1] c main_v11 = OUTS ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v6) = (dats m 0 c).arrAt 2 (cfgs 0).N :=
    Pipeline.withArrays_arr (cfgs 0).spec (by decide) c (V0 m c) _ 2
  after_results
  rw [h]; rfl

/-- The run, with both results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v8) = OUTP (ROWS (CAT (m ((c : Thread nD τ).loc main_arg0)) (m ((c : Thread nD τ).loc main_arg1)) Z) (m ((c : Thread nD τ).loc main_arg2)))
      ∧ r.2.mem ((c : Thread nD τ).loc main_v11) = OUTS (ROWS (CAT (m ((c : Thread nD τ).loc main_arg0)) (m ((c : Thread nD τ).loc main_arg1)) Z) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
      ⟨((h.1 c).2 main_v8 (Pipeline.mem_restRefs_of main_v8 (by decide) (by decide))).trans ((tail_prompt m c).trans (congrArg OUTP (final m c))),
       ((h.1 c).2 main_v11 (Pipeline.mem_restRefs_of main_v11 (by decide) (by decide))).trans ((tail_sample m c).trans (congrArg OUTS (final m c))),
       h.2 c⟩)
    (θ_run_and (run_main m ρ) (unchanged m ρ))

end Cert.InputNormValue

namespace Cert.Proof.InputNormClaims

/-- The host reference runs and leaves every semaphore at zero. -/
theorem frame_ref : Cert.quiescent_InputNormRefIdeal := fun m ρ _ =>
  (θ_run Cert.InputNormRefIdeal.defs _ _).mono (fun r h => ⟨fun c => (h c).2.2,
      Idealize.ShloMosaic.sem_eq_zero_of_no_sems (by decide) r.2⟩)
    (Cert.InputNormRefIdeal.Value.run (F := Ideal) m ρ)

/-- The kernel and the reference end with equal results. -/
theorem algebraic : Cert.algebraic_InputNormIdeal_InputNormRefIdeal := fun m ρ m' ρ' _ hag =>
  ⟨_, _, Cert.InputNormValue.run m ρ,
   (θ_run _ _ _).mono (fun r h c => ⟨(h c).1.trans (by
      rw [(hag c).1, (hag c).2.2]; exact (Cert.InputNormValue.prompt_eq _ (m ((c.tc : Thread _ _).loc Cert.InputNormIdeal.main_arg1)) _ _).symm), (h c).2.1.trans (by
      rw [(hag c).2.1, (hag c).2.2]; exact (Cert.InputNormValue.sample_eq (m ((c.tc : Thread _ _).loc Cert.InputNormIdeal.main_arg0)) _ _ _).symm), (h c).2.2⟩)
     (Cert.InputNormRefIdeal.Value.run (F := Ideal) m' ρ')⟩

end Cert.Proof.InputNormClaims

end
-- ==== Proof.DnConvState.lean ====
/- The rows the DeltaNet branch carries over for its convolution: the last three of each sequence. -/
module

public import proofs.«01_k».proof.Defs
public import proofs.«01_k».proof.Proof.Gen.DnConvState.Frame
public import proofs.«01_k».proof.Proof.Gen.DnConvStateIdeal.Frame
public import proofs.«01_k».proof.Proof.Gen.DnConvStateRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.DnConvStateValue

section
open Cert.DnConvStateRefIdeal Cert.DnConvStateRefIdeal.Gen

/-- The reference's projection of every row to the convolved channels. -/
def PROJ (X : FVec Ideal S9216x4096 .bf16) (W : FVec Ideal S1x4096x22592 .f32) : FVec Ideal S9216x6144 .f32 :=
  Host.dotGeneral dot_S9216x4096_S4096x6144_S9216x6144_1_0_0_1_n_n none (extf .f32 X bitsLt_bf16_f32)
    (extractStridedSlice S4096x6144 ![0, 0] (shapeCast S4096x22592 W shapeCasts_S1x4096x22592_S4096x22592) slices_S4096x22592_S4096x6144_0_0)

/-- The prompt's last three rows, the carried rows (zeros) put before the sequence. -/
def REFP (Y : FVec Ideal S9216x6144 .f32) : FVec Ideal S1x4x3x6144 .f32 :=
  broadcastInDim S1x4x3x6144 ![1, 2, 3] bcast_S4x3x6144_S1x4x3x6144_1_2_3 (extractStridedSlice S4x3x6144 ![0, 2048, 0] (concatenate S4x2051x6144 1 [⟨S4x3x6144, (broadcastInDim S4x3x6144 ![] bcast_S_S4x3x6144 (constant S_ .f32 0x00000000#32))⟩, ⟨S4x2048x6144, (shapeCast S4x2048x6144 (extractStridedSlice S8192x6144 ![0, 0] Y slices_S9216x6144_S8192x6144_0_0) shapeCasts_S8192x6144_S4x2048x6144)⟩] concatenates_S4x3x6144_S4x2048x6144_S4x2051x6144_d1) slices_S4x2051x6144_S4x3x6144_0_2048_0)

/-- The sample's last three rows, the carried rows put before the four new ones. -/
def REFS (Y : FVec Ideal S9216x6144 .f32) (C : FVec Ideal S1x128x3x6144 .f32) : FVec Ideal S1x128x3x6144 .f32 :=
  broadcastInDim S1x128x3x6144 ![1, 2, 3] bcast_S128x3x6144_S1x128x3x6144_1_2_3 (extractStridedSlice S128x3x6144 ![0, 4, 0] (concatenate S128x7x6144 1 [⟨S128x3x6144, (shapeCast S128x3x6144 C shapeCasts_S1x128x3x6144_S128x3x6144)⟩, ⟨S128x4x6144, (extractStridedSlice S128x4x6144 ![0, 0, 0] (shapeCast S128x8x6144 (extractStridedSlice S1024x6144 ![8192, 0] Y slices_S9216x6144_S1024x6144_8192_0) shapeCasts_S1024x6144_S128x8x6144) slices_S128x8x6144_S128x4x6144_0_0_0)⟩] concatenates_S128x3x6144_S128x4x6144_S128x7x6144_d1) slices_S128x7x6144_S128x3x6144_0_4_0)

/-- The reference's projection at an index: a sum of products over the contraction. -/
theorem proj_at (X : FVec Ideal S9216x4096 .bf16) (W : FVec Ideal S1x4096x22592 .f32) (r : Fin 9216) (q : Fin 6144) :
    PROJ X W (ix2 r q) = ∑ k : Fin 4096, X (ix2 r k) * W (ix3 (0 : Fin 1) k (⟨q.val, by omega⟩ : Fin 22592)) := by
  pointwise [PROJ]

/-- The prompt's carried rows are its rows 2045 to 2047. -/
theorem refp_at (Y : FVec Ideal S9216x6144 .f32) (o : Fin 1) (b : Fin 4) (s : Fin 3) (q : Fin 6144) :
    REFP Y (ix4 o b s q) = Y (ix2 (⟨b.val * 2048 + (2045 + s.val), by omega⟩ : Fin 9216) q) := by
  pointwise [REFP]
  rw [dif_neg (by omega)]
  exact congrArg Y (congrArg (fun r => ix2 r q) (Fin.ext (by show b.val * 2048 + (2048 + s.val - 3) = b.val * 2048 + (2045 + s.val); omega)))

/-- The sample's carried rows are its rows 1 to 3. -/
theorem refs_at (Y : FVec Ideal S9216x6144 .f32) (C : FVec Ideal S1x128x3x6144 .f32) (o : Fin 1) (b : Fin 128) (s : Fin 3) (q : Fin 6144) :
    REFS Y C (ix4 o b s q) = Y (ix2 (⟨8192 + (b.val * 8 + (1 + s.val)), by omega⟩ : Fin 9216) q) := by
  pointwise [REFS]
  rw [dif_neg (by omega)]
  exact congrArg Y (congrArg (fun r => ix2 r q) (Fin.ext (by show 8192 + (b.val * 8 + (4 + s.val - 3)) = 8192 + (b.val * 8 + (1 + s.val)); omega)))

end

open Cert.DnConvStateIdeal Cert.DnConvStateIdeal.Gen

/-- The rows the region leaves: every row's product with its columns of the weights. -/
def SEG (X : FVec Ideal S9216x4096 .bf16) (W : FVec Ideal S1x4096x22592 .f32) : FVec Ideal S9216x8192 .f32 :=
  fun i => ∑ k : Fin 4096, X (ix2 (i 0) k) * W (ix3 (0 : Fin 1) k (⟨(i 1 : Fin 8192).val, Nat.lt_of_lt_of_le (i 1).isLt (show 8192 ≤ 22592 by omega)⟩ : Fin 22592))

/-- The prompt's rows to carry, as the host lines after the region take them. -/
def OUTP (Y : FVec Ideal S9216x8192 .f32) : FVec Ideal S1x4x3x6144 .f32 :=
  broadcastInDim S1x4x3x6144 ![1, 2, 3] bcast_S4x3x6144_S1x4x3x6144_1_2_3 (extractStridedSlice S4x3x6144 ![0, 2045, 0] (shapeCast S4x2048x8192 (extractStridedSlice S8192x8192 ![0, 0] Y slices_S9216x8192_S8192x8192_0_0) shapeCasts_S8192x8192_S4x2048x8192) slices_S4x2048x8192_S4x3x6144_0_2045_0)

/-- The sample's rows to carry, as the host lines after the region take them. -/
def OUTS (Y : FVec Ideal S9216x8192 .f32) : FVec Ideal S1x128x3x6144 .f32 :=
  broadcastInDim S1x128x3x6144 ![1, 2, 3] bcast_S128x3x6144_S1x128x3x6144_1_2_3 (extractStridedSlice S128x3x6144 ![0, 1, 0] (shapeCast S128x8x8192 (extractStridedSlice S1024x8192 ![8192, 0] Y slices_S9216x8192_S1024x8192_8192_0) shapeCasts_S1024x8192_S128x8x8192) slices_S128x8x8192_S128x3x6144_0_1_0)

/-- The prompt's rows to carry, at an index. -/
theorem outp_at (Y : FVec Ideal S9216x8192 .f32) (o : Fin 1) (b : Fin 4) (s : Fin 3) (q : Fin 6144) :
    OUTP Y (ix4 o b s q) = Y (ix2 (⟨b.val * 2048 + (2045 + s.val), by omega⟩ : Fin 9216) (⟨q.val, by omega⟩ : Fin 8192)) := by
  pointwise [OUTP]

/-- The sample's rows to carry, at an index. -/
theorem outs_at (Y : FVec Ideal S9216x8192 .f32) (o : Fin 1) (b : Fin 128) (s : Fin 3) (q : Fin 6144) :
    OUTS Y (ix4 o b s q) = Y (ix2 (⟨8192 + (b.val * 8 + (1 + s.val)), by omega⟩ : Fin 9216) (⟨q.val, by omega⟩ : Fin 8192)) := by
  pointwise [OUTS]

/-- The projection's column of a convolved channel. -/
theorem seg_at (X : FVec Ideal S9216x4096 .bf16) (W : FVec Ideal S1x4096x22592 .f32) (r : Fin 9216) (q : Fin 6144) (p : Fin 8192) (hp : p.val = 0 + q.val) :
    SEG X W (ix2 r p) = PROJ X W (ix2 r q) := by
  refine Eq.trans ?_ (proj_at X W r q).symm
  refine Finset.sum_congr rfl fun k _ => Ideal.mul_congr rfl (congrArg (fun z => W (ix3 (0 : Fin 1) k z)) (Fin.ext ?_))
  show p.val = q.val
  omega

/-- The two prompt results agree. -/
theorem prompt_eq (X : FVec Ideal S9216x4096 .bf16) (W : FVec Ideal S1x4096x22592 .f32) : OUTP (SEG X W) = REFP (PROJ X W) := by
  funext i
  rw [eq_ix4 i]
  exact (outp_at _ (i 0) (i 1) (i 2) (i 3)).trans ((seg_at X W _ (i 3) _ (Nat.zero_add _).symm).trans (refp_at _ (i 0) (i 1) (i 2) (i 3)).symm)

/-- The two sample results agree. -/
theorem sample_eq (X : FVec Ideal S9216x4096 .bf16) (W : FVec Ideal S1x4096x22592 .f32) (C : FVec Ideal S1x128x3x6144 .f32) : OUTS (SEG X W) = REFS (PROJ X W) C := by
  funext i
  rw [eq_ix4 i]
  exact (outs_at _ (i 0) (i 1) (i 2) (i 3)).trans ((seg_at X W _ (i 3) _ (Nat.zero_add _).symm).trans (refs_at _ C (i 0) (i 1) (i 2) (i 3)).symm)

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights' columns, cast. -/
def WTS (W : FVec Ideal S1x4096x22592 .f32) : FVec Ideal S4096x8192 .bf16 :=
  truncf (F := Ideal) .bf16 (extractStridedSlice S4096x8192 ![0, 0] (shapeCast S4096x22592 W shapeCasts_S1x4096x22592_S4096x22592) slices_S4096x22592_S4096x8192_0_0) bitsLt_bf16_f32

/-- The weights as the region finds them. -/
theorem entry1 (c : Dev nD) : V m c main_v2 = WTS (m ((c : Thread nD τ).loc main_arg1)) := by
  show StableHlo.after (List.flatten [hostOps0]) (fun b => m (c, b)) (Proc.devRef .tc main_v2) = _
  simp only [List.flatten_cons, List.flatten_nil, List.append_nil]
  after_results; try rfl

/-- The weights at an index. -/
theorem weights_at (W : FVec Ideal S1x4096x22592 .f32) (k : Fin 4096) (q : Fin 8192) :
    WTS W (ix2 k q) = W (ix3 (0 : Fin 1) k (⟨q.val, by omega⟩ : Fin 22592)) := by
  pointwise [WTS]

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 8192) (hq : q.val = t.val / 18 * 1024 + b.val) :
    iblk m c 1 t (ix2 k b) = m ((c : Thread nD τ).loc main_arg1) (ix3 (0 : Fin 1) k (⟨q.val, by omega⟩ : Fin 22592)) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the product at the array index it lands on. -/
theorem point (c : Dev nD) (t : Fin cfg0.N) (y : S512x1024.Idx) (i : S9216x8192.Idx)
    (h0 : (i 0).val = t.val % 18 * 512 + (y 0).val) (h1 : (i 1).val = t.val / 18 * 1024 + (y 1).val) :
    k0_pay1 (F := Ideal) (iblk m c 0 t) (iblk m c 1 t) y
      = SEG (m ((c : Thread nD τ).loc main_arg0)) (m ((c : Thread nD τ).loc main_arg1)) i := by
  rw [eq_ix2 y]
  refine (pay_at _ _ (y 0) (y 1)).trans ?_
  exact Finset.sum_congr rfl fun k _ => Ideal.mul_congr (blk0 m c t _ k _ h0) (blk1 m c t k _ _ h1)

/-- The rows after the region. -/
theorem final (c : Dev nD) : (dats m 0 c).arrAt 2 (cfgs 0).N
    = SEG (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

/-- The prompt's result after the host lines that follow the region. -/
theorem tail_prompt (c : Dev nD) : Pipeline.afterTail₀ cfgs (dats m) 0 (V0 m) [hostOps1] c main_v7 = OUTP ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v3) = (dats m 0 c).arrAt 2 (cfgs 0).N :=
    Pipeline.withArrays_arr (cfgs 0).spec (by decide) c (V0 m c) _ 2
  after_results
  rw [h]; rfl

/-- The sample's result after the host lines that follow the region. -/
theorem tail_sample (c : Dev nD) : Pipeline.afterTail₀ cfgs (dats m) 0 (V0 m) [hostOps1] c main_v12 = OUTS ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v3) = (dats m 0 c).arrAt 2 (cfgs 0).N :=
    Pipeline.withArrays_arr (cfgs 0).spec (by decide) c (V0 m c) _ 2
  after_results
  rw [h]; rfl

/-- The run, with both results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v7) = OUTP (SEG (m ((c : Thread nD τ).loc main_arg0)) (m ((c : Thread nD τ).loc main_arg1)))
      ∧ r.2.mem ((c : Thread nD τ).loc main_v12) = OUTS (SEG (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
      ⟨((h.1 c).2 main_v7 (Pipeline.mem_restRefs_of main_v7 (by decide) (by decide))).trans ((tail_prompt m c).trans (congrArg OUTP (final m c))),
       ((h.1 c).2 main_v12 (Pipeline.mem_restRefs_of main_v12 (by decide) (by decide))).trans ((tail_sample m c).trans (congrArg OUTS (final m c))),
       h.2 c⟩)
    (θ_run_and (run_main m ρ) (unchanged m ρ))

end Cert.DnConvStateValue

namespace Cert.Proof.DnConvStateClaims

/-- The host reference runs and leaves every semaphore at zero. -/
theorem frame_ref : Cert.quiescent_DnConvStateRefIdeal := fun m ρ _ =>
  (θ_run Cert.DnConvStateRefIdeal.defs _ _).mono (fun r h => ⟨fun c => (h c).2.2,
      Idealize.ShloMosaic.sem_eq_zero_of_no_sems (by decide) r.2⟩)
    (Cert.DnConvStateRefIdeal.Value.run (F := Ideal) m ρ)

/-- The kernel and the reference end with equal results. -/
theorem algebraic : Cert.algebraic_DnConvStateIdeal_DnConvStateRefIdeal := fun m ρ m' ρ' _ hag =>
  ⟨_, _, Cert.DnConvStateValue.run m ρ,
   (θ_run _ _ _).mono (fun r h c => ⟨(h c).1.trans (by
      rw [(hag c).1, (hag c).2.1]; exact (Cert.DnConvStateValue.prompt_eq _ _).symm), (h c).2.1.trans (by
      rw [(hag c).1, (hag c).2.1, (hag c).2.2]; exact (Cert.DnConvStateValue.sample_eq _ _ _).symm), (h c).2.2⟩)
     (Cert.DnConvStateRefIdeal.Value.run (F := Ideal) m' ρ')⟩

end Cert.Proof.DnConvStateClaims

end
-- ==== Proof.SsmConvState.lean ====
/- The rows the state-space branch carries over for its convolution: the last three of each sequence. -/
module

public import proofs.«01_k».proof.Defs
public import proofs.«01_k».proof.Proof.Gen.SsmConvState.Frame
public import proofs.«01_k».proof.Proof.Gen.SsmConvStateIdeal.Frame
public import proofs.«01_k».proof.Proof.Gen.SsmConvStateRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.SsmConvStateValue

section
open Cert.SsmConvStateRefIdeal Cert.SsmConvStateRefIdeal.Gen

/-- The reference's projection of every row to the convolved channels. -/
def PROJ (X : FVec Ideal S9216x4096 .bf16) (W : FVec Ideal S1x4096x22592 .f32) : FVec Ideal S9216x4096 .f32 :=
  Host.dotGeneral dot_S9216x4096_S4096x4096_S9216x4096_1_0_0_1_n_n none (extf .f32 X bitsLt_bf16_f32)
    (extractStridedSlice S4096x4096 ![0, 10272] (shapeCast S4096x22592 W shapeCasts_S1x4096x22592_S4096x22592) slices_S4096x22592_S4096x4096_0_10272)

/-- The prompt's last three rows, the carried rows (zeros) put before the sequence. -/
def REFP (Y : FVec Ideal S9216x4096 .f32) : FVec Ideal S1x4x3x4096 .f32 :=
  broadcastInDim S1x4x3x4096 ![1, 2, 3] bcast_S4x3x4096_S1x4x3x4096_1_2_3 (extractStridedSlice S4x3x4096 ![0, 2048, 0] (concatenate S4x2051x4096 1 [⟨S4x3x4096, (broadcastInDim S4x3x4096 ![] bcast_S_S4x3x4096 (constant S_ .f32 0x00000000#32))⟩, ⟨S4x2048x4096, (shapeCast S4x2048x4096 (extractStridedSlice S8192x4096 ![0, 0] Y slices_S9216x4096_S8192x4096_0_0) shapeCasts_S8192x4096_S4x2048x4096)⟩] concatenates_S4x3x4096_S4x2048x4096_S4x2051x4096_d1) slices_S4x2051x4096_S4x3x4096_0_2048_0)

/-- The sample's last three rows, the carried rows put before the four new ones. -/
def REFS (Y : FVec Ideal S9216x4096 .f32) (C : FVec Ideal S1x128x3x4096 .f32) : FVec Ideal S1x128x3x4096 .f32 :=
  broadcastInDim S1x128x3x4096 ![1, 2, 3] bcast_S128x3x4096_S1x128x3x4096_1_2_3 (extractStridedSlice S128x3x4096 ![0, 4, 0] (concatenate S128x7x4096 1 [⟨S128x3x4096, (shapeCast S128x3x4096 C shapeCasts_S1x128x3x4096_S128x3x4096)⟩, ⟨S128x4x4096, (extractStridedSlice S128x4x4096 ![0, 0, 0] (shapeCast S128x8x4096 (extractStridedSlice S1024x4096 ![8192, 0] Y slices_S9216x4096_S1024x4096_8192_0) shapeCasts_S1024x4096_S128x8x4096) slices_S128x8x4096_S128x4x4096_0_0_0)⟩] concatenates_S128x3x4096_S128x4x4096_S128x7x4096_d1) slices_S128x7x4096_S128x3x4096_0_4_0)

/-- The reference's projection at an index: a sum of products over the contraction. -/
theorem proj_at (X : FVec Ideal S9216x4096 .bf16) (W : FVec Ideal S1x4096x22592 .f32) (r : Fin 9216) (q : Fin 4096) :
    PROJ X W (ix2 r q) = ∑ k : Fin 4096, X (ix2 r k) * W (ix3 (0 : Fin 1) k (⟨10272 + q.val, by omega⟩ : Fin 22592)) := by
  pointwise [PROJ]

/-- The prompt's carried rows are its rows 2045 to 2047. -/
theorem refp_at (Y : FVec Ideal S9216x4096 .f32) (o : Fin 1) (b : Fin 4) (s : Fin 3) (q : Fin 4096) :
    REFP Y (ix4 o b s q) = Y (ix2 (⟨b.val * 2048 + (2045 + s.val), by omega⟩ : Fin 9216) q) := by
  pointwise [REFP]
  rw [dif_neg (by omega)]
  exact congrArg Y (congrArg (fun r => ix2 r q) (Fin.ext (by show b.val * 2048 + (2048 + s.val - 3) = b.val * 2048 + (2045 + s.val); omega)))

/-- The sample's carried rows are its rows 1 to 3. -/
theorem refs_at (Y : FVec Ideal S9216x4096 .f32) (C : FVec Ideal S1x128x3x4096 .f32) (o : Fin 1) (b : Fin 128) (s : Fin 3) (q : Fin 4096) :
    REFS Y C (ix4 o b s q) = Y (ix2 (⟨8192 + (b.val * 8 + (1 + s.val)), by omega⟩ : Fin 9216) q) := by
  pointwise [REFS]
  rw [dif_neg (by omega)]
  exact congrArg Y (congrArg (fun r => ix2 r q) (Fin.ext (by show 8192 + (b.val * 8 + (4 + s.val - 3)) = 8192 + (b.val * 8 + (1 + s.val)); omega)))

end

open Cert.SsmConvStateIdeal Cert.SsmConvStateIdeal.Gen

/-- The rows the region leaves: every row's product with its columns of the weights. -/
def SEG (X : FVec Ideal S9216x4096 .bf16) (W : FVec Ideal S1x4096x22592 .f32) : FVec Ideal S9216x6144 .f32 :=
  fun i => ∑ k : Fin 4096, X (ix2 (i 0) k) * W (ix3 (0 : Fin 1) k (⟨8224 + (i 1 : Fin 6144).val, Nat.lt_of_lt_of_le (Nat.add_lt_add_left (i 1).isLt 8224) (show 8224 + 6144 ≤ 22592 by omega)⟩ : Fin 22592))

/-- The prompt's rows to carry, as the host lines after the region take them. -/
def OUTP (Y : FVec Ideal S9216x6144 .f32) : FVec Ideal S1x4x3x4096 .f32 :=
  broadcastInDim S1x4x3x4096 ![1, 2, 3] bcast_S4x3x4096_S1x4x3x4096_1_2_3 (extractStridedSlice S4x3x4096 ![0, 2045, 2048] (shapeCast S4x2048x6144 (extractStridedSlice S8192x6144 ![0, 0] Y slices_S9216x6144_S8192x6144_0_0) shapeCasts_S8192x6144_S4x2048x6144) slices_S4x2048x6144_S4x3x4096_0_2045_2048)

/-- The sample's rows to carry, as the host lines after the region take them. -/
def OUTS (Y : FVec Ideal S9216x6144 .f32) : FVec Ideal S1x128x3x4096 .f32 :=
  broadcastInDim S1x128x3x4096 ![1, 2, 3] bcast_S128x3x4096_S1x128x3x4096_1_2_3 (extractStridedSlice S128x3x4096 ![0, 1, 2048] (shapeCast S128x8x6144 (extractStridedSlice S1024x6144 ![8192, 0] Y slices_S9216x6144_S1024x6144_8192_0) shapeCasts_S1024x6144_S128x8x6144) slices_S128x8x6144_S128x3x4096_0_1_2048)

/-- The prompt's rows to carry, at an index. -/
theorem outp_at (Y : FVec Ideal S9216x6144 .f32) (o : Fin 1) (b : Fin 4) (s : Fin 3) (q : Fin 4096) :
    OUTP Y (ix4 o b s q) = Y (ix2 (⟨b.val * 2048 + (2045 + s.val), by omega⟩ : Fin 9216) (⟨2048 + q.val, by omega⟩ : Fin 6144)) := by
  pointwise [OUTP]

/-- The sample's rows to carry, at an index. -/
theorem outs_at (Y : FVec Ideal S9216x6144 .f32) (o : Fin 1) (b : Fin 128) (s : Fin 3) (q : Fin 4096) :
    OUTS Y (ix4 o b s q) = Y (ix2 (⟨8192 + (b.val * 8 + (1 + s.val)), by omega⟩ : Fin 9216) (⟨2048 + q.val, by omega⟩ : Fin 6144)) := by
  pointwise [OUTS]

/-- The projection's column of a convolved channel. -/
theorem seg_at (X : FVec Ideal S9216x4096 .bf16) (W : FVec Ideal S1x4096x22592 .f32) (r : Fin 9216) (q : Fin 4096) (p : Fin 6144) (hp : p.val = 2048 + q.val) :
    SEG X W (ix2 r p) = PROJ X W (ix2 r q) := by
  refine Eq.trans ?_ (proj_at X W r q).symm
  refine Finset.sum_congr rfl fun k _ => Ideal.mul_congr rfl (congrArg (fun z => W (ix3 (0 : Fin 1) k z)) (Fin.ext ?_))
  show 8224 + p.val = 10272 + q.val
  omega

/-- The two prompt results agree. -/
theorem prompt_eq (X : FVec Ideal S9216x4096 .bf16) (W : FVec Ideal S1x4096x22592 .f32) : OUTP (SEG X W) = REFP (PROJ X W) := by
  funext i
  rw [eq_ix4 i]
  exact (outp_at _ (i 0) (i 1) (i 2) (i 3)).trans ((seg_at X W _ (i 3) _ rfl).trans (refp_at _ (i 0) (i 1) (i 2) (i 3)).symm)

/-- The two sample results agree. -/
theorem sample_eq (X : FVec Ideal S9216x4096 .bf16) (W : FVec Ideal S1x4096x22592 .f32) (C : FVec Ideal S1x128x3x4096 .f32) : OUTS (SEG X W) = REFS (PROJ X W) C := by
  funext i
  rw [eq_ix4 i]
  exact (outs_at _ (i 0) (i 1) (i 2) (i 3)).trans ((seg_at X W _ (i 3) _ rfl).trans (refs_at _ C (i 0) (i 1) (i 2) (i 3)).symm)

variable (m : (ℓ : Loc nD τ sig) → Buf (Elt Ideal) ℓ)

/-- Where each window's block lies at grid point `t`. -/
theorem idx : ∀ t : Fin cfg0.N, win0_0.index t = ![t.val % 18, 0] ∧ win0_1.index t = ![0, t.val / 18] ∧ win0_2.index t = ![t.val % 18, t.val / 18] :=
  (by decide +kernel : ∀ t : Fin grid0.N, _)

/-- The weights' columns, cast. -/
def WTS (W : FVec Ideal S1x4096x22592 .f32) : FVec Ideal S4096x6144 .bf16 :=
  truncf (F := Ideal) .bf16 (extractStridedSlice S4096x6144 ![0, 8224] (shapeCast S4096x22592 W shapeCasts_S1x4096x22592_S4096x22592) slices_S4096x22592_S4096x6144_0_8224) bitsLt_bf16_f32

/-- The weights as the region finds them. -/
theorem entry1 (c : Dev nD) : V m c main_v2 = WTS (m ((c : Thread nD τ).loc main_arg1)) := by
  show StableHlo.after (List.flatten [hostOps0]) (fun b => m (c, b)) (Proc.devRef .tc main_v2) = _
  simp only [List.flatten_cons, List.flatten_nil, List.append_nil]
  after_results; try rfl

/-- The weights at an index. -/
theorem weights_at (W : FVec Ideal S1x4096x22592 .f32) (k : Fin 4096) (q : Fin 6144) :
    WTS W (ix2 k q) = W (ix3 (0 : Fin 1) k (⟨8224 + q.val, by omega⟩ : Fin 22592)) := by
  pointwise [WTS]

/-- A block of the rows, read at an index, is an element of the argument. -/
theorem blk0 (c : Dev nD) (t : Fin cfg0.N) (a : Fin 512) (k : Fin 4096) (r : Fin 9216) (hr : r.val = t.val % 18 * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the weights, read at an index, is an element of the argument. -/
theorem blk1 (c : Dev nD) (t : Fin cfg0.N) (k : Fin 4096) (b : Fin 1024) (q : Fin 6144) (hq : q.val = t.val / 18 * 1024 + b.val) :
    iblk m c 1 t (ix2 k b) = m ((c : Thread nD τ).loc main_arg1) (ix3 (0 : Fin 1) k (⟨8224 + q.val, by omega⟩ : Fin 22592)) := by
  have h : iblk m c 1 t (ix2 k b) = V m c main_v2 (ix2 k q) := by blk_ext [iblk, idx t, hq]
  exact h.trans ((congrFun (entry1 m c) _).trans (weights_at _ k q))

/-- The body's payload at an index: a sum of products over the contraction. -/
theorem pay_at (x : FVec Ideal S512x4096 .bf16) (w : FVec Ideal S4096x1024 .bf16) (a : Fin 512) (b : Fin 1024) :
    k0_pay1 (F := Ideal) x w (ix2 a b) = ∑ k : Fin 4096, x (ix2 a k) * w (ix2 k b) := by
  pointwise [k0_pay1]

/-- What the body stores at a block index is the product at the array index it lands on. -/
theorem point (c : Dev nD) (t : Fin cfg0.N) (y : S512x1024.Idx) (i : S9216x6144.Idx)
    (h0 : (i 0).val = t.val % 18 * 512 + (y 0).val) (h1 : (i 1).val = t.val / 18 * 1024 + (y 1).val) :
    k0_pay1 (F := Ideal) (iblk m c 0 t) (iblk m c 1 t) y
      = SEG (m ((c : Thread nD τ).loc main_arg0)) (m ((c : Thread nD τ).loc main_arg1)) i := by
  rw [eq_ix2 y]
  refine (pay_at _ _ (y 0) (y 1)).trans ?_
  exact Finset.sum_congr rfl fun k _ => Ideal.mul_congr (blk0 m c t _ k _ h0) (blk1 m c t k _ _ h1)

/-- The rows after the region. -/
theorem final (c : Dev nD) : (dats m 0 c).arrAt 2 (cfgs 0).N
    = SEG (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y _ (by blk_simp [idx t]) (by blk_simp [idx t])

/-- The prompt's result after the host lines that follow the region. -/
theorem tail_prompt (c : Dev nD) : Pipeline.afterTail₀ cfgs (dats m) 0 (V0 m) [hostOps1] c main_v7 = OUTP ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v3) = (dats m 0 c).arrAt 2 (cfgs 0).N :=
    Pipeline.withArrays_arr (cfgs 0).spec (by decide) c (V0 m c) _ 2
  after_results
  rw [h]; rfl

/-- The sample's result after the host lines that follow the region. -/
theorem tail_sample (c : Dev nD) : Pipeline.afterTail₀ cfgs (dats m) 0 (V0 m) [hostOps1] c main_v12 = OUTS ((dats m 0 c).arrAt 2 (cfgs 0).N) := by
  unfold Pipeline.afterTail₀
  simp only [List.flatten_cons, List.flatten_nil, List.append_nil]
  have h : (Pipeline.withArrays (cfgs 0).spec c (V0 m c) fun w => (dats m 0 c).arrAt w (cfgs 0).N) (Proc.devRef .tc main_v3) = (dats m 0 c).arrAt 2 (cfgs 0).N :=
    Pipeline.withArrays_arr (cfgs 0).spec (by decide) c (V0 m c) _ 2
  after_results
  rw [h]; rfl

/-- The run, with both results named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v7) = OUTP (SEG (m ((c : Thread nD τ).loc main_arg0)) (m ((c : Thread nD τ).loc main_arg1)))
      ∧ r.2.mem ((c : Thread nD τ).loc main_v12) = OUTS (SEG (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c =>
      ⟨((h.1 c).2 main_v7 (Pipeline.mem_restRefs_of main_v7 (by decide) (by decide))).trans ((tail_prompt m c).trans (congrArg OUTP (final m c))),
       ((h.1 c).2 main_v12 (Pipeline.mem_restRefs_of main_v12 (by decide) (by decide))).trans ((tail_sample m c).trans (congrArg OUTS (final m c))),
       h.2 c⟩)
    (θ_run_and (run_main m ρ) (unchanged m ρ))

end Cert.SsmConvStateValue

namespace Cert.Proof.SsmConvStateClaims

/-- The host reference runs and leaves every semaphore at zero. -/
theorem frame_ref : Cert.quiescent_SsmConvStateRefIdeal := fun m ρ _ =>
  (θ_run Cert.SsmConvStateRefIdeal.defs _ _).mono (fun r h => ⟨fun c => (h c).2.2,
      Idealize.ShloMosaic.sem_eq_zero_of_no_sems (by decide) r.2⟩)
    (Cert.SsmConvStateRefIdeal.Value.run (F := Ideal) m ρ)

/-- The kernel and the reference end with equal results. -/
theorem algebraic : Cert.algebraic_SsmConvStateIdeal_SsmConvStateRefIdeal := fun m ρ m' ρ' _ hag =>
  ⟨_, _, Cert.SsmConvStateValue.run m ρ,
   (θ_run _ _ _).mono (fun r h c => ⟨(h c).1.trans (by
      rw [(hag c).1, (hag c).2.1]; exact (Cert.SsmConvStateValue.prompt_eq _ _).symm), (h c).2.1.trans (by
      rw [(hag c).1, (hag c).2.1, (hag c).2.2]; exact (Cert.SsmConvStateValue.sample_eq _ _ _).symm), (h c).2.2⟩)
     (Cert.SsmConvStateRefIdeal.Value.run (F := Ideal) m' ρ')⟩

end Cert.Proof.SsmConvStateClaims

end
-- ==== Proof.SsmConv.lean ====
/- The prompt's state-space convolution: four taps down each channel, a bias, and the gate of the sum by its own logistic. -/
module

public import proofs.«01_k».proof.Defs
public import proofs.«01_k».proof.Proof.Gen.SsmConv.Frame
public import proofs.«01_k».proof.Proof.Gen.SsmConvIdeal.Value
public import proofs.«01_k».proof.Proof.Gen.SsmConvRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SsmConvTaps

/-- One result of the convolution: four taps with their weights and the bias, gated by its own logistic. -/
def GATE (t0 t1 t2 t3 w0 w1 w2 w3 b : EReal) : EReal :=
  (t0 * w0 + t1 * w1 + t2 * w2 + t3 * w3 + b) * Ideal.div 1 (1 + Ideal.exp (-(t0 * w0 + t1 * w1 + t2 * w2 + t3 * w3 + b)))

section
open Cert.SsmConvRefIdeal Cert.SsmConvRefIdeal.Gen

/-- The sequences with three rows of zeros before each. -/
def FULL (X : FVec Ideal S9216x6144 .f32) : FVec Ideal S4x2051x4096 .f32 :=
  concatenate S4x2051x4096 1 [⟨S4x3x4096, (broadcastInDim S4x3x4096 ![] bcast_S_S4x3x4096 (constant S_ .f32 0x00000000#32))⟩, ⟨S4x2048x4096, (shapeCast _ (extractStridedSlice S8192x4096 ![0, 2048] X slices_S9216x6144_S8192x4096_0_2048) shapeCasts_S8192x4096_S4x2048x4096)⟩] concatenates_S4x3x4096_S4x2048x4096_S4x2051x4096_d1

/-- The weighted taps' sum with the bias. -/
def SUM (F : FVec Ideal S4x2051x4096 .f32) (W : FVec Ideal S1x4x4096 .f32) (B : FVec Ideal S1x4096 .f32) : FVec Ideal S4x2048x4096 .f32 :=
  addf (addf (addf (addf (addf (broadcastInDim S4x2048x4096 ![] bcast_S_S4x2048x4096 (constant S_ .f32 0x00000000#32)) (mulf (extractStridedSlice S4x2048x4096 ![0, 0, 0] F slices_S4x2051x4096_S4x2048x4096_0_0_0) (broadcastInDim S4x2048x4096 ![0, 1, 2] bcast_S1x1x4096_S4x2048x4096_0_1_2 (broadcastInDim S1x1x4096 ![2] bcast_S4096_S1x1x4096_2 (shapeCast _ (extractStridedSlice S1x4096 ![0, 0] (shapeCast _ W shapeCasts_S1x4x4096_S4x4096) slices_S4x4096_S1x4096_0_0) shapeCasts_S1x4096_S4096))))) (mulf (extractStridedSlice S4x2048x4096 ![0, 1, 0] F slices_S4x2051x4096_S4x2048x4096_0_1_0) (broadcastInDim S4x2048x4096 ![0, 1, 2] bcast_S1x1x4096_S4x2048x4096_0_1_2 (broadcastInDim S1x1x4096 ![2] bcast_S4096_S1x1x4096_2 (shapeCast _ (extractStridedSlice S1x4096 ![1, 0] (shapeCast _ W shapeCasts_S1x4x4096_S4x4096) slices_S4x4096_S1x4096_1_0) shapeCasts_S1x4096_S4096))))) (mulf (extractStridedSlice S4x2048x4096 ![0, 2, 0] F slices_S4x2051x4096_S4x2048x4096_0_2_0) (broadcastInDim S4x2048x4096 ![0, 1, 2] bcast_S1x1x4096_S4x2048x4096_0_1_2 (broadcastInDim S1x1x4096 ![2] bcast_S4096_S1x1x4096_2 (shapeCast _ (extractStridedSlice S1x4096 ![2, 0] (shapeCast _ W shapeCasts_S1x4x4096_S4x4096) slices_S4x4096_S1x4096_2_0) shapeCasts_S1x4096_S4096))))) (mulf (extractStridedSlice S4x2048x4096 ![0, 3, 0] F slices_S4x2051x4096_S4x2048x4096_0_3_0) (broadcastInDim S4x2048x4096 ![0, 1, 2] bcast_S1x1x4096_S4x2048x4096_0_1_2 (broadcastInDim S1x1x4096 ![2] bcast_S4096_S1x1x4096_2 (shapeCast _ (extractStridedSlice S1x4096 ![3, 0] (shapeCast _ W shapeCasts_S1x4x4096_S4x4096) slices_S4x4096_S1x4096_3_0) shapeCasts_S1x4096_S4096))))) (broadcastInDim S4x2048x4096 ![0, 1, 2] bcast_S1x1x4096_S4x2048x4096_0_1_2 (broadcastInDim S1x1x4096 ![2] bcast_S4096_S1x1x4096_2 (shapeCast _ B shapeCasts_S1x4096_S4096)))

/-- The gate by the logistic. -/
def SILU (S : FVec Ideal S4x2048x4096 .f32) : FVec Ideal S8192x4096 .f32 :=
  shapeCast _ (mulf S (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf S))))) shapeCasts_S4x2048x4096_S8192x4096

/-- What the reference computes, over its arguments. -/
def REF (X : FVec Ideal S9216x6144 .f32) (W : FVec Ideal S1x4x4096 .f32) (B : FVec Ideal S1x4096 .f32) : FVec Ideal S8192x4096 .f32 :=
  SILU (SUM (FULL X) W B)

/-- A tap: zero in the three rows before the sequence, a row of the sequence after them. -/
def TAP (X : FVec Ideal S9216x6144 .f32) (b : Fin 4) (s : Fin 2051) (q : Fin 4096) : EReal :=
  if h : s.val < 3 then 0 else X (ix2 (⟨b.val * 2048 + (s.val - 3), by omega⟩ : Fin 9216) (⟨2048 + q.val, by omega⟩ : Fin 6144))

/-- A row of the padded sequences. -/
theorem full_at (X : FVec Ideal S9216x6144 .f32) (b : Fin 4) (s : Fin 2051) (q : Fin 4096) : FULL X (ix3 b s q) = TAP X b s q := by
  pointwise [FULL, TAP]

/-- The sum at an index. -/
theorem sum_at (F : FVec Ideal S4x2051x4096 .f32) (W : FVec Ideal S1x4x4096 .f32) (B : FVec Ideal S1x4096 .f32) (b : Fin 4) (s : Fin 2048) (q : Fin 4096) :
    SUM F W B (ix3 b s q) = F (ix3 b (⟨s.val, by omega⟩ : Fin 2051) q) * W (ix3 (0 : Fin 1) (0 : Fin 4) q) + F (ix3 b (⟨1 + s.val, by omega⟩ : Fin 2051) q) * W (ix3 (0 : Fin 1) (1 : Fin 4) q)
      + F (ix3 b (⟨2 + s.val, by omega⟩ : Fin 2051) q) * W (ix3 (0 : Fin 1) (2 : Fin 4) q) + F (ix3 b (⟨3 + s.val, by omega⟩ : Fin 2051) q) * W (ix3 (0 : Fin 1) (3 : Fin 4) q) + B (ix2 (0 : Fin 1) q) := by
  pointwise [SUM]

/-- The gate at an index. -/
theorem silu_at (S : FVec Ideal S4x2048x4096 .f32) (b : Fin 4) (s : Fin 2048) (q : Fin 4096) :
    SILU S (ix2 (⟨b.val * 2048 + s.val, by omega⟩ : Fin 8192) q) = S (ix3 b s q) * Ideal.div 1 (1 + Ideal.exp (-S (ix3 b s q))) := by
  pointwise [SILU]

/-- The reference at an index. -/
theorem ref_at (X : FVec Ideal S9216x6144 .f32) (W : FVec Ideal S1x4x4096 .f32) (B : FVec Ideal S1x4096 .f32) (b : Fin 4) (s : Fin 2048) (q : Fin 4096) :
    REF X W B (ix2 (⟨b.val * 2048 + s.val, by omega⟩ : Fin 8192) q)
      = GATE (TAP X b (⟨s.val, by omega⟩ : Fin 2051) q) (TAP X b (⟨1 + s.val, by omega⟩ : Fin 2051) q) (TAP X b (⟨2 + s.val, by omega⟩ : Fin 2051) q) (TAP X b (⟨3 + s.val, by omega⟩ : Fin 2051) q)
          (W (ix3 (0 : Fin 1) (0 : Fin 4) q)) (W (ix3 (0 : Fin 1) (1 : Fin 4) q)) (W (ix3 (0 : Fin 1) (2 : Fin 4) q)) (W (ix3 (0 : Fin 1) (3 : Fin 4) q)) (B (ix2 (0 : Fin 1) q)) := by
  refine (silu_at _ b s q).trans ?_
  rw [sum_at]
  simp only [full_at]
  rfl

end

open Cert.SsmConvIdeal Cert.SsmConvIdeal.Gen

/-- The staging rows: carried rows ending just above row 8, the block's rows from row 8 on. -/
def STG (n p : ℕ) (P : FVec Ideal ⟨2, ![n, 512]⟩ .f32) (X : FVec Ideal S512x512 .f32) (r : ℕ) (b : Fin 512) : EReal :=
  if h : 8 ≤ r ∧ r - 8 < 512 then X (ix2 (⟨r - 8, h.2⟩ : Fin 512) b)
  else if h : p ≤ r ∧ r - p < n then P (ix2 (⟨r - p, h.2⟩ : Fin n) b) else 0

/-- A load of 512 rows from the staging rows, after the carried rows and the block were stored. -/
theorem read_staged (n p : ℕ) (hp : p + n = 8) (hn : 3 ≤ n) (P : FVec Ideal ⟨2, ![n, 512]⟩ .f32) (X : FVec Ideal S512x512 .f32)
    (inp : ∀ a, (![p, 0] : Fin 2 → ℕ) a + (![n, 512] : Fin 2 → ℕ) a ≤ S520x512.size a)
    (o : ℕ) (inb : ∀ a, (![o, 0] : Fin 2 → ℕ) a + (![512, 512] : Fin 2 → ℕ) a ≤ S520x512.size a) (ho : 5 ≤ o) (j : S512x512.Idx) :
    (View.whole cc0_scratch0).readCov (Val := Elt Ideal) [⟨Rect.unit ![p, 0] ![n, 512] inp, P⟩, ⟨Rect.unit ![8, 0] ![512, 512] inb_S520x512_S512x512_8_0, X⟩]
      (Rect.unit (s := S520x512) ![o, 0] ![512, 512] inb).toLoadRect j
    = STG n p P X (o + (j 0).val) (j 1) := by
  have hb : o + 512 ≤ 520 := inb 0
  rw [View.readCov_eq_canon']
  refine (View.canon_apply_of_pieces (Val := Elt Ideal) (e := .f32) (fun y : S520x512.Idx => STG n p P X (y 0).val (y 1)) _ ?_ _ ?_).trans ?_
  · intro pc hpc x
    simp only [List.mem_cons, List.not_mem_nil, or_false] at hpc
    rcases hpc with rfl | rfl
    · have h0 : (x 0).val < n := (x 0).isLt
      have e0 : ((Rect.unit (s := S520x512) ![p, 0] ![n, 512] inp).emb x 0).val = p + (x 0).val := by
        rw [Rect.emb_apply]; show p + 1 * (x 0).val = _; omega
      have e1 : ((Rect.unit (s := S520x512) ![p, 0] ![n, 512] inp).emb x 1) = x 1 := Fin.ext (by
        rw [Rect.emb_apply]; show 0 + 1 * (x 1).val = _; omega)
      dsimp only
      rw [e0, e1]
      unfold STG
      rw [dif_neg (by omega), dif_pos (by omega)]
      refine congrArg P ((eq_ix2 x).trans (congrArg (fun r => ix2 r (x 1)) (Fin.ext ?_)))
      show (x 0).val = p + (x 0).val - p
      omega
    · have h0 : (x 0).val < 512 := (x 0).isLt
      have e0 : ((Rect.unit (s := S520x512) ![8, 0] ![512, 512] inb_S520x512_S512x512_8_0).emb x 0).val = 8 + (x 0).val := by
        rw [Rect.emb_apply]; show 8 + 1 * (x 0).val = _; omega
      have e1 : ((Rect.unit (s := S520x512) ![8, 0] ![512, 512] inb_S520x512_S512x512_8_0).emb x 1) = x 1 := Fin.ext (by
        rw [Rect.emb_apply]; show 0 + 1 * (x 1).val = _; omega)
      dsimp only
      rw [e0, e1]
      unfold STG
      rw [dif_pos (by omega)]
      refine congrArg X ((eq_ix2 x).trans (congrArg (fun r => ix2 r (x 1)) (Fin.ext ?_)))
      show (x 0).val = 8 + (x 0).val - 8
      omega
  · have h0 : (j 0).val < 512 := (j 0).isLt
    have h1 : (j 1).val < 512 := (j 1).isLt
    have e0 : ((Rect.unit (s := S520x512) ![o, 0] ![512, 512] inb).idx j 0).val = o + (j 0).val := by
      show o + 1 * (j 0).val = _; omega
    have e1 : ((Rect.unit (s := S520x512) ![o, 0] ![512, 512] inb).idx j 1).val = (j 1).val := by
      show 0 + 1 * (j 1).val = _; omega
    by_cases h : o + (j 0).val < 8
    · refine ⟨_, List.mem_cons_self, (Rect.mem_set_unit (inb := inp)).mpr fun a => ?_⟩
      match a with
      | ⟨0, _⟩ => exact ⟨show p ≤ ((Rect.unit (s := S520x512) ![o, 0] ![512, 512] inb).idx j 0).val by omega, show ((Rect.unit (s := S520x512) ![o, 0] ![512, 512] inb).idx j 0).val < p + n by omega⟩
      | ⟨1, _⟩ => exact ⟨Nat.zero_le _, show ((Rect.unit (s := S520x512) ![o, 0] ![512, 512] inb).idx j 1).val < 0 + 512 by omega⟩
    · refine ⟨_, List.mem_cons_of_mem _ List.mem_cons_self, (Rect.mem_set_unit (inb := inb_S520x512_S512x512_8_0)).mpr fun a => ?_⟩
      match a with
      | ⟨0, _⟩ => exact ⟨show 8 ≤ ((Rect.unit (s := S520x512) ![o, 0] ![512, 512] inb).idx j 0).val by omega, show ((Rect.unit (s := S520x512) ![o, 0] ![512, 512] inb).idx j 0).val < 8 + 512 by omega⟩
      | ⟨1, _⟩ => exact ⟨Nat.zero_le _, show ((Rect.unit (s := S520x512) ![o, 0] ![512, 512] inb).idx j 1).val < 0 + 512 by omega⟩
  · have e0 : ((Rect.unit (s := S520x512) ![o, 0] ![512, 512] inb).idx j 0).val = o + (j 0).val := by
      show o + 1 * (j 0).val = _; omega
    have e1 : ((Rect.unit (s := S520x512) ![o, 0] ![512, 512] inb).idx j 1) = j 1 := Fin.ext (by
      show 0 + 1 * (j 1).val = _; omega)
    rw [e0, e1]

/-- The body's arithmetic at an index, from the four loads of the staging rows. -/
theorem pay_at (l0 l1 l2 l3 : FVec Ideal S512x512 .f32) (w0 w1 w2 w3 b : FVec Ideal S1x512 .f32) (a q : Fin 512) :
    k0_pay1 (F := Ideal) (k0_pay5 l0 w0 l1 w1 l2 w2) l3 (k0_pay6 w3) b (ix2 a q)
      = GATE (l0 (ix2 a q)) (l1 (ix2 a q)) (l2 (ix2 a q)) (l3 (ix2 a q)) (w0 (ix2 (0 : Fin 1) q)) (w1 (ix2 (0 : Fin 1) q)) (w2 (ix2 (0 : Fin 1) q)) (w3 (ix2 (0 : Fin 1) q)) (b (ix2 (0 : Fin 1) q)) := by
  pointwise [k0_pay1, k0_pay5, k0_pay6, GATE]
  rw [zero_sub]

/-- The stored block of rows is the rows loaded. -/
theorem pay2_eq (x : FVec Ideal S512x512 .f32) : k0_pay2 (F := Ideal) x = x := by
  funext i; rw [eq_ix2 i]; pointwise [k0_pay2]

/-- The stored carried rows are the three rows loaded. -/
theorem pay3_at (x : FVec Ideal S1x3x512 .f32) (a : Fin 3) (b : Fin 512) : k0_pay3 (F := Ideal) x (ix2 a b) = x (ix3 (0 : Fin 1) a b) := by
  pointwise [k0_pay3]

/-- The stored carried rows are the eight rows loaded. -/
theorem pay4_eq (x : FVec Ideal S8x512 .f32) : k0_pay4 (F := Ideal) x = x := by
  funext i; rw [eq_ix2 i]; pointwise [k0_pay4]

variable (m : (ℓ : Loc nD τ sig) → Buf (Elt Ideal) ℓ)

/-- A block's result from its input blocks and the carried rows before it. -/
def BLK (n p : ℕ) (P : FVec Ideal ⟨2, ![n, 512]⟩ .f32) (X : FVec Ideal S512x512 .f32) (W : FVec Ideal S4x512 .f32) (B : FVec Ideal S1x512 .f32) (a q : Fin 512) : EReal :=
  GATE (STG n p P X (5 + a.val) q) (STG n p P X (6 + a.val) q) (STG n p P X (7 + a.val) q) (STG n p P X (8 + a.val) q)
    (W (ix2 (0 : Fin 4) q)) (W (ix2 (1 : Fin 4) q)) (W (ix2 (2 : Fin 4) q)) (W (ix2 (3 : Fin 4) q)) (B (ix2 (0 : Fin 1) q))

/-- A sequence's first block: the carried rows are the state's. -/
theorem point_first (c : Dev nD) (t : Fin cfg0.N) (h0 : t.val / 8 % 4 = 0) (h1 : ¬1 ≤ t.val / 8 % 4) (a q : Fin 512) :
    outsAt0 m c t.val t.isLt (ix2 a q) = BLK 3 5 (k0_pay3 (F := Ideal) (iblk m c 2 t)) (iblk m c 0 t) (iblk m c 3 t) (iblk m c 4 t) a q := by
  rw [outsAt0_A m c t h0 h1]; frame_out
  rw [pay2_eq]
  refine (pay_at _ _ _ _ _ _ _ _ _ a q).trans ?_
  rw [read_staged 3 5 rfl (le_refl _) _ _ _ 5 _ (by decide), read_staged 3 5 rfl (le_refl _) _ _ _ 6 _ (by decide), read_staged 3 5 rfl (le_refl _) _ _ _ 7 _ (by decide), read_staged 3 5 rfl (le_refl _) _ _ _ 8 _ (by decide)]
  pointwise [BLK]

/-- A later block: the carried rows are the eight rows before it. -/
theorem point_later (c : Dev nD) (t : Fin cfg0.N) (h0 : ¬t.val / 8 % 4 = 0) (h1 : 1 ≤ t.val / 8 % 4) (a q : Fin 512) :
    outsAt0 m c t.val t.isLt (ix2 a q) = BLK 8 0 (iblk m c 1 t) (iblk m c 0 t) (iblk m c 3 t) (iblk m c 4 t) a q := by
  rw [outsAt0_B m c t h0 h1]; frame_out
  rw [pay2_eq, pay4_eq]
  refine (pay_at _ _ _ _ _ _ _ _ _ a q).trans ?_
  rw [read_staged 8 0 rfl (by decide) _ _ _ 5 _ (by decide), read_staged 8 0 rfl (by decide) _ _ _ 6 _ (by decide), read_staged 8 0 rfl (by decide) _ _ _ 7 _ (by decide), read_staged 8 0 rfl (by decide) _ _ _ 8 _ (by decide)]
  pointwise [BLK]

/-- Where each window's block lies at grid point `t`. -/
theorem idx : ∀ t : Fin cfg0.N, win0_0.index t = ![t.val / 8, 4 + t.val % 8] ∧ win0_1.index t = ![t.val / 8 * 64 - 1, 4 + t.val % 8] ∧ win0_2.index t = ![t.val / 32, 0, t.val % 8]
    ∧ win0_3.index t = ![0, t.val % 8] ∧ win0_4.index t = ![0, t.val % 8] ∧ win0_5.index t = ![t.val / 8, t.val % 8] :=
  (by decide +kernel : ∀ t : Fin grid0.N, _)

/-- The state as the region finds it: zeros. -/
theorem entry2 (c : Dev nD) : V m c main_v0 = broadcastInDim S4x3x4096 ![] bcast_S_S4x3x4096 (constant (F := Ideal) S_ .f32 0x00000000#32) := by
  unfold V; after_results; try rfl

/-- The weights as the region finds them. -/
theorem entry3 (c : Dev nD) : V m c main_v1 = shapeCast S4x4096 (m ((c : Thread nD τ).loc main_arg1)) shapeCasts_S1x4x4096_S4x4096 := by
  unfold V; after_results; try rfl

/-- The bias as the region finds it. -/
theorem entry4 (c : Dev nD) : V m c main_v3 = shapeCast S1x4096 (shapeCast S4096 (m ((c : Thread nD τ).loc main_arg2)) shapeCasts_S1x4096_S4096) shapeCasts_S4096_S1x4096 := by
  unfold V; after_results; try rfl

/-- The state at an index. -/
theorem zeros_at (b : Fin 4) (a : Fin 3) (q : Fin 4096) :
    broadcastInDim S4x3x4096 ![] bcast_S_S4x3x4096 (constant (F := Ideal) S_ .f32 0x00000000#32) (ix3 b a q) = (0 : EReal) := by
  pointwise

/-- The weights at an index. -/
theorem weights_at (W : FVec Ideal S1x4x4096 .f32) (k : Fin 4) (q : Fin 4096) :
    shapeCast S4x4096 W shapeCasts_S1x4x4096_S4x4096 (ix2 k q) = W (ix3 (0 : Fin 1) k q) := by
  pointwise

/-- The bias at an index. -/
theorem bias_at (B : FVec Ideal S1x4096 .f32) (q : Fin 4096) :
    shapeCast S1x4096 (shapeCast S4096 B shapeCasts_S1x4096_S4096) shapeCasts_S4096_S1x4096 (ix2 (0 : Fin 1) q) = B (ix2 (0 : Fin 1) q) := by
  pointwise

/-- A block of the rows at an index. -/
theorem blk0 (c : Dev nD) (t : Fin cfg0.N) (a k : Fin 512) (r : Fin 9216) (q : Fin 6144) (hr : r.val = t.val / 8 * 512 + a.val) (hq : q.val = (4 + t.val % 8) * 512 + k.val) :
    iblk m c 0 t (ix2 a k) = m ((c : Thread nD τ).loc main_arg0) (ix2 r q) := by
  have h : iblk m c 0 t (ix2 a k) = V m c main_arg0 (ix2 r q) := by blk_ext [iblk, idx t, hr, hq]
  exact h.trans (congrFun (V_main_arg0 m c) _)

/-- The eight rows before a block at an index. -/
theorem blk1 (c : Dev nD) (t : Fin cfg0.N) (a : Fin 8) (k : Fin 512) (r : Fin 9216) (q : Fin 6144) (hr : r.val = (t.val / 8 * 64 - 1) * 8 + a.val) (hq : q.val = (4 + t.val % 8) * 512 + k.val) :
    iblk m c 1 t (ix2 a k) = m ((c : Thread nD τ).loc main_arg0) (ix2 r q) := by
  have h : iblk m c 1 t (ix2 a k) = V m c main_arg0 (ix2 r q) := by blk_ext [iblk, idx t, hr, hq]
  exact h.trans (congrFun (V_main_arg0 m c) _)

/-- A block of the state at an index. -/
theorem blk2 (c : Dev nD) (t : Fin cfg0.N) (a : Fin 3) (k : Fin 512) : iblk m c 2 t (ix3 (0 : Fin 1) a k) = (0 : EReal) := by
  have ht : t.val < 128 := t.isLt
  have h : iblk m c 2 t (ix3 (0 : Fin 1) a k) = V m c main_v0 (ix3 (⟨t.val / 32, by omega⟩ : Fin 4) a (⟨t.val % 8 * 512 + k.val, by omega⟩ : Fin 4096)) := by blk_ext [iblk, idx t]
  exact h.trans ((congrFun (entry2 m c) _).trans (zeros_at _ _ _))

/-- A block of the weights at an index. -/
theorem blk3 (c : Dev nD) (t : Fin cfg0.N) (a : Fin 4) (k : Fin 512) (q : Fin 4096) (hq : q.val = t.val % 8 * 512 + k.val) :
    iblk m c 3 t (ix2 a k) = m ((c : Thread nD τ).loc main_arg1) (ix3 (0 : Fin 1) a q) := by
  have h : iblk m c 3 t (ix2 a k) = V m c main_v1 (ix2 a q) := by blk_ext [iblk, idx t, hq]
  exact h.trans ((congrFun (entry3 m c) _).trans (weights_at _ _ _))

/-- A block of the bias at an index. -/
theorem blk4 (c : Dev nD) (t : Fin cfg0.N) (k : Fin 512) (q : Fin 4096) (hq : q.val = t.val % 8 * 512 + k.val) :
    iblk m c 4 t (ix2 (0 : Fin 1) k) = m ((c : Thread nD τ).loc main_arg2) (ix2 (0 : Fin 1) q) := by
  have h : iblk m c 4 t (ix2 (0 : Fin 1) k) = V m c main_v3 (ix2 (0 : Fin 1) q) := by blk_ext [iblk, idx t, hq]
  exact h.trans ((congrFun (entry4 m c) _).trans (bias_at _ _))

/-- In a sequence's first block, a staging row is a tap. -/
theorem stage_first (c : Dev nD) (t : Fin cfg0.N) (h0 : t.val / 8 % 4 = 0) (r : ℕ) (hr : 5 ≤ r) (hr' : r < 520) (k : Fin 512) (b : Fin 4) (s : Fin 2051) (q : Fin 4096)
    (hb : b.val = t.val / 32) (hs : s.val = r - 5) (hq : q.val = t.val % 8 * 512 + k.val) :
    STG 3 5 (k0_pay3 (F := Ideal) (iblk m c 2 t)) (iblk m c 0 t) r k = TAP (m ((c : Thread nD τ).loc main_arg0)) b s q := by
  unfold STG TAP
  by_cases h : r < 8
  · rw [dif_neg (by omega), dif_pos (by omega), dif_pos (by omega)]
    exact (pay3_at _ _ _).trans (blk2 m c t _ _)
  · rw [dif_pos (by omega), dif_neg (by omega)]
    exact blk0 m c t _ _ _ _ (show b.val * 2048 + (s.val - 3) = t.val / 8 * 512 + (r - 8) by omega) (show 2048 + q.val = (4 + t.val % 8) * 512 + k.val by omega)

/-- In a later block, a staging row is a tap. -/
theorem stage_later (c : Dev nD) (t : Fin cfg0.N) (h1 : 1 ≤ t.val / 8 % 4) (r : ℕ) (hr : 5 ≤ r) (hr' : r < 520) (k : Fin 512) (b : Fin 4) (s : Fin 2051) (q : Fin 4096)
    (hb : b.val = t.val / 32) (hs : s.val = t.val / 8 % 4 * 512 + (r - 5)) (hq : q.val = t.val % 8 * 512 + k.val) :
    STG 8 0 (iblk m c 1 t) (iblk m c 0 t) r k = TAP (m ((c : Thread nD τ).loc main_arg0)) b s q := by
  unfold STG TAP
  by_cases h : r < 8
  · rw [dif_neg (by omega), dif_pos (by omega), dif_neg (by omega)]
    exact blk1 m c t _ _ _ _ (show b.val * 2048 + (s.val - 3) = (t.val / 8 * 64 - 1) * 8 + (r - 0) by omega) (show 2048 + q.val = (4 + t.val % 8) * 512 + k.val by omega)
  · rw [dif_pos (by omega), dif_neg (by omega)]
    exact blk0 m c t _ _ _ _ (show b.val * 2048 + (s.val - 3) = t.val / 8 * 512 + (r - 8) by omega) (show 2048 + q.val = (4 + t.val % 8) * 512 + k.val by omega)

/-- What the region stores at a block index is the reference's result at the array index it lands on. -/
theorem point (c : Dev nD) (t : Fin cfg0.N) (y : S512x512.Idx) (i : S8192x4096.Idx)
    (h0 : (i 0).val = t.val / 8 * 512 + (y 0).val) (h1 : (i 1).val = t.val % 8 * 512 + (y 1).val) :
    outsAt0 m c t.val t.isLt y = REF (m ((c : Thread nD τ).loc main_arg0)) (m ((c : Thread nD τ).loc main_arg1)) (m ((c : Thread nD τ).loc main_arg2)) i := by
  have ht : t.val < 128 := t.isLt
  have hy0 : (y 0).val < 512 := (y 0).isLt
  have hi : i = ix2 (⟨(⟨t.val / 32, by omega⟩ : Fin 4).val * 2048 + (⟨t.val / 8 % 4 * 512 + (y 0).val, by omega⟩ : Fin 2048).val, by show t.val / 32 * 2048 + (t.val / 8 % 4 * 512 + (y 0).val) < 8192; omega⟩ : Fin 8192) (i 1) :=
    (eq_ix2 i).trans (congrArg (fun r => ix2 r (i 1)) (Fin.ext (by show (i 0).val = t.val / 32 * 2048 + (t.val / 8 % 4 * 512 + (y 0).val); omega)))
  rw [hi]
  refine Eq.trans ?_ (ref_at _ _ _ _ _ (i 1)).symm
  refine (congrArg (outsAt0 m c t.val t.isLt) (eq_ix2 y)).trans ?_
  by_cases hc : t.val / 8 % 4 = 0
  · refine (point_first m c t hc (by omega) (y 0) (y 1)).trans ?_
    unfold BLK
    have st := fun (r : ℕ) (hr : 5 ≤ r) (hr' : r < 520) (s : Fin 2051) (hs : s.val = r - 5) => stage_first m c t hc r hr hr' (y 1) (⟨t.val / 32, by omega⟩ : Fin 4) s (i 1) rfl hs h1
    rw [st (5 + (y 0).val) (by omega) (by omega) (⟨t.val / 8 % 4 * 512 + (y 0).val, by omega⟩ : Fin 2051) (by dsimp only; omega), st (6 + (y 0).val) (by omega) (by omega) (⟨1 + (t.val / 8 % 4 * 512 + (y 0).val), by omega⟩ : Fin 2051) (by dsimp only; omega),
      st (7 + (y 0).val) (by omega) (by omega) (⟨2 + (t.val / 8 % 4 * 512 + (y 0).val), by omega⟩ : Fin 2051) (by dsimp only; omega), st (8 + (y 0).val) (by omega) (by omega) (⟨3 + (t.val / 8 % 4 * 512 + (y 0).val), by omega⟩ : Fin 2051) (by dsimp only; omega),
      blk3 m c t 0 (y 1) (i 1) h1, blk3 m c t 1 (y 1) (i 1) h1, blk3 m c t 2 (y 1) (i 1) h1, blk3 m c t 3 (y 1) (i 1) h1, blk4 m c t (y 1) (i 1) h1]
  · have h1' : 1 ≤ t.val / 8 % 4 := by omega
    refine (point_later m c t hc h1' (y 0) (y 1)).trans ?_
    unfold BLK
    have st := fun (r : ℕ) (hr : 5 ≤ r) (hr' : r < 520) (s : Fin 2051) (hs : s.val = t.val / 8 % 4 * 512 + (r - 5)) => stage_later m c t h1' r hr hr' (y 1) (⟨t.val / 32, by omega⟩ : Fin 4) s (i 1) rfl hs h1
    rw [st (5 + (y 0).val) (by omega) (by omega) (⟨t.val / 8 % 4 * 512 + (y 0).val, by omega⟩ : Fin 2051) (by dsimp only; omega), st (6 + (y 0).val) (by omega) (by omega) (⟨1 + (t.val / 8 % 4 * 512 + (y 0).val), by omega⟩ : Fin 2051) (by dsimp only; omega),
      st (7 + (y 0).val) (by omega) (by omega) (⟨2 + (t.val / 8 % 4 * 512 + (y 0).val), by omega⟩ : Fin 2051) (by dsimp only; omega), st (8 + (y 0).val) (by omega) (by omega) (⟨3 + (t.val / 8 % 4 * 512 + (y 0).val), by omega⟩ : Fin 2051) (by dsimp only; omega),
      blk3 m c t 0 (y 1) (i 1) h1, blk3 m c t 1 (y 1) (i 1) h1, blk3 m c t 2 (y 1) (i 1) h1, blk3 m c t 3 (y 1) (i 1) h1, blk4 m c t (y 1) (i 1) h1]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point m c t y _ (by blk_simp [idx t]) (by blk_simp [idx t])

end Cert.SsmConvTaps

namespace Cert.Proof.SsmConvClaims

/-- The host reference runs and leaves every semaphore at zero. -/
theorem frame_ref : Cert.quiescent_SsmConvRefIdeal := fun m ρ _ =>
  (θ_run Cert.SsmConvRefIdeal.defs _ _).mono (fun r h => ⟨fun c => (h c).2,
      Idealize.ShloMosaic.sem_eq_zero_of_no_sems (by decide) r.2⟩)
    (Cert.SsmConvRefIdeal.Value.run (F := Ideal) m ρ)

/-- The reference's result is the formula over its arguments. -/
theorem ref_eq (m : (ℓ : Loc Cert.SsmConvRefIdeal.nD Cert.SsmConvRefIdeal.τ Cert.SsmConvRefIdeal.sig) → Buf (Elt Ideal) ℓ) (c : Dev Cert.SsmConvRefIdeal.nD) :
    Cert.SsmConvRefIdeal.Value.res_main_v42 m c
      = Cert.SsmConvTaps.REF (m ((c.tc : Thread _ _).loc Cert.SsmConvRefIdeal.main_arg0)) (m ((c.tc : Thread _ _).loc Cert.SsmConvRefIdeal.main_arg1)) (m ((c.tc : Thread _ _).loc Cert.SsmConvRefIdeal.main_arg2)) := by
  unfold Cert.SsmConvRefIdeal.Value.res_main_v42; rfl

/-- The kernel and the reference end with equal results. -/
theorem algebraic : Cert.algebraic_SsmConvIdeal_SsmConvRefIdeal := fun m ρ m' ρ' _ hag =>
  ⟨fun c => Cert.SsmConvTaps.REF (m ((c.tc : Thread _ _).loc Cert.SsmConvIdeal.main_arg0)) (m ((c.tc : Thread _ _).loc Cert.SsmConvIdeal.main_arg1)) (m ((c.tc : Thread _ _).loc Cert.SsmConvIdeal.main_arg2)),
   (θ_run _ _ _).mono (fun r h c => ⟨(h c).1.trans (Cert.SsmConvTaps.final m c), (h c).2⟩)
     (Cert.SsmConvIdeal.Value.run_blocks m ρ),
   (θ_run _ _ _).mono (fun r h c => ⟨(h c).1.trans ((ref_eq m' c).trans (by
      rw [(hag c).1, (hag c).2.1, (hag c).2.2])), (h c).2⟩)
     (Cert.SsmConvRefIdeal.Value.run (F := Ideal) m' ρ')⟩

end Cert.Proof.SsmConvClaims

end
-- ==== Proof.CrossAttention.lean ====
/- The cross attention's heads: every row's weights over its sequence's memory, and the weighted values. -/
module

public import proofs.«01_k».proof.Defs
public import proofs.«01_k».proof.Proof.Gen.CrossAttention.Frame
public import proofs.«01_k».proof.Proof.Gen.CrossAttentionIdeal.Value
public import proofs.«01_k».proof.Proof.Gen.CrossAttentionRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CrossAttentionHeads

/-- One head's result for one row and one lane: `q` the row's query, `k` the memory's keys, `v` the lane of the memory's values. -/
def ATT (q : Fin 256 → EReal) (k : Fin 256 → Fin 256 → EReal) (v : Fin 256 → EReal) : EReal :=
  ∑ j, Ideal.div
      (Ideal.exp ((∑ x, q x * k j x) * Ideal.ofBits FTy.f32 1031798784#32 -
        Finset.fold max (Ideal.ofBits FTy.f32 4286578688#32) (fun j => (∑ x, q x * k j x) * Ideal.ofBits FTy.f32 1031798784#32) Finset.univ))
      (∑ j, Ideal.exp ((∑ x, q x * k j x) * Ideal.ofBits FTy.f32 1031798784#32 -
        Finset.fold max (Ideal.ofBits FTy.f32 4286578688#32) (fun j => (∑ x, q x * k j x) * Ideal.ofBits FTy.f32 1031798784#32) Finset.univ)) * v j

/-- The head's result is a function of its three arguments. -/
theorem att_congr {q q' : Fin 256 → EReal} {k k' : Fin 256 → Fin 256 → EReal} {v v' : Fin 256 → EReal}
    (hq : ∀ x, q x = q' x) (hk : ∀ j x, k j x = k' j x) (hv : ∀ j, v j = v' j) : ATT q k v = ATT q' k' v' := by
  rw [show q = q' from funext hq, show k = k' from funext fun j => funext (hk j), show v = v' from funext hv]

section
open Cert.CrossAttentionRefIdeal Cert.CrossAttentionRefIdeal.Gen

/-- The reference's scores. -/
def SC (Q : FVec Ideal S9216x1024 .f32) (K : FVec Ideal S4x256x4x256 .f32) : FVec Ideal S4x4x2048x256 .f32 :=
  mulf (Host.dotGeneral dot_S4x2048x4x256_S4x256x4x256_S4x4x2048x256_3_3_1_1_02_02 none (shapeCast _ (extractStridedSlice S8192x1024 ![0, 0] Q slices_S9216x1024_S8192x1024_0_0) shapeCasts_S8192x1024_S4x2048x4x256) K) (broadcastInDim S4x4x2048x256 ![] bcast_S_S4x4x2048x256 (constant S_ .f32 0x3D800000#32))

/-- Each row's greatest score. -/
def MX (S : FVec Ideal S4x4x2048x256 .f32) : FVec Ideal S4x4x2048 .f32 :=
  Host.reduce FloatOps.maximumf S (constant S_ .f32 0xFF800000#32) reducesTo_S4x4x2048x256_S4x4x2048_d3 h_S_

/-- The exponentials of the scores less a row's value. -/
def EX (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))

/-- The weighted values, from the exponentials. -/
def WV (E : FVec Ideal S4x4x2048x256 .f32) (V : FVec Ideal S4x256x4x256 .f32) : FVec Ideal S8192x1024 .bf16 :=
  truncf (F := Ideal) .bf16 (shapeCast _ (transpose S4x2048x4x256 [0, 3, 1, 2] (Host.dotGeneral dot_S4x256x4x256_S4x4x2048x256_S4x4x256x2048_1_3_3_2_02_01 none V (Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_))))) transposes_S4x4x256x2048_S4x2048x4x256_0_3_1_2) shapeCasts_S4x2048x4x256_S8192x1024) bitsLt_bf16_f32

/-- What the reference computes, over its arguments. -/
def REF (Q : FVec Ideal S9216x1024 .f32) (K V : FVec Ideal S4x256x4x256 .f32) : FVec Ideal S8192x1024 .bf16 :=
  WV (EX (SC Q K) (MX (SC Q K))) V

/-- A score: the row's query with the key, scaled. -/
theorem sc_at (Q : FVec Ideal S9216x1024 .f32) (K : FVec Ideal S4x256x4x256 .f32) (b : Fin 4) (h : Fin 4) (s : Fin 2048) (j : Fin 256) :
    SC Q K (ix4 b h s j) = (∑ x : Fin 256, Q (ix2 (⟨b.val * 2048 + s.val, by omega⟩ : Fin 9216) (⟨h.val * 256 + x.val, by omega⟩ : Fin 1024)) * K (ix4 b j h x)) * Ideal.ofBits FTy.f32 1031798784#32 := by
  pointwise [SC]

/-- The greatest of a row's scores. -/
theorem mx_at (S : FVec Ideal S4x4x2048x256 .f32) (b : Fin 4) (h : Fin 4) (s : Fin 2048) :
    MX S (ix3 b h s) = Finset.fold max (Ideal.ofBits FTy.f32 4286578688#32) (fun j => S (ix4 b h s j)) Finset.univ := by
  pointwise [MX]

/-- An exponential: the score less the greater of the row's value and the fold's start. -/
theorem ex_at (S : FVec Ideal S4x4x2048x256 .f32) (M : FVec Ideal S4x4x2048 .f32) (b : Fin 4) (h : Fin 4) (s : Fin 2048) (j : Fin 256) :
    EX S M (ix4 b h s j) = Ideal.exp (S (ix4 b h s j) - max (Ideal.ofBits FTy.f32 4286578688#32) (M (ix3 b h s))) := by
  pointwise [EX]

/-- A lane of the weighted values. -/
theorem wv_at (E : FVec Ideal S4x4x2048x256 .f32) (V : FVec Ideal S4x256x4x256 .f32) (b : Fin 4) (h : Fin 4) (s : Fin 2048) (d : Fin 256) :
    WV E V (ix2 (⟨b.val * 2048 + s.val, by omega⟩ : Fin 8192) (⟨h.val * 256 + d.val, by omega⟩ : Fin 1024))
      = ∑ j : Fin 256, V (ix4 b j h d) * Ideal.div (E (ix4 b h s j)) (∑ j, E (ix4 b h s j)) := by
  pointwise [WV]

/-- The greatest score is at least the fold's start. -/
theorem max_fold (z : EReal) (f : Fin 256 → EReal) : max z (Finset.fold max z f Finset.univ) = Finset.fold max z f Finset.univ :=
  max_eq_right ((Finset.le_fold_max z).mpr (Or.inl le_rfl))

/-- The reference at an index is one head's result. -/
theorem ref_at (Q : FVec Ideal S9216x1024 .f32) (K V : FVec Ideal S4x256x4x256 .f32) (b : Fin 4) (h : Fin 4) (s : Fin 2048) (d : Fin 256) :
    REF Q K V (ix2 (⟨b.val * 2048 + s.val, by omega⟩ : Fin 8192) (⟨h.val * 256 + d.val, by omega⟩ : Fin 1024))
      = ATT (fun x => Q (ix2 (⟨b.val * 2048 + s.val, by omega⟩ : Fin 9216) (⟨h.val * 256 + x.val, by omega⟩ : Fin 1024)))
          (fun j x => K (ix4 b j h x)) (fun j => V (ix4 b j h d)) := by
  have he : ∀ j, EX (SC Q K) (MX (SC Q K)) (ix4 b h s j)
      = Ideal.exp (SC Q K (ix4 b h s j) - Finset.fold max (Ideal.ofBits FTy.f32 4286578688#32) (fun j => SC Q K (ix4 b h s j)) Finset.univ) := fun j => by
    rw [ex_at, mx_at, max_fold]
  refine (wv_at _ V b h s d).trans ((Finset.sum_congr rfl fun j _ => mul_comm _ _).trans ?_)
  simp only [he, sc_at]
  rfl

end

open Cert.CrossAttentionIdeal Cert.CrossAttentionIdeal.Gen

/-- The first head's payload. -/
theorem pay2_at (q : FVec Ideal S512x256 .f32) (k v : FVec Ideal S1x256x256 .f32) (a : Fin 512) (d : Fin 256) :
    k0_pay2 (F := Ideal) q k v (ix2 a d) = ATT (fun x => q (ix2 a x)) (fun j x => k (ix3 (0 : Fin 1) j x)) (fun j => v (ix3 (0 : Fin 1) j d)) := by
  pointwise [k0_pay2, ATT]

/-- The second head's payload. -/
theorem pay5_at (q : FVec Ideal S512x256 .f32) (k v : FVec Ideal S1x256x256 .f32) (a : Fin 512) (d : Fin 256) :
    k0_pay5 (F := Ideal) (k0_pay3 q k) (k0_pay4 q k) v (ix2 a d) = ATT (fun x => q (ix2 a x)) (fun j x => k (ix3 (0 : Fin 1) j x)) (fun j => v (ix3 (0 : Fin 1) j d)) := by
  pointwise [k0_pay5, k0_pay3, k0_pay4, ATT]

/-- The third head's payload. -/
theorem pay6_at (q : FVec Ideal S512x256 .f32) (k v : FVec Ideal S1x256x256 .f32) (a : Fin 512) (d : Fin 256) :
    k0_pay6 (F := Ideal) q k v (ix2 a d) = ATT (fun x => q (ix2 a x)) (fun j x => k (ix3 (0 : Fin 1) j x)) (fun j => v (ix3 (0 : Fin 1) j d)) := by
  pointwise [k0_pay6, ATT]

/-- The fourth head's payload. -/
theorem pay1_at (q : FVec Ideal S512x256 .f32) (k v : FVec Ideal S1x256x256 .f32) (a : Fin 512) (d : Fin 256) :
    k0_pay1 (F := Ideal) q k v (ix2 a d) = ATT (fun x => q (ix2 a x)) (fun j x => k (ix3 (0 : Fin 1) j x)) (fun j => v (ix3 (0 : Fin 1) j d)) := by
  pointwise [k0_pay1, ATT]

/-- A block's result: each lane belongs to the head its column falls in. -/
def BLK (q : FVec Ideal S512x1024 .f32) (k v : FVec Ideal S1x256x1024 .f32) (a : Fin 512) (l : Fin 1024) : EReal :=
  ATT (fun x => q (ix2 a (⟨l.val / 256 * 256 + x.val, by omega⟩ : Fin 1024)))
    (fun j x => k (ix3 (0 : Fin 1) j (⟨l.val / 256 * 256 + x.val, by omega⟩ : Fin 1024))) (fun j => v (ix3 (0 : Fin 1) j l))

/-- Two indices of a matrix with equal coordinates. -/
theorem ix2_congr {m n : ℕ} {a a' : Fin m} {b b' : Fin n} (h : a.val = a'.val) (h' : b.val = b'.val) : ix2 a b = ix2 a' b' := by
  rw [Fin.ext h, Fin.ext h']

/-- Two indices of a stack of matrices with equal coordinates. -/
theorem ix3_congr {k m n : ℕ} {o : Fin k} {a a' : Fin m} {b b' : Fin n} (h : a.val = a'.val) (h' : b.val = b'.val) : ix3 o a b = ix3 o a' b' := by
  rw [Fin.ext h, Fin.ext h']

/-- What the four stores leave in the result's block. -/
theorem stored (q : FVec Ideal S512x1024 .f32) (k v : FVec Ideal S1x256x1024 .f32) (y : S512x1024.Idx) :
    out0_3 (F := Ideal) q k v y = BLK q k v (y 0) (y 1) := by
  unfold out0_3
  canon_tiles x h
  all_goals rw [eq_ix2 x]
  · refine (pay1_at _ _ _ (x 0) (x 1)).trans (att_congr (fun l => ?_) (fun j l => ?_) (fun j => ?_)) <;> pointwise [r0_6, r0_7]
    · exact congrArg q (ix2_congr h0.symm (show 768 + l.val = (y 1).val / 256 * 256 + l.val by omega))
    · exact congrArg k (ix3_congr rfl (show 768 + l.val = (y 1).val / 256 * 256 + l.val by omega))
    · exact congrArg v (ix3_congr rfl h1.symm)
  · refine (pay6_at _ _ _ (x 0) (x 1)).trans (att_congr (fun l => ?_) (fun j l => ?_) (fun j => ?_)) <;> pointwise [r0_4, r0_5]
    · exact congrArg q (ix2_congr h0.symm (show 512 + l.val = (y 1).val / 256 * 256 + l.val by omega))
    · exact congrArg k (ix3_congr rfl (show 512 + l.val = (y 1).val / 256 * 256 + l.val by omega))
    · exact congrArg v (ix3_congr rfl h1.symm)
  · refine (pay5_at _ _ _ (x 0) (x 1)).trans (att_congr (fun l => ?_) (fun j l => ?_) (fun j => ?_)) <;> pointwise [r0_2, r0_3]
    · exact congrArg q (ix2_congr h0.symm (show 256 + l.val = (y 1).val / 256 * 256 + l.val by omega))
    · exact congrArg k (ix3_congr rfl (show 256 + l.val = (y 1).val / 256 * 256 + l.val by omega))
    · exact congrArg v (ix3_congr rfl h1.symm)
  · refine (pay2_at _ _ _ (x 0) (x 1)).trans (att_congr (fun l => ?_) (fun j l => ?_) (fun j => ?_)) <;> pointwise [r0_0, r0_1]
    · exact congrArg q (ix2_congr h0.symm (show l.val = (y 1).val / 256 * 256 + l.val by omega))
    · exact congrArg k (ix3_congr rfl (show l.val = (y 1).val / 256 * 256 + l.val by omega))
    · exact congrArg v (ix3_congr rfl h1.symm)

variable (m : (ℓ : Loc nD τ sig) → Buf (Elt Ideal) ℓ)

/-- Where each window's block lies at grid point `t`. -/
theorem idx : ∀ t : Fin cfg0.N, win0_0.index t = ![t.val, 0] ∧ win0_1.index t = ![t.val / 4, 0, 0] ∧ win0_2.index t = ![t.val / 4, 0, 0] ∧ win0_3.index t = ![t.val, 0] :=
  (by decide +kernel : ∀ t : Fin grid0.N, _)

/-- The memory's heads side by side. -/
def FLAT (K : FVec Ideal S4x256x4x256 .f32) : FVec Ideal S4x256x1024 .f32 := shapeCast S4x256x1024 K shapeCasts_S4x256x4x256_S4x256x1024

/-- One lane of the heads side by side. -/
theorem flat_at (K : FVec Ideal S4x256x4x256 .f32) (b : Fin 4) (j : Fin 256) (h : Fin 4) (x : Fin 256) :
    FLAT K (ix3 b j (⟨h.val * 256 + x.val, by omega⟩ : Fin 1024)) = K (ix4 b j h x) := by
  pointwise [FLAT]

/-- The keys as the region finds them. -/
theorem entry1 (c : Dev nD) : V m c main_v0 = FLAT (m ((c : Thread nD τ).loc main_arg1)) := by
  unfold V; after_results; try rfl

/-- The values as the region finds them. -/
theorem entry2 (c : Dev nD) : V m c main_v1 = FLAT (m ((c : Thread nD τ).loc main_arg2)) := by
  unfold V; after_results; try rfl

/-- A block of the queries, read at an index, is an element of the argument. -/
theorem blk0 (c : Dev nD) (t : Fin cfg0.N) (a : Fin 512) (k : Fin 1024) (r : Fin 9216) (hr : r.val = t.val * 512 + a.val) :
    iblk m c 0 t (ix2 a k) = m ((c : Thread nD τ).loc main_arg0) (ix2 r k) := by
  have h : iblk m c 0 t (ix2 a k) = V m c main_arg0 (ix2 r k) := by blk_ext [iblk, idx t, hr]
  exact h.trans (congrFun (V_main_arg0 m c) _)

/-- A block of the keys, read at an index. -/
theorem blk1 (c : Dev nD) (t : Fin cfg0.N) (j : Fin 256) (l : Fin 1024) (b : Fin 4) (h : Fin 4) (x : Fin 256) (hb : b.val = t.val / 4) (hl : l.val = h.val * 256 + x.val) :
    iblk m c 1 t (ix3 (0 : Fin 1) j l) = m ((c : Thread nD τ).loc main_arg1) (ix4 b j h x) := by
  have e : iblk m c 1 t (ix3 (0 : Fin 1) j l) = V m c main_v0 (ix3 b j (⟨h.val * 256 + x.val, by omega⟩ : Fin 1024)) := by blk_ext [iblk, idx t, hb, hl]
  exact e.trans ((congrFun (entry1 m c) _).trans (flat_at _ b j h x))

/-- A block of the values, read at an index. -/
theorem blk2 (c : Dev nD) (t : Fin cfg0.N) (j : Fin 256) (l : Fin 1024) (b : Fin 4) (h : Fin 4) (x : Fin 256) (hb : b.val = t.val / 4) (hl : l.val = h.val * 256 + x.val) :
    iblk m c 2 t (ix3 (0 : Fin 1) j l) = m ((c : Thread nD τ).loc main_arg2) (ix4 b j h x) := by
  have e : iblk m c 2 t (ix3 (0 : Fin 1) j l) = V m c main_v1 (ix3 b j (⟨h.val * 256 + x.val, by omega⟩ : Fin 1024)) := by blk_ext [iblk, idx t, hb, hl]
  exact e.trans ((congrFun (entry2 m c) _).trans (flat_at _ b j h x))

/-- An index of the result, split into sequence, row, head and lane. -/
theorem split (i : S8192x1024.Idx) : ∃ (b : Fin 4) (s : Fin 2048) (h : Fin 4) (d : Fin 256),
    i = ix2 (⟨b.val * 2048 + s.val, by omega⟩ : Fin 8192) (⟨h.val * 256 + d.val, by omega⟩ : Fin 1024) := by
  have h0 : (i 0).val < 8192 := (i 0).isLt
  have h1 : (i 1).val < 1024 := (i 1).isLt
  exact ⟨⟨(i 0).val / 2048, by omega⟩, ⟨(i 0).val % 2048, by omega⟩, ⟨(i 1).val / 256, by omega⟩, ⟨(i 1).val % 256, by omega⟩,
    (eq_ix2 i).trans (ix2_congr (show (i 0).val = (i 0).val / 2048 * 2048 + (i 0).val % 2048 by omega) (show (i 1).val = (i 1).val / 256 * 256 + (i 1).val % 256 by omega))⟩

/-- What the body stores at a block index is the reference's result at the array index it lands on. -/
theorem point (c : Dev nD) (t : Fin cfg0.N) (y : S512x1024.Idx) (i : S8192x1024.Idx)
    (h0 : (i 0).val = t.val * 512 + (y 0).val) (h1 : (i 1).val = (y 1).val) :
    out0_3 (F := Ideal) (iblk m c 0 t) (iblk m c 1 t) (iblk m c 2 t) y
      = REF (m ((c : Thread nD τ).loc main_arg0)) (m ((c : Thread nD τ).loc main_arg1)) (m ((c : Thread nD τ).loc main_arg2)) i := by
  have hy0 : (y 0).val < 512 := (y 0).isLt
  obtain ⟨b, s, h, d, rfl⟩ := split i
  change b.val * 2048 + s.val = _ at h0
  change h.val * 256 + d.val = _ at h1
  refine (stored _ _ _ y).trans (Eq.trans ?_ (ref_at _ _ _ b h s d).symm)
  refine att_congr (fun x => ?_) (fun j x => ?_) (fun j => ?_)
  · refine (blk0 m c t (y 0) _ _ h0).trans (congrArg _ (ix2_congr rfl ?_))
    show (y 1).val / 256 * 256 + x.val = h.val * 256 + x.val
    omega
  · exact blk1 m c t j _ b h x (by omega) (show (y 1).val / 256 * 256 + x.val = h.val * 256 + x.val by omega)
  · exact blk2 m c t j _ b h d (by omega) h1.symm

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y _ (by blk_simp [idx t]) (by blk_simp [idx t])

end Cert.CrossAttentionHeads

namespace Cert.Proof.CrossAttentionClaims

/-- The host reference runs and leaves every semaphore at zero. -/
theorem frame_ref : Cert.quiescent_CrossAttentionRefIdeal := fun m ρ _ =>
  (θ_run Cert.CrossAttentionRefIdeal.defs _ _).mono (fun r h => ⟨fun c => (h c).2,
      Idealize.ShloMosaic.sem_eq_zero_of_no_sems (by decide) r.2⟩)
    (Cert.CrossAttentionRefIdeal.Value.run (F := Ideal) m ρ)

/-- The kernel and the reference end with equal results. -/
theorem algebraic : Cert.algebraic_CrossAttentionIdeal_CrossAttentionRefIdeal := fun m ρ m' ρ' _ hag =>
  ⟨fun c => Cert.CrossAttentionHeads.REF (m ((c.tc : Thread _ _).loc Cert.CrossAttentionIdeal.main_arg0)) (m ((c.tc : Thread _ _).loc Cert.CrossAttentionIdeal.main_arg1)) (m ((c.tc : Thread _ _).loc Cert.CrossAttentionIdeal.main_arg2)),
   (θ_run _ _ _).mono (fun r h c => ⟨(h c).1.trans (Cert.CrossAttentionHeads.final m c), (h c).2⟩)
     (Cert.CrossAttentionIdeal.Value.run_blocks m ρ),
   (θ_run _ _ _).mono (fun r h c => ⟨(h c).1.trans (by
      rw [(hag c).1, (hag c).2.1, (hag c).2.2]; rfl), (h c).2⟩)
     (Cert.CrossAttentionRefIdeal.Value.run (F := Ideal) m' ρ')⟩

end Cert.Proof.CrossAttentionClaims

end
-- ==== Proof.lean ====
module

public import proofs.«01_k».proof.Defs
public import proofs.«01_k».proof.Proof.Gen.Ssd.Frame
public import proofs.«01_k».proof.Proof.Ssd
public import proofs.«01_k».proof.Proof.Gen.SsdSample.Frame
public import proofs.«01_k».proof.Proof.SsdSample
public import proofs.«01_k».proof.Proof.SegA
public import proofs.«01_k».proof.Proof.SegB
public import proofs.«01_k».proof.Proof.SegC
public import proofs.«01_k».proof.Proof.SegD
public import proofs.«01_k».proof.Proof.Merge
public import proofs.«01_k».proof.Proof.OutProj
public import proofs.«01_k».proof.Proof.CrossOut
public import proofs.«01_k».proof.Proof.CrossQuery
public import proofs.«01_k».proof.Proof.PeerQuery
public import proofs.«01_k».proof.Proof.MemoryKeys
public import proofs.«01_k».proof.Proof.MemoryValues
public import proofs.«01_k».proof.Proof.InputNorm
public import proofs.«01_k».proof.Proof.FinalNorm
public import proofs.«01_k».proof.Proof.DnConvState
public import proofs.«01_k».proof.Proof.SsmConvState
public import proofs.«01_k».proof.Proof.SsmConv
public import proofs.«01_k».proof.Proof.CrossAttention
public import Idealize.ShloMosaic.Adequacy
public import Idealize.ShloMosaic.Init
public import Idealize.ShloMosaic.Lib.Claim
public import Idealize.ShloMosaic.Lib.Quiescent

@[expose] public section

noncomputable section

open Idealize.ShloMosaic Idealize.ShloMosaic.TcCoe Idealize.SL.Sem

namespace Cert.Proof

/-- Everything claimed: frames, idealizations, and the values of each call. -/
theorem claim : Cert.Claim := ⟨Cert.Ssd.Gen.facts, Cert.SsdIdeal.Gen.facts, Cert.SsdRefIdeal.Gen.facts,
  Cert.SsdSample.Gen.facts, Cert.SsdSampleIdeal.Gen.facts, Cert.SsdSampleRefIdeal.Gen.facts,
  Cert.SegA.Gen.facts, Cert.SegAIdeal.Gen.facts, Cert.SegARefIdeal.Gen.facts,
  Cert.SegB.Gen.facts, Cert.SegBIdeal.Gen.facts, Cert.SegBRefIdeal.Gen.facts,
  Cert.SegC.Gen.facts, Cert.SegCIdeal.Gen.facts, Cert.SegCRefIdeal.Gen.facts,
  Cert.SegD.Gen.facts, Cert.SegDIdeal.Gen.facts, Cert.SegDRefIdeal.Gen.facts,
  Cert.Merge.Gen.facts, Cert.MergeIdeal.Gen.facts, Cert.MergeRefIdeal.Gen.facts,
  Cert.OutProj.Gen.facts, Cert.OutProjIdeal.Gen.facts, Cert.OutProjRefIdeal.Gen.facts,
  Cert.CrossOut.Gen.facts, Cert.CrossOutIdeal.Gen.facts, Cert.CrossOutRefIdeal.Gen.facts,
  Cert.CrossQuery.Gen.facts, Cert.CrossQueryIdeal.Gen.facts, Cert.CrossQueryRefIdeal.Gen.facts,
  Cert.PeerQuery.Gen.facts, Cert.PeerQueryIdeal.Gen.facts, Cert.PeerQueryRefIdeal.Gen.facts,
  Cert.MemoryKeys.Gen.facts, Cert.MemoryKeysIdeal.Gen.facts, Cert.MemoryKeysRefIdeal.Gen.facts,
  Cert.MemoryValues.Gen.facts, Cert.MemoryValuesIdeal.Gen.facts, Cert.MemoryValuesRefIdeal.Gen.facts,
  Cert.InputNorm.Gen.facts, Cert.InputNormIdeal.Gen.facts, Cert.InputNormRefIdeal.Gen.facts,
  Cert.FinalNorm.Gen.facts, Cert.FinalNormIdeal.Gen.facts, Cert.FinalNormRefIdeal.Gen.facts,
  Cert.DnConvState.Gen.facts, Cert.DnConvStateIdeal.Gen.facts, Cert.DnConvStateRefIdeal.Gen.facts,
  Cert.SsmConvState.Gen.facts, Cert.SsmConvStateIdeal.Gen.facts, Cert.SsmConvStateRefIdeal.Gen.facts,
  Cert.SsmConv.Gen.facts, Cert.SsmConvIdeal.Gen.facts, Cert.SsmConvRefIdeal.Gen.facts,
  Cert.CrossAttention.Gen.facts, Cert.CrossAttentionIdeal.Gen.facts, Cert.CrossAttentionRefIdeal.Gen.facts,
  fun m ρ _ => Cert.Ssd.Gen.frame m ρ, fun m ρ _ => Cert.SsdIdeal.Gen.frame m ρ, SsdClaims.frame_ref,
  fun m ρ _ => Cert.SsdSample.Gen.frame m ρ, fun m ρ _ => Cert.SsdSampleIdeal.Gen.frame m ρ, SsdSampleClaims.frame_ref,
  fun m ρ _ => Cert.SegA.Gen.frame m ρ, fun m ρ _ => Cert.SegAIdeal.Gen.frame m ρ, SegAClaims.frame_ref,
  fun m ρ _ => Cert.SegB.Gen.frame m ρ, fun m ρ _ => Cert.SegBIdeal.Gen.frame m ρ, SegBClaims.frame_ref,
  fun m ρ _ => Cert.SegC.Gen.frame m ρ, fun m ρ _ => Cert.SegCIdeal.Gen.frame m ρ, SegCClaims.frame_ref,
  fun m ρ _ => Cert.SegD.Gen.frame m ρ, fun m ρ _ => Cert.SegDIdeal.Gen.frame m ρ, SegDClaims.frame_ref,
  fun m ρ _ => Cert.Merge.Gen.frame m ρ, fun m ρ _ => Cert.MergeIdeal.Gen.frame m ρ, MergeClaims.frame_ref,
  fun m ρ _ => Cert.OutProj.Gen.frame m ρ, fun m ρ _ => Cert.OutProjIdeal.Gen.frame m ρ, OutProjClaims.frame_ref,
  fun m ρ _ => Cert.CrossOut.Gen.frame m ρ, fun m ρ _ => Cert.CrossOutIdeal.Gen.frame m ρ, CrossOutClaims.frame_ref,
  fun m ρ _ => Cert.CrossQuery.Gen.frame m ρ, fun m ρ _ => Cert.CrossQueryIdeal.Gen.frame m ρ, CrossQueryClaims.frame_ref,
  fun m ρ _ => Cert.PeerQuery.Gen.frame m ρ, fun m ρ _ => Cert.PeerQueryIdeal.Gen.frame m ρ, PeerQueryClaims.frame_ref,
  fun m ρ _ => Cert.MemoryKeys.Gen.frame m ρ, fun m ρ _ => Cert.MemoryKeysIdeal.Gen.frame m ρ, MemoryKeysClaims.frame_ref,
  fun m ρ _ => Cert.MemoryValues.Gen.frame m ρ, fun m ρ _ => Cert.MemoryValuesIdeal.Gen.frame m ρ, MemoryValuesClaims.frame_ref,
  fun m ρ _ => Cert.InputNorm.Gen.frame m ρ, fun m ρ _ => Cert.InputNormIdeal.Gen.frame m ρ, InputNormClaims.frame_ref,
  fun m ρ _ => Cert.FinalNorm.Gen.frame m ρ, fun m ρ _ => Cert.FinalNormIdeal.Gen.frame m ρ, FinalNormClaims.frame_ref,
  fun m ρ _ => Cert.DnConvState.Gen.frame m ρ, fun m ρ _ => Cert.DnConvStateIdeal.Gen.frame m ρ, DnConvStateClaims.frame_ref,
  fun m ρ _ => Cert.SsmConvState.Gen.frame m ρ, fun m ρ _ => Cert.SsmConvStateIdeal.Gen.frame m ρ, SsmConvStateClaims.frame_ref,
  fun m ρ _ => Cert.SsmConv.Gen.frame m ρ, fun m ρ _ => Cert.SsmConvIdeal.Gen.frame m ρ, SsmConvClaims.frame_ref,
  fun m ρ _ => Cert.CrossAttention.Gen.frame m ρ, fun m ρ _ => Cert.CrossAttentionIdeal.Gen.frame m ρ, CrossAttentionClaims.frame_ref,
  IdealRules.named_const.statement Cert.SsdIdeal.κ "mask" .f32 0xF149F2CA#32 ⊥ rfl, SsdClaims.algebraic,
  IdealRules.named_const.statement Cert.SsdSampleIdeal.κ "mask" .f32 0xF149F2CA#32 ⊥ rfl, SsdSampleClaims.algebraic,
  trivial, SegAClaims.algebraic,
  trivial, SegBClaims.algebraic,
  trivial, SegCClaims.algebraic,
  trivial, SegDClaims.algebraic,
  trivial, MergeClaims.algebraic,
  trivial, OutProjClaims.algebraic,
  trivial, CrossOutClaims.algebraic,
  trivial, CrossQueryClaims.algebraic,
  trivial, PeerQueryClaims.algebraic,
  trivial, MemoryKeysClaims.algebraic,
  trivial, MemoryValuesClaims.algebraic,
  trivial, InputNormClaims.algebraic,
  trivial, FinalNormClaims.algebraic,
  trivial, DnConvStateClaims.algebraic,
  trivial, SsmConvStateClaims.algebraic,
  trivial, SsmConvClaims.algebraic,
  trivial, CrossAttentionClaims.algebraic⟩

end Cert.Proof

end
